-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top4 [hPre_top4 : Cert.Pre_top4.Facts] (m : (ℓ : Loc Cert.KernelIdeal.nD Cert.KernelIdeal.τ Cert.KernelIdeal.sig) → Buf (Elt Ideal) ℓ) : Prop :=
  ∀ c : Dev Cert.KernelIdeal.nD,
    (Cert.Pre_top4.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top4 [hPre_top4 : Cert.Pre_top4.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top4.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_top4 [hKernelIdeal : Cert.KernelIdeal.Facts] [hPre_top4 : Cert.Pre_top4.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top4 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_top4 [hReferenceIdeal : Cert.ReferenceIdeal.Facts] [hPre_top4 : Cert.Pre_top4.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top4 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  True

def algebraic_KernelIdeal_ReferenceIdeal_pre_top4 [hKernelIdeal : Cert.KernelIdeal.Facts] [hReferenceIdeal : Cert.ReferenceIdeal.Facts] [hPre_top4 : Cert.Pre_top4.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top4 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v60_0)) (v1 : (c : Dev Cert.Kernel3Ideal.nD) → Buf (Elt Ideal) ((c.tc : Thread Cert.Kernel3Ideal.nD Cert.Kernel3Ideal.τ).loc Cert.Kernel3Ideal.main_v60_1)) (v2 : (c : Dev Cert.Kernel3Ideal.nD) → Buf (Elt Ideal) ((c.tc : Thread Cert.Kernel3Ideal.nD Cert.Kernel3Ideal.τ).loc Cert.Kernel3Ideal.main_v60_2)) (v3 : (c : Dev Cert.Kernel3Ideal.nD) → Buf (Elt Ideal) ((c.tc : Thread Cert.Kernel3Ideal.nD Cert.Kernel3Ideal.τ).loc Cert.Kernel3Ideal.main_v60_3)) (v4 : (c : Dev Cert.Kernel3Ideal.nD) → Buf (Elt Ideal) ((c.tc : Thread Cert.Kernel3Ideal.nD Cert.Kernel3Ideal.τ).loc Cert.Kernel3Ideal.main_v60_4)) (v5 : (c : Dev Cert.Kernel3Ideal.nD) → Buf (Elt Ideal) ((c.tc : Thread Cert.Kernel3Ideal.nD Cert.Kernel3Ideal.τ).loc Cert.Kernel3Ideal.main_v60_5)) (v6 : (c : Dev Cert.Kernel3Ideal.nD) → Buf (Elt Ideal) ((c.tc : Thread Cert.Kernel3Ideal.nD Cert.Kernel3Ideal.τ).loc Cert.Kernel3Ideal.main_v60_6)) (v7 : (c : Dev Cert.Kernel3Ideal.nD) → Buf (Elt Ideal) ((c.tc : Thread Cert.Kernel3Ideal.nD Cert.Kernel3Ideal.τ).loc Cert.Kernel3Ideal.main_v60_10)) (v8 : (c : Dev Cert.Kernel3Ideal.nD) → Buf (Elt Ideal) ((c.tc : Thread Cert.Kernel3Ideal.nD Cert.Kernel3Ideal.τ).loc Cert.Kernel3Ideal.main_v60_11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v60_0) = v0 c
          ∧ r.2.mem ((c.tc : Thread Cert.Kernel3Ideal.nD Cert.Kernel3Ideal.τ).loc Cert.Kernel3Ideal.main_v60_1) = v1 c
          ∧ r.2.mem ((c.tc : Thread Cert.Kernel3Ideal.nD Cert.Kernel3Ideal.τ).loc Cert.Kernel3Ideal.main_v60_2) = v2 c
          ∧ r.2.mem ((c.tc : Thread Cert.Kernel3Ideal.nD Cert.Kernel3Ideal.τ).loc Cert.Kernel3Ideal.main_v60_3) = v3 c
          ∧ r.2.mem ((c.tc : Thread Cert.Kernel3Ideal.nD Cert.Kernel3Ideal.τ).loc Cert.Kernel3Ideal.main_v60_4) = v4 c
          ∧ r.2.mem ((c.tc : Thread Cert.Kernel3Ideal.nD Cert.Kernel3Ideal.τ).loc Cert.Kernel3Ideal.main_v60_5) = v5 c
          ∧ r.2.mem ((c.tc : Thread Cert.Kernel3Ideal.nD Cert.Kernel3Ideal.τ).loc Cert.Kernel3Ideal.main_v60_6) = v6 c
          ∧ r.2.mem ((c.tc : Thread Cert.Kernel3Ideal.nD Cert.Kernel3Ideal.τ).loc Cert.Kernel3Ideal.main_v60_10) = v7 c
          ∧ r.2.mem ((c.tc : Thread Cert.Kernel3Ideal.nD Cert.Kernel3Ideal.τ).loc Cert.Kernel3Ideal.main_v60_11) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v193) = v0 c
          ∧ r.2.mem ((c.tc : Thread Cert.Reference3Ideal.nD Cert.Reference3Ideal.τ).loc Cert.Reference3Ideal.main_v198) = v1 c
          ∧ r.2.mem ((c.tc : Thread Cert.Reference3Ideal.nD Cert.Reference3Ideal.τ).loc Cert.Reference3Ideal.main_v199) = v2 c
          ∧ r.2.mem ((c.tc : Thread Cert.Reference3Ideal.nD Cert.Reference3Ideal.τ).loc Cert.Reference3Ideal.main_v137) = v3 c
          ∧ r.2.mem ((c.tc : Thread Cert.Reference3Ideal.nD Cert.Reference3Ideal.τ).loc Cert.Reference3Ideal.main_v200) = v4 c
          ∧ r.2.mem ((c.tc : Thread Cert.Reference3Ideal.nD Cert.Reference3Ideal.τ).loc Cert.Reference3Ideal.main_v201) = v5 c
          ∧ r.2.mem ((c.tc : Thread Cert.Reference3Ideal.nD Cert.Reference3Ideal.τ).loc Cert.Reference3Ideal.main_v202) = v6 c
          ∧ r.2.mem ((c.tc : Thread Cert.Reference3Ideal.nD Cert.Reference3Ideal.τ).loc Cert.Reference3Ideal.main_v209) = v7 c
          ∧ r.2.mem ((c.tc : Thread Cert.Reference3Ideal.nD Cert.Reference3Ideal.τ).loc Cert.Reference3Ideal.main_v210) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_top4 : Cert.Pre_top4.Facts),
    quiescent_Kernel (hKernel := hKernel)
    ∧ quiescent_KernelIdeal (hKernelIdeal := hKernelIdeal)
    ∧ quiescent_KernelIdeal_pre_top4 (hKernelIdeal := hKernelIdeal) (hPre_top4 := hPre_top4)
    ∧ quiescent_ReferenceIdeal (hReferenceIdeal := hReferenceIdeal)
    ∧ quiescent_ReferenceIdeal_pre_top4 (hReferenceIdeal := hReferenceIdeal) (hPre_top4 := hPre_top4)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_top4 (hKernelIdeal := hKernelIdeal) (hReferenceIdeal := hReferenceIdeal) (hPre_top4 := hPre_top4)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_top4.lean ====
abbrev S16x2304x8x128 : Shape := ⟨4, ![16, 2304, 8, 128]⟩
abbrev S16x2304x4 : Shape := ⟨3, ![16, 2304, 4]⟩
abbrev S4x32x1024x1024 : Shape := ⟨4, ![4, 32, 1024, 1024]⟩
abbrev S4x32x1024 : Shape := ⟨3, ![4, 32, 1024]⟩
abbrev S16x2304x1 : Shape := ⟨3, ![16, 2304, 1]⟩
abbrev S16x2304 : Shape := ⟨2, ![16, 2304]⟩
abbrev S_ : Shape := ⟨0, ![]⟩

class Facts : Prop where
  slices_S16x2304x4_S16x2304x1_0_0_0 : S16x2304x4.Slices ![0, 0, 0] S16x2304x1
  shapeCasts_S16x2304x1_S16x2304 : S16x2304x1.ShapeCasts S16x2304
  slices_S16x2304x4_S16x2304x1_0_0_1 : S16x2304x4.Slices ![0, 0, 1] S16x2304x1
  slices_S16x2304x4_S16x2304x1_0_0_2 : S16x2304x4.Slices ![0, 0, 2] S16x2304x1
  slices_S16x2304x4_S16x2304x1_0_0_3 : S16x2304x4.Slices ![0, 0, 3] S16x2304x1
  bcast_S_S16x2304x4 : S_.BroadcastsInDim S16x2304x4 (![] : Fin 0 → Fin S16x2304x4.rank)
  reducesTo_S16x2304x4_S_d0_1_2 : S16x2304x4.ReducesTo [0, 1, 2] S_
  h_S_ : 0 < S_.numel
  reducesTo_S16x2304_S_d0_1 : S16x2304.ReducesTo [0, 1] S_

variable [Facts]

def fn_part1 {F : FTy → Type} [FloatOps F] (main_v18 : IVec S16x2304 1) (main_v21 : IVec S_ 1) : IVec S_ 1 :=
  let main_c_1 : IVec S_ 1 := constantI S_ 1 1#1
  let main_v22 : IVec S_ 1 := (fun x v => Host.reduce IntOp.andi x v reducesTo_S16x2304_S_d0_1 h_S_) main_v18 main_c_1
  let main_v23 : IVec S_ 1 := andi main_v21 main_v22
  main_v23

def fn {F : FTy → Type} [FloatOps F] (main_arg0 : FVec F S16x2304x8x128 .f32) (main_arg1 : IVec S16x2304x4 32) (main_arg2 : FVec F S16x2304x4 .f32) (main_arg3 : FVec F S4x32x1024x1024 .f32) (main_arg4 : FVec F S4x32x1024 .f32) (main_arg5 : FVec F S4x32x1024x1024 .f32) (main_arg6 : FVec F S4x32x1024 .f32) (main_arg7 : FVec F S4x32x1024x1024 .f32) (main_arg8 : FVec F S4x32x1024 .f32) : IVec S_ 1 :=
  let main_v0 : IVec S16x2304x1 32 := (extractStridedSlice S16x2304x1 ![0, 0, 0] · slices_S16x2304x4_S16x2304x1_0_0_0) main_arg1
  let main_v1 : IVec S16x2304 32 := shapeCast S16x2304 main_v0 shapeCasts_S16x2304x1_S16x2304
  let main_v2 : IVec S16x2304x1 32 := (extractStridedSlice S16x2304x1 ![0, 0, 1] · slices_S16x2304x4_S16x2304x1_0_0_1) main_arg1
  let main_v3 : IVec S16x2304 32 := shapeCast S16x2304 main_v2 shapeCasts_S16x2304x1_S16x2304
  let main_v4 : IVec S16x2304x1 32 := (extractStridedSlice S16x2304x1 ![0, 0, 2] · slices_S16x2304x4_S16x2304x1_0_0_2) main_arg1
  let main_v5 : IVec S16x2304 32 := shapeCast S16x2304 main_v4 shapeCasts_S16x2304x1_S16x2304
  let main_v6 : IVec S16x2304x1 32 := (extractStridedSlice S16x2304x1 ![0, 0, 3] · slices_S16x2304x4_S16x2304x1_0_0_3) main_arg1
  let main_v7 : IVec S16x2304 32 := shapeCast S16x2304 main_v6 shapeCasts_S16x2304x1_S16x2304
  let main_v8 : IVec S16x2304 1 := cmpi .ne main_v1 main_v3
  let main_v9 : IVec S16x2304 1 := cmpi .ne main_v1 main_v5
  let main_v10 : IVec S16x2304 1 := andi main_v8 main_v9
  let main_v11 : IVec S16x2304 1 := cmpi .ne main_v1 main_v7
  let main_v12 : IVec S16x2304 1 := andi main_v10 main_v11
  let main_v13 : IVec S16x2304 1 := cmpi .ne main_v3 main_v5
  let main_v14 : IVec S16x2304 1 := andi main_v12 main_v13
  let main_v15 : IVec S16x2304 1 := cmpi .ne main_v3 main_v7
  let main_v16 : IVec S16x2304 1 := andi main_v14 main_v15
  let main_v17 : IVec S16x2304 1 := cmpi .ne main_v5 main_v7
  let main_v18 : IVec S16x2304 1 := andi main_v16 main_v17
  let main_c : IVec S_ 32 := constantI S_ 32 0#32
  let main_v19 : IVec S16x2304x4 32 := broadcastInDim S16x2304x4 ![] bcast_S_S16x2304x4 main_c
  let main_v20 : IVec S16x2304x4 1 := cmpi .sge main_arg1 main_v19
  let main_c_0 : IVec S_ 1 := constantI S_ 1 1#1
  let main_v21 : IVec S_ 1 := (fun x v => Host.reduce IntOp.andi x v reducesTo_S16x2304x4_S_d0_1_2 h_S_) main_v20 main_c_0
  fn_part1 (F := F) main_v18 main_v21
-- ==== Kernel.lean ====
abbrev S16x2304x8x128 : Shape := ⟨4, ![16, 2304, 8, 128]⟩
abbrev S16x2304x4 : Shape := ⟨3, ![16, 2304, 4]⟩
abbrev S4x32x1024x1024 : Shape := ⟨4, ![4, 32, 1024, 1024]⟩
abbrev S4x32x1024 : Shape := ⟨3, ![4, 32, 1024]⟩
abbrev S16x9216 : Shape := ⟨2, ![16, 9216]⟩
abbrev S_ : Shape := ⟨0, ![]⟩
abbrev S16x9216x1 : Shape := ⟨3, ![16, 9216, 1]⟩
abbrev S1 : Shape := ⟨1, ![1]⟩
abbrev S1x1x1 : Shape := ⟨3, ![1, 1, 1]⟩
abbrev S32 : Shape := ⟨1, ![32]⟩
abbrev S1x1x32 : Shape := ⟨3, ![1, 1, 32]⟩
abbrev S16x9216x32 : Shape := ⟨3, ![16, 9216, 32]⟩
abbrev S16x32 : Shape := ⟨2, ![16, 32]⟩
abbrev S16x9536 : Shape := ⟨2, ![16, 9536]⟩
abbrev S16x1x9536 : Shape := ⟨3, ![16, 1, 9536]⟩
abbrev S512 : Shape := ⟨1, ![512]⟩
abbrev S4x32x1x1024 : Shape := ⟨4, ![4, 32, 1, 1024]⟩
abbrev S16x2312x8x128 : Shape := ⟨4, ![16, 2312, 8, 128]⟩
abbrev S1x1x9536 : Shape := ⟨3, ![1, 1, 9536]⟩
abbrev S1x2304x8x128 : Shape := ⟨4, ![1, 2304, 8, 128]⟩
abbrev S1x1x1024x1024 : Shape := ⟨4, ![1, 1, 1024, 1024]⟩
abbrev S1x1x1x1024 : Shape := ⟨4, ![1, 1, 1, 1024]⟩
abbrev S1x2312x8x128 : Shape := ⟨4, ![1, 2312, 8, 128]⟩
abbrev S320x8x128 : Shape := ⟨3, ![320, 8, 128]⟩
abbrev S2312x8x128 : Shape := ⟨3, ![2312, 8, 128]⟩
abbrev S1x1x8x128 : Shape := ⟨4, ![1, 1, 8, 128]⟩
abbrev S8x128 : Shape := ⟨2, ![8, 128]⟩
abbrev S1x8x128 : Shape := ⟨3, ![1, 8, 128]⟩
abbrev S320x1x128 : Shape := ⟨3, ![320, 1, 128]⟩
abbrev S320x128 : Shape := ⟨2, ![320, 128]⟩
abbrev S320x1024 : Shape := ⟨2, ![320, 1024]⟩
abbrev S1024x1024 : Shape := ⟨2, ![1024, 1024]⟩
abbrev S1x1024 : Shape := ⟨2, ![1, 1024]⟩

abbrev nBuf : Space → Nat
  | .hbm => 64
  | .vmem => 18
  | .smem => 6
  | _ => 0

abbrev bufTy : (tb : Table) → Fin (tcTables nBuf tb) → BufTy
  | .hbm, ⟨0, _⟩ => ⟨S16x2304x8x128, .f32⟩
  | .hbm, ⟨1, _⟩ => ⟨S16x2304x4, .i32⟩
  | .hbm, ⟨2, _⟩ => ⟨S16x2304x4, .f32⟩
  | .hbm, ⟨3, _⟩ => ⟨S4x32x1024x1024, .f32⟩
  | .hbm, ⟨4, _⟩ => ⟨S4x32x1024, .f32⟩
  | .hbm, ⟨5, _⟩ => ⟨S4x32x1024x1024, .f32⟩
  | .hbm, ⟨6, _⟩ => ⟨S4x32x1024, .f32⟩
  | .hbm, ⟨7, _⟩ => ⟨S4x32x1024x1024, .f32⟩
  | .hbm, ⟨8, _⟩ => ⟨S4x32x1024, .f32⟩
  | .hbm, ⟨9, _⟩ => ⟨S4x32x1024x1024, .bf16⟩
  | .hbm, ⟨10, _⟩ => ⟨S4x32x1024x1024, .bf16⟩
  | .hbm, ⟨11, _⟩ => ⟨S4x32x1024x1024, .bf16⟩
  | .hbm, ⟨12, _⟩ => ⟨S16x9216, .i32⟩
  | .hbm, ⟨13, _⟩ => ⟨S16x9216, .i32⟩
  | .hbm, ⟨14, _⟩ => ⟨S16x9216, .i32⟩
  | .hbm, ⟨15, _⟩ => ⟨S16x9216, .i32⟩
  | .hbm, ⟨16, _⟩ => ⟨S16x9216, .f32⟩
  | .hbm, ⟨17, _⟩ => ⟨S_, .i32⟩
  | .hbm, ⟨18, _⟩ => ⟨S16x9216, .i32⟩
  | .hbm, ⟨19, _⟩ => ⟨S16x9216, .i1⟩
  | .hbm, ⟨20, _⟩ => ⟨S_, .i32⟩
  | .hbm, ⟨21, _⟩ => ⟨S16x9216, .i32⟩
  | .hbm, ⟨22, _⟩ => ⟨S16x9216, .i32⟩
  | .hbm, ⟨23, _⟩ => ⟨S16x9216, .i32⟩
  | .hbm, ⟨24, _⟩ => ⟨S16x9216x1, .i32⟩
  | .hbm, ⟨25, _⟩ => ⟨S1, .i32⟩
  | .hbm, ⟨26, _⟩ => ⟨S_, .i32⟩
  | .hbm, ⟨27, _⟩ => ⟨S16x9216x1, .i32⟩
  | .hbm, ⟨28, _⟩ => ⟨S16x9216x1, .i1⟩
  | .hbm, ⟨29, _⟩ => ⟨S1x1x1, .i32⟩
  | .hbm, ⟨30, _⟩ => ⟨S16x9216x1, .i32⟩
  | .hbm, ⟨31, _⟩ => ⟨S16x9216x1, .i1⟩
  | .hbm, ⟨32, _⟩ => ⟨S16x9216x1, .i1⟩
  | .hbm, ⟨33, _⟩ => ⟨S_, .i1⟩
  | .hbm, ⟨34, _⟩ => ⟨S16x9216, .i1⟩
  | .hbm, ⟨35, _⟩ => ⟨S16x9216, .f32⟩
  | .hbm, ⟨36, _⟩ => ⟨S_, .f32⟩
  | .hbm, ⟨37, _⟩ => ⟨S16x9216, .f32⟩
  | .hbm, ⟨38, _⟩ => ⟨S16x9216, .f32⟩
  | .hbm, ⟨39, _⟩ => ⟨S16x9216x1, .i32⟩
  | .hbm, ⟨40, _⟩ => ⟨S32, .i32⟩
  | .hbm, ⟨41, _⟩ => ⟨S1x1x32, .i32⟩
  | .hbm, ⟨42, _⟩ => ⟨S16x9216x32, .i32⟩
  | .hbm, ⟨43, _⟩ => ⟨S16x9216x32, .i32⟩
  | .hbm, ⟨44, _⟩ => ⟨S16x9216x32, .i1⟩
  | .hbm, ⟨45, _⟩ => ⟨S16x9216x32, .i32⟩
  | .hbm, ⟨46, _⟩ => ⟨S_, .i32⟩
  | .hbm, ⟨47, _⟩ => ⟨S16x32, .i32⟩
  | .hbm, ⟨48, _⟩ => ⟨S_, .i32⟩
  | .hbm, ⟨49, _⟩ => ⟨S_, .i32⟩
  | .hbm, ⟨50, _⟩ => ⟨S16x32, .i32⟩
  | .hbm, ⟨51, _⟩ => ⟨S16x32, .i32⟩
  | .hbm, ⟨52, _⟩ => ⟨S_, .i32⟩
  | .hbm, ⟨53, _⟩ => ⟨S_, .i32⟩
  | .hbm, ⟨54, _⟩ => ⟨S16x9536, .i32⟩
  | .hbm, ⟨55, _⟩ => ⟨S16x1x9536, .i32⟩
  | .hbm, ⟨56, _⟩ => ⟨S_, .i32⟩
  | .hbm, ⟨57, _⟩ => ⟨S_, .f32⟩
  | .hbm, ⟨58, _⟩ => ⟨S16x9536, .f32⟩
  | .hbm, ⟨59, _⟩ => ⟨S16x1x9536, .f32⟩
  | .hbm, ⟨60, _⟩ => ⟨S4x32x1x1024, .f32⟩
  | .hbm, ⟨61, _⟩ => ⟨S4x32x1x1024, .f32⟩
  | .hbm, ⟨62, _⟩ => ⟨S4x32x1x1024, .f32⟩
  | .hbm, ⟨63, _⟩ => ⟨S16x2312x8x128, .f32⟩
  | .local _ .vmem, ⟨0, _⟩ => ⟨S1x2304x8x128, .f32⟩
  | .local _ .vmem, ⟨1, _⟩ => ⟨S1x2304x8x128, .f32⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1024x1024, .bf16⟩
  | .local _ .vmem, ⟨7, _⟩ => ⟨S1x1x1024x1024, .bf16⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1024x1024, .bf16⟩
  | .local _ .vmem, ⟨11, _⟩ => ⟨S1x1x1024x1024, .bf16⟩
  | .local _ .vmem, ⟨12, _⟩ => ⟨S1x1x1x1024, .f32⟩
  | .local _ .vmem, ⟨13, _⟩ => ⟨S1x1x1x1024, .f32⟩
  | .local _ .vmem, ⟨14, _⟩ => ⟨S1x2312x8x128, .f32⟩
  | .local _ .vmem, ⟨15, _⟩ => ⟨S1x2312x8x128, .f32⟩
  | .local _ .vmem, ⟨16, _⟩ => ⟨S320x8x128, .f32⟩
  | .local _ .vmem, ⟨17, _⟩ => ⟨S320x8x128, .f32⟩
  | .local _ .smem, ⟨0, _⟩ => ⟨S512, .i32⟩
  | .local _ .smem, ⟨1, _⟩ => ⟨S512, .i32⟩
  | .local _ .smem, ⟨2, _⟩ => ⟨S1x1x9536, .i32⟩
  | .local _ .smem, ⟨3, _⟩ => ⟨S1x1x9536, .i32⟩
  | .local _ .smem, ⟨4, _⟩ => ⟨S1x1x9536, .f32⟩
  | .local _ .smem, ⟨5, _⟩ => ⟨S1x1x9536, .f32⟩
  | _, _ => ⟨S16x2304x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1_0 : Ref sig .tc := ⟨.hbm, 14, rfl⟩
abbrev main_v4 : Ref sig .tc := ⟨.hbm, 15, rfl⟩
abbrev main_v5 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_cst : Ref sig .tc := ⟨.hbm, 36, rfl⟩
abbrev main_call1_v14 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_c : Ref sig .tc := ⟨.hbm, 46, rfl⟩
abbrev main_v14 : Ref sig .tc := ⟨.hbm, 47, rfl⟩
abbrev main_call2_call0_c : Ref sig .tc := ⟨.hbm, 48, rfl⟩
abbrev main_call2_call0_v0 : Ref sig .tc := ⟨.hbm, 49, rfl⟩
abbrev main_v15 : Ref sig .tc := ⟨.hbm, 50, rfl⟩
abbrev main_v16 : Ref sig .tc := ⟨.hbm, 51, rfl⟩
abbrev main_c_0 : Ref sig .tc := ⟨.hbm, 52, rfl⟩
abbrev main_call3_v0 : Ref sig .tc := ⟨.hbm, 53, rfl⟩
abbrev main_v17 : Ref sig .tc := ⟨.hbm, 54, rfl⟩
abbrev main_v18 : Ref sig .tc := ⟨.hbm, 55, rfl⟩
abbrev main_c_1 : Ref sig .tc := ⟨.hbm, 56, rfl⟩
abbrev main_call4_v0 : Ref sig .tc := ⟨.hbm, 57, rfl⟩
abbrev main_v19 : Ref sig .tc := ⟨.hbm, 58, rfl⟩
abbrev main_v20 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v21 : Ref sig .tc := ⟨.smem, 0, rfl⟩
abbrev main_v22 : Ref sig .tc := ⟨.smem, 1, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_stg0_0 : Ref sig .tc := ⟨.smem, 2, rfl⟩
abbrev cc0_stg0_1 : Ref sig .tc := ⟨.smem, 3, rfl⟩
abbrev cc0_stg1_0 : Ref sig .tc := ⟨.smem, 4, rfl⟩
abbrev cc0_stg1_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 32], ![false, false]⟩

abbrev pre0 : Pipeline.Prefetch sig := ⟨2, ![main_v21.idx, main_v22.idx], fun | 0 => main_v21.names | 1 => main_v22.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
@[reducible] def k0_t1_loop (v3 : BitVec 32) : Scf.Loop 32 :=
  let c0_i32_10 : BitVec 32 := 0#32
  let c320_i32 : BitVec 32 := 320#32
  let v11 : BitVec 32 := Scalar.addi v3 c320_i32
  let c1_i32 : BitVec 32 := 1#32
  let v12 : BitVec 32 := Scalar.subi v11 c1_i32
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c320_i32_2 : BitVec 32 := 320#32
  let c0_i32_5 : BitVec 32 := 0#32
  let v19 : BitVec 1 := Scalar.cmpi .sgt c320_i32_2 c0_i32_5
  let v20 : BitVec 32 := Scalar.extui v19
  let c0_i32_6 : BitVec 32 := 0#32
  let v21 : BitVec 1 := Scalar.cmpi .slt c320_i32_2 c0_i32_6
  let v22 : BitVec 32 := Scalar.extui v21
  let v23 : BitVec 32 := Scalar.subi v20 v22
  let v24 : BitVec 1 := Scalar.cmpi .ne v18 v23
  let v25 : BitVec 32 := Scalar.remsi v12 c320_i32_2
  let c0_i32_7 : BitVec 32 := 0#32
  let v26 : BitVec 1 := Scalar.cmpi .ne v25 c0_i32_7
  let v27 : BitVec 1 := Scalar.andi v24 v26
  let v13 : BitVec 32 := Scalar.divsi v12 c320_i32_2
  let c1_i32_8 : BitVec 32 := 1#32
  let v28 : BitVec 32 := Scalar.subi v13 c1_i32_8
  let v29 : BitVec 32 := Scalar.select v27 v28 v13
  let v30 : BitVec 32 := Scalar.subi v29 c0_i32_10
  let c1_i32_11 : BitVec 32 := 1#32
  let v32 : BitVec 32 := Scalar.divsi v30 c1_i32_11
  let v33 : BitVec 32 := Scalar.muli v32 c1_i32_11
  let v34 : BitVec 32 := Scalar.addi c0_i32_10 v33
  let c1_i32_12 : BitVec 32 := 1#32
  ⟨c0_i32_10, v34, c1_i32_12⟩

@[reducible] def k0_t2_loop : Scf.Loop 32 :=
  let c0_i32_17 : BitVec 32 := 0#32
  let c320_i32_18 : BitVec 32 := 320#32
  let v39 : BitVec 32 := Scalar.addi c0_i32_17 c320_i32_18
  let c1_i32_19 : BitVec 32 := 1#32
  ⟨c0_i32_17, v39, c1_i32_19⟩
def k0_off2 (v3 : BitVec 32) (v7 : BitVec 32) (k0_t1 : Fin (k0_t1_loop v3).trips) (k0_t2 : Fin k0_t2_loop.trips) : Fin 3 → Nat :=
  let c0_99 : Index := 0#32
  let c0_100 : Index := 0#32
  let c0_i32_10 : BitVec 32 := 0#32
  let c1_i32_12 : BitVec 32 := 1#32
  let arg16 : BitVec 32 := Scf.iv c0_i32_10 c1_i32_12 k0_t1
  let c320_i32_14 : BitVec 32 := 320#32
  let v35 : BitVec 32 := Scalar.muli arg16 c320_i32_14
  let v36 : BitVec 32 := Scalar.addi v7 v35
  let c0_i32_17 : BitVec 32 := 0#32
  let c1_i32_19 : BitVec 32 := 1#32
  let arg17 : BitVec 32 := Scf.iv c0_i32_17 c1_i32_19 k0_t2
  let v132 : BitVec 32 := Scalar.addi v36 arg17
  let v133 : Index := Scalar.indexCast v132
  ![0, 0, v133.toNat]

def k0_off3 (v134 : BitVec 32) : Fin 4 → Nat :=
  let c0_101 : Index := 0#32
  let c2_i32 : BitVec 32 := 2#32
  let v135 : BitVec 32 := Scalar.shrsi v134 c2_i32
  let v136 : Index := Scalar.indexCast v135
  let c0_102 : Index := 0#32
  let c0_103 : Index := 0#32
  ![0, v136.toNat, 0, 0]

def k0_chk3 (v134 : BitVec 32) : Prop :=
  (∀ a, (k0_off3 v134) a + S1x1x8x128.size a ≤ S1x2304x8x128.size a)
theorem k0_off3_inb : ∀ (v134 : BitVec 32) (k0_hw3 : k0_chk3 v134), ∀ a, (k0_off3 v134) a + S1x1x8x128.size a ≤ S1x2304x8x128.size a := fun v134 k0_hw3 => k0_hw3

def k0_off4 (k0_t2 : Fin k0_t2_loop.trips) : Fin 3 → Nat :=
  let c0_i32_17 : BitVec 32 := 0#32
  let c1_i32_19 : BitVec 32 := 1#32
  let arg17 : BitVec 32 := Scf.iv c0_i32_17 c1_i32_19 k0_t2
  let v139 : Index := Scalar.indexCast arg17
  let c0_104 : Index := 0#32
  let c0_105 : Index := 0#32
  ![v139.toNat, 0, 0]
@[reducible] def k0_t3_loop : Scf.Loop 32 :=
  let c0_i32_96 : BitVec 32 := 0#32
  let c40_i32 : BitVec 32 := 40#32
  let v131 : BitVec 32 := Scalar.addi c0_i32_96 c40_i32
  let c1_i32_97 : BitVec 32 := 1#32
  ⟨c0_i32_96, v131, c1_i32_97⟩
def k0_off5 (v3 : BitVec 32) (v7 : BitVec 32) (k0_t1 : Fin (k0_t1_loop v3).trips) (k0_t3 : Fin k0_t3_loop.trips) (c0_i32_99 : BitVec 32) : Fin 3 → Nat :=
  let c0_100 : Index := 0#32
  let c0_101 : Index := 0#32
  let c0_i32_10 : BitVec 32 := 0#32
  let c1_i32_12 : BitVec 32 := 1#32
  let arg16 : BitVec 32 := Scf.iv c0_i32_10 c1_i32_12 k0_t1
  let c320_i32_14 : BitVec 32 := 320#32
  let v35 : BitVec 32 := Scalar.muli arg16 c320_i32_14
  let v36 : BitVec 32 := Scalar.addi v7 v35
  let c0_i32_96 : BitVec 32 := 0#32
  let c1_i32_97 : BitVec 32 := 1#32
  let arg17 : BitVec 32 := Scf.iv c0_i32_96 c1_i32_97 k0_t3
  let c8_i32 : BitVec 32 := 8#32
  let v132 : BitVec 32 := Scalar.muli arg17 c8_i32
  let v133 : BitVec 32 := Scalar.addi v132 c0_i32_99
  let v135 : BitVec 32 := Scalar.addi v36 v133
  let v136 : Index := Scalar.indexCast v135
  ![0, 0, v136.toNat]
def k0_off6 (v3 : BitVec 32) (k0_t1 : Fin (k0_t1_loop v3).trips) (k0_t3 : Fin k0_t3_loop.trips) (v137 : BitVec 32) : Fin 4 → Nat :=
  let c0_163 : Index := 0#32
  let c0_i32_96 : BitVec 32 := 0#32
  let c1_i32_97 : BitVec 32 := 1#32
  let arg17 : BitVec 32 := Scf.iv c0_i32_96 c1_i32_97 k0_t3
  let c8_i32 : BitVec 32 := 8#32
  let v132 : BitVec 32 := Scalar.muli arg17 c8_i32
  let c0_i32_99 : BitVec 32 := 0#32
  let v133 : BitVec 32 := Scalar.addi v132 c0_i32_99
  let c0_i32_10 : BitVec 32 := 0#32
  let c1_i32_12 : BitVec 32 := 1#32
  let arg16 : BitVec 32 := Scf.iv c0_i32_10 c1_i32_12 k0_t1
  let c320_i32_15 : BitVec 32 := 320#32
  let v37 : BitVec 32 := Scalar.muli arg16 c320_i32_15
  let v38 : BitVec 32 := Scalar.subi v3 v37
  let v134 : BitVec 1 := Scalar.cmpi .slt v133 v38
  let c2_i32 : BitVec 32 := 2#32
  let v138 : BitVec 32 := Scalar.shrsi v137 c2_i32
  let c2304_i32 : BitVec 32 := 2304#32
  let v139 : BitVec 32 := Scalar.select v134 v138 c2304_i32
  let v236 : Index := Scalar.indexCast v139
  let c0_164 : Index := 0#32
  let c0_165 : Index := 0#32
  ![0, v236.toNat, 0, 0]

def k0_off7 (v3 : BitVec 32) (k0_t1 : Fin (k0_t1_loop v3).trips) (k0_t3 : Fin k0_t3_loop.trips) (v150 : BitVec 32) : Fin 4 → Nat :=
  let c0_166 : Index := 0#32
  let c0_i32_96 : BitVec 32 := 0#32
  let c1_i32_97 : BitVec 32 := 1#32
  let arg17 : BitVec 32 := Scf.iv c0_i32_96 c1_i32_97 k0_t3
  let c8_i32_105 : BitVec 32 := 8#32
  let v145 : BitVec 32 := Scalar.muli arg17 c8_i32_105
  let c1_i32_106 : BitVec 32 := 1#32
  let v146 : BitVec 32 := Scalar.addi v145 c1_i32_106
  let c0_i32_10 : BitVec 32 := 0#32
  let c1_i32_12 : BitVec 32 := 1#32
  let arg16 : BitVec 32 := Scf.iv c0_i32_10 c1_i32_12 k0_t1
  let c320_i32_15 : BitVec 32 := 320#32
  let v37 : BitVec 32 := Scalar.muli arg16 c320_i32_15
  let v38 : BitVec 32 := Scalar.subi v3 v37
  let v147 : BitVec 1 := Scalar.cmpi .slt v146 v38
  let c2_i32_109 : BitVec 32 := 2#32
  let v151 : BitVec 32 := Scalar.shrsi v150 c2_i32_109
  let c2304_i32_110 : BitVec 32 := 2304#32
  let v152 : BitVec 32 := Scalar.select v147 v151 c2304_i32_110
  let v239 : Index := Scalar.indexCast v152
  let c0_167 : Index := 0#32
  let c0_168 : Index := 0#32
  ![0, v239.toNat, 0, 0]

def k0_off8 (v3 : BitVec 32) (k0_t1 : Fin (k0_t1_loop v3).trips) (k0_t3 : Fin k0_t3_loop.trips) (v163 : BitVec 32) : Fin 4 → Nat :=
  let c0_169 : Index := 0#32
  let c0_i32_96 : BitVec 32 := 0#32
  let c1_i32_97 : BitVec 32 := 1#32
  let arg17 : BitVec 32 := Scf.iv c0_i32_96 c1_i32_97 k0_t3
  let c8_i32_114 : BitVec 32 := 8#32
  let v158 : BitVec 32 := Scalar.muli arg17 c8_i32_114
  let c2_i32_115 : BitVec 32 := 2#32
  let v159 : BitVec 32 := Scalar.addi v158 c2_i32_115
  let c0_i32_10 : BitVec 32 := 0#32
  let c1_i32_12 : BitVec 32 := 1#32
  let arg16 : BitVec 32 := Scf.iv c0_i32_10 c1_i32_12 k0_t1
  let c320_i32_15 : BitVec 32 := 320#32
  let v37 : BitVec 32 := Scalar.muli arg16 c320_i32_15
  let v38 : BitVec 32 := Scalar.subi v3 v37
  let v160 : BitVec 1 := Scalar.cmpi .slt v159 v38
  let c2_i32_118 : BitVec 32 := 2#32
  let v164 : BitVec 32 := Scalar.shrsi v163 c2_i32_118
  let c2304_i32_119 : BitVec 32 := 2304#32
  let v165 : BitVec 32 := Scalar.select v160 v164 c2304_i32_119
  let v242 : Index := Scalar.indexCast v165
  let c0_170 : Index := 0#32
  let c0_171 : Index := 0#32
  ![0, v242.toNat, 0, 0]

def k0_off9 (v3 : BitVec 32) (k0_t1 : Fin (k0_t1_loop v3).trips) (k0_t3 : Fin k0_t3_loop.trips) (v176 : BitVec 32) : Fin 4 → Nat :=
  let c0_172 : Index := 0#32
  let c0_i32_96 : BitVec 32 := 0#32
  let c1_i32_97 : BitVec 32 := 1#32
  let arg17 : BitVec 32 := Scf.iv c0_i32_96 c1_i32_97 k0_t3
  let c8_i32_123 : BitVec 32 := 8#32
  let v171 : BitVec 32 := Scalar.muli arg17 c8_i32_123
  let c3_i32 : BitVec 32 := 3#32
  let v172 : BitVec 32 := Scalar.addi v171 c3_i32
  let c0_i32_10 : BitVec 32 := 0#32
  let c1_i32_12 : BitVec 32 := 1#32
  let arg16 : BitVec 32 := Scf.iv c0_i32_10 c1_i32_12 k0_t1
  let c320_i32_15 : BitVec 32 := 320#32
  let v37 : BitVec 32 := Scalar.muli arg16 c320_i32_15
  let v38 : BitVec 32 := Scalar.subi v3 v37
  let v173 : BitVec 1 := Scalar.cmpi .slt v172 v38
  let c2_i32_126 : BitVec 32 := 2#32
  let v177 : BitVec 32 := Scalar.shrsi v176 c2_i32_126
  let c2304_i32_127 : BitVec 32 := 2304#32
  let v178 : BitVec 32 := Scalar.select v173 v177 c2304_i32_127
  let v245 : Index := Scalar.indexCast v178
  let c0_173 : Index := 0#32
  let c0_174 : Index := 0#32
  ![0, v245.toNat, 0, 0]

def k0_off10 (v3 : BitVec 32) (k0_t1 : Fin (k0_t1_loop v3).trips) (k0_t3 : Fin k0_t3_loop.trips) (v189 : BitVec 32) : Fin 4 → Nat :=
  let c0_175 : Index := 0#32
  let c0_i32_96 : BitVec 32 := 0#32
  let c1_i32_97 : BitVec 32 := 1#32
  let arg17 : BitVec 32 := Scf.iv c0_i32_96 c1_i32_97 k0_t3
  let c8_i32_131 : BitVec 32 := 8#32
  let v184 : BitVec 32 := Scalar.muli arg17 c8_i32_131
  let c4_i32 : BitVec 32 := 4#32
  let v185 : BitVec 32 := Scalar.addi v184 c4_i32
  let c0_i32_10 : BitVec 32 := 0#32
  let c1_i32_12 : BitVec 32 := 1#32
  let arg16 : BitVec 32 := Scf.iv c0_i32_10 c1_i32_12 k0_t1
  let c320_i32_15 : BitVec 32 := 320#32
  let v37 : BitVec 32 := Scalar.muli arg16 c320_i32_15
  let v38 : BitVec 32 := Scalar.subi v3 v37
  let v186 : BitVec 1 := Scalar.cmpi .slt v185 v38
  let c2_i32_134 : BitVec 32 := 2#32
  let v190 : BitVec 32 := Scalar.shrsi v189 c2_i32_134
  let c2304_i32_135 : BitVec 32 := 2304#32
  let v191 : BitVec 32 := Scalar.select v186 v190 c2304_i32_135
  let v248 : Index := Scalar.indexCast v191
  let c0_176 : Index := 0#32
  let c0_177 : Index := 0#32
  ![0, v248.toNat, 0, 0]

def k0_off11 (v3 : BitVec 32) (k0_t1 : Fin (k0_t1_loop v3).trips) (k0_t3 : Fin k0_t3_loop.trips) (v202 : BitVec 32) : Fin 4 → Nat :=
  let c0_178 : Index := 0#32
  let c0_i32_96 : BitVec 32 := 0#32
  let c1_i32_97 : BitVec 32 := 1#32
  let arg17 : BitVec 32 := Scf.iv c0_i32_96 c1_i32_97 k0_t3
  let c8_i32_139 : BitVec 32 := 8#32
  let v197 : BitVec 32 := Scalar.muli arg17 c8_i32_139
  let c5_i32 : BitVec 32 := 5#32
  let v198 : BitVec 32 := Scalar.addi v197 c5_i32
  let c0_i32_10 : BitVec 32 := 0#32
  let c1_i32_12 : BitVec 32 := 1#32
  let arg16 : BitVec 32 := Scf.iv c0_i32_10 c1_i32_12 k0_t1
  let c320_i32_15 : BitVec 32 := 320#32
  let v37 : BitVec 32 := Scalar.muli arg16 c320_i32_15
  let v38 : BitVec 32 := Scalar.subi v3 v37
  let v199 : BitVec 1 := Scalar.cmpi .slt v198 v38
  let c2_i32_142 : BitVec 32 := 2#32
  let v203 : BitVec 32 := Scalar.shrsi v202 c2_i32_142
  let c2304_i32_143 : BitVec 32 := 2304#32
  let v204 : BitVec 32 := Scalar.select v199 v203 c2304_i32_143
  let v251 : Index := Scalar.indexCast v204
  let c0_179 : Index := 0#32
  let c0_180 : Index := 0#32
  ![0, v251.toNat, 0, 0]

def k0_off12 (v3 : BitVec 32) (k0_t1 : Fin (k0_t1_loop v3).trips) (k0_t3 : Fin k0_t3_loop.trips) (v215 : BitVec 32) : Fin 4 → Nat :=
  let c0_181 : Index := 0#32
  let c0_i32_96 : BitVec 32 := 0#32
  let c1_i32_97 : BitVec 32 := 1#32
  let arg17 : BitVec 32 := Scf.iv c0_i32_96 c1_i32_97 k0_t3
  let c8_i32_147 : BitVec 32 := 8#32
  let v210 : BitVec 32 := Scalar.muli arg17 c8_i32_147
  let c6_i32 : BitVec 32 := 6#32
  let v211 : BitVec 32 := Scalar.addi v210 c6_i32
  let c0_i32_10 : BitVec 32 := 0#32
  let c1_i32_12 : BitVec 32 := 1#32
  let arg16 : BitVec 32 := Scf.iv c0_i32_10 c1_i32_12 k0_t1
  let c320_i32_15 : BitVec 32 := 320#32
  let v37 : BitVec 32 := Scalar.muli arg16 c320_i32_15
  let v38 : BitVec 32 := Scalar.subi v3 v37
  let v212 : BitVec 1 := Scalar.cmpi .slt v211 v38
  let c2_i32_150 : BitVec 32 := 2#32
  let v216 : BitVec 32 := Scalar.shrsi v215 c2_i32_150
  let c2304_i32_151 : BitVec 32 := 2304#32
  let v217 : BitVec 32 := Scalar.select v212 v216 c2304_i32_151
  let v254 : Index := Scalar.indexCast v217
  let c0_182 : Index := 0#32
  let c0_183 : Index := 0#32
  ![0, v254.toNat, 0, 0]

def k0_off13 (v3 : BitVec 32) (k0_t1 : Fin (k0_t1_loop v3).trips) (k0_t3 : Fin k0_t3_loop.trips) (v228 : BitVec 32) : Fin 4 → Nat :=
  let c0_184 : Index := 0#32
  let c0_i32_96 : BitVec 32 := 0#32
  let c1_i32_97 : BitVec 32 := 1#32
  let arg17 : BitVec 32 := Scf.iv c0_i32_96 c1_i32_97 k0_t3
  let c8_i32_155 : BitVec 32 := 8#32
  let v223 : BitVec 32 := Scalar.muli arg17 c8_i32_155
  let c7_i32 : BitVec 32 := 7#32
  let v224 : BitVec 32 := Scalar.addi v223 c7_i32
  let c0_i32_10 : BitVec 32 := 0#32
  let c1_i32_12 : BitVec 32 := 1#32
  let arg16 : BitVec 32 := Scf.iv c0_i32_10 c1_i32_12 k0_t1
  let c320_i32_15 : BitVec 32 := 320#32
  let v37 : BitVec 32 := Scalar.muli arg16 c320_i32_15
  let v38 : BitVec 32 := Scalar.subi v3 v37
  let v225 : BitVec 1 := Scalar.cmpi .slt v224 v38
  let c2_i32_158 : BitVec 32 := 2#32
  let v229 : BitVec 32 := Scalar.shrsi v228 c2_i32_158
  let c2304_i32_159 : BitVec 32 := 2304#32
  let v230 : BitVec 32 := Scalar.select v225 v229 c2304_i32_159
  let v257 : Index := Scalar.indexCast v230
  let c0_185 : Index := 0#32
  let c0_186 : Index := 0#32
  ![0, v257.toNat, 0, 0]

def k0_chk11 (v3 : BitVec 32) (k0_t1 : Fin (k0_t1_loop v3).trips) (k0_t3 : Fin k0_t3_loop.trips) (v228 : BitVec 32) : Prop :=
  (∀ a, (k0_off13 v3 k0_t1 k0_t3 v228) a + S1x1x8x128.size a ≤ S1x2312x8x128.size a)
theorem k0_off13_inb : ∀ (v3 : BitVec 32) (k0_t1 : Fin (k0_t1_loop v3).trips) (k0_t3 : Fin k0_t3_loop.trips) (v228 : BitVec 32) (k0_hw11 : k0_chk11 v3 k0_t1 k0_t3 v228), ∀ a, (k0_off13 v3 k0_t1 k0_t3 v228) a + S1x1x8x128.size a ≤ S1x2312x8x128.size a := fun v3 k0_t1 k0_t3 v228 k0_hw11 => k0_hw11

def k0_off14 (k0_t3 : Fin k0_t3_loop.trips) (c0_i32_188 : BitVec 32) : Fin 3 → Nat :=
  let c0_i32_96 : BitVec 32 := 0#32
  let c1_i32_97 : BitVec 32 := 1#32
  let arg17 : BitVec 32 := Scf.iv c0_i32_96 c1_i32_97 k0_t3
  let c8_i32_187 : BitVec 32 := 8#32
  let v260 : BitVec 32 := Scalar.muli arg17 c8_i32_187
  let v261 : BitVec 32 := Scalar.addi v260 c0_i32_188
  let v262 : Index := Scalar.indexCast v261
  let c0_189 : Index := 0#32
  let c0_190 : Index := 0#32
  ![v262.toNat, 0, 0]
def k0_off15 (v3 : BitVec 32) (k0_t1 : Fin (k0_t1_loop v3).trips) (k0_t3 : Fin k0_t3_loop.trips) (v137 : BitVec 32) : Fin 4 → Nat :=
  let c0_191 : Index := 0#32
  let c0_i32_96 : BitVec 32 := 0#32
  let c1_i32_97 : BitVec 32 := 1#32
  let arg17 : BitVec 32 := Scf.iv c0_i32_96 c1_i32_97 k0_t3
  let c8_i32 : BitVec 32 := 8#32
  let v132 : BitVec 32 := Scalar.muli arg17 c8_i32
  let c0_i32_99 : BitVec 32 := 0#32
  let v133 : BitVec 32 := Scalar.addi v132 c0_i32_99
  let c0_i32_10 : BitVec 32 := 0#32
  let c1_i32_12 : BitVec 32 := 1#32
  let arg16 : BitVec 32 := Scf.iv c0_i32_10 c1_i32_12 k0_t1
  let c320_i32_15 : BitVec 32 := 320#32
  let v37 : BitVec 32 := Scalar.muli arg16 c320_i32_15
  let v38 : BitVec 32 := Scalar.subi v3 v37
  let v134 : BitVec 1 := Scalar.cmpi .slt v133 v38
  let c2_i32 : BitVec 32 := 2#32
  let v138 : BitVec 32 := Scalar.shrsi v137 c2_i32
  let c2304_i32 : BitVec 32 := 2304#32
  let v139 : BitVec 32 := Scalar.select v134 v138 c2304_i32
  let v268 : Index := Scalar.indexCast v139
  let c0_192 : Index := 0#32
  let c0_193 : Index := 0#32
  ![0, v268.toNat, 0, 0]

def k0_chk4 (v3 : BitVec 32) (k0_t1 : Fin (k0_t1_loop v3).trips) (k0_t3 : Fin k0_t3_loop.trips) (v137 : BitVec 32) : Prop :=
  (∀ a, (k0_off6 v3 k0_t1 k0_t3 v137) a + S1x1x8x128.size a ≤ S1x2312x8x128.size a) ∧
  (∀ a, (k0_off15 v3 k0_t1 k0_t3 v137) a + S1x1x8x128.size a ≤ S1x2312x8x128.size a)
theorem k0_off6_inb : ∀ (v3 : BitVec 32) (k0_t1 : Fin (k0_t1_loop v3).trips) (k0_t3 : Fin k0_t3_loop.trips) (v137 : BitVec 32) (k0_hw4 : k0_chk4 v3 k0_t1 k0_t3 v137), ∀ a, (k0_off6 v3 k0_t1 k0_t3 v137) a + S1x1x8x128.size a ≤ S1x2312x8x128.size a := fun v3 k0_t1 k0_t3 v137 k0_hw4 => k0_hw4.1
theorem k0_off15_inb : ∀ (v3 : BitVec 32) (k0_t1 : Fin (k0_t1_loop v3).trips) (k0_t3 : Fin k0_t3_loop.trips) (v137 : BitVec 32) (k0_hw4 : k0_chk4 v3 k0_t1 k0_t3 v137), ∀ a, (k0_off15 v3 k0_t1 k0_t3 v137) a + S1x1x8x128.size a ≤ S1x2312x8x128.size a := fun v3 k0_t1 k0_t3 v137 k0_hw4 => k0_hw4.2

def k0_off16 (v3 : BitVec 32) (k0_t1 : Fin (k0_t1_loop v3).trips) (k0_t3 : Fin k0_t3_loop.trips) (v150 : BitVec 32) : Fin 4 → Nat :=
  let c0_198 : Index := 0#32
  let c0_i32_96 : BitVec 32 := 0#32
  let c1_i32_97 : BitVec 32 := 1#32
  let arg17 : BitVec 32 := Scf.iv c0_i32_96 c1_i32_97 k0_t3
  let c8_i32_105 : BitVec 32 := 8#32
  let v145 : BitVec 32 := Scalar.muli arg17 c8_i32_105
  let c1_i32_106 : BitVec 32 := 1#32
  let v146 : BitVec 32 := Scalar.addi v145 c1_i32_106
  let c0_i32_10 : BitVec 32 := 0#32
  let c1_i32_12 : BitVec 32 := 1#32
  let arg16 : BitVec 32 := Scf.iv c0_i32_10 c1_i32_12 k0_t1
  let c320_i32_15 : BitVec 32 := 320#32
  let v37 : BitVec 32 := Scalar.muli arg16 c320_i32_15
  let v38 : BitVec 32 := Scalar.subi v3 v37
  let v147 : BitVec 1 := Scalar.cmpi .slt v146 v38
  let c2_i32_109 : BitVec 32 := 2#32
  let v151 : BitVec 32 := Scalar.shrsi v150 c2_i32_109
  let c2304_i32_110 : BitVec 32 := 2304#32
  let v152 : BitVec 32 := Scalar.select v147 v151 c2304_i32_110
  let v280 : Index := Scalar.indexCast v152
  let c0_199 : Index := 0#32
  let c0_200 : Index := 0#32
  ![0, v280.toNat, 0, 0]

def k0_chk5 (v3 : BitVec 32) (k0_t1 : Fin (k0_t1_loop v3).trips) (k0_t3 : Fin k0_t3_loop.trips) (v150 : BitVec 32) : Prop :=
  (∀ a, (k0_off7 v3 k0_t1 k0_t3 v150) a + S1x1x8x128.size a ≤ S1x2312x8x128.size a) ∧
  (∀ a, (k0_off16 v3 k0_t1 k0_t3 v150) a + S1x1x8x128.size a ≤ S1x2312x8x128.size a)
theorem k0_off7_inb : ∀ (v3 : BitVec 32) (k0_t1 : Fin (k0_t1_loop v3).trips) (k0_t3 : Fin k0_t3_loop.trips) (v150 : BitVec 32) (k0_hw5 : k0_chk5 v3 k0_t1 k0_t3 v150), ∀ a, (k0_off7 v3 k0_t1 k0_t3 v150) a + S1x1x8x128.size a ≤ S1x2312x8x128.size a := fun v3 k0_t1 k0_t3 v150 k0_hw5 => k0_hw5.1
theorem k0_off16_inb : ∀ (v3 : BitVec 32) (k0_t1 : Fin (k0_t1_loop v3).trips) (k0_t3 : Fin k0_t3_loop.trips) (v150 : BitVec 32) (k0_hw5 : k0_chk5 v3 k0_t1 k0_t3 v150), ∀ a, (k0_off16 v3 k0_t1 k0_t3 v150) a + S1x1x8x128.size a ≤ S1x2312x8x128.size a := fun v3 k0_t1 k0_t3 v150 k0_hw5 => k0_hw5.2

def k0_off17 (v3 : BitVec 32) (k0_t1 : Fin (k0_t1_loop v3).trips) (k0_t3 : Fin k0_t3_loop.trips) (v163 : BitVec 32) : Fin 4 → Nat :=
  let c0_205 : Index := 0#32
  let c0_i32_96 : BitVec 32 := 0#32
  let c1_i32_97 : BitVec 32 := 1#32
  let arg17 : BitVec 32 := Scf.iv c0_i32_96 c1_i32_97 k0_t3
  let c8_i32_114 : BitVec 32 := 8#32
  let v158 : BitVec 32 := Scalar.muli arg17 c8_i32_114
  let c2_i32_115 : BitVec 32 := 2#32
  let v159 : BitVec 32 := Scalar.addi v158 c2_i32_115
  let c0_i32_10 : BitVec 32 := 0#32
  let c1_i32_12 : BitVec 32 := 1#32
  let arg16 : BitVec 32 := Scf.iv c0_i32_10 c1_i32_12 k0_t1
  let c320_i32_15 : BitVec 32 := 320#32
  let v37 : BitVec 32 := Scalar.muli arg16 c320_i32_15
  let v38 : BitVec 32 := Scalar.subi v3 v37
  let v160 : BitVec 1 := Scalar.cmpi .slt v159 v38
  let c2_i32_118 : BitVec 32 := 2#32
  let v164 : BitVec 32 := Scalar.shrsi v163 c2_i32_118
  let c2304_i32_119 : BitVec 32 := 2304#32
  let v165 : BitVec 32 := Scalar.select v160 v164 c2304_i32_119
  let v292 : Index := Scalar.indexCast v165
  let c0_206 : Index := 0#32
  let c0_207 : Index := 0#32
  ![0, v292.toNat, 0, 0]

def k0_chk6 (v3 : BitVec 32) (k0_t1 : Fin (k0_t1_loop v3).trips) (k0_t3 : Fin k0_t3_loop.trips) (v163 : BitVec 32) : Prop :=
  (∀ a, (k0_off8 v3 k0_t1 k0_t3 v163) a + S1x1x8x128.size a ≤ S1x2312x8x128.size a) ∧
  (∀ a, (k0_off17 v3 k0_t1 k0_t3 v163) a + S1x1x8x128.size a ≤ S1x2312x8x128.size a)
theorem k0_off8_inb : ∀ (v3 : BitVec 32) (k0_t1 : Fin (k0_t1_loop v3).trips) (k0_t3 : Fin k0_t3_loop.trips) (v163 : BitVec 32) (k0_hw6 : k0_chk6 v3 k0_t1 k0_t3 v163), ∀ a, (k0_off8 v3 k0_t1 k0_t3 v163) a + S1x1x8x128.size a ≤ S1x2312x8x128.size a := fun v3 k0_t1 k0_t3 v163 k0_hw6 => k0_hw6.1
theorem k0_off17_inb : ∀ (v3 : BitVec 32) (k0_t1 : Fin (k0_t1_loop v3).trips) (k0_t3 : Fin k0_t3_loop.trips) (v163 : BitVec 32) (k0_hw6 : k0_chk6 v3 k0_t1 k0_t3 v163), ∀ a, (k0_off17 v3 k0_t1 k0_t3 v163) a + S1x1x8x128.size a ≤ S1x2312x8x128.size a := fun v3 k0_t1 k0_t3 v163 k0_hw6 => k0_hw6.2

def k0_off18 (v3 : BitVec 32) (k0_t1 : Fin (k0_t1_loop v3).trips) (k0_t3 : Fin k0_t3_loop.trips) (v176 : BitVec 32) : Fin 4 → Nat :=
  let c0_212 : Index := 0#32
  let c0_i32_96 : BitVec 32 := 0#32
  let c1_i32_97 : BitVec 32 := 1#32
  let arg17 : BitVec 32 := Scf.iv c0_i32_96 c1_i32_97 k0_t3
  let c8_i32_123 : BitVec 32 := 8#32
  let v171 : BitVec 32 := Scalar.muli arg17 c8_i32_123
  let c3_i32 : BitVec 32 := 3#32
  let v172 : BitVec 32 := Scalar.addi v171 c3_i32
  let c0_i32_10 : BitVec 32 := 0#32
  let c1_i32_12 : BitVec 32 := 1#32
  let arg16 : BitVec 32 := Scf.iv c0_i32_10 c1_i32_12 k0_t1
  let c320_i32_15 : BitVec 32 := 320#32
  let v37 : BitVec 32 := Scalar.muli arg16 c320_i32_15
  let v38 : BitVec 32 := Scalar.subi v3 v37
  let v173 : BitVec 1 := Scalar.cmpi .slt v172 v38
  let c2_i32_126 : BitVec 32 := 2#32
  let v177 : BitVec 32 := Scalar.shrsi v176 c2_i32_126
  let c2304_i32_127 : BitVec 32 := 2304#32
  let v178 : BitVec 32 := Scalar.select v173 v177 c2304_i32_127
  let v304 : Index := Scalar.indexCast v178
  let c0_213 : Index := 0#32
  let c0_214 : Index := 0#32
  ![0, v304.toNat, 0, 0]

def k0_chk7 (v3 : BitVec 32) (k0_t1 : Fin (k0_t1_loop v3).trips) (k0_t3 : Fin k0_t3_loop.trips) (v176 : BitVec 32) : Prop :=
  (∀ a, (k0_off9 v3 k0_t1 k0_t3 v176) a + S1x1x8x128.size a ≤ S1x2312x8x128.size a) ∧
  (∀ a, (k0_off18 v3 k0_t1 k0_t3 v176) a + S1x1x8x128.size a ≤ S1x2312x8x128.size a)
theorem k0_off9_inb : ∀ (v3 : BitVec 32) (k0_t1 : Fin (k0_t1_loop v3).trips) (k0_t3 : Fin k0_t3_loop.trips) (v176 : BitVec 32) (k0_hw7 : k0_chk7 v3 k0_t1 k0_t3 v176), ∀ a, (k0_off9 v3 k0_t1 k0_t3 v176) a + S1x1x8x128.size a ≤ S1x2312x8x128.size a := fun v3 k0_t1 k0_t3 v176 k0_hw7 => k0_hw7.1
theorem k0_off18_inb : ∀ (v3 : BitVec 32) (k0_t1 : Fin (k0_t1_loop v3).trips) (k0_t3 : Fin k0_t3_loop.trips) (v176 : BitVec 32) (k0_hw7 : k0_chk7 v3 k0_t1 k0_t3 v176), ∀ a, (k0_off18 v3 k0_t1 k0_t3 v176) a + S1x1x8x128.size a ≤ S1x2312x8x128.size a := fun v3 k0_t1 k0_t3 v176 k0_hw7 => k0_hw7.2

def k0_off19 (v3 : BitVec 32) (k0_t1 : Fin (k0_t1_loop v3).trips) (k0_t3 : Fin k0_t3_loop.trips) (v189 : BitVec 32) : Fin 4 → Nat :=
  let c0_219 : Index := 0#32
  let c0_i32_96 : BitVec 32 := 0#32
  let c1_i32_97 : BitVec 32 := 1#32
  let arg17 : BitVec 32 := Scf.iv c0_i32_96 c1_i32_97 k0_t3
  let c8_i32_131 : BitVec 32 := 8#32
  let v184 : BitVec 32 := Scalar.muli arg17 c8_i32_131
  let c4_i32 : BitVec 32 := 4#32
  let v185 : BitVec 32 := Scalar.addi v184 c4_i32
  let c0_i32_10 : BitVec 32 := 0#32
  let c1_i32_12 : BitVec 32 := 1#32
  let arg16 : BitVec 32 := Scf.iv c0_i32_10 c1_i32_12 k0_t1
  let c320_i32_15 : BitVec 32 := 320#32
  let v37 : BitVec 32 := Scalar.muli arg16 c320_i32_15
  let v38 : BitVec 32 := Scalar.subi v3 v37
  let v186 : BitVec 1 := Scalar.cmpi .slt v185 v38
  let c2_i32_134 : BitVec 32 := 2#32
  let v190 : BitVec 32 := Scalar.shrsi v189 c2_i32_134
  let c2304_i32_135 : BitVec 32 := 2304#32
  let v191 : BitVec 32 := Scalar.select v186 v190 c2304_i32_135
  let v316 : Index := Scalar.indexCast v191
  let c0_220 : Index := 0#32
  let c0_221 : Index := 0#32
  ![0, v316.toNat, 0, 0]

def k0_chk8 (v3 : BitVec 32) (k0_t1 : Fin (k0_t1_loop v3).trips) (k0_t3 : Fin k0_t3_loop.trips) (v189 : BitVec 32) : Prop :=
  (∀ a, (k0_off10 v3 k0_t1 k0_t3 v189) a + S1x1x8x128.size a ≤ S1x2312x8x128.size a) ∧
  (∀ a, (k0_off19 v3 k0_t1 k0_t3 v189) a + S1x1x8x128.size a ≤ S1x2312x8x128.size a)
theorem k0_off10_inb : ∀ (v3 : BitVec 32) (k0_t1 : Fin (k0_t1_loop v3).trips) (k0_t3 : Fin k0_t3_loop.trips) (v189 : BitVec 32) (k0_hw8 : k0_chk8 v3 k0_t1 k0_t3 v189), ∀ a, (k0_off10 v3 k0_t1 k0_t3 v189) a + S1x1x8x128.size a ≤ S1x2312x8x128.size a := fun v3 k0_t1 k0_t3 v189 k0_hw8 => k0_hw8.1
theorem k0_off19_inb : ∀ (v3 : BitVec 32) (k0_t1 : Fin (k0_t1_loop v3).trips) (k0_t3 : Fin k0_t3_loop.trips) (v189 : BitVec 32) (k0_hw8 : k0_chk8 v3 k0_t1 k0_t3 v189), ∀ a, (k0_off19 v3 k0_t1 k0_t3 v189) a + S1x1x8x128.size a ≤ S1x2312x8x128.size a := fun v3 k0_t1 k0_t3 v189 k0_hw8 => k0_hw8.2

def k0_off20 (v3 : BitVec 32) (k0_t1 : Fin (k0_t1_loop v3).trips) (k0_t3 : Fin k0_t3_loop.trips) (v202 : BitVec 32) : Fin 4 → Nat :=
  let c0_226 : Index := 0#32
  let c0_i32_96 : BitVec 32 := 0#32
  let c1_i32_97 : BitVec 32 := 1#32
  let arg17 : BitVec 32 := Scf.iv c0_i32_96 c1_i32_97 k0_t3
  let c8_i32_139 : BitVec 32 := 8#32
  let v197 : BitVec 32 := Scalar.muli arg17 c8_i32_139
  let c5_i32 : BitVec 32 := 5#32
  let v198 : BitVec 32 := Scalar.addi v197 c5_i32
  let c0_i32_10 : BitVec 32 := 0#32
  let c1_i32_12 : BitVec 32 := 1#32
  let arg16 : BitVec 32 := Scf.iv c0_i32_10 c1_i32_12 k0_t1
  let c320_i32_15 : BitVec 32 := 320#32
  let v37 : BitVec 32 := Scalar.muli arg16 c320_i32_15
  let v38 : BitVec 32 := Scalar.subi v3 v37
  let v199 : BitVec 1 := Scalar.cmpi .slt v198 v38
  let c2_i32_142 : BitVec 32 := 2#32
  let v203 : BitVec 32 := Scalar.shrsi v202 c2_i32_142
  let c2304_i32_143 : BitVec 32 := 2304#32
  let v204 : BitVec 32 := Scalar.select v199 v203 c2304_i32_143
  let v328 : Index := Scalar.indexCast v204
  let c0_227 : Index := 0#32
  let c0_228 : Index := 0#32
  ![0, v328.toNat, 0, 0]

def k0_chk9 (v3 : BitVec 32) (k0_t1 : Fin (k0_t1_loop v3).trips) (k0_t3 : Fin k0_t3_loop.trips) (v202 : BitVec 32) : Prop :=
  (∀ a, (k0_off11 v3 k0_t1 k0_t3 v202) a + S1x1x8x128.size a ≤ S1x2312x8x128.size a) ∧
  (∀ a, (k0_off20 v3 k0_t1 k0_t3 v202) a + S1x1x8x128.size a ≤ S1x2312x8x128.size a)
theorem k0_off11_inb : ∀ (v3 : BitVec 32) (k0_t1 : Fin (k0_t1_loop v3).trips) (k0_t3 : Fin k0_t3_loop.trips) (v202 : BitVec 32) (k0_hw9 : k0_chk9 v3 k0_t1 k0_t3 v202), ∀ a, (k0_off11 v3 k0_t1 k0_t3 v202) a + S1x1x8x128.size a ≤ S1x2312x8x128.size a := fun v3 k0_t1 k0_t3 v202 k0_hw9 => k0_hw9.1
theorem k0_off20_inb : ∀ (v3 : BitVec 32) (k0_t1 : Fin (k0_t1_loop v3).trips) (k0_t3 : Fin k0_t3_loop.trips) (v202 : BitVec 32) (k0_hw9 : k0_chk9 v3 k0_t1 k0_t3 v202), ∀ a, (k0_off20 v3 k0_t1 k0_t3 v202) a + S1x1x8x128.size a ≤ S1x2312x8x128.size a := fun v3 k0_t1 k0_t3 v202 k0_hw9 => k0_hw9.2

def k0_off21 (v3 : BitVec 32) (k0_t1 : Fin (k0_t1_loop v3).trips) (k0_t3 : Fin k0_t3_loop.trips) (v215 : BitVec 32) : Fin 4 → Nat :=
  let c0_233 : Index := 0#32
  let c0_i32_96 : BitVec 32 := 0#32
  let c1_i32_97 : BitVec 32 := 1#32
  let arg17 : BitVec 32 := Scf.iv c0_i32_96 c1_i32_97 k0_t3
  let c8_i32_147 : BitVec 32 := 8#32
  let v210 : BitVec 32 := Scalar.muli arg17 c8_i32_147
  let c6_i32 : BitVec 32 := 6#32
  let v211 : BitVec 32 := Scalar.addi v210 c6_i32
  let c0_i32_10 : BitVec 32 := 0#32
  let c1_i32_12 : BitVec 32 := 1#32
  let arg16 : BitVec 32 := Scf.iv c0_i32_10 c1_i32_12 k0_t1
  let c320_i32_15 : BitVec 32 := 320#32
  let v37 : BitVec 32 := Scalar.muli arg16 c320_i32_15
  let v38 : BitVec 32 := Scalar.subi v3 v37
  let v212 : BitVec 1 := Scalar.cmpi .slt v211 v38
  let c2_i32_150 : BitVec 32 := 2#32
  let v216 : BitVec 32 := Scalar.shrsi v215 c2_i32_150
  let c2304_i32_151 : BitVec 32 := 2304#32
  let v217 : BitVec 32 := Scalar.select v212 v216 c2304_i32_151
  let v340 : Index := Scalar.indexCast v217
  let c0_234 : Index := 0#32
  let c0_235 : Index := 0#32
  ![0, v340.toNat, 0, 0]

def k0_chk10 (v3 : BitVec 32) (k0_t1 : Fin (k0_t1_loop v3).trips) (k0_t3 : Fin k0_t3_loop.trips) (v215 : BitVec 32) : Prop :=
  (∀ a, (k0_off12 v3 k0_t1 k0_t3 v215) a + S1x1x8x128.size a ≤ S1x2312x8x128.size a) ∧
  (∀ a, (k0_off21 v3 k0_t1 k0_t3 v215) a + S1x1x8x128.size a ≤ S1x2312x8x128.size a)
theorem k0_off12_inb : ∀ (v3 : BitVec 32) (k0_t1 : Fin (k0_t1_loop v3).trips) (k0_t3 : Fin k0_t3_loop.trips) (v215 : BitVec 32) (k0_hw10 : k0_chk10 v3 k0_t1 k0_t3 v215), ∀ a, (k0_off12 v3 k0_t1 k0_t3 v215) a + S1x1x8x128.size a ≤ S1x2312x8x128.size a := fun v3 k0_t1 k0_t3 v215 k0_hw10 => k0_hw10.1
theorem k0_off21_inb : ∀ (v3 : BitVec 32) (k0_t1 : Fin (k0_t1_loop v3).trips) (k0_t3 : Fin k0_t3_loop.trips) (v215 : BitVec 32) (k0_hw10 : k0_chk10 v3 k0_t1 k0_t3 v215), ∀ a, (k0_off21 v3 k0_t1 k0_t3 v215) a + S1x1x8x128.size a ≤ S1x2312x8x128.size a := fun v3 k0_t1 k0_t3 v215 k0_hw10 => k0_hw10.2

@[reducible] def k0_t4_loop (v3 : BitVec 32) : Scf.Loop 32 :=
  let c0_i32_10 : BitVec 32 := 0#32
  let c320_i32 : BitVec 32 := 320#32
  let v11 : BitVec 32 := Scalar.addi v3 c320_i32
  let c1_i32 : BitVec 32 := 1#32
  let v12 : BitVec 32 := Scalar.subi v11 c1_i32
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c320_i32_2 : BitVec 32 := 320#32
  let c0_i32_5 : BitVec 32 := 0#32
  let v19 : BitVec 1 := Scalar.cmpi .sgt c320_i32_2 c0_i32_5
  let v20 : BitVec 32 := Scalar.extui v19
  let c0_i32_6 : BitVec 32 := 0#32
  let v21 : BitVec 1 := Scalar.cmpi .slt c320_i32_2 c0_i32_6
  let v22 : BitVec 32 := Scalar.extui v21
  let v23 : BitVec 32 := Scalar.subi v20 v22
  let v24 : BitVec 1 := Scalar.cmpi .ne v18 v23
  let v25 : BitVec 32 := Scalar.remsi v12 c320_i32_2
  let c0_i32_7 : BitVec 32 := 0#32
  let v26 : BitVec 1 := Scalar.cmpi .ne v25 c0_i32_7
  let v27 : BitVec 1 := Scalar.andi v24 v26
  let v13 : BitVec 32 := Scalar.divsi v12 c320_i32_2
  let c1_i32_8 : BitVec 32 := 1#32
  let v28 : BitVec 32 := Scalar.subi v13 c1_i32_8
  let v29 : BitVec 32 := Scalar.select v27 v28 v13
  let v30 : BitVec 32 := Scalar.subi v29 c0_i32_10
  let c1_i32_11 : BitVec 32 := 1#32
  let v32 : BitVec 32 := Scalar.divsi v30 c1_i32_11
  let v33 : BitVec 32 := Scalar.muli v32 c1_i32_11
  let v34 : BitVec 32 := Scalar.addi c0_i32_10 v33
  let v31 : BitVec 32 := Scalar.addi c0_i32_10 v30
  let c1_i32_13 : BitVec 32 := 1#32
  ⟨v34, v31, c1_i32_13⟩

def k0_chk1 (v3 : BitVec 32) : Prop :=
  ((k0_t1_loop v3).OK) ∧
  ((k0_t4_loop v3).OK)
theorem k0_t1_ok : ∀ (v3 : BitVec 32) (k0_hw1 : k0_chk1 v3), (k0_t1_loop v3).OK := fun v3 k0_hw1 => k0_hw1.1
theorem k0_t4_ok : ∀ (v3 : BitVec 32) (k0_hw1 : k0_chk1 v3), (k0_t4_loop v3).OK := fun v3 k0_hw1 => k0_hw1.2

@[reducible] def k0_t5_loop : Scf.Loop 32 :=
  let c0_i32_17 : BitVec 32 := 0#32
  let c320_i32_18 : BitVec 32 := 320#32
  let v39 : BitVec 32 := Scalar.addi c0_i32_17 c320_i32_18
  let c1_i32_19 : BitVec 32 := 1#32
  ⟨c0_i32_17, v39, c1_i32_19⟩
def k0_off22 (v3 : BitVec 32) (v7 : BitVec 32) (k0_t4 : Fin (k0_t4_loop v3).trips) (k0_t5 : Fin k0_t5_loop.trips) : Fin 3 → Nat :=
  let c0_99 : Index := 0#32
  let c0_100 : Index := 0#32
  let c0_i32_10 : BitVec 32 := 0#32
  let c320_i32 : BitVec 32 := 320#32
  let v11 : BitVec 32 := Scalar.addi v3 c320_i32
  let c1_i32 : BitVec 32 := 1#32
  let v12 : BitVec 32 := Scalar.subi v11 c1_i32
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c320_i32_2 : BitVec 32 := 320#32
  let c0_i32_5 : BitVec 32 := 0#32
  let v19 : BitVec 1 := Scalar.cmpi .sgt c320_i32_2 c0_i32_5
  let v20 : BitVec 32 := Scalar.extui v19
  let c0_i32_6 : BitVec 32 := 0#32
  let v21 : BitVec 1 := Scalar.cmpi .slt c320_i32_2 c0_i32_6
  let v22 : BitVec 32 := Scalar.extui v21
  let v23 : BitVec 32 := Scalar.subi v20 v22
  let v24 : BitVec 1 := Scalar.cmpi .ne v18 v23
  let v25 : BitVec 32 := Scalar.remsi v12 c320_i32_2
  let c0_i32_7 : BitVec 32 := 0#32
  let v26 : BitVec 1 := Scalar.cmpi .ne v25 c0_i32_7
  let v27 : BitVec 1 := Scalar.andi v24 v26
  let v13 : BitVec 32 := Scalar.divsi v12 c320_i32_2
  let c1_i32_8 : BitVec 32 := 1#32
  let v28 : BitVec 32 := Scalar.subi v13 c1_i32_8
  let v29 : BitVec 32 := Scalar.select v27 v28 v13
  let v30 : BitVec 32 := Scalar.subi v29 c0_i32_10
  let c1_i32_11 : BitVec 32 := 1#32
  let v32 : BitVec 32 := Scalar.divsi v30 c1_i32_11
  let v33 : BitVec 32 := Scalar.muli v32 c1_i32_11
  let v34 : BitVec 32 := Scalar.addi c0_i32_10 v33
  let c1_i32_13 : BitVec 32 := 1#32
  let arg16 : BitVec 32 := Scf.iv v34 c1_i32_13 k0_t4
  let c320_i32_14 : BitVec 32 := 320#32
  let v35 : BitVec 32 := Scalar.muli arg16 c320_i32_14
  let v36 : BitVec 32 := Scalar.addi v7 v35
  let c0_i32_17 : BitVec 32 := 0#32
  let c1_i32_19 : BitVec 32 := 1#32
  let arg17 : BitVec 32 := Scf.iv c0_i32_17 c1_i32_19 k0_t5
  let v132 : BitVec 32 := Scalar.addi v36 arg17
  let v133 : Index := Scalar.indexCast v132
  ![0, 0, v133.toNat]
def k0_off23 (v134 : BitVec 32) : Fin 4 → Nat :=
  let c0_101 : Index := 0#32
  let c2_i32 : BitVec 32 := 2#32
  let v135 : BitVec 32 := Scalar.shrsi v134 c2_i32
  let v136 : Index := Scalar.indexCast v135
  let c0_102 : Index := 0#32
  let c0_103 : Index := 0#32
  ![0, v136.toNat, 0, 0]

def k0_chk12 (v134 : BitVec 32) : Prop :=
  (∀ a, (k0_off23 v134) a + S1x1x8x128.size a ≤ S1x2304x8x128.size a)
theorem k0_off23_inb : ∀ (v134 : BitVec 32) (k0_hw12 : k0_chk12 v134), ∀ a, (k0_off23 v134) a + S1x1x8x128.size a ≤ S1x2304x8x128.size a := fun v134 k0_hw12 => k0_hw12

def k0_off24 (k0_t5 : Fin k0_t5_loop.trips) : Fin 3 → Nat :=
  let c0_i32_17 : BitVec 32 := 0#32
  let c1_i32_19 : BitVec 32 := 1#32
  let arg17 : BitVec 32 := Scf.iv c0_i32_17 c1_i32_19 k0_t5
  let v139 : Index := Scalar.indexCast arg17
  let c0_104 : Index := 0#32
  let c0_105 : Index := 0#32
  ![v139.toNat, 0, 0]
@[reducible] def k0_t6_loop : Scf.Loop 32 :=
  let c0_i32_96 : BitVec 32 := 0#32
  let c40_i32 : BitVec 32 := 40#32
  let v131 : BitVec 32 := Scalar.addi c0_i32_96 c40_i32
  let c1_i32_97 : BitVec 32 := 1#32
  ⟨c0_i32_96, v131, c1_i32_97⟩
def k0_off25 (v3 : BitVec 32) (v7 : BitVec 32) (k0_t4 : Fin (k0_t4_loop v3).trips) (k0_t6 : Fin k0_t6_loop.trips) (c0_i32_99 : BitVec 32) : Fin 3 → Nat :=
  let c0_100 : Index := 0#32
  let c0_101 : Index := 0#32
  let c0_i32_10 : BitVec 32 := 0#32
  let c320_i32 : BitVec 32 := 320#32
  let v11 : BitVec 32 := Scalar.addi v3 c320_i32
  let c1_i32 : BitVec 32 := 1#32
  let v12 : BitVec 32 := Scalar.subi v11 c1_i32
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c320_i32_2 : BitVec 32 := 320#32
  let c0_i32_5 : BitVec 32 := 0#32
  let v19 : BitVec 1 := Scalar.cmpi .sgt c320_i32_2 c0_i32_5
  let v20 : BitVec 32 := Scalar.extui v19
  let c0_i32_6 : BitVec 32 := 0#32
  let v21 : BitVec 1 := Scalar.cmpi .slt c320_i32_2 c0_i32_6
  let v22 : BitVec 32 := Scalar.extui v21
  let v23 : BitVec 32 := Scalar.subi v20 v22
  let v24 : BitVec 1 := Scalar.cmpi .ne v18 v23
  let v25 : BitVec 32 := Scalar.remsi v12 c320_i32_2
  let c0_i32_7 : BitVec 32 := 0#32
  let v26 : BitVec 1 := Scalar.cmpi .ne v25 c0_i32_7
  let v27 : BitVec 1 := Scalar.andi v24 v26
  let v13 : BitVec 32 := Scalar.divsi v12 c320_i32_2
  let c1_i32_8 : BitVec 32 := 1#32
  let v28 : BitVec 32 := Scalar.subi v13 c1_i32_8
  let v29 : BitVec 32 := Scalar.select v27 v28 v13
  let v30 : BitVec 32 := Scalar.subi v29 c0_i32_10
  let c1_i32_11 : BitVec 32 := 1#32
  let v32 : BitVec 32 := Scalar.divsi v30 c1_i32_11
  let v33 : BitVec 32 := Scalar.muli v32 c1_i32_11
  let v34 : BitVec 32 := Scalar.addi c0_i32_10 v33
  let c1_i32_13 : BitVec 32 := 1#32
  let arg16 : BitVec 32 := Scf.iv v34 c1_i32_13 k0_t4
  let c320_i32_14 : BitVec 32 := 320#32
  let v35 : BitVec 32 := Scalar.muli arg16 c320_i32_14
  let v36 : BitVec 32 := Scalar.addi v7 v35
  let c0_i32_96 : BitVec 32 := 0#32
  let c1_i32_97 : BitVec 32 := 1#32
  let arg17 : BitVec 32 := Scf.iv c0_i32_96 c1_i32_97 k0_t6
  let c8_i32 : BitVec 32 := 8#32
  let v132 : BitVec 32 := Scalar.muli arg17 c8_i32
  let v133 : BitVec 32 := Scalar.addi v132 c0_i32_99
  let v135 : BitVec 32 := Scalar.addi v36 v133
  let v136 : Index := Scalar.indexCast v135
  ![0, 0, v136.toNat]

def k0_chk2 (v3 : BitVec 32) (v7 : BitVec 32) : Prop :=
  (∀ (k0_t1 : Fin (k0_t1_loop v3).trips) (k0_t2 : Fin k0_t2_loop.trips), ∀ a, (k0_off2 v3 v7 k0_t1 k0_t2) a + S1x1x1.size a ≤ S1x1x9536.size a) ∧
  (∀ (k0_t1 : Fin (k0_t1_loop v3).trips) (k0_t3 : Fin k0_t3_loop.trips), ∀ (r : Fin 8), ∀ a, (k0_off5 v3 v7 k0_t1 k0_t3 (BitVec.ofNat 32 r.val)) a + S1x1x1.size a ≤ S1x1x9536.size a) ∧
  (∀ (k0_t4 : Fin (k0_t4_loop v3).trips) (k0_t5 : Fin k0_t5_loop.trips), ∀ a, (k0_off22 v3 v7 k0_t4 k0_t5) a + S1x1x1.size a ≤ S1x1x9536.size a) ∧
  (∀ (k0_t4 : Fin (k0_t4_loop v3).trips) (k0_t6 : Fin k0_t6_loop.trips), ∀ (r : Fin 8), ∀ a, (k0_off25 v3 v7 k0_t4 k0_t6 (BitVec.ofNat 32 r.val)) a + S1x1x1.size a ≤ S1x1x9536.size a)
theorem k0_off2_inb : ∀ (v3 : BitVec 32) (v7 : BitVec 32) (k0_hw2 : k0_chk2 v3 v7) (k0_t1 : Fin (k0_t1_loop v3).trips) (k0_t2 : Fin k0_t2_loop.trips), ∀ a, (k0_off2 v3 v7 k0_t1 k0_t2) a + S1x1x1.size a ≤ S1x1x9536.size a := fun v3 v7 k0_hw2 k0_t1 k0_t2 => k0_hw2.1 k0_t1 k0_t2
theorem k0_off5_inb : ∀ (v3 : BitVec 32) (v7 : BitVec 32) (k0_hw2 : k0_chk2 v3 v7) (k0_t1 : Fin (k0_t1_loop v3).trips) (k0_t3 : Fin k0_t3_loop.trips), ∀ (r : Fin 8), ∀ a, (k0_off5 v3 v7 k0_t1 k0_t3 (BitVec.ofNat 32 r.val)) a + S1x1x1.size a ≤ S1x1x9536.size a := fun v3 v7 k0_hw2 k0_t1 k0_t3 r => k0_hw2.2.1 k0_t1 k0_t3 r
theorem k0_off22_inb : ∀ (v3 : BitVec 32) (v7 : BitVec 32) (k0_hw2 : k0_chk2 v3 v7) (k0_t4 : Fin (k0_t4_loop v3).trips) (k0_t5 : Fin k0_t5_loop.trips), ∀ a, (k0_off22 v3 v7 k0_t4 k0_t5) a + S1x1x1.size a ≤ S1x1x9536.size a := fun v3 v7 k0_hw2 k0_t4 k0_t5 => k0_hw2.2.2.1 k0_t4 k0_t5
theorem k0_off25_inb : ∀ (v3 : BitVec 32) (v7 : BitVec 32) (k0_hw2 : k0_chk2 v3 v7) (k0_t4 : Fin (k0_t4_loop v3).trips) (k0_t6 : Fin k0_t6_loop.trips), ∀ (r : Fin 8), ∀ a, (k0_off25 v3 v7 k0_t4 k0_t6 (BitVec.ofNat 32 r.val)) a + S1x1x1.size a ≤ S1x1x9536.size a := fun v3 v7 k0_hw2 k0_t4 k0_t6 r => k0_hw2.2.2.2 k0_t4 k0_t6 r

def k0_off26 (v3 : BitVec 32) (k0_t4 : Fin (k0_t4_loop v3).trips) (k0_t6 : Fin k0_t6_loop.trips) (v137 : BitVec 32) : Fin 4 → Nat :=
  let c0_163 : Index := 0#32
  let c0_i32_96 : BitVec 32 := 0#32
  let c1_i32_97 : BitVec 32 := 1#32
  let arg17 : BitVec 32 := Scf.iv c0_i32_96 c1_i32_97 k0_t6
  let c8_i32 : BitVec 32 := 8#32
  let v132 : BitVec 32 := Scalar.muli arg17 c8_i32
  let c0_i32_99 : BitVec 32 := 0#32
  let v133 : BitVec 32 := Scalar.addi v132 c0_i32_99
  let c0_i32_10 : BitVec 32 := 0#32
  let c320_i32 : BitVec 32 := 320#32
  let v11 : BitVec 32 := Scalar.addi v3 c320_i32
  let c1_i32 : BitVec 32 := 1#32
  let v12 : BitVec 32 := Scalar.subi v11 c1_i32
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c320_i32_2 : BitVec 32 := 320#32
  let c0_i32_5 : BitVec 32 := 0#32
  let v19 : BitVec 1 := Scalar.cmpi .sgt c320_i32_2 c0_i32_5
  let v20 : BitVec 32 := Scalar.extui v19
  let c0_i32_6 : BitVec 32 := 0#32
  let v21 : BitVec 1 := Scalar.cmpi .slt c320_i32_2 c0_i32_6
  let v22 : BitVec 32 := Scalar.extui v21
  let v23 : BitVec 32 := Scalar.subi v20 v22
  let v24 : BitVec 1 := Scalar.cmpi .ne v18 v23
  let v25 : BitVec 32 := Scalar.remsi v12 c320_i32_2
  let c0_i32_7 : BitVec 32 := 0#32
  let v26 : BitVec 1 := Scalar.cmpi .ne v25 c0_i32_7
  let v27 : BitVec 1 := Scalar.andi v24 v26
  let v13 : BitVec 32 := Scalar.divsi v12 c320_i32_2
  let c1_i32_8 : BitVec 32 := 1#32
  let v28 : BitVec 32 := Scalar.subi v13 c1_i32_8
  let v29 : BitVec 32 := Scalar.select v27 v28 v13
  let v30 : BitVec 32 := Scalar.subi v29 c0_i32_10
  let c1_i32_11 : BitVec 32 := 1#32
  let v32 : BitVec 32 := Scalar.divsi v30 c1_i32_11
  let v33 : BitVec 32 := Scalar.muli v32 c1_i32_11
  let v34 : BitVec 32 := Scalar.addi c0_i32_10 v33
  let c1_i32_13 : BitVec 32 := 1#32
  let arg16 : BitVec 32 := Scf.iv v34 c1_i32_13 k0_t4
  let c320_i32_15 : BitVec 32 := 320#32
  let v37 : BitVec 32 := Scalar.muli arg16 c320_i32_15
  let v38 : BitVec 32 := Scalar.subi v3 v37
  let v134 : BitVec 1 := Scalar.cmpi .slt v133 v38
  let c2_i32 : BitVec 32 := 2#32
  let v138 : BitVec 32 := Scalar.shrsi v137 c2_i32
  let c2304_i32 : BitVec 32 := 2304#32
  let v139 : BitVec 32 := Scalar.select v134 v138 c2304_i32
  let v236 : Index := Scalar.indexCast v139
  let c0_164 : Index := 0#32
  let c0_165 : Index := 0#32
  ![0, v236.toNat, 0, 0]

def k0_off27 (v3 : BitVec 32) (k0_t4 : Fin (k0_t4_loop v3).trips) (k0_t6 : Fin k0_t6_loop.trips) (v150 : BitVec 32) : Fin 4 → Nat :=
  let c0_166 : Index := 0#32
  let c0_i32_96 : BitVec 32 := 0#32
  let c1_i32_97 : BitVec 32 := 1#32
  let arg17 : BitVec 32 := Scf.iv c0_i32_96 c1_i32_97 k0_t6
  let c8_i32_105 : BitVec 32 := 8#32
  let v145 : BitVec 32 := Scalar.muli arg17 c8_i32_105
  let c1_i32_106 : BitVec 32 := 1#32
  let v146 : BitVec 32 := Scalar.addi v145 c1_i32_106
  let c0_i32_10 : BitVec 32 := 0#32
  let c320_i32 : BitVec 32 := 320#32
  let v11 : BitVec 32 := Scalar.addi v3 c320_i32
  let c1_i32 : BitVec 32 := 1#32
  let v12 : BitVec 32 := Scalar.subi v11 c1_i32
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c320_i32_2 : BitVec 32 := 320#32
  let c0_i32_5 : BitVec 32 := 0#32
  let v19 : BitVec 1 := Scalar.cmpi .sgt c320_i32_2 c0_i32_5
  let v20 : BitVec 32 := Scalar.extui v19
  let c0_i32_6 : BitVec 32 := 0#32
  let v21 : BitVec 1 := Scalar.cmpi .slt c320_i32_2 c0_i32_6
  let v22 : BitVec 32 := Scalar.extui v21
  let v23 : BitVec 32 := Scalar.subi v20 v22
  let v24 : BitVec 1 := Scalar.cmpi .ne v18 v23
  let v25 : BitVec 32 := Scalar.remsi v12 c320_i32_2
  let c0_i32_7 : BitVec 32 := 0#32
  let v26 : BitVec 1 := Scalar.cmpi .ne v25 c0_i32_7
  let v27 : BitVec 1 := Scalar.andi v24 v26
  let v13 : BitVec 32 := Scalar.divsi v12 c320_i32_2
  let c1_i32_8 : BitVec 32 := 1#32
  let v28 : BitVec 32 := Scalar.subi v13 c1_i32_8
  let v29 : BitVec 32 := Scalar.select v27 v28 v13
  let v30 : BitVec 32 := Scalar.subi v29 c0_i32_10
  let c1_i32_11 : BitVec 32 := 1#32
  let v32 : BitVec 32 := Scalar.divsi v30 c1_i32_11
  let v33 : BitVec 32 := Scalar.muli v32 c1_i32_11
  let v34 : BitVec 32 := Scalar.addi c0_i32_10 v33
  let c1_i32_13 : BitVec 32 := 1#32
  let arg16 : BitVec 32 := Scf.iv v34 c1_i32_13 k0_t4
  let c320_i32_15 : BitVec 32 := 320#32
  let v37 : BitVec 32 := Scalar.muli arg16 c320_i32_15
  let v38 : BitVec 32 := Scalar.subi v3 v37
  let v147 : BitVec 1 := Scalar.cmpi .slt v146 v38
  let c2_i32_109 : BitVec 32 := 2#32
  let v151 : BitVec 32 := Scalar.shrsi v150 c2_i32_109
  let c2304_i32_110 : BitVec 32 := 2304#32
  let v152 : BitVec 32 := Scalar.select v147 v151 c2304_i32_110
  let v239 : Index := Scalar.indexCast v152
  let c0_167 : Index := 0#32
  let c0_168 : Index := 0#32
  ![0, v239.toNat, 0, 0]

def k0_off28 (v3 : BitVec 32) (k0_t4 : Fin (k0_t4_loop v3).trips) (k0_t6 : Fin k0_t6_loop.trips) (v163 : BitVec 32) : Fin 4 → Nat :=
  let c0_169 : Index := 0#32
  let c0_i32_96 : BitVec 32 := 0#32
  let c1_i32_97 : BitVec 32 := 1#32
  let arg17 : BitVec 32 := Scf.iv c0_i32_96 c1_i32_97 k0_t6
  let c8_i32_114 : BitVec 32 := 8#32
  let v158 : BitVec 32 := Scalar.muli arg17 c8_i32_114
  let c2_i32_115 : BitVec 32 := 2#32
  let v159 : BitVec 32 := Scalar.addi v158 c2_i32_115
  let c0_i32_10 : BitVec 32 := 0#32
  let c320_i32 : BitVec 32 := 320#32
  let v11 : BitVec 32 := Scalar.addi v3 c320_i32
  let c1_i32 : BitVec 32 := 1#32
  let v12 : BitVec 32 := Scalar.subi v11 c1_i32
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c320_i32_2 : BitVec 32 := 320#32
  let c0_i32_5 : BitVec 32 := 0#32
  let v19 : BitVec 1 := Scalar.cmpi .sgt c320_i32_2 c0_i32_5
  let v20 : BitVec 32 := Scalar.extui v19
  let c0_i32_6 : BitVec 32 := 0#32
  let v21 : BitVec 1 := Scalar.cmpi .slt c320_i32_2 c0_i32_6
  let v22 : BitVec 32 := Scalar.extui v21
  let v23 : BitVec 32 := Scalar.subi v20 v22
  let v24 : BitVec 1 := Scalar.cmpi .ne v18 v23
  let v25 : BitVec 32 := Scalar.remsi v12 c320_i32_2
  let c0_i32_7 : BitVec 32 := 0#32
  let v26 : BitVec 1 := Scalar.cmpi .ne v25 c0_i32_7
  let v27 : BitVec 1 := Scalar.andi v24 v26
  let v13 : BitVec 32 := Scalar.divsi v12 c320_i32_2
  let c1_i32_8 : BitVec 32 := 1#32
  let v28 : BitVec 32 := Scalar.subi v13 c1_i32_8
  let v29 : BitVec 32 := Scalar.select v27 v28 v13
  let v30 : BitVec 32 := Scalar.subi v29 c0_i32_10
  let c1_i32_11 : BitVec 32 := 1#32
  let v32 : BitVec 32 := Scalar.divsi v30 c1_i32_11
  let v33 : BitVec 32 := Scalar.muli v32 c1_i32_11
  let v34 : BitVec 32 := Scalar.addi c0_i32_10 v33
  let c1_i32_13 : BitVec 32 := 1#32
  let arg16 : BitVec 32 := Scf.iv v34 c1_i32_13 k0_t4
  let c320_i32_15 : BitVec 32 := 320#32
  let v37 : BitVec 32 := Scalar.muli arg16 c320_i32_15
  let v38 : BitVec 32 := Scalar.subi v3 v37
  let v160 : BitVec 1 := Scalar.cmpi .slt v159 v38
  let c2_i32_118 : BitVec 32 := 2#32
  let v164 : BitVec 32 := Scalar.shrsi v163 c2_i32_118
  let c2304_i32_119 : BitVec 32 := 2304#32
  let v165 : BitVec 32 := Scalar.select v160 v164 c2304_i32_119
  let v242 : Index := Scalar.indexCast v165
  let c0_170 : Index := 0#32
  let c0_171 : Index := 0#32
  ![0, v242.toNat, 0, 0]

def k0_off29 (v3 : BitVec 32) (k0_t4 : Fin (k0_t4_loop v3).trips) (k0_t6 : Fin k0_t6_loop.trips) (v176 : BitVec 32) : Fin 4 → Nat :=
  let c0_172 : Index := 0#32
  let c0_i32_96 : BitVec 32 := 0#32
  let c1_i32_97 : BitVec 32 := 1#32
  let arg17 : BitVec 32 := Scf.iv c0_i32_96 c1_i32_97 k0_t6
  let c8_i32_123 : BitVec 32 := 8#32
  let v171 : BitVec 32 := Scalar.muli arg17 c8_i32_123
  let c3_i32 : BitVec 32 := 3#32
  let v172 : BitVec 32 := Scalar.addi v171 c3_i32
  let c0_i32_10 : BitVec 32 := 0#32
  let c320_i32 : BitVec 32 := 320#32
  let v11 : BitVec 32 := Scalar.addi v3 c320_i32
  let c1_i32 : BitVec 32 := 1#32
  let v12 : BitVec 32 := Scalar.subi v11 c1_i32
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c320_i32_2 : BitVec 32 := 320#32
  let c0_i32_5 : BitVec 32 := 0#32
  let v19 : BitVec 1 := Scalar.cmpi .sgt c320_i32_2 c0_i32_5
  let v20 : BitVec 32 := Scalar.extui v19
  let c0_i32_6 : BitVec 32 := 0#32
  let v21 : BitVec 1 := Scalar.cmpi .slt c320_i32_2 c0_i32_6
  let v22 : BitVec 32 := Scalar.extui v21
  let v23 : BitVec 32 := Scalar.subi v20 v22
  let v24 : BitVec 1 := Scalar.cmpi .ne v18 v23
  let v25 : BitVec 32 := Scalar.remsi v12 c320_i32_2
  let c0_i32_7 : BitVec 32 := 0#32
  let v26 : BitVec 1 := Scalar.cmpi .ne v25 c0_i32_7
  let v27 : BitVec 1 := Scalar.andi v24 v26
  let v13 : BitVec 32 := Scalar.divsi v12 c320_i32_2
  let c1_i32_8 : BitVec 32 := 1#32
  let v28 : BitVec 32 := Scalar.subi v13 c1_i32_8
  let v29 : BitVec 32 := Scalar.select v27 v28 v13
  let v30 : BitVec 32 := Scalar.subi v29 c0_i32_10
  let c1_i32_11 : BitVec 32 := 1#32
  let v32 : BitVec 32 := Scalar.divsi v30 c1_i32_11
  let v33 : BitVec 32 := Scalar.muli v32 c1_i32_11
  let v34 : BitVec 32 := Scalar.addi c0_i32_10 v33
  let c1_i32_13 : BitVec 32 := 1#32
  let arg16 : BitVec 32 := Scf.iv v34 c1_i32_13 k0_t4
  let c320_i32_15 : BitVec 32 := 320#32
  let v37 : BitVec 32 := Scalar.muli arg16 c320_i32_15
  let v38 : BitVec 32 := Scalar.subi v3 v37
  let v173 : BitVec 1 := Scalar.cmpi .slt v172 v38
  let c2_i32_126 : BitVec 32 := 2#32
  let v177 : BitVec 32 := Scalar.shrsi v176 c2_i32_126
  let c2304_i32_127 : BitVec 32 := 2304#32
  let v178 : BitVec 32 := Scalar.select v173 v177 c2304_i32_127
  let v245 : Index := Scalar.indexCast v178
  let c0_173 : Index := 0#32
  let c0_174 : Index := 0#32
  ![0, v245.toNat, 0, 0]

def k0_off30 (v3 : BitVec 32) (k0_t4 : Fin (k0_t4_loop v3).trips) (k0_t6 : Fin k0_t6_loop.trips) (v189 : BitVec 32) : Fin 4 → Nat :=
  let c0_175 : Index := 0#32
  let c0_i32_96 : BitVec 32 := 0#32
  let c1_i32_97 : BitVec 32 := 1#32
  let arg17 : BitVec 32 := Scf.iv c0_i32_96 c1_i32_97 k0_t6
  let c8_i32_131 : BitVec 32 := 8#32
  let v184 : BitVec 32 := Scalar.muli arg17 c8_i32_131
  let c4_i32 : BitVec 32 := 4#32
  let v185 : BitVec 32 := Scalar.addi v184 c4_i32
  let c0_i32_10 : BitVec 32 := 0#32
  let c320_i32 : BitVec 32 := 320#32
  let v11 : BitVec 32 := Scalar.addi v3 c320_i32
  let c1_i32 : BitVec 32 := 1#32
  let v12 : BitVec 32 := Scalar.subi v11 c1_i32
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c320_i32_2 : BitVec 32 := 320#32
  let c0_i32_5 : BitVec 32 := 0#32
  let v19 : BitVec 1 := Scalar.cmpi .sgt c320_i32_2 c0_i32_5
  let v20 : BitVec 32 := Scalar.extui v19
  let c0_i32_6 : BitVec 32 := 0#32
  let v21 : BitVec 1 := Scalar.cmpi .slt c320_i32_2 c0_i32_6
  let v22 : BitVec 32 := Scalar.extui v21
  let v23 : BitVec 32 := Scalar.subi v20 v22
  let v24 : BitVec 1 := Scalar.cmpi .ne v18 v23
  let v25 : BitVec 32 := Scalar.remsi v12 c320_i32_2
  let c0_i32_7 : BitVec 32 := 0#32
  let v26 : BitVec 1 := Scalar.cmpi .ne v25 c0_i32_7
  let v27 : BitVec 1 := Scalar.andi v24 v26
  let v13 : BitVec 32 := Scalar.divsi v12 c320_i32_2
  let c1_i32_8 : BitVec 32 := 1#32
  let v28 : BitVec 32 := Scalar.subi v13 c1_i32_8
  let v29 : BitVec 32 := Scalar.select v27 v28 v13
  let v30 : BitVec 32 := Scalar.subi v29 c0_i32_10
  let c1_i32_11 : BitVec 32 := 1#32
  let v32 : BitVec 32 := Scalar.divsi v30 c1_i32_11
  let v33 : BitVec 32 := Scalar.muli v32 c1_i32_11
  let v34 : BitVec 32 := Scalar.addi c0_i32_10 v33
  let c1_i32_13 : BitVec 32 := 1#32
  let arg16 : BitVec 32 := Scf.iv v34 c1_i32_13 k0_t4
  let c320_i32_15 : BitVec 32 := 320#32
  let v37 : BitVec 32 := Scalar.muli arg16 c320_i32_15
  let v38 : BitVec 32 := Scalar.subi v3 v37
  let v186 : BitVec 1 := Scalar.cmpi .slt v185 v38
  let c2_i32_134 : BitVec 32 := 2#32
  let v190 : BitVec 32 := Scalar.shrsi v189 c2_i32_134
  let c2304_i32_135 : BitVec 32 := 2304#32
  let v191 : BitVec 32 := Scalar.select v186 v190 c2304_i32_135
  let v248 : Index := Scalar.indexCast v191
  let c0_176 : Index := 0#32
  let c0_177 : Index := 0#32
  ![0, v248.toNat, 0, 0]

def k0_off31 (v3 : BitVec 32) (k0_t4 : Fin (k0_t4_loop v3).trips) (k0_t6 : Fin k0_t6_loop.trips) (v202 : BitVec 32) : Fin 4 → Nat :=
  let c0_178 : Index := 0#32
  let c0_i32_96 : BitVec 32 := 0#32
  let c1_i32_97 : BitVec 32 := 1#32
  let arg17 : BitVec 32 := Scf.iv c0_i32_96 c1_i32_97 k0_t6
  let c8_i32_139 : BitVec 32 := 8#32
  let v197 : BitVec 32 := Scalar.muli arg17 c8_i32_139
  let c5_i32 : BitVec 32 := 5#32
  let v198 : BitVec 32 := Scalar.addi v197 c5_i32
  let c0_i32_10 : BitVec 32 := 0#32
  let c320_i32 : BitVec 32 := 320#32
  let v11 : BitVec 32 := Scalar.addi v3 c320_i32
  let c1_i32 : BitVec 32 := 1#32
  let v12 : BitVec 32 := Scalar.subi v11 c1_i32
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c320_i32_2 : BitVec 32 := 320#32
  let c0_i32_5 : BitVec 32 := 0#32
  let v19 : BitVec 1 := Scalar.cmpi .sgt c320_i32_2 c0_i32_5
  let v20 : BitVec 32 := Scalar.extui v19
  let c0_i32_6 : BitVec 32 := 0#32
  let v21 : BitVec 1 := Scalar.cmpi .slt c320_i32_2 c0_i32_6
  let v22 : BitVec 32 := Scalar.extui v21
  let v23 : BitVec 32 := Scalar.subi v20 v22
  let v24 : BitVec 1 := Scalar.cmpi .ne v18 v23
  let v25 : BitVec 32 := Scalar.remsi v12 c320_i32_2
  let c0_i32_7 : BitVec 32 := 0#32
  let v26 : BitVec 1 := Scalar.cmpi .ne v25 c0_i32_7
  let v27 : BitVec 1 := Scalar.andi v24 v26
  let v13 : BitVec 32 := Scalar.divsi v12 c320_i32_2
  let c1_i32_8 : BitVec 32 := 1#32
  let v28 : BitVec 32 := Scalar.subi v13 c1_i32_8
  let v29 : BitVec 32 := Scalar.select v27 v28 v13
  let v30 : BitVec 32 := Scalar.subi v29 c0_i32_10
  let c1_i32_11 : BitVec 32 := 1#32
  let v32 : BitVec 32 := Scalar.divsi v30 c1_i32_11
  let v33 : BitVec 32 := Scalar.muli v32 c1_i32_11
  let v34 : BitVec 32 := Scalar.addi c0_i32_10 v33
  let c1_i32_13 : BitVec 32 := 1#32
  let arg16 : BitVec 32 := Scf.iv v34 c1_i32_13 k0_t4
  let c320_i32_15 : BitVec 32 := 320#32
  let v37 : BitVec 32 := Scalar.muli arg16 c320_i32_15
  let v38 : BitVec 32 := Scalar.subi v3 v37
  let v199 : BitVec 1 := Scalar.cmpi .slt v198 v38
  let c2_i32_142 : BitVec 32 := 2#32
  let v203 : BitVec 32 := Scalar.shrsi v202 c2_i32_142
  let c2304_i32_143 : BitVec 32 := 2304#32
  let v204 : BitVec 32 := Scalar.select v199 v203 c2304_i32_143
  let v251 : Index := Scalar.indexCast v204
  let c0_179 : Index := 0#32
  let c0_180 : Index := 0#32
  ![0, v251.toNat, 0, 0]

def k0_off32 (v3 : BitVec 32) (k0_t4 : Fin (k0_t4_loop v3).trips) (k0_t6 : Fin k0_t6_loop.trips) (v215 : BitVec 32) : Fin 4 → Nat :=
  let c0_181 : Index := 0#32
  let c0_i32_96 : BitVec 32 := 0#32
  let c1_i32_97 : BitVec 32 := 1#32
  let arg17 : BitVec 32 := Scf.iv c0_i32_96 c1_i32_97 k0_t6
  let c8_i32_147 : BitVec 32 := 8#32
  let v210 : BitVec 32 := Scalar.muli arg17 c8_i32_147
  let c6_i32 : BitVec 32 := 6#32
  let v211 : BitVec 32 := Scalar.addi v210 c6_i32
  let c0_i32_10 : BitVec 32 := 0#32
  let c320_i32 : BitVec 32 := 320#32
  let v11 : BitVec 32 := Scalar.addi v3 c320_i32
  let c1_i32 : BitVec 32 := 1#32
  let v12 : BitVec 32 := Scalar.subi v11 c1_i32
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c320_i32_2 : BitVec 32 := 320#32
  let c0_i32_5 : BitVec 32 := 0#32
  let v19 : BitVec 1 := Scalar.cmpi .sgt c320_i32_2 c0_i32_5
  let v20 : BitVec 32 := Scalar.extui v19
  let c0_i32_6 : BitVec 32 := 0#32
  let v21 : BitVec 1 := Scalar.cmpi .slt c320_i32_2 c0_i32_6
  let v22 : BitVec 32 := Scalar.extui v21
  let v23 : BitVec 32 := Scalar.subi v20 v22
  let v24 : BitVec 1 := Scalar.cmpi .ne v18 v23
  let v25 : BitVec 32 := Scalar.remsi v12 c320_i32_2
  let c0_i32_7 : BitVec 32 := 0#32
  let v26 : BitVec 1 := Scalar.cmpi .ne v25 c0_i32_7
  let v27 : BitVec 1 := Scalar.andi v24 v26
  let v13 : BitVec 32 := Scalar.divsi v12 c320_i32_2
  let c1_i32_8 : BitVec 32 := 1#32
  let v28 : BitVec 32 := Scalar.subi v13 c1_i32_8
  let v29 : BitVec 32 := Scalar.select v27 v28 v13
  let v30 : BitVec 32 := Scalar.subi v29 c0_i32_10
  let c1_i32_11 : BitVec 32 := 1#32
  let v32 : BitVec 32 := Scalar.divsi v30 c1_i32_11
  let v33 : BitVec 32 := Scalar.muli v32 c1_i32_11
  let v34 : BitVec 32 := Scalar.addi c0_i32_10 v33
  let c1_i32_13 : BitVec 32 := 1#32
  let arg16 : BitVec 32 := Scf.iv v34 c1_i32_13 k0_t4
  let c320_i32_15 : BitVec 32 := 320#32
  let v37 : BitVec 32 := Scalar.muli arg16 c320_i32_15
  let v38 : BitVec 32 := Scalar.subi v3 v37
  let v212 : BitVec 1 := Scalar.cmpi .slt v211 v38
  let c2_i32_150 : BitVec 32 := 2#32
  let v216 : BitVec 32 := Scalar.shrsi v215 c2_i32_150
  let c2304_i32_151 : BitVec 32 := 2304#32
  let v217 : BitVec 32 := Scalar.select v212 v216 c2304_i32_151
  let v254 : Index := Scalar.indexCast v217
  let c0_182 : Index := 0#32
  let c0_183 : Index := 0#32
  ![0, v254.toNat, 0, 0]

def k0_off33 (v3 : BitVec 32) (k0_t4 : Fin (k0_t4_loop v3).trips) (k0_t6 : Fin k0_t6_loop.trips) (v228 : BitVec 32) : Fin 4 → Nat :=
  let c0_184 : Index := 0#32
  let c0_i32_96 : BitVec 32 := 0#32
  let c1_i32_97 : BitVec 32 := 1#32
  let arg17 : BitVec 32 := Scf.iv c0_i32_96 c1_i32_97 k0_t6
  let c8_i32_155 : BitVec 32 := 8#32
  let v223 : BitVec 32 := Scalar.muli arg17 c8_i32_155
  let c7_i32 : BitVec 32 := 7#32
  let v224 : BitVec 32 := Scalar.addi v223 c7_i32
  let c0_i32_10 : BitVec 32 := 0#32
  let c320_i32 : BitVec 32 := 320#32
  let v11 : BitVec 32 := Scalar.addi v3 c320_i32
  let c1_i32 : BitVec 32 := 1#32
  let v12 : BitVec 32 := Scalar.subi v11 c1_i32
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c320_i32_2 : BitVec 32 := 320#32
  let c0_i32_5 : BitVec 32 := 0#32
  let v19 : BitVec 1 := Scalar.cmpi .sgt c320_i32_2 c0_i32_5
  let v20 : BitVec 32 := Scalar.extui v19
  let c0_i32_6 : BitVec 32 := 0#32
  let v21 : BitVec 1 := Scalar.cmpi .slt c320_i32_2 c0_i32_6
  let v22 : BitVec 32 := Scalar.extui v21
  let v23 : BitVec 32 := Scalar.subi v20 v22
  let v24 : BitVec 1 := Scalar.cmpi .ne v18 v23
  let v25 : BitVec 32 := Scalar.remsi v12 c320_i32_2
  let c0_i32_7 : BitVec 32 := 0#32
  let v26 : BitVec 1 := Scalar.cmpi .ne v25 c0_i32_7
  let v27 : BitVec 1 := Scalar.andi v24 v26
  let v13 : BitVec 32 := Scalar.divsi v12 c320_i32_2
  let c1_i32_8 : BitVec 32 := 1#32
  let v28 : BitVec 32 := Scalar.subi v13 c1_i32_8
  let v29 : BitVec 32 := Scalar.select v27 v28 v13
  let v30 : BitVec 32 := Scalar.subi v29 c0_i32_10
  let c1_i32_11 : BitVec 32 := 1#32
  let v32 : BitVec 32 := Scalar.divsi v30 c1_i32_11
  let v33 : BitVec 32 := Scalar.muli v32 c1_i32_11
  let v34 : BitVec 32 := Scalar.addi c0_i32_10 v33
  let c1_i32_13 : BitVec 32 := 1#32
  let arg16 : BitVec 32 := Scf.iv v34 c1_i32_13 k0_t4
  let c320_i32_15 : BitVec 32 := 320#32
  let v37 : BitVec 32 := Scalar.muli arg16 c320_i32_15
  let v38 : BitVec 32 := Scalar.subi v3 v37
  let v225 : BitVec 1 := Scalar.cmpi .slt v224 v38
  let c2_i32_158 : BitVec 32 := 2#32
  let v229 : BitVec 32 := Scalar.shrsi v228 c2_i32_158
  let c2304_i32_159 : BitVec 32 := 2304#32
  let v230 : BitVec 32 := Scalar.select v225 v229 c2304_i32_159
  let v257 : Index := Scalar.indexCast v230
  let c0_185 : Index := 0#32
  let c0_186 : Index := 0#32
  ![0, v257.toNat, 0, 0]

def k0_chk20 (v3 : BitVec 32) (k0_t4 : Fin (k0_t4_loop v3).trips) (k0_t6 : Fin k0_t6_loop.trips) (v228 : BitVec 32) : Prop :=
  (∀ a, (k0_off33 v3 k0_t4 k0_t6 v228) a + S1x1x8x128.size a ≤ S1x2312x8x128.size a)
theorem k0_off33_inb : ∀ (v3 : BitVec 32) (k0_t4 : Fin (k0_t4_loop v3).trips) (k0_t6 : Fin k0_t6_loop.trips) (v228 : BitVec 32) (k0_hw20 : k0_chk20 v3 k0_t4 k0_t6 v228), ∀ a, (k0_off33 v3 k0_t4 k0_t6 v228) a + S1x1x8x128.size a ≤ S1x2312x8x128.size a := fun v3 k0_t4 k0_t6 v228 k0_hw20 => k0_hw20

def k0_off34 (k0_t6 : Fin k0_t6_loop.trips) (c0_i32_188 : BitVec 32) : Fin 3 → Nat :=
  let c0_i32_96 : BitVec 32 := 0#32
  let c1_i32_97 : BitVec 32 := 1#32
  let arg17 : BitVec 32 := Scf.iv c0_i32_96 c1_i32_97 k0_t6
  let c8_i32_187 : BitVec 32 := 8#32
  let v260 : BitVec 32 := Scalar.muli arg17 c8_i32_187
  let v261 : BitVec 32 := Scalar.addi v260 c0_i32_188
  let v262 : Index := Scalar.indexCast v261
  let c0_189 : Index := 0#32
  let c0_190 : Index := 0#32
  ![v262.toNat, 0, 0]
def k0_off35 (v3 : BitVec 32) (k0_t4 : Fin (k0_t4_loop v3).trips) (k0_t6 : Fin k0_t6_loop.trips) (v137 : BitVec 32) : Fin 4 → Nat :=
  let c0_191 : Index := 0#32
  let c0_i32_96 : BitVec 32 := 0#32
  let c1_i32_97 : BitVec 32 := 1#32
  let arg17 : BitVec 32 := Scf.iv c0_i32_96 c1_i32_97 k0_t6
  let c8_i32 : BitVec 32 := 8#32
  let v132 : BitVec 32 := Scalar.muli arg17 c8_i32
  let c0_i32_99 : BitVec 32 := 0#32
  let v133 : BitVec 32 := Scalar.addi v132 c0_i32_99
  let c0_i32_10 : BitVec 32 := 0#32
  let c320_i32 : BitVec 32 := 320#32
  let v11 : BitVec 32 := Scalar.addi v3 c320_i32
  let c1_i32 : BitVec 32 := 1#32
  let v12 : BitVec 32 := Scalar.subi v11 c1_i32
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c320_i32_2 : BitVec 32 := 320#32
  let c0_i32_5 : BitVec 32 := 0#32
  let v19 : BitVec 1 := Scalar.cmpi .sgt c320_i32_2 c0_i32_5
  let v20 : BitVec 32 := Scalar.extui v19
  let c0_i32_6 : BitVec 32 := 0#32
  let v21 : BitVec 1 := Scalar.cmpi .slt c320_i32_2 c0_i32_6
  let v22 : BitVec 32 := Scalar.extui v21
  let v23 : BitVec 32 := Scalar.subi v20 v22
  let v24 : BitVec 1 := Scalar.cmpi .ne v18 v23
  let v25 : BitVec 32 := Scalar.remsi v12 c320_i32_2
  let c0_i32_7 : BitVec 32 := 0#32
  let v26 : BitVec 1 := Scalar.cmpi .ne v25 c0_i32_7
  let v27 : BitVec 1 := Scalar.andi v24 v26
  let v13 : BitVec 32 := Scalar.divsi v12 c320_i32_2
  let c1_i32_8 : BitVec 32 := 1#32
  let v28 : BitVec 32 := Scalar.subi v13 c1_i32_8
  let v29 : BitVec 32 := Scalar.select v27 v28 v13
  let v30 : BitVec 32 := Scalar.subi v29 c0_i32_10
  let c1_i32_11 : BitVec 32 := 1#32
  let v32 : BitVec 32 := Scalar.divsi v30 c1_i32_11
  let v33 : BitVec 32 := Scalar.muli v32 c1_i32_11
  let v34 : BitVec 32 := Scalar.addi c0_i32_10 v33
  let c1_i32_13 : BitVec 32 := 1#32
  let arg16 : BitVec 32 := Scf.iv v34 c1_i32_13 k0_t4
  let c320_i32_15 : BitVec 32 := 320#32
  let v37 : BitVec 32 := Scalar.muli arg16 c320_i32_15
  let v38 : BitVec 32 := Scalar.subi v3 v37
  let v134 : BitVec 1 := Scalar.cmpi .slt v133 v38
  let c2_i32 : BitVec 32 := 2#32
  let v138 : BitVec 32 := Scalar.shrsi v137 c2_i32
  let c2304_i32 : BitVec 32 := 2304#32
  let v139 : BitVec 32 := Scalar.select v134 v138 c2304_i32
  let v268 : Index := Scalar.indexCast v139
  let c0_192 : Index := 0#32
  let c0_193 : Index := 0#32
  ![0, v268.toNat, 0, 0]

def k0_chk13 (v3 : BitVec 32) (k0_t4 : Fin (k0_t4_loop v3).trips) (k0_t6 : Fin k0_t6_loop.trips) (v137 : BitVec 32) : Prop :=
  (∀ a, (k0_off26 v3 k0_t4 k0_t6 v137) a + S1x1x8x128.size a ≤ S1x2312x8x128.size a) ∧
  (∀ a, (k0_off35 v3 k0_t4 k0_t6 v137) a + S1x1x8x128.size a ≤ S1x2312x8x128.size a)
theorem k0_off26_inb : ∀ (v3 : BitVec 32) (k0_t4 : Fin (k0_t4_loop v3).trips) (k0_t6 : Fin k0_t6_loop.trips) (v137 : BitVec 32) (k0_hw13 : k0_chk13 v3 k0_t4 k0_t6 v137), ∀ a, (k0_off26 v3 k0_t4 k0_t6 v137) a + S1x1x8x128.size a ≤ S1x2312x8x128.size a := fun v3 k0_t4 k0_t6 v137 k0_hw13 => k0_hw13.1
theorem k0_off35_inb : ∀ (v3 : BitVec 32) (k0_t4 : Fin (k0_t4_loop v3).trips) (k0_t6 : Fin k0_t6_loop.trips) (v137 : BitVec 32) (k0_hw13 : k0_chk13 v3 k0_t4 k0_t6 v137), ∀ a, (k0_off35 v3 k0_t4 k0_t6 v137) a + S1x1x8x128.size a ≤ S1x2312x8x128.size a := fun v3 k0_t4 k0_t6 v137 k0_hw13 => k0_hw13.2

def k0_off36 (v3 : BitVec 32) (k0_t4 : Fin (k0_t4_loop v3).trips) (k0_t6 : Fin k0_t6_loop.trips) (v150 : BitVec 32) : Fin 4 → Nat :=
  let c0_198 : Index := 0#32
  let c0_i32_96 : BitVec 32 := 0#32
  let c1_i32_97 : BitVec 32 := 1#32
  let arg17 : BitVec 32 := Scf.iv c0_i32_96 c1_i32_97 k0_t6
  let c8_i32_105 : BitVec 32 := 8#32
  let v145 : BitVec 32 := Scalar.muli arg17 c8_i32_105
  let c1_i32_106 : BitVec 32 := 1#32
  let v146 : BitVec 32 := Scalar.addi v145 c1_i32_106
  let c0_i32_10 : BitVec 32 := 0#32
  let c320_i32 : BitVec 32 := 320#32
  let v11 : BitVec 32 := Scalar.addi v3 c320_i32
  let c1_i32 : BitVec 32 := 1#32
  let v12 : BitVec 32 := Scalar.subi v11 c1_i32
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c320_i32_2 : BitVec 32 := 320#32
  let c0_i32_5 : BitVec 32 := 0#32
  let v19 : BitVec 1 := Scalar.cmpi .sgt c320_i32_2 c0_i32_5
  let v20 : BitVec 32 := Scalar.extui v19
  let c0_i32_6 : BitVec 32 := 0#32
  let v21 : BitVec 1 := Scalar.cmpi .slt c320_i32_2 c0_i32_6
  let v22 : BitVec 32 := Scalar.extui v21
  let v23 : BitVec 32 := Scalar.subi v20 v22
  let v24 : BitVec 1 := Scalar.cmpi .ne v18 v23
  let v25 : BitVec 32 := Scalar.remsi v12 c320_i32_2
  let c0_i32_7 : BitVec 32 := 0#32
  let v26 : BitVec 1 := Scalar.cmpi .ne v25 c0_i32_7
  let v27 : BitVec 1 := Scalar.andi v24 v26
  let v13 : BitVec 32 := Scalar.divsi v12 c320_i32_2
  let c1_i32_8 : BitVec 32 := 1#32
  let v28 : BitVec 32 := Scalar.subi v13 c1_i32_8
  let v29 : BitVec 32 := Scalar.select v27 v28 v13
  let v30 : BitVec 32 := Scalar.subi v29 c0_i32_10
  let c1_i32_11 : BitVec 32 := 1#32
  let v32 : BitVec 32 := Scalar.divsi v30 c1_i32_11
  let v33 : BitVec 32 := Scalar.muli v32 c1_i32_11
  let v34 : BitVec 32 := Scalar.addi c0_i32_10 v33
  let c1_i32_13 : BitVec 32 := 1#32
  let arg16 : BitVec 32 := Scf.iv v34 c1_i32_13 k0_t4
  let c320_i32_15 : BitVec 32 := 320#32
  let v37 : BitVec 32 := Scalar.muli arg16 c320_i32_15
  let v38 : BitVec 32 := Scalar.subi v3 v37
  let v147 : BitVec 1 := Scalar.cmpi .slt v146 v38
  let c2_i32_109 : BitVec 32 := 2#32
  let v151 : BitVec 32 := Scalar.shrsi v150 c2_i32_109
  let c2304_i32_110 : BitVec 32 := 2304#32
  let v152 : BitVec 32 := Scalar.select v147 v151 c2304_i32_110
  let v280 : Index := Scalar.indexCast v152
  let c0_199 : Index := 0#32
  let c0_200 : Index := 0#32
  ![0, v280.toNat, 0, 0]

def k0_chk14 (v3 : BitVec 32) (k0_t4 : Fin (k0_t4_loop v3).trips) (k0_t6 : Fin k0_t6_loop.trips) (v150 : BitVec 32) : Prop :=
  (∀ a, (k0_off27 v3 k0_t4 k0_t6 v150) a + S1x1x8x128.size a ≤ S1x2312x8x128.size a) ∧
  (∀ a, (k0_off36 v3 k0_t4 k0_t6 v150) a + S1x1x8x128.size a ≤ S1x2312x8x128.size a)
theorem k0_off27_inb : ∀ (v3 : BitVec 32) (k0_t4 : Fin (k0_t4_loop v3).trips) (k0_t6 : Fin k0_t6_loop.trips) (v150 : BitVec 32) (k0_hw14 : k0_chk14 v3 k0_t4 k0_t6 v150), ∀ a, (k0_off27 v3 k0_t4 k0_t6 v150) a + S1x1x8x128.size a ≤ S1x2312x8x128.size a := fun v3 k0_t4 k0_t6 v150 k0_hw14 => k0_hw14.1
theorem k0_off36_inb : ∀ (v3 : BitVec 32) (k0_t4 : Fin (k0_t4_loop v3).trips) (k0_t6 : Fin k0_t6_loop.trips) (v150 : BitVec 32) (k0_hw14 : k0_chk14 v3 k0_t4 k0_t6 v150), ∀ a, (k0_off36 v3 k0_t4 k0_t6 v150) a + S1x1x8x128.size a ≤ S1x2312x8x128.size a := fun v3 k0_t4 k0_t6 v150 k0_hw14 => k0_hw14.2

def k0_off37 (v3 : BitVec 32) (k0_t4 : Fin (k0_t4_loop v3).trips) (k0_t6 : Fin k0_t6_loop.trips) (v163 : BitVec 32) : Fin 4 → Nat :=
  let c0_205 : Index := 0#32
  let c0_i32_96 : BitVec 32 := 0#32
  let c1_i32_97 : BitVec 32 := 1#32
  let arg17 : BitVec 32 := Scf.iv c0_i32_96 c1_i32_97 k0_t6
  let c8_i32_114 : BitVec 32 := 8#32
  let v158 : BitVec 32 := Scalar.muli arg17 c8_i32_114
  let c2_i32_115 : BitVec 32 := 2#32
  let v159 : BitVec 32 := Scalar.addi v158 c2_i32_115
  let c0_i32_10 : BitVec 32 := 0#32
  let c320_i32 : BitVec 32 := 320#32
  let v11 : BitVec 32 := Scalar.addi v3 c320_i32
  let c1_i32 : BitVec 32 := 1#32
  let v12 : BitVec 32 := Scalar.subi v11 c1_i32
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c320_i32_2 : BitVec 32 := 320#32
  let c0_i32_5 : BitVec 32 := 0#32
  let v19 : BitVec 1 := Scalar.cmpi .sgt c320_i32_2 c0_i32_5
  let v20 : BitVec 32 := Scalar.extui v19
  let c0_i32_6 : BitVec 32 := 0#32
  let v21 : BitVec 1 := Scalar.cmpi .slt c320_i32_2 c0_i32_6
  let v22 : BitVec 32 := Scalar.extui v21
  let v23 : BitVec 32 := Scalar.subi v20 v22
  let v24 : BitVec 1 := Scalar.cmpi .ne v18 v23
  let v25 : BitVec 32 := Scalar.remsi v12 c320_i32_2
  let c0_i32_7 : BitVec 32 := 0#32
  let v26 : BitVec 1 := Scalar.cmpi .ne v25 c0_i32_7
  let v27 : BitVec 1 := Scalar.andi v24 v26
  let v13 : BitVec 32 := Scalar.divsi v12 c320_i32_2
  let c1_i32_8 : BitVec 32 := 1#32
  let v28 : BitVec 32 := Scalar.subi v13 c1_i32_8
  let v29 : BitVec 32 := Scalar.select v27 v28 v13
  let v30 : BitVec 32 := Scalar.subi v29 c0_i32_10
  let c1_i32_11 : BitVec 32 := 1#32
  let v32 : BitVec 32 := Scalar.divsi v30 c1_i32_11
  let v33 : BitVec 32 := Scalar.muli v32 c1_i32_11
  let v34 : BitVec 32 := Scalar.addi c0_i32_10 v33
  let c1_i32_13 : BitVec 32 := 1#32
  let arg16 : BitVec 32 := Scf.iv v34 c1_i32_13 k0_t4
  let c320_i32_15 : BitVec 32 := 320#32
  let v37 : BitVec 32 := Scalar.muli arg16 c320_i32_15
  let v38 : BitVec 32 := Scalar.subi v3 v37
  let v160 : BitVec 1 := Scalar.cmpi .slt v159 v38
  let c2_i32_118 : BitVec 32 := 2#32
  let v164 : BitVec 32 := Scalar.shrsi v163 c2_i32_118
  let c2304_i32_119 : BitVec 32 := 2304#32
  let v165 : BitVec 32 := Scalar.select v160 v164 c2304_i32_119
  let v292 : Index := Scalar.indexCast v165
  let c0_206 : Index := 0#32
  let c0_207 : Index := 0#32
  ![0, v292.toNat, 0, 0]

def k0_chk15 (v3 : BitVec 32) (k0_t4 : Fin (k0_t4_loop v3).trips) (k0_t6 : Fin k0_t6_loop.trips) (v163 : BitVec 32) : Prop :=
  (∀ a, (k0_off28 v3 k0_t4 k0_t6 v163) a + S1x1x8x128.size a ≤ S1x2312x8x128.size a) ∧
  (∀ a, (k0_off37 v3 k0_t4 k0_t6 v163) a + S1x1x8x128.size a ≤ S1x2312x8x128.size a)
theorem k0_off28_inb : ∀ (v3 : BitVec 32) (k0_t4 : Fin (k0_t4_loop v3).trips) (k0_t6 : Fin k0_t6_loop.trips) (v163 : BitVec 32) (k0_hw15 : k0_chk15 v3 k0_t4 k0_t6 v163), ∀ a, (k0_off28 v3 k0_t4 k0_t6 v163) a + S1x1x8x128.size a ≤ S1x2312x8x128.size a := fun v3 k0_t4 k0_t6 v163 k0_hw15 => k0_hw15.1
theorem k0_off37_inb : ∀ (v3 : BitVec 32) (k0_t4 : Fin (k0_t4_loop v3).trips) (k0_t6 : Fin k0_t6_loop.trips) (v163 : BitVec 32) (k0_hw15 : k0_chk15 v3 k0_t4 k0_t6 v163), ∀ a, (k0_off37 v3 k0_t4 k0_t6 v163) a + S1x1x8x128.size a ≤ S1x2312x8x128.size a := fun v3 k0_t4 k0_t6 v163 k0_hw15 => k0_hw15.2

def k0_off38 (v3 : BitVec 32) (k0_t4 : Fin (k0_t4_loop v3).trips) (k0_t6 : Fin k0_t6_loop.trips) (v176 : BitVec 32) : Fin 4 → Nat :=
  let c0_212 : Index := 0#32
  let c0_i32_96 : BitVec 32 := 0#32
  let c1_i32_97 : BitVec 32 := 1#32
  let arg17 : BitVec 32 := Scf.iv c0_i32_96 c1_i32_97 k0_t6
  let c8_i32_123 : BitVec 32 := 8#32
  let v171 : BitVec 32 := Scalar.muli arg17 c8_i32_123
  let c3_i32 : BitVec 32 := 3#32
  let v172 : BitVec 32 := Scalar.addi v171 c3_i32
  let c0_i32_10 : BitVec 32 := 0#32
  let c320_i32 : BitVec 32 := 320#32
  let v11 : BitVec 32 := Scalar.addi v3 c320_i32
  let c1_i32 : BitVec 32 := 1#32
  let v12 : BitVec 32 := Scalar.subi v11 c1_i32
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c320_i32_2 : BitVec 32 := 320#32
  let c0_i32_5 : BitVec 32 := 0#32
  let v19 : BitVec 1 := Scalar.cmpi .sgt c320_i32_2 c0_i32_5
  let v20 : BitVec 32 := Scalar.extui v19
  let c0_i32_6 : BitVec 32 := 0#32
  let v21 : BitVec 1 := Scalar.cmpi .slt c320_i32_2 c0_i32_6
  let v22 : BitVec 32 := Scalar.extui v21
  let v23 : BitVec 32 := Scalar.subi v20 v22
  let v24 : BitVec 1 := Scalar.cmpi .ne v18 v23
  let v25 : BitVec 32 := Scalar.remsi v12 c320_i32_2
  let c0_i32_7 : BitVec 32 := 0#32
  let v26 : BitVec 1 := Scalar.cmpi .ne v25 c0_i32_7
  let v27 : BitVec 1 := Scalar.andi v24 v26
  let v13 : BitVec 32 := Scalar.divsi v12 c320_i32_2
  let c1_i32_8 : BitVec 32 := 1#32
  let v28 : BitVec 32 := Scalar.subi v13 c1_i32_8
  let v29 : BitVec 32 := Scalar.select v27 v28 v13
  let v30 : BitVec 32 := Scalar.subi v29 c0_i32_10
  let c1_i32_11 : BitVec 32 := 1#32
  let v32 : BitVec 32 := Scalar.divsi v30 c1_i32_11
  let v33 : BitVec 32 := Scalar.muli v32 c1_i32_11
  let v34 : BitVec 32 := Scalar.addi c0_i32_10 v33
  let c1_i32_13 : BitVec 32 := 1#32
  let arg16 : BitVec 32 := Scf.iv v34 c1_i32_13 k0_t4
  let c320_i32_15 : BitVec 32 := 320#32
  let v37 : BitVec 32 := Scalar.muli arg16 c320_i32_15
  let v38 : BitVec 32 := Scalar.subi v3 v37
  let v173 : BitVec 1 := Scalar.cmpi .slt v172 v38
  let c2_i32_126 : BitVec 32 := 2#32
  let v177 : BitVec 32 := Scalar.shrsi v176 c2_i32_126
  let c2304_i32_127 : BitVec 32 := 2304#32
  let v178 : BitVec 32 := Scalar.select v173 v177 c2304_i32_127
  let v304 : Index := Scalar.indexCast v178
  let c0_213 : Index := 0#32
  let c0_214 : Index := 0#32
  ![0, v304.toNat, 0, 0]

def k0_chk16 (v3 : BitVec 32) (k0_t4 : Fin (k0_t4_loop v3).trips) (k0_t6 : Fin k0_t6_loop.trips) (v176 : BitVec 32) : Prop :=
  (∀ a, (k0_off29 v3 k0_t4 k0_t6 v176) a + S1x1x8x128.size a ≤ S1x2312x8x128.size a) ∧
  (∀ a, (k0_off38 v3 k0_t4 k0_t6 v176) a + S1x1x8x128.size a ≤ S1x2312x8x128.size a)
theorem k0_off29_inb : ∀ (v3 : BitVec 32) (k0_t4 : Fin (k0_t4_loop v3).trips) (k0_t6 : Fin k0_t6_loop.trips) (v176 : BitVec 32) (k0_hw16 : k0_chk16 v3 k0_t4 k0_t6 v176), ∀ a, (k0_off29 v3 k0_t4 k0_t6 v176) a + S1x1x8x128.size a ≤ S1x2312x8x128.size a := fun v3 k0_t4 k0_t6 v176 k0_hw16 => k0_hw16.1
theorem k0_off38_inb : ∀ (v3 : BitVec 32) (k0_t4 : Fin (k0_t4_loop v3).trips) (k0_t6 : Fin k0_t6_loop.trips) (v176 : BitVec 32) (k0_hw16 : k0_chk16 v3 k0_t4 k0_t6 v176), ∀ a, (k0_off38 v3 k0_t4 k0_t6 v176) a + S1x1x8x128.size a ≤ S1x2312x8x128.size a := fun v3 k0_t4 k0_t6 v176 k0_hw16 => k0_hw16.2

def k0_off39 (v3 : BitVec 32) (k0_t4 : Fin (k0_t4_loop v3).trips) (k0_t6 : Fin k0_t6_loop.trips) (v189 : BitVec 32) : Fin 4 → Nat :=
  let c0_219 : Index := 0#32
  let c0_i32_96 : BitVec 32 := 0#32
  let c1_i32_97 : BitVec 32 := 1#32
  let arg17 : BitVec 32 := Scf.iv c0_i32_96 c1_i32_97 k0_t6
  let c8_i32_131 : BitVec 32 := 8#32
  let v184 : BitVec 32 := Scalar.muli arg17 c8_i32_131
  let c4_i32 : BitVec 32 := 4#32
  let v185 : BitVec 32 := Scalar.addi v184 c4_i32
  let c0_i32_10 : BitVec 32 := 0#32
  let c320_i32 : BitVec 32 := 320#32
  let v11 : BitVec 32 := Scalar.addi v3 c320_i32
  let c1_i32 : BitVec 32 := 1#32
  let v12 : BitVec 32 := Scalar.subi v11 c1_i32
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c320_i32_2 : BitVec 32 := 320#32
  let c0_i32_5 : BitVec 32 := 0#32
  let v19 : BitVec 1 := Scalar.cmpi .sgt c320_i32_2 c0_i32_5
  let v20 : BitVec 32 := Scalar.extui v19
  let c0_i32_6 : BitVec 32 := 0#32
  let v21 : BitVec 1 := Scalar.cmpi .slt c320_i32_2 c0_i32_6
  let v22 : BitVec 32 := Scalar.extui v21
  let v23 : BitVec 32 := Scalar.subi v20 v22
  let v24 : BitVec 1 := Scalar.cmpi .ne v18 v23
  let v25 : BitVec 32 := Scalar.remsi v12 c320_i32_2
  let c0_i32_7 : BitVec 32 := 0#32
  let v26 : BitVec 1 := Scalar.cmpi .ne v25 c0_i32_7
  let v27 : BitVec 1 := Scalar.andi v24 v26
  let v13 : BitVec 32 := Scalar.divsi v12 c320_i32_2
  let c1_i32_8 : BitVec 32 := 1#32
  let v28 : BitVec 32 := Scalar.subi v13 c1_i32_8
  let v29 : BitVec 32 := Scalar.select v27 v28 v13
  let v30 : BitVec 32 := Scalar.subi v29 c0_i32_10
  let c1_i32_11 : BitVec 32 := 1#32
  let v32 : BitVec 32 := Scalar.divsi v30 c1_i32_11
  let v33 : BitVec 32 := Scalar.muli v32 c1_i32_11
  let v34 : BitVec 32 := Scalar.addi c0_i32_10 v33
  let c1_i32_13 : BitVec 32 := 1#32
  let arg16 : BitVec 32 := Scf.iv v34 c1_i32_13 k0_t4
  let c320_i32_15 : BitVec 32 := 320#32
  let v37 : BitVec 32 := Scalar.muli arg16 c320_i32_15
  let v38 : BitVec 32 := Scalar.subi v3 v37
  let v186 : BitVec 1 := Scalar.cmpi .slt v185 v38
  let c2_i32_134 : BitVec 32 := 2#32
  let v190 : BitVec 32 := Scalar.shrsi v189 c2_i32_134
  let c2304_i32_135 : BitVec 32 := 2304#32
  let v191 : BitVec 32 := Scalar.select v186 v190 c2304_i32_135
  let v316 : Index := Scalar.indexCast v191
  let c0_220 : Index := 0#32
  let c0_221 : Index := 0#32
  ![0, v316.toNat, 0, 0]

def k0_chk17 (v3 : BitVec 32) (k0_t4 : Fin (k0_t4_loop v3).trips) (k0_t6 : Fin k0_t6_loop.trips) (v189 : BitVec 32) : Prop :=
  (∀ a, (k0_off30 v3 k0_t4 k0_t6 v189) a + S1x1x8x128.size a ≤ S1x2312x8x128.size a) ∧
  (∀ a, (k0_off39 v3 k0_t4 k0_t6 v189) a + S1x1x8x128.size a ≤ S1x2312x8x128.size a)
theorem k0_off30_inb : ∀ (v3 : BitVec 32) (k0_t4 : Fin (k0_t4_loop v3).trips) (k0_t6 : Fin k0_t6_loop.trips) (v189 : BitVec 32) (k0_hw17 : k0_chk17 v3 k0_t4 k0_t6 v189), ∀ a, (k0_off30 v3 k0_t4 k0_t6 v189) a + S1x1x8x128.size a ≤ S1x2312x8x128.size a := fun v3 k0_t4 k0_t6 v189 k0_hw17 => k0_hw17.1
theorem k0_off39_inb : ∀ (v3 : BitVec 32) (k0_t4 : Fin (k0_t4_loop v3).trips) (k0_t6 : Fin k0_t6_loop.trips) (v189 : BitVec 32) (k0_hw17 : k0_chk17 v3 k0_t4 k0_t6 v189), ∀ a, (k0_off39 v3 k0_t4 k0_t6 v189) a + S1x1x8x128.size a ≤ S1x2312x8x128.size a := fun v3 k0_t4 k0_t6 v189 k0_hw17 => k0_hw17.2

def k0_off40 (v3 : BitVec 32) (k0_t4 : Fin (k0_t4_loop v3).trips) (k0_t6 : Fin k0_t6_loop.trips) (v202 : BitVec 32) : Fin 4 → Nat :=
  let c0_226 : Index := 0#32
  let c0_i32_96 : BitVec 32 := 0#32
  let c1_i32_97 : BitVec 32 := 1#32
  let arg17 : BitVec 32 := Scf.iv c0_i32_96 c1_i32_97 k0_t6
  let c8_i32_139 : BitVec 32 := 8#32
  let v197 : BitVec 32 := Scalar.muli arg17 c8_i32_139
  let c5_i32 : BitVec 32 := 5#32
  let v198 : BitVec 32 := Scalar.addi v197 c5_i32
  let c0_i32_10 : BitVec 32 := 0#32
  let c320_i32 : BitVec 32 := 320#32
  let v11 : BitVec 32 := Scalar.addi v3 c320_i32
  let c1_i32 : BitVec 32 := 1#32
  let v12 : BitVec 32 := Scalar.subi v11 c1_i32
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c320_i32_2 : BitVec 32 := 320#32
  let c0_i32_5 : BitVec 32 := 0#32
  let v19 : BitVec 1 := Scalar.cmpi .sgt c320_i32_2 c0_i32_5
  let v20 : BitVec 32 := Scalar.extui v19
  let c0_i32_6 : BitVec 32 := 0#32
  let v21 : BitVec 1 := Scalar.cmpi .slt c320_i32_2 c0_i32_6
  let v22 : BitVec 32 := Scalar.extui v21
  let v23 : BitVec 32 := Scalar.subi v20 v22
  let v24 : BitVec 1 := Scalar.cmpi .ne v18 v23
  let v25 : BitVec 32 := Scalar.remsi v12 c320_i32_2
  let c0_i32_7 : BitVec 32 := 0#32
  let v26 : BitVec 1 := Scalar.cmpi .ne v25 c0_i32_7
  let v27 : BitVec 1 := Scalar.andi v24 v26
  let v13 : BitVec 32 := Scalar.divsi v12 c320_i32_2
  let c1_i32_8 : BitVec 32 := 1#32
  let v28 : BitVec 32 := Scalar.subi v13 c1_i32_8
  let v29 : BitVec 32 := Scalar.select v27 v28 v13
  let v30 : BitVec 32 := Scalar.subi v29 c0_i32_10
  let c1_i32_11 : BitVec 32 := 1#32
  let v32 : BitVec 32 := Scalar.divsi v30 c1_i32_11
  let v33 : BitVec 32 := Scalar.muli v32 c1_i32_11
  let v34 : BitVec 32 := Scalar.addi c0_i32_10 v33
  let c1_i32_13 : BitVec 32 := 1#32
  let arg16 : BitVec 32 := Scf.iv v34 c1_i32_13 k0_t4
  let c320_i32_15 : BitVec 32 := 320#32
  let v37 : BitVec 32 := Scalar.muli arg16 c320_i32_15
  let v38 : BitVec 32 := Scalar.subi v3 v37
  let v199 : BitVec 1 := Scalar.cmpi .slt v198 v38
  let c2_i32_142 : BitVec 32 := 2#32
  let v203 : BitVec 32 := Scalar.shrsi v202 c2_i32_142
  let c2304_i32_143 : BitVec 32 := 2304#32
  let v204 : BitVec 32 := Scalar.select v199 v203 c2304_i32_143
  let v328 : Index := Scalar.indexCast v204
  let c0_227 : Index := 0#32
  let c0_228 : Index := 0#32
  ![0, v328.toNat, 0, 0]

def k0_chk18 (v3 : BitVec 32) (k0_t4 : Fin (k0_t4_loop v3).trips) (k0_t6 : Fin k0_t6_loop.trips) (v202 : BitVec 32) : Prop :=
  (∀ a, (k0_off31 v3 k0_t4 k0_t6 v202) a + S1x1x8x128.size a ≤ S1x2312x8x128.size a) ∧
  (∀ a, (k0_off40 v3 k0_t4 k0_t6 v202) a + S1x1x8x128.size a ≤ S1x2312x8x128.size a)
theorem k0_off31_inb : ∀ (v3 : BitVec 32) (k0_t4 : Fin (k0_t4_loop v3).trips) (k0_t6 : Fin k0_t6_loop.trips) (v202 : BitVec 32) (k0_hw18 : k0_chk18 v3 k0_t4 k0_t6 v202), ∀ a, (k0_off31 v3 k0_t4 k0_t6 v202) a + S1x1x8x128.size a ≤ S1x2312x8x128.size a := fun v3 k0_t4 k0_t6 v202 k0_hw18 => k0_hw18.1
theorem k0_off40_inb : ∀ (v3 : BitVec 32) (k0_t4 : Fin (k0_t4_loop v3).trips) (k0_t6 : Fin k0_t6_loop.trips) (v202 : BitVec 32) (k0_hw18 : k0_chk18 v3 k0_t4 k0_t6 v202), ∀ a, (k0_off40 v3 k0_t4 k0_t6 v202) a + S1x1x8x128.size a ≤ S1x2312x8x128.size a := fun v3 k0_t4 k0_t6 v202 k0_hw18 => k0_hw18.2

def k0_off41 (v3 : BitVec 32) (k0_t4 : Fin (k0_t4_loop v3).trips) (k0_t6 : Fin k0_t6_loop.trips) (v215 : BitVec 32) : Fin 4 → Nat :=
  let c0_233 : Index := 0#32
  let c0_i32_96 : BitVec 32 := 0#32
  let c1_i32_97 : BitVec 32 := 1#32
  let arg17 : BitVec 32 := Scf.iv c0_i32_96 c1_i32_97 k0_t6
  let c8_i32_147 : BitVec 32 := 8#32
  let v210 : BitVec 32 := Scalar.muli arg17 c8_i32_147
  let c6_i32 : BitVec 32 := 6#32
  let v211 : BitVec 32 := Scalar.addi v210 c6_i32
  let c0_i32_10 : BitVec 32 := 0#32
  let c320_i32 : BitVec 32 := 320#32
  let v11 : BitVec 32 := Scalar.addi v3 c320_i32
  let c1_i32 : BitVec 32 := 1#32
  let v12 : BitVec 32 := Scalar.subi v11 c1_i32
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c320_i32_2 : BitVec 32 := 320#32
  let c0_i32_5 : BitVec 32 := 0#32
  let v19 : BitVec 1 := Scalar.cmpi .sgt c320_i32_2 c0_i32_5
  let v20 : BitVec 32 := Scalar.extui v19
  let c0_i32_6 : BitVec 32 := 0#32
  let v21 : BitVec 1 := Scalar.cmpi .slt c320_i32_2 c0_i32_6
  let v22 : BitVec 32 := Scalar.extui v21
  let v23 : BitVec 32 := Scalar.subi v20 v22
  let v24 : BitVec 1 := Scalar.cmpi .ne v18 v23
  let v25 : BitVec 32 := Scalar.remsi v12 c320_i32_2
  let c0_i32_7 : BitVec 32 := 0#32
  let v26 : BitVec 1 := Scalar.cmpi .ne v25 c0_i32_7
  let v27 : BitVec 1 := Scalar.andi v24 v26
  let v13 : BitVec 32 := Scalar.divsi v12 c320_i32_2
  let c1_i32_8 : BitVec 32 := 1#32
  let v28 : BitVec 32 := Scalar.subi v13 c1_i32_8
  let v29 : BitVec 32 := Scalar.select v27 v28 v13
  let v30 : BitVec 32 := Scalar.subi v29 c0_i32_10
  let c1_i32_11 : BitVec 32 := 1#32
  let v32 : BitVec 32 := Scalar.divsi v30 c1_i32_11
  let v33 : BitVec 32 := Scalar.muli v32 c1_i32_11
  let v34 : BitVec 32 := Scalar.addi c0_i32_10 v33
  let c1_i32_13 : BitVec 32 := 1#32
  let arg16 : BitVec 32 := Scf.iv v34 c1_i32_13 k0_t4
  let c320_i32_15 : BitVec 32 := 320#32
  let v37 : BitVec 32 := Scalar.muli arg16 c320_i32_15
  let v38 : BitVec 32 := Scalar.subi v3 v37
  let v212 : BitVec 1 := Scalar.cmpi .slt v211 v38
  let c2_i32_150 : BitVec 32 := 2#32
  let v216 : BitVec 32 := Scalar.shrsi v215 c2_i32_150
  let c2304_i32_151 : BitVec 32 := 2304#32
  let v217 : BitVec 32 := Scalar.select v212 v216 c2304_i32_151
  let v340 : Index := Scalar.indexCast v217
  let c0_234 : Index := 0#32
  let c0_235 : Index := 0#32
  ![0, v340.toNat, 0, 0]

def k0_chk19 (v3 : BitVec 32) (k0_t4 : Fin (k0_t4_loop v3).trips) (k0_t6 : Fin k0_t6_loop.trips) (v215 : BitVec 32) : Prop :=
  (∀ a, (k0_off32 v3 k0_t4 k0_t6 v215) a + S1x1x8x128.size a ≤ S1x2312x8x128.size a) ∧
  (∀ a, (k0_off41 v3 k0_t4 k0_t6 v215) a + S1x1x8x128.size a ≤ S1x2312x8x128.size a)
theorem k0_off32_inb : ∀ (v3 : BitVec 32) (k0_t4 : Fin (k0_t4_loop v3).trips) (k0_t6 : Fin k0_t6_loop.trips) (v215 : BitVec 32) (k0_hw19 : k0_chk19 v3 k0_t4 k0_t6 v215), ∀ a, (k0_off32 v3 k0_t4 k0_t6 v215) a + S1x1x8x128.size a ≤ S1x2312x8x128.size a := fun v3 k0_t4 k0_t6 v215 k0_hw19 => k0_hw19.1
theorem k0_off41_inb : ∀ (v3 : BitVec 32) (k0_t4 : Fin (k0_t4_loop v3).trips) (k0_t6 : Fin k0_t6_loop.trips) (v215 : BitVec 32) (k0_hw19 : k0_chk19 v3 k0_t4 k0_t6 v215), ∀ a, (k0_off41 v3 k0_t4 k0_t6 v215) a + S1x1x8x128.size a ≤ S1x2312x8x128.size a := fun v3 k0_t4 k0_t6 v215 k0_hw19 => k0_hw19.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .smem S1x1x9536 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .smem S1x1x9536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2304x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x2312x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S16x2304x8x128 : Shape := ⟨4, ![16, 2304, 8, 128]⟩
abbrev S16x2304x4 : Shape := ⟨3, ![16, 2304, 4]⟩
abbrev S4x32x1024x1024 : Shape := ⟨4, ![4, 32, 1024, 1024]⟩
abbrev S4x32x1024 : Shape := ⟨3, ![4, 32, 1024]⟩
abbrev S36864x1024 : Shape := ⟨2, ![36864, 1024]⟩
abbrev S36864x4 : Shape := ⟨2, ![36864, 4]⟩
abbrev S36864x4x1 : Shape := ⟨3, ![36864, 4, 1]⟩
abbrev S32 : Shape := ⟨1, ![32]⟩
abbrev S1x1x32 : Shape := ⟨3, ![1, 1, 32]⟩
abbrev S36864x4x32 : Shape := ⟨3, ![36864, 4, 32]⟩
abbrev S36864x32 : Shape := ⟨2, ![36864, 32]⟩
abbrev S32x36864 : Shape := ⟨2, ![32, 36864]⟩
abbrev S1x32x1024x1024 : Shape := ⟨4, ![1, 32, 1024, 1024]⟩
abbrev S32x1024x1024 : Shape := ⟨3, ![32, 1024, 1024]⟩
abbrev S32x1024x36864 : Shape := ⟨3, ![32, 1024, 36864]⟩
abbrev S32x36864x1024 : Shape := ⟨3, ![32, 36864, 1024]⟩
abbrev S1x32x1024 : Shape := ⟨3, ![1, 32, 1024]⟩
abbrev S32x1024 : Shape := ⟨2, ![32, 1024]⟩
abbrev S32x1x1024 : Shape := ⟨3, ![32, 1, 1024]⟩
abbrev S_ : Shape := ⟨0, ![]⟩
abbrev S32x36864x1 : Shape := ⟨3, ![32, 36864, 1]⟩
abbrev S16x2312x8x128 : Shape := ⟨4, ![16, 2312, 8, 128]⟩

abbrev nBuf : Space → Nat
  | .hbm => 83
  | .vmem => 0
  | .smem => 0
  | _ => 0

abbrev bufTy : (tb : Table) → Fin (tcTables nBuf tb) → BufTy
  | .hbm, ⟨0, _⟩ => ⟨S16x2304x8x128, .f32⟩
  | .hbm, ⟨1, _⟩ => ⟨S16x2304x4, .i32⟩
  | .hbm, ⟨2, _⟩ => ⟨S16x2304x4, .f32⟩
  | .hbm, ⟨3, _⟩ => ⟨S4x32x1024x1024, .f32⟩
  | .hbm, ⟨4, _⟩ => ⟨S4x32x1024, .f32⟩
  | .hbm, ⟨5, _⟩ => ⟨S4x32x1024x1024, .f32⟩
  | .hbm, ⟨6, _⟩ => ⟨S4x32x1024, .f32⟩
  | .hbm, ⟨7, _⟩ => ⟨S4x32x1024x1024, .f32⟩
  | .hbm, ⟨8, _⟩ => ⟨S4x32x1024, .f32⟩
  | .hbm, ⟨9, _⟩ => ⟨S36864x1024, .f32⟩
  | .hbm, ⟨10, _⟩ => ⟨S36864x4, .i32⟩
  | .hbm, ⟨11, _⟩ => ⟨S36864x4, .f32⟩
  | .hbm, ⟨12, _⟩ => ⟨S36864x4x1, .i32⟩
  | .hbm, ⟨13, _⟩ => ⟨S32, .i32⟩
  | .hbm, ⟨14, _⟩ => ⟨S1x1x32, .i32⟩
  | .hbm, ⟨15, _⟩ => ⟨S36864x4x32, .i32⟩
  | .hbm, ⟨16, _⟩ => ⟨S36864x4x32, .i32⟩
  | .hbm, ⟨17, _⟩ => ⟨S36864x4x32, .i1⟩
  | .hbm, ⟨18, _⟩ => ⟨S36864x4x32, .f32⟩
  | .hbm, ⟨19, _⟩ => ⟨S36864x32, .f32⟩
  | .hbm, ⟨20, _⟩ => ⟨S32x36864, .f32⟩
  | .hbm, ⟨21, _⟩ => ⟨S1x32x1024x1024, .f32⟩
  | .hbm, ⟨22, _⟩ => ⟨S32x1024x1024, .f32⟩
  | .hbm, ⟨23, _⟩ => ⟨S32x1024x36864, .f32⟩
  | .hbm, ⟨24, _⟩ => ⟨S32x36864x1024, .f32⟩
  | .hbm, ⟨25, _⟩ => ⟨S1x32x1024, .f32⟩
  | .hbm, ⟨26, _⟩ => ⟨S32x1024, .f32⟩
  | .hbm, ⟨27, _⟩ => ⟨S32x1x1024, .f32⟩
  | .hbm, ⟨28, _⟩ => ⟨S32x36864x1024, .f32⟩
  | .hbm, ⟨29, _⟩ => ⟨S32x36864x1024, .f32⟩
  | .hbm, ⟨30, _⟩ => ⟨S_, .f32⟩
  | .hbm, ⟨31, _⟩ => ⟨S32x36864x1024, .f32⟩
  | .hbm, ⟨32, _⟩ => ⟨S32x36864x1024, .f32⟩
  | .hbm, ⟨33, _⟩ => ⟨S1x32x1024x1024, .f32⟩
  | .hbm, ⟨34, _⟩ => ⟨S32x1024x1024, .f32⟩
  | .hbm, ⟨35, _⟩ => ⟨S32x1024x36864, .f32⟩
  | .hbm, ⟨36, _⟩ => ⟨S32x36864x1024, .f32⟩
  | .hbm, ⟨37, _⟩ => ⟨S1x32x1024, .f32⟩
  | .hbm, ⟨38, _⟩ => ⟨S32x1024, .f32⟩
  | .hbm, ⟨39, _⟩ => ⟨S32x1x1024, .f32⟩
  | .hbm, ⟨40, _⟩ => ⟨S32x36864x1024, .f32⟩
  | .hbm, ⟨41, _⟩ => ⟨S32x36864x1024, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S32x36864x1024, .f32⟩
  | .hbm, ⟨46, _⟩ => ⟨S32x36864x1024, .f32⟩
  | .hbm, ⟨47, _⟩ => ⟨S_, .f32⟩
  | .hbm, ⟨48, _⟩ => ⟨S32x36864x1024, .f32⟩
  | .hbm, ⟨49, _⟩ => ⟨S32x36864x1024, .f32⟩
  | .hbm, ⟨50, _⟩ => ⟨S_, .f32⟩
  | .hbm, ⟨51, _⟩ => ⟨S32x36864x1024, .f32⟩
  | .hbm, ⟨52, _⟩ => ⟨S32x36864x1024, .f32⟩
  | .hbm, ⟨53, _⟩ => ⟨S32x36864x1024, .f32⟩
  | .hbm, ⟨54, _⟩ => ⟨S_, .f32⟩
  | .hbm, ⟨55, _⟩ => ⟨S32x36864x1024, .f32⟩
  | .hbm, ⟨56, _⟩ => ⟨S32x36864x1024, .f32⟩
  | .hbm, ⟨57, _⟩ => ⟨S32x36864x1024, .f32⟩
  | .hbm, ⟨58, _⟩ => ⟨S32x36864x1024, .f32⟩
  | .hbm, ⟨59, _⟩ => ⟨S_, .f32⟩
  | .hbm, ⟨60, _⟩ => ⟨S32x36864x1024, .f32⟩
  | .hbm, ⟨61, _⟩ => ⟨S32x36864x1024, .f32⟩
  | .hbm, ⟨62, _⟩ => ⟨S_, .f32⟩
  | .hbm, ⟨63, _⟩ => ⟨S32x36864x1024, .f32⟩
  | .hbm, ⟨64, _⟩ => ⟨S32x36864x1024, .f32⟩
  | .hbm, ⟨65, _⟩ => ⟨S32x36864x1024, .f32⟩
  | .hbm, ⟨66, _⟩ => ⟨S1x32x1024x1024, .f32⟩
  | .hbm, ⟨67, _⟩ => ⟨S32x1024x1024, .f32⟩
  | .hbm, ⟨68, _⟩ => ⟨S32x36864x1024, .f32⟩
  | .hbm, ⟨69, _⟩ => ⟨S1x32x1024, .f32⟩
  | .hbm, ⟨70, _⟩ => ⟨S32x1024, .f32⟩
  | .hbm, ⟨71, _⟩ => ⟨S32x1x1024, .f32⟩
  | .hbm, ⟨72, _⟩ => ⟨S32x36864x1024, .f32⟩
  | .hbm, ⟨73, _⟩ => ⟨S32x36864x1024, .f32⟩
  | .hbm, ⟨74, _⟩ => ⟨S32x36864x1, .f32⟩
  | .hbm, ⟨75, _⟩ => ⟨S32x36864x1024, .f32⟩
  | .hbm, ⟨76, _⟩ => ⟨S32x36864x1024, .f32⟩
  | .hbm, ⟨77, _⟩ => ⟨S_, .f32⟩
  | .hbm, ⟨78, _⟩ => ⟨S36864x1024, .f32⟩
  | .hbm, ⟨79, _⟩ => ⟨S16x2304x8x128, .f32⟩
  | .hbm, ⟨80, _⟩ => ⟨S_, .i32⟩
  | .hbm, ⟨81, _⟩ => ⟨S_, .f32⟩
  | .hbm, ⟨82, _⟩ => ⟨S16x2312x8x128, .f32⟩
  | _, _ => ⟨S16x2304x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_0 : Ref sig .tc := ⟨.hbm, 42, rfl⟩
abbrev main_cst_1 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v32 : Ref sig .tc := ⟨.hbm, 49, rfl⟩
abbrev main_cst_2 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_6 : Ref sig .tc := ⟨.hbm, 77, rfl⟩
abbrev main_v56 : Ref sig .tc := ⟨.hbm, 78, rfl⟩
abbrev main_v57 : Ref sig .tc := ⟨.hbm, 79, rfl⟩
abbrev main_c : Ref sig .tc := ⟨.hbm, 80, rfl⟩
abbrev main_call1_v0 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== Kernel2.lean ====
abbrev S16x2312x8x128 : Shape := ⟨4, ![16, 2312, 8, 128]⟩
abbrev S16x2304x1024 : Shape := ⟨3, ![16, 2304, 1024]⟩
abbrev S24x1x1024 : Shape := ⟨3, ![24, 1, 1024]⟩
abbrev S4x1024 : Shape := ⟨2, ![4, 1024]⟩
abbrev S1x1024 : Shape := ⟨2, ![1, 1024]⟩
abbrev S1024 : Shape := ⟨1, ![1024]⟩
abbrev S1x256x8x128 : Shape := ⟨4, ![1, 256, 8, 128]⟩
abbrev S1x256x1024 : Shape := ⟨3, ![1, 256, 1024]⟩
abbrev S1x1x1024 : Shape := ⟨3, ![1, 1, 1024]⟩
abbrev S1x256x1x128 : Shape := ⟨4, ![1, 256, 1, 128]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S16x2312x8x128, .f32⟩
  | .hbm, ⟨1, _⟩ => ⟨S16x2304x1024, .f32⟩
  | .hbm, ⟨2, _⟩ => ⟨S24x1x1024, .f32⟩
  | .hbm, ⟨3, _⟩ => ⟨S4x1024, .f32⟩
  | .hbm, ⟨4, _⟩ => ⟨S4x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S16x2304x1024, .f32⟩
  | .local _ .vmem, ⟨0, _⟩ => ⟨S1x256x8x128, .f32⟩
  | .local _ .vmem, ⟨1, _⟩ => ⟨S1x256x8x128, .f32⟩
  | .local _ .vmem, ⟨2, _⟩ => ⟨S1x256x1024, .f32⟩
  | .local _ .vmem, ⟨3, _⟩ => ⟨S1x256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024, .f32⟩
  | .local _ .vmem, ⟨8, _⟩ => ⟨S1x256x1024, .f32⟩
  | .local _ .vmem, ⟨9, _⟩ => ⟨S1x256x1024, .f32⟩
  | _, _ => ⟨S16x2312x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 9], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg1 c8_i32
  let c16_i32 : BitVec 32 := 16#32
  let v1 : BitVec 32 := Scalar.select v0 c16_i32 arg0
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S16x2312x8x128 : Shape := ⟨4, ![16, 2312, 8, 128]⟩
abbrev S16x2304x1024 : Shape := ⟨3, ![16, 2304, 1024]⟩
abbrev S24x1x1024 : Shape := ⟨3, ![24, 1, 1024]⟩
abbrev S4x1024 : Shape := ⟨2, ![4, 1024]⟩
abbrev S16x2304x8x128 : Shape := ⟨4, ![16, 2304, 8, 128]⟩
abbrev S16x1x1024 : Shape := ⟨3, ![16, 1, 1024]⟩
abbrev S16x2048x1024 : Shape := ⟨3, ![16, 2048, 1024]⟩
abbrev S1x1x1024 : Shape := ⟨3, ![1, 1, 1024]⟩
abbrev S1x1024 : Shape := ⟨2, ![1, 1024]⟩
abbrev S16x256x1024 : Shape := ⟨3, ![16, 256, 1024]⟩
abbrev S_ : Shape := ⟨0, ![]⟩
abbrev S16x2304 : Shape := ⟨2, ![16, 2304]⟩
abbrev S16x2304x1 : Shape := ⟨3, ![16, 2304, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S16x2312x8x128, .f32⟩
  | .hbm, ⟨1, _⟩ => ⟨S16x2304x1024, .f32⟩
  | .hbm, ⟨2, _⟩ => ⟨S24x1x1024, .f32⟩
  | .hbm, ⟨3, _⟩ => ⟨S4x1024, .f32⟩
  | .hbm, ⟨4, _⟩ => ⟨S4x1024, .f32⟩
  | .hbm, ⟨5, _⟩ => ⟨S16x2304x8x128, .f32⟩
  | .hbm, ⟨6, _⟩ => ⟨S16x2304x1024, .f32⟩
  | .hbm, ⟨7, _⟩ => ⟨S16x1x1024, .f32⟩
  | .hbm, ⟨8, _⟩ => ⟨S16x2048x1024, .f32⟩
  | .hbm, ⟨9, _⟩ => ⟨S1x1x1024, .f32⟩
  | .hbm, ⟨10, _⟩ => ⟨S1x1024, .f32⟩
  | .hbm, ⟨11, _⟩ => ⟨S1x1x1024, .f32⟩
  | .hbm, ⟨12, _⟩ => ⟨S16x256x1024, .f32⟩
  | .hbm, ⟨13, _⟩ => ⟨S16x2304x1024, .f32⟩
  | .hbm, ⟨14, _⟩ => ⟨S_, .f32⟩
  | .hbm, ⟨15, _⟩ => ⟨S16x2304x1024, .f32⟩
  | .hbm, ⟨16, _⟩ => ⟨S16x2304x1024, .f32⟩
  | .hbm, ⟨17, _⟩ => ⟨S16x2304x1024, .f32⟩
  | .hbm, ⟨18, _⟩ => ⟨S16x2304x1024, .f32⟩
  | .hbm, ⟨19, _⟩ => ⟨S_, .f32⟩
  | .hbm, ⟨20, _⟩ => ⟨S16x2304, .f32⟩
  | .hbm, ⟨21, _⟩ => ⟨S16x2304x1, .f32⟩
  | .hbm, ⟨22, _⟩ => ⟨S_, .f32⟩
  | .hbm, ⟨23, _⟩ => ⟨S16x2304x1, .f32⟩
  | .hbm, ⟨24, _⟩ => ⟨S16x2304x1, .f32⟩
  | .hbm, ⟨25, _⟩ => ⟨S16x2304x1024, .f32⟩
  | .hbm, ⟨26, _⟩ => ⟨S16x2304x1024, .f32⟩
  | .hbm, ⟨27, _⟩ => ⟨S16x2304x1024, .f32⟩
  | .hbm, ⟨28, _⟩ => ⟨S_, .f32⟩
  | .hbm, ⟨29, _⟩ => ⟨S16x2304, .f32⟩
  | .hbm, ⟨30, _⟩ => ⟨S16x2304x1, .f32⟩
  | .hbm, ⟨31, _⟩ => ⟨S_, .f32⟩
  | .hbm, ⟨32, _⟩ => ⟨S16x2304x1, .f32⟩
  | .hbm, ⟨33, _⟩ => ⟨S16x2304x1, .f32⟩
  | .hbm, ⟨34, _⟩ => ⟨S_, .f32⟩
  | .hbm, ⟨35, _⟩ => ⟨S16x2304x1, .f32⟩
  | .hbm, ⟨36, _⟩ => ⟨S16x2304x1, .f32⟩
  | .hbm, ⟨37, _⟩ => ⟨S16x2304x1, .f32⟩
  | .hbm, ⟨38, _⟩ => ⟨S16x2304x1024, .f32⟩
  | .hbm, ⟨39, _⟩ => ⟨S16x2304x1024, .f32⟩
  | .hbm, ⟨40, _⟩ => ⟨S1x1024, .f32⟩
  | .hbm, ⟨41, _⟩ => ⟨S1024, .f32⟩
  | .hbm, ⟨42, _⟩ => ⟨S1x1x1024, .f32⟩
  | .hbm, ⟨43, _⟩ => ⟨S16x2304x1024, .f32⟩
  | .hbm, ⟨44, _⟩ => ⟨S16x2304x1024, .f32⟩
  | .hbm, ⟨45, _⟩ => ⟨S1x1024, .f32⟩
  | .hbm, ⟨46, _⟩ => ⟨S1024, .f32⟩
  | .hbm, ⟨47, _⟩ => ⟨S1x1x1024, .f32⟩
  | .hbm, ⟨48, _⟩ => ⟨S16x2304x1024, .f32⟩
  | .hbm, ⟨49, _⟩ => ⟨S16x2304x1024, .f32⟩
  | _, _ => ⟨S16x2312x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel3.lean ====
abbrev S16x2304x1024 : Shape := ⟨3, ![16, 2304, 1024]⟩
abbrev S24x1x1024 : Shape := ⟨3, ![24, 1, 1024]⟩
abbrev S4x1024x3376 : Shape := ⟨3, ![4, 1024, 3376]⟩
abbrev S4x3x768 : Shape := ⟨3, ![4, 3, 768]⟩
abbrev S4x768 : Shape := ⟨2, ![4, 768]⟩
abbrev S4x256 : Shape := ⟨2, ![4, 256]⟩
abbrev S4x3x256 : Shape := ⟨3, ![4, 3, 256]⟩
abbrev S4x2x16x128 : Shape := ⟨4, ![4, 2, 16, 128]⟩
abbrev S4x2x128 : Shape := ⟨3, ![4, 2, 128]⟩
abbrev S4x2x4 : Shape := ⟨3, ![4, 2, 4]⟩
abbrev S4x1024x1536 : Shape := ⟨3, ![4, 1024, 1536]⟩
abbrev S4x1024x800 : Shape := ⟨3, ![4, 1024, 800]⟩
abbrev S_ : Shape := ⟨0, ![]⟩
abbrev S4x1024x896 : Shape := ⟨3, ![4, 1024, 896]⟩
abbrev S4x1024x1040 : Shape := ⟨3, ![4, 1024, 1040]⟩
abbrev S4x1024x1152 : Shape := ⟨3, ![4, 1024, 1152]⟩
abbrev S4x1024x3584 : Shape := ⟨3, ![4, 1024, 3584]⟩
abbrev S4x128x256 : Shape := ⟨3, ![4, 128, 256]⟩
abbrev S4x1x16x128 : Shape := ⟨4, ![4, 1, 16, 128]⟩
abbrev S4x16x128 : Shape := ⟨3, ![4, 16, 128]⟩
abbrev S1 : Shape := ⟨1, ![1]⟩
abbrev S2 : Shape := ⟨1, ![2]⟩
abbrev S4x1x256 : Shape := ⟨3, ![4, 1, 256]⟩
abbrev S4x1x8 : Shape := ⟨3, ![4, 1, 8]⟩
abbrev S4x1x128 : Shape := ⟨3, ![4, 1, 128]⟩
abbrev S4x1x768 : Shape := ⟨3, ![4, 1, 768]⟩
abbrev S1x1024x3584 : Shape := ⟨3, ![1, 1024, 3584]⟩
abbrev S1024x3584 : Shape := ⟨2, ![1024, 3584]⟩
abbrev S1x3x768 : Shape := ⟨3, ![1, 3, 768]⟩
abbrev S3x768 : Shape := ⟨2, ![3, 768]⟩
abbrev S1x1x768 : Shape := ⟨3, ![1, 1, 768]⟩
abbrev S1x768 : Shape := ⟨2, ![1, 768]⟩
abbrev S1x1x256 : Shape := ⟨3, ![1, 1, 256]⟩
abbrev S1x256 : Shape := ⟨2, ![1, 256]⟩
abbrev S1x3x256 : Shape := ⟨3, ![1, 3, 256]⟩
abbrev S3x256 : Shape := ⟨2, ![3, 256]⟩
abbrev S1x128x256 : Shape := ⟨3, ![1, 128, 256]⟩
abbrev S128x256 : Shape := ⟨2, ![128, 256]⟩
abbrev S1x1x128 : Shape := ⟨3, ![1, 1, 128]⟩
abbrev S1x128 : Shape := ⟨2, ![1, 128]⟩
abbrev S256 : Shape := ⟨1, ![256]⟩
abbrev S256x1 : Shape := ⟨2, ![256, 1]⟩
abbrev S256x256 : Shape := ⟨2, ![256, 256]⟩
abbrev S16x2304x256 : Shape := ⟨3, ![16, 2304, 256]⟩
abbrev S16x2304x128 : Shape := ⟨3, ![16, 2304, 128]⟩
abbrev S1x256x1024 : Shape := ⟨3, ![1, 256, 1024]⟩
abbrev S1x1x1024 : Shape := ⟨3, ![1, 1, 1024]⟩
abbrev S1x256x256 : Shape := ⟨3, ![1, 256, 256]⟩
abbrev S1x256x128 : Shape := ⟨3, ![1, 256, 128]⟩
abbrev S256x1024 : Shape := ⟨2, ![256, 1024]⟩
abbrev S1x1024 : Shape := ⟨2, ![1, 1024]⟩
abbrev S1024x768 : Shape := ⟨2, ![1024, 768]⟩
abbrev S256x768 : Shape := ⟨2, ![256, 768]⟩
abbrev S1024x896 : Shape := ⟨2, ![1024, 896]⟩
abbrev S256x896 : Shape := ⟨2, ![256, 896]⟩
abbrev S256x128 : Shape := ⟨2, ![256, 128]⟩
abbrev S1024x1152 : Shape := ⟨2, ![1024, 1152]⟩
abbrev S256x1152 : Shape := ⟨2, ![256, 1152]⟩

abbrev nBuf : Space → Nat
  | .hbm => 134
  | .vmem => 43
  | .smem => 0
  | _ => 0

abbrev hbmTy0_0 (i : Nat) : BufTy := match i % 128 with
  | 0 => ⟨S16x2304x1024, .f32⟩
  | 1 => ⟨S24x1x1024, .f32⟩
  | 2 => ⟨S24x1x1024, .f32⟩
  | 3 => ⟨S4x1024x3376, .f32⟩
  | 4 => ⟨S4x3x768, .f32⟩
  | 5 => ⟨S4x768, .f32⟩
  | 6 => ⟨S4x256, .f32⟩
  | 7 => ⟨S4x3x256, .f32⟩
  | 8 => ⟨S4x2x16x128, .f32⟩
  | 9 => ⟨S4x2x128, .f32⟩
  | 10 => ⟨S4x3x768, .f32⟩
  | 11 => ⟨S4x2x4, .f32⟩
  | 12 => ⟨S4x2x4, .f32⟩
  | 13 => ⟨S4x1024x1536, .f32⟩
  | 14 => ⟨S4x1024x800, .f32⟩
  | 15 => ⟨S_, .i32⟩
  | 16 => ⟨S_, .f32⟩
  | 17 => ⟨S4x1024x896, .f32⟩
  | 18 => ⟨S4x1024x1040, .f32⟩
  | 19 => ⟨S_, .i32⟩
  | 20 => ⟨S_, .f32⟩
  | 21 => ⟨S4x1024x1152, .f32⟩
  | 22 => ⟨S4x1024x3584, .f32⟩
  | 23 => ⟨S4x1024x3584, .bf16⟩
  | 24 => ⟨S_, .f32⟩
  | 25 => ⟨S4x128x256, .f32⟩
  | 26 => ⟨S4x1x16x128, .f32⟩
  | 27 => ⟨S4x16x128, .f32⟩
  | 28 => ⟨S_, .i32⟩
  | 29 => ⟨S1, .i32⟩
  | 30 => ⟨S_, .i32⟩
  | 31 => ⟨S1, .i32⟩
  | 32 => ⟨S2, .i32⟩
  | 33 => ⟨S4x128x256, .f32⟩
  | 34 => ⟨S4x1x16x128, .f32⟩
  | 35 => ⟨S4x16x128, .f32⟩
  | 36 => ⟨S_, .i32⟩
  | 37 => ⟨S1, .i32⟩
  | 38 => ⟨S_, .i32⟩
  | 39 => ⟨S1, .i32⟩
  | 40 => ⟨S2, .i32⟩
  | 41 => ⟨S4x128x256, .f32⟩
  | 42 => ⟨S4x1x256, .f32⟩
  | 43 => ⟨S4x2x4, .f32⟩
  | 44 => ⟨S4x1x8, .f32⟩
  | 45 => ⟨S4x1x8, .f32⟩
  | 46 => ⟨S_, .i32⟩
  | 47 => ⟨S_, .f32⟩
  | 48 => ⟨S4x1x128, .f32⟩
  | 49 => ⟨S4x1x8, .f32⟩
  | 50 => ⟨S_, .i32⟩
  | 51 => ⟨S_, .f32⟩
  | 52 => ⟨S4x1x128, .f32⟩
  | 53 => ⟨S4x1x768, .f32⟩
  | 54 => ⟨S4x1x256, .f32⟩
  | 55 => ⟨S_, .f32⟩
  | 56 => ⟨S24x1x1024, .f32⟩
  | 57 => ⟨S24x1x1024, .f32⟩
  | 58 => ⟨S1x1024x3584, .bf16⟩
  | 59 => ⟨S1024x3584, .bf16⟩
  | 60 => ⟨S1x3x768, .f32⟩
  | 61 => ⟨S3x768, .f32⟩
  | 62 => ⟨S1x1x768, .f32⟩
  | 63 => ⟨S1x768, .f32⟩
  | 64 => ⟨S1x1x256, .f32⟩
  | 65 => ⟨S1x256, .f32⟩
  | 66 => ⟨S1x3x256, .f32⟩
  | 67 => ⟨S3x256, .f32⟩
  | 68 => ⟨S1x128x256, .f32⟩
  | 69 => ⟨S128x256, .f32⟩
  | 70 => ⟨S1x1x256, .f32⟩
  | 71 => ⟨S1x256, .f32⟩
  | 72 => ⟨S1x3x768, .f32⟩
  | 73 => ⟨S3x768, .f32⟩
  | 74 => ⟨S1x1x128, .f32⟩
  | 75 => ⟨S1x128, .f32⟩
  | 76 => ⟨S1x1x128, .f32⟩
  | 77 => ⟨S1x128, .f32⟩
  | 78 => ⟨S256, .i32⟩
  | 79 => ⟨S256x1, .i32⟩
  | 80 => ⟨S_, .i32⟩
  | 81 => ⟨S_, .i32⟩
  | 82 => ⟨S256x1, .i32⟩
  | 83 => ⟨S256x1, .i32⟩
  | 84 => ⟨S256x1, .i32⟩
  | 85 => ⟨S_, .i32⟩
  | 86 => ⟨S256x1, .i32⟩
  | 87 => ⟨S256x1, .i1⟩
  | 88 => ⟨S256x1, .i32⟩
  | 89 => ⟨S256x1, .i32⟩
  | 90 => ⟨S_, .i32⟩
  | 91 => ⟨S256x1, .i32⟩
  | 92 => ⟨S256x1, .i1⟩
  | 93 => ⟨S256x1, .i1⟩
  | 94 => ⟨S_, .i32⟩
  | 95 => ⟨S256x1, .i32⟩
  | 96 => ⟨S256x1, .i32⟩
  | 97 => ⟨S256x1, .i32⟩
  | 98 => ⟨S1x256, .i32⟩
  | 99 => ⟨S_, .i32⟩
  | 100 => ⟨S_, .i32⟩
  | 101 => ⟨S1x256, .i32⟩
  | 102 => ⟨S1x256, .i32⟩
  | 103 => ⟨S1x256, .i32⟩
  | 104 => ⟨S_, .i32⟩
  | 105 => ⟨S1x256, .i32⟩
  | 106 => ⟨S1x256, .i1⟩
  | 107 => ⟨S1x256, .i32⟩
  | 108 => ⟨S1x256, .i32⟩
  | 109 => ⟨S_, .i32⟩
  | 110 => ⟨S1x256, .i32⟩
  | 111 => ⟨S1x256, .i1⟩
  | 112 => ⟨S1x256, .i1⟩
  | 113 => ⟨S_, .i32⟩
  | 114 => ⟨S1x256, .i32⟩
  | 115 => ⟨S1x256, .i32⟩
  | 116 => ⟨S1x256, .i32⟩
  | 117 => ⟨S256x256, .i32⟩
  | 118 => ⟨S256x256, .i32⟩
  | 119 => ⟨S256x256, .i1⟩
  | 120 => ⟨S256x256, .bf16⟩
  | 121 => ⟨S16x2304x256, .bf16⟩
  | 122 => ⟨S16x2304x256, .f32⟩
  | 123 => ⟨S16x2304x256, .f32⟩
  | 124 => ⟨S16x2304x256, .f32⟩
  | 125 => ⟨S16x2304x256, .f32⟩
  | 126 => ⟨S16x2304x256, .f32⟩
  | 127 => ⟨S16x2304x256, .f32⟩
  | _ => ⟨S16x2304x1024, .f32⟩

abbrev hbmTy0_1 (i : Nat) : BufTy := match i % 128 with
  | 0 => ⟨S16x2304x256, .f32⟩
  | 1 => ⟨S16x2304x256, .f32⟩
  | 2 => ⟨S16x2304x256, .f32⟩
  | 3 => ⟨S16x2304x256, .f32⟩
  | 4 => ⟨S16x2304x256, .f32⟩
  | 5 => ⟨S16x2304x128, .f32⟩
  | _ => ⟨S16x2304x1024, .f32⟩

abbrev hbmTy (i : Nat) : BufTy := match i / 128 with
  | 0 => hbmTy0_0 i
  | 1 => hbmTy0_1 i
  | _ => ⟨S16x2304x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3584, .bf16⟩
  | .local _ .vmem, ⟨7, _⟩ => ⟨S3x768, .f32⟩
  | .local _ .vmem, ⟨8, _⟩ => ⟨S1x768, .f32⟩
  | .local _ .vmem, ⟨9, _⟩ => ⟨S1x256, .f32⟩
  | .local _ .vmem, ⟨10, _⟩ => ⟨S3x256, .f32⟩
  | .local _ .vmem, ⟨11, _⟩ => ⟨S128x256, .f32⟩
  | .local _ .vmem, ⟨12, _⟩ => ⟨S1x256, .f32⟩
  | .local _ .vmem, ⟨13, _⟩ => ⟨S3x768, .f32⟩
  | .local _ .vmem, ⟨14, _⟩ => ⟨S1x128, .f32⟩
  | .local _ .vmem, ⟨15, _⟩ => ⟨S1x128, .f32⟩
  | .local _ .vmem, ⟨16, _⟩ => ⟨S256x256, .bf16⟩
  | .local _ .vmem, ⟨17, _⟩ => ⟨S1x256x256, .bf16⟩
  | .local _ .vmem, ⟨18, _⟩ => ⟨S1x256x256, .bf16⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | .local _ .vmem, ⟨22, _⟩ => ⟨S1x256x256, .f32⟩
  | .local _ .vmem, ⟨23, _⟩ => ⟨S1x256x256, .f32⟩
  | .local _ .vmem, ⟨24, _⟩ => ⟨S1x256x256, .f32⟩
  | .local _ .vmem, ⟨25, _⟩ => ⟨S1x256x256, .f32⟩
  | .local _ .vmem, ⟨26, _⟩ => ⟨S1x256x256, .f32⟩
  | .local _ .vmem, ⟨27, _⟩ => ⟨S1x256x256, .f32⟩
  | .local _ .vmem, ⟨28, _⟩ => ⟨S1x256x256, .f32⟩
  | .local _ .vmem, ⟨29, _⟩ => ⟨S1x256x256, .f32⟩
  | .local _ .vmem, ⟨30, _⟩ => ⟨S1x256x256, .f32⟩
  | .local _ .vmem, ⟨31, _⟩ => ⟨S1x256x256, .f32⟩
  | .local _ .vmem, ⟨32, _⟩ => ⟨S1x256x256, .f32⟩
  | .local _ .vmem, ⟨33, _⟩ => ⟨S1x256x256, .f32⟩
  | .local _ .vmem, ⟨34, _⟩ => ⟨S1x256x256, .f32⟩
  | .local _ .vmem, ⟨35, _⟩ => ⟨S1x256x256, .f32⟩
  | .local _ .vmem, ⟨36, _⟩ => ⟨S1x256x256, .f32⟩
  | .local _ .vmem, ⟨37, _⟩ => ⟨S1x256x256, .f32⟩
  | .local _ .vmem, ⟨38, _⟩ => ⟨S1x256x256, .f32⟩
  | .local _ .vmem, ⟨39, _⟩ => ⟨S1x256x256, .f32⟩
  | .local _ .vmem, ⟨40, _⟩ => ⟨S1x256x256, .f32⟩
  | .local _ .vmem, ⟨41, _⟩ => ⟨S1x256x128, .f32⟩
  | .local _ .vmem, ⟨42, _⟩ => ⟨S1x256x128, .f32⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_call0_v0 : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_call1_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_1 : Ref sig .tc := ⟨.hbm, 28, rfl⟩
abbrev main_v10 : Ref sig .tc := ⟨.hbm, 29, rfl⟩
abbrev main_c_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_3 : Ref sig .tc := ⟨.hbm, 36, rfl⟩
abbrev main_v16 : Ref sig .tc := ⟨.hbm, 37, rfl⟩
abbrev main_c_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_call2_v0 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_call3_v0 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_7 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_8 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_call4_v5 : Ref sig .tc := ⟨.hbm, 86, rfl⟩
abbrev main_call4_v6 : Ref sig .tc := ⟨.hbm, 87, rfl⟩
abbrev main_call4_v7 : Ref sig .tc := ⟨.hbm, 88, rfl⟩
abbrev main_call4_v8 : Ref sig .tc := ⟨.hbm, 89, rfl⟩
abbrev main_call4_c : Ref sig .tc := ⟨.hbm, 90, rfl⟩
abbrev main_call4_v9 : Ref sig .tc := ⟨.hbm, 91, rfl⟩
abbrev main_call4_v10 : Ref sig .tc := ⟨.hbm, 92, rfl⟩
abbrev main_call4_v11 : Ref sig .tc := ⟨.hbm, 93, rfl⟩
abbrev main_call4_c_0 : Ref sig .tc := ⟨.hbm, 94, rfl⟩
abbrev main_call4_v12 : Ref sig .tc := ⟨.hbm, 95, rfl⟩
abbrev main_call4_v13 : Ref sig .tc := ⟨.hbm, 96, rfl⟩
abbrev main_v53 : Ref sig .tc := ⟨.hbm, 97, rfl⟩
abbrev main_v54 : Ref sig .tc := ⟨.hbm, 98, rfl⟩
abbrev main_c_9 : Ref sig .tc := ⟨.hbm, 99, rfl⟩
abbrev main_call5_v0 : Ref sig .tc := ⟨.hbm, 100, rfl⟩
abbrev main_call5_v1 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_call5_v5 : Ref sig .tc := ⟨.hbm, 105, rfl⟩
abbrev main_call5_v6 : Ref sig .tc := ⟨.hbm, 106, rfl⟩
abbrev main_call5_v7 : Ref sig .tc := ⟨.hbm, 107, rfl⟩
abbrev main_call5_v8 : Ref sig .tc := ⟨.hbm, 108, rfl⟩
abbrev main_call5_c : Ref sig .tc := ⟨.hbm, 109, rfl⟩
abbrev main_call5_v9 : Ref sig .tc := ⟨.hbm, 110, rfl⟩
abbrev main_call5_v10 : Ref sig .tc := ⟨.hbm, 111, rfl⟩
abbrev main_call5_v11 : Ref sig .tc := ⟨.hbm, 112, rfl⟩
abbrev main_call5_c_0 : Ref sig .tc := ⟨.hbm, 113, rfl⟩
abbrev main_call5_v12 : Ref sig .tc := ⟨.hbm, 114, rfl⟩
abbrev main_call5_v13 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60_0 : Ref sig .tc := ⟨.hbm, 121, rfl⟩
abbrev main_v60_1 : Ref sig .tc := ⟨.hbm, 122, rfl⟩
abbrev main_v60_2 : Ref sig .tc := ⟨.hbm, 123, rfl⟩
abbrev main_v60_3 : Ref sig .tc := ⟨.hbm, 124, rfl⟩
abbrev main_v60_4 : Ref sig .tc := ⟨.hbm, 125, rfl⟩
abbrev main_v60_5 : Ref sig .tc := ⟨.hbm, 126, rfl⟩
abbrev main_v60_6 : Ref sig .tc := ⟨.hbm, 127, rfl⟩
abbrev main_v60_7 : Ref sig .tc := ⟨.hbm, 128, rfl⟩
abbrev main_v60_8 : Ref sig .tc := ⟨.hbm, 129, rfl⟩
abbrev main_v60_9 : Ref sig .tc := ⟨.hbm, 130, rfl⟩
abbrev main_v60_10 : Ref sig .tc := ⟨.hbm, 131, rfl⟩
abbrev main_v60_11 : Ref sig .tc := ⟨.hbm, 132, rfl⟩
abbrev main_v60_12 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_stg25_0 : Ref sig .tc := ⟨.vmem, 39, rfl⟩
abbrev cc0_stg25_1 : Ref sig .tc := ⟨.vmem, 40, rfl⟩
abbrev cc0_stg26_0 : Ref sig .tc := ⟨.vmem, 41, rfl⟩
abbrev cc0_stg26_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38
abbrev cc0_sem25_0 : DmaSem sig := 39
abbrev cc0_sem25_1 : DmaSem sig := 40
abbrev cc0_sem26_0 : DmaSem sig := 41
abbrev cc0_sem26_1 : DmaSem sig := 42

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg1 c8_i32
  let c16_i32 : BitVec 32 := 16#32
  let v1 : BitVec 32 := Scalar.select v0 c16_i32 arg0
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg1 c8_i32
  let c16_i32 : BitVec 32 := 16#32
  let v1 : BitVec 32 := Scalar.select v0 c16_i32 arg0
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x256x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x256x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x256x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]
-- ==== Reference3Ideal.lean ====
abbrev S16x2304x1024 : Shape := ⟨3, ![16, 2304, 1024]⟩
abbrev S24x1x1024 : Shape := ⟨3, ![24, 1, 1024]⟩
abbrev S4x1024x3376 : Shape := ⟨3, ![4, 1024, 3376]⟩
abbrev S4x3x768 : Shape := ⟨3, ![4, 3, 768]⟩
abbrev S4x768 : Shape := ⟨2, ![4, 768]⟩
abbrev S4x256 : Shape := ⟨2, ![4, 256]⟩
abbrev S4x3x256 : Shape := ⟨3, ![4, 3, 256]⟩
abbrev S4x2x16x128 : Shape := ⟨4, ![4, 2, 16, 128]⟩
abbrev S4x2x128 : Shape := ⟨3, ![4, 2, 128]⟩
abbrev S4x2x4 : Shape := ⟨3, ![4, 2, 4]⟩
abbrev S16x1x1024 : Shape := ⟨3, ![16, 1, 1024]⟩
abbrev S16x2048x1024 : Shape := ⟨3, ![16, 2048, 1024]⟩
abbrev S1x1x1024 : Shape := ⟨3, ![1, 1, 1024]⟩
abbrev S1x1024 : Shape := ⟨2, ![1, 1024]⟩
abbrev S16x256x1024 : Shape := ⟨3, ![16, 256, 1024]⟩
abbrev S_ : Shape := ⟨0, ![]⟩
abbrev S1x1024x3376 : Shape := ⟨3, ![1, 1024, 3376]⟩
abbrev S1024x3376 : Shape := ⟨2, ![1024, 3376]⟩
abbrev S16x2304x3376 : Shape := ⟨3, ![16, 2304, 3376]⟩
abbrev S16x2304x768 : Shape := ⟨3, ![16, 2304, 768]⟩
abbrev S1x3x768 : Shape := ⟨3, ![1, 3, 768]⟩
abbrev S3x768 : Shape := ⟨2, ![3, 768]⟩
abbrev S16x2048x768 : Shape := ⟨3, ![16, 2048, 768]⟩
abbrev S16x32x64x768 : Shape := ⟨4, ![16, 32, 64, 768]⟩
abbrev S16x32x66x768 : Shape := ⟨4, ![16, 32, 66, 768]⟩
abbrev S1x768 : Shape := ⟨2, ![1, 768]⟩
abbrev S768 : Shape := ⟨1, ![768]⟩
abbrev S1x1x1x768 : Shape := ⟨4, ![1, 1, 1, 768]⟩
abbrev S16x256x768 : Shape := ⟨3, ![16, 256, 768]⟩
abbrev S16x1x256x768 : Shape := ⟨4, ![16, 1, 256, 768]⟩
abbrev S16x1x258x768 : Shape := ⟨4, ![16, 1, 258, 768]⟩
abbrev S1x1x768 : Shape := ⟨3, ![1, 1, 768]⟩
abbrev S16x2304x256 : Shape := ⟨3, ![16, 2304, 256]⟩
abbrev S1x3x256 : Shape := ⟨3, ![1, 3, 256]⟩
abbrev S3x256 : Shape := ⟨2, ![3, 256]⟩
abbrev S16x2048x256 : Shape := ⟨3, ![16, 2048, 256]⟩
abbrev S16x32x64x256 : Shape := ⟨4, ![16, 32, 64, 256]⟩
abbrev S16x32x66x256 : Shape := ⟨4, ![16, 32, 66, 256]⟩
abbrev S1x256 : Shape := ⟨2, ![1, 256]⟩
abbrev S256 : Shape := ⟨1, ![256]⟩
abbrev S1x1x1x256 : Shape := ⟨4, ![1, 1, 1, 256]⟩
abbrev S16x256x256 : Shape := ⟨3, ![16, 256, 256]⟩
abbrev S16x1x256x256 : Shape := ⟨4, ![16, 1, 256, 256]⟩
abbrev S16x1x258x256 : Shape := ⟨4, ![16, 1, 258, 256]⟩
abbrev S16x2304x800 : Shape := ⟨3, ![16, 2304, 800]⟩
abbrev S16x2304x1040 : Shape := ⟨3, ![16, 2304, 1040]⟩
abbrev S1x1x256 : Shape := ⟨3, ![1, 1, 256]⟩

abbrev nBuf : Space → Nat
  | .hbm => 239
  | .vmem => 0
  | .smem => 0
  | _ => 0

abbrev hbmTy0_0 (i : Nat) : BufTy := match i % 128 with
  | 0 => ⟨S16x2304x1024, .f32⟩
  | 1 => ⟨S24x1x1024, .f32⟩
  | 2 => ⟨S24x1x1024, .f32⟩
  | 3 => ⟨S4x1024x3376, .f32⟩
  | 4 => ⟨S4x3x768, .f32⟩
  | 5 => ⟨S4x768, .f32⟩
  | 6 => ⟨S4x256, .f32⟩
  | 7 => ⟨S4x3x256, .f32⟩
  | 8 => ⟨S4x2x16x128, .f32⟩
  | 9 => ⟨S4x2x128, .f32⟩
  | 10 => ⟨S4x3x768, .f32⟩
  | 11 => ⟨S4x2x4, .f32⟩
  | 12 => ⟨S4x2x4, .f32⟩
  | 13 => ⟨S16x1x1024, .f32⟩
  | 14 => ⟨S16x2048x1024, .f32⟩
  | 15 => ⟨S1x1x1024, .f32⟩
  | 16 => ⟨S1x1024, .f32⟩
  | 17 => ⟨S1x1x1024, .f32⟩
  | 18 => ⟨S16x256x1024, .f32⟩
  | 19 => ⟨S16x2304x1024, .f32⟩
  | 20 => ⟨S_, .f32⟩
  | 21 => ⟨S16x2304x1024, .f32⟩
  | 22 => ⟨S16x2304x1024, .f32⟩
  | 23 => ⟨S16x2304x1024, .f32⟩
  | 24 => ⟨S16x1x1024, .f32⟩
  | 25 => ⟨S16x2048x1024, .f32⟩
  | 26 => ⟨S1x1x1024, .f32⟩
  | 27 => ⟨S1x1024, .f32⟩
  | 28 => ⟨S1x1x1024, .f32⟩
  | 29 => ⟨S16x256x1024, .f32⟩
  | 30 => ⟨S16x2304x1024, .f32⟩
  | 31 => ⟨S16x2304x1024, .f32⟩
  | 32 => ⟨S1x1024x3376, .f32⟩
  | 33 => ⟨S1024x3376, .f32⟩
  | 34 => ⟨S16x2304x3376, .f32⟩
  | 35 => ⟨S16x2304x768, .f32⟩
  | 36 => ⟨S1x3x768, .f32⟩
  | 37 => ⟨S3x768, .f32⟩
  | 38 => ⟨S16x2048x768, .f32⟩
  | 39 => ⟨S16x32x64x768, .f32⟩
  | 40 => ⟨S_, .i32⟩
  | 41 => ⟨S_, .f32⟩
  | 42 => ⟨S16x32x66x768, .f32⟩
  | 43 => ⟨S16x32x64x768, .f32⟩
  | 44 => ⟨S1x768, .f32⟩
  | 45 => ⟨S768, .f32⟩
  | 46 => ⟨S1x1x1x768, .f32⟩
  | 47 => ⟨S16x32x64x768, .f32⟩
  | 48 => ⟨S16x32x64x768, .f32⟩
  | 49 => ⟨S16x32x64x768, .f32⟩
  | 50 => ⟨S1x768, .f32⟩
  | 51 => ⟨S768, .f32⟩
  | 52 => ⟨S1x1x1x768, .f32⟩
  | 53 => ⟨S16x32x64x768, .f32⟩
  | 54 => ⟨S16x32x64x768, .f32⟩
  | 55 => ⟨S16x32x64x768, .f32⟩
  | 56 => ⟨S16x32x64x768, .f32⟩
  | 57 => ⟨S1x768, .f32⟩
  | 58 => ⟨S768, .f32⟩
  | 59 => ⟨S1x1x1x768, .f32⟩
  | 60 => ⟨S16x32x64x768, .f32⟩
  | 61 => ⟨S16x32x64x768, .f32⟩
  | 62 => ⟨S16x32x64x768, .f32⟩
  | 63 => ⟨S16x2048x768, .f32⟩
  | 64 => ⟨S16x256x768, .f32⟩
  | 65 => ⟨S16x1x256x768, .f32⟩
  | 66 => ⟨S_, .i32⟩
  | 67 => ⟨S_, .f32⟩
  | 68 => ⟨S16x1x258x768, .f32⟩
  | 69 => ⟨S16x1x256x768, .f32⟩
  | 70 => ⟨S1x768, .f32⟩
  | 71 => ⟨S768, .f32⟩
  | 72 => ⟨S1x1x1x768, .f32⟩
  | 73 => ⟨S16x1x256x768, .f32⟩
  | 74 => ⟨S16x1x256x768, .f32⟩
  | 75 => ⟨S16x1x256x768, .f32⟩
  | 76 => ⟨S1x768, .f32⟩
  | 77 => ⟨S768, .f32⟩
  | 78 => ⟨S1x1x1x768, .f32⟩
  | 79 => ⟨S16x1x256x768, .f32⟩
  | 80 => ⟨S16x1x256x768, .f32⟩
  | 81 => ⟨S16x1x256x768, .f32⟩
  | 82 => ⟨S16x1x256x768, .f32⟩
  | 83 => ⟨S1x768, .f32⟩
  | 84 => ⟨S768, .f32⟩
  | 85 => ⟨S1x1x1x768, .f32⟩
  | 86 => ⟨S16x1x256x768, .f32⟩
  | 87 => ⟨S16x1x256x768, .f32⟩
  | 88 => ⟨S16x1x256x768, .f32⟩
  | 89 => ⟨S16x256x768, .f32⟩
  | 90 => ⟨S16x2304x768, .f32⟩
  | 91 => ⟨S1x768, .f32⟩
  | 92 => ⟨S768, .f32⟩
  | 93 => ⟨S1x1x768, .f32⟩
  | 94 => ⟨S16x2304x768, .f32⟩
  | 95 => ⟨S16x2304x768, .f32⟩
  | 96 => ⟨S16x2304x256, .f32⟩
  | 97 => ⟨S16x2304x256, .f32⟩
  | 98 => ⟨S16x2304x256, .f32⟩
  | 99 => ⟨S16x2304x768, .f32⟩
  | 100 => ⟨S16x2304x256, .f32⟩
  | 101 => ⟨S16x2304x256, .f32⟩
  | 102 => ⟨S16x2304x256, .f32⟩
  | 103 => ⟨S16x2304x256, .f32⟩
  | 104 => ⟨S1x3x256, .f32⟩
  | 105 => ⟨S3x256, .f32⟩
  | 106 => ⟨S16x2048x256, .f32⟩
  | 107 => ⟨S16x32x64x256, .f32⟩
  | 108 => ⟨S_, .i32⟩
  | 109 => ⟨S_, .f32⟩
  | 110 => ⟨S16x32x66x256, .f32⟩
  | 111 => ⟨S16x32x64x256, .f32⟩
  | 112 => ⟨S1x256, .f32⟩
  | 113 => ⟨S256, .f32⟩
  | 114 => ⟨S1x1x1x256, .f32⟩
  | 115 => ⟨S16x32x64x256, .f32⟩
  | 116 => ⟨S16x32x64x256, .f32⟩
  | 117 => ⟨S16x32x64x256, .f32⟩
  | 118 => ⟨S1x256, .f32⟩
  | 119 => ⟨S256, .f32⟩
  | 120 => ⟨S1x1x1x256, .f32⟩
  | 121 => ⟨S16x32x64x256, .f32⟩
  | 122 => ⟨S16x32x64x256, .f32⟩
  | 123 => ⟨S16x32x64x256, .f32⟩
  | 124 => ⟨S16x32x64x256, .f32⟩
  | 125 => ⟨S1x256, .f32⟩
  | 126 => ⟨S256, .f32⟩
  | 127 => ⟨S1x1x1x256, .f32⟩
  | _ => ⟨S16x2304x1024, .f32⟩

abbrev hbmTy0_1 (i : Nat) : BufTy := match i % 128 with
  | 0 => ⟨S16x32x64x256, .f32⟩
  | 1 => ⟨S16x32x64x256, .f32⟩
  | 2 => ⟨S16x32x64x256, .f32⟩
  | 3 => ⟨S16x2048x256, .f32⟩
  | 4 => ⟨S16x256x256, .f32⟩
  | 5 => ⟨S16x1x256x256, .f32⟩
  | 6 => ⟨S_, .i32⟩
  | 7 => ⟨S_, .f32⟩
  | 8 => ⟨S16x1x258x256, .f32⟩
  | 9 => ⟨S16x1x256x256, .f32⟩
  | 10 => ⟨S1x256, .f32⟩
  | 11 => ⟨S256, .f32⟩
  | 12 => ⟨S1x1x1x256, .f32⟩
  | 13 => ⟨S16x1x256x256, .f32⟩
  | 14 => ⟨S16x1x256x256, .f32⟩
  | 15 => ⟨S16x1x256x256, .f32⟩
  | 16 => ⟨S1x256, .f32⟩
  | 17 => ⟨S256, .f32⟩
  | 18 => ⟨S1x1x1x256, .f32⟩
  | 19 => ⟨S16x1x256x256, .f32⟩
  | 20 => ⟨S16x1x256x256, .f32⟩
  | 21 => ⟨S16x1x256x256, .f32⟩
  | 22 => ⟨S16x1x256x256, .f32⟩
  | 23 => ⟨S1x256, .f32⟩
  | 24 => ⟨S256, .f32⟩
  | 25 => ⟨S1x1x1x256, .f32⟩
  | 26 => ⟨S16x1x256x256, .f32⟩
  | 27 => ⟨S16x1x256x256, .f32⟩
  | 28 => ⟨S16x1x256x256, .f32⟩
  | 29 => ⟨S16x256x256, .f32⟩
  | 30 => ⟨S16x2304x256, .f32⟩
  | 31 => ⟨S16x2304x256, .f32⟩
  | 32 => ⟨S16x2304x800, .f32⟩
  | 33 => ⟨S16x2304x1040, .f32⟩
  | 34 => ⟨S16x2304x768, .f32⟩
  | 35 => ⟨S1x3x768, .f32⟩
  | 36 => ⟨S3x768, .f32⟩
  | 37 => ⟨S16x2048x768, .f32⟩
  | 38 => ⟨S16x32x64x768, .f32⟩
  | 39 => ⟨S_, .i32⟩
  | 40 => ⟨S_, .f32⟩
  | 41 => ⟨S16x32x66x768, .f32⟩
  | 42 => ⟨S16x32x64x768, .f32⟩
  | 43 => ⟨S1x768, .f32⟩
  | 44 => ⟨S768, .f32⟩
  | 45 => ⟨S1x1x1x768, .f32⟩
  | 46 => ⟨S16x32x64x768, .f32⟩
  | 47 => ⟨S16x32x64x768, .f32⟩
  | 48 => ⟨S16x32x64x768, .f32⟩
  | 49 => ⟨S1x768, .f32⟩
  | 50 => ⟨S768, .f32⟩
  | 51 => ⟨S1x1x1x768, .f32⟩
  | 52 => ⟨S16x32x64x768, .f32⟩
  | 53 => ⟨S16x32x64x768, .f32⟩
  | 54 => ⟨S16x32x64x768, .f32⟩
  | 55 => ⟨S16x32x64x768, .f32⟩
  | 56 => ⟨S1x768, .f32⟩
  | 57 => ⟨S768, .f32⟩
  | 58 => ⟨S1x1x1x768, .f32⟩
  | 59 => ⟨S16x32x64x768, .f32⟩
  | 60 => ⟨S16x32x64x768, .f32⟩
  | 61 => ⟨S16x32x64x768, .f32⟩
  | 62 => ⟨S16x2048x768, .f32⟩
  | 63 => ⟨S16x256x768, .f32⟩
  | 64 => ⟨S16x1x256x768, .f32⟩
  | 65 => ⟨S_, .i32⟩
  | 66 => ⟨S_, .f32⟩
  | 67 => ⟨S16x1x258x768, .f32⟩
  | 68 => ⟨S16x1x256x768, .f32⟩
  | 69 => ⟨S1x768, .f32⟩
  | 70 => ⟨S768, .f32⟩
  | 71 => ⟨S1x1x1x768, .f32⟩
  | 72 => ⟨S16x1x256x768, .f32⟩
  | 73 => ⟨S16x1x256x768, .f32⟩
  | 74 => ⟨S16x1x256x768, .f32⟩
  | 75 => ⟨S1x768, .f32⟩
  | 76 => ⟨S768, .f32⟩
  | 77 => ⟨S1x1x1x768, .f32⟩
  | 78 => ⟨S16x1x256x768, .f32⟩
  | 79 => ⟨S16x1x256x768, .f32⟩
  | 80 => ⟨S16x1x256x768, .f32⟩
  | 81 => ⟨S16x1x256x768, .f32⟩
  | 82 => ⟨S1x768, .f32⟩
  | 83 => ⟨S768, .f32⟩
  | 84 => ⟨S1x1x1x768, .f32⟩
  | 85 => ⟨S16x1x256x768, .f32⟩
  | 86 => ⟨S16x1x256x768, .f32⟩
  | 87 => ⟨S16x1x256x768, .f32⟩
  | 88 => ⟨S16x256x768, .f32⟩
  | 89 => ⟨S16x2304x768, .f32⟩
  | 90 => ⟨S16x2304x256, .f32⟩
  | 91 => ⟨S16x2304x256, .bf16⟩
  | 92 => ⟨S1x256, .f32⟩
  | 93 => ⟨S256, .f32⟩
  | 94 => ⟨S1x1x256, .f32⟩
  | 95 => ⟨S16x2304x256, .f32⟩
  | 96 => ⟨S16x2304x256, .f32⟩
  | 97 => ⟨S16x2304x256, .f32⟩
  | 98 => ⟨S16x2304x256, .f32⟩
  | 99 => ⟨S16x2304x256, .f32⟩
  | 100 => ⟨S16x2304x256, .f32⟩
  | 101 => ⟨S16x2304x256, .f32⟩
  | 102 => ⟨S16x2304x256, .f32⟩
  | 103 => ⟨S_, .f32⟩
  | 104 => ⟨S16x2304x256, .f32⟩
  | 105 => ⟨S16x2304x256, .f32⟩
  | 106 => ⟨S_, .f32⟩
  | 107 => ⟨S16x2304x256, .f32⟩
  | 108 => ⟨S16x2304x256, .f32⟩
  | 109 => ⟨S16x2304x256, .f32⟩
  | 110 => ⟨S16x2304x256, .f32⟩
  | _ => ⟨S16x2304x1024, .f32⟩

abbrev hbmTy (i : Nat) : BufTy := match i / 128 with
  | 0 => hbmTy0_0 i
  | 1 => hbmTy0_1 i
  | _ => ⟨S16x2304x1024, .f32⟩

abbrev bufTy : (tb : Table) → Fin (tcTables nBuf tb) → BufTy
  | .hbm, ⟨i, _⟩ => hbmTy i
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c : Ref sig .tc := ⟨.hbm, 40, rfl⟩
abbrev main_call0_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_0 : Ref sig .tc := ⟨.hbm, 66, rfl⟩
abbrev main_call1_v0 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_c_1 : Ref sig .tc := ⟨.hbm, 108, rfl⟩
abbrev main_call2_v0 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_c_2 : Ref sig .tc := ⟨.hbm, 134, rfl⟩
abbrev main_call3_v0 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_c_3 : Ref sig .tc := ⟨.hbm, 167, rfl⟩
abbrev main_call4_v0 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_c_4 : Ref sig .tc := ⟨.hbm, 193, rfl⟩
abbrev main_call5_v0 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_v200 : Ref sig .tc := ⟨.hbm, 226, rfl⟩
abbrev main_v201 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_cst_5 : Ref sig .tc := ⟨.hbm, 231, rfl⟩
abbrev main_v205 : Ref sig .tc := ⟨.hbm, 232, rfl⟩
abbrev main_v206 : Ref sig .tc := ⟨.hbm, 233, rfl⟩
abbrev main_cst_6 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩

abbrev nD : Nat := 1
abbrev τ : Topo := Topo.v7x

variable {F : FTy → Type} [FloatOps F]
-- ==== Proof.KTrips.lean ====
/-
  How many row tiles the rows of one expert take, by enumeration of the row counts.
-/
module

public import proofs.«01_k».proof.Proof.Gen.Kernel.Loops
public import Idealize.ShloMosaic.Lib.WordArith.Masks
public import Idealize.ShloMosaic.Lib.LoopRemainder

@[expose] public section

set_option maxRecDepth 16384

namespace Cert.Proof.Kernel

open Cert.Kernel
open Idealize.ShloMosaic

/-- The number of row tiles that `n` rows take, by enumeration of the row counts. -/
theorem t1_fin : ∀ n : Fin 9217, (k0_t1_loop (BitVec.ofNat 32 n.val)).ub = BitVec.ofNat 32 ((n.val + 319) / 320) := by
  decide +kernel

end Cert.Proof.Kernel
-- ==== Proof.Routes.lean ====
module

public import Idealize.ShloMosaic.Lib.SortFacts
public import Idealize.ShloMosaic.Lib.StableHlo.Predicate
public import Idealize.ShloMosaic.Lib.Routing.OpsOne
public import Idealize.ShloMosaic.Lib.ValueIdx

@[expose] public section

/-!
  Sorting assignments by expert: what a stable sort by key, the number of places with each key and the running sums of these
  numbers have to do with each other.
-/

namespace Cert.Proof

open Idealize.ShloMosaic Idealize.ShloMosaic.ValueIdx
open Idealize.ShloMosaic.Routing (shape0 shape2 shape3)

/-! ## Places of a key -/

section
variable {N : ℕ} (key : Fin N → BitVec 32)

/-- The number of places whose key is `e`. -/
def cnt (e : ℕ) : ℕ := (Finset.univ.filter fun p : Fin N => (key p).toNat = e).card

/-- The number of places whose key is below `e`. -/
def beg (e : ℕ) : ℕ := (Finset.univ.filter fun p : Fin N => (key p).toNat < e).card

/-- A place with key below `e + 1` has key below `e` or key `e`. -/
theorem beg_succ (e : ℕ) : beg key (e + 1) = beg key e + cnt key e := by
  unfold beg cnt
  rw [← Finset.card_union_of_disjoint]
  · refine congrArg Finset.card (Finset.ext fun p => ?_)
    simp only [Finset.mem_union, Finset.mem_filter, Finset.mem_univ, true_and]
    omega
  · refine Finset.disjoint_filter.2 fun p _ h1 h2 => ?_
    omega

/-- The places with keys up to `e` are at most all places. -/
theorem room (e : ℕ) : beg key e + cnt key e ≤ N := by
  rw [← beg_succ]
  exact (Finset.card_le_univ _).trans (by simp)

/-- The number of places with key below `e` is the sum over the smaller keys. -/
theorem beg_eq_sum (e : ℕ) : ((List.range e).map (cnt key)).sum = beg key e := by
  induction e with
  | zero => simp [beg]
  | succ e ih => rw [List.range_succ, List.map_append, List.sum_append, ih, beg_succ, List.map_singleton, List.sum_singleton]

/-- The place that a stable sort by signed key puts at `p`. -/
def srt : Fin N → Fin N := sortedFrom fun k k' => IntOp.cmpi .slt (key k) (key k') == 1#1

/-- Two places are put at different positions. -/
theorem srt_inj : Function.Injective (srt key) := sortedFrom_injective _

/-- Every place is put somewhere. -/
theorem srt_surj : Function.Surjective (srt key) := sortedFrom_surjective _

theorem slt_word {x y : BitVec 32} (hx : x.toNat < 2 ^ 31) (hy : y.toNat < 2 ^ 31) : (IntOp.cmpi .slt x y == 1#1) = decide (x.toNat < y.toNat) := by
  have ex : x.toInt = x.toNat := BitVec.toInt_eq_toNat_of_lt (by omega)
  have ey : y.toInt = y.toNat := BitVec.toInt_eq_toNat_of_lt (by omega)
  have e : x.slt y = decide (x.toNat < y.toNat) := by
    rw [BitVec.slt, ex, ey]
    exact decide_eq_decide.2 Int.ofNat_lt
  show (BitVec.ofBool (x.slt y) == 1#1) = _
  rw [e]
  cases decide (x.toNat < y.toNat) <;> rfl

/-- The sorted keys do not go down. -/
theorem srt_mono (hk : ∀ p, (key p).toNat < 2 ^ 31) (p q : Fin N) (h : p ≤ q) : (key (srt key p)).toNat ≤ (key (srt key q)).toNat := by
  rcases h.lt_or_eq with h | rfl
  · have e : ∀ a b, (IntOp.cmpi .slt (key a) (key b) == 1#1) = decide ((key a).toNat < (key b).toNat) := fun a b => slt_word (hk a) (hk b)
    have := sortedFrom_noInversion (fun k k' => IntOp.cmpi .slt (key k) (key k') == 1#1) (fun k k' => IntOp.cmpi .slt (key k) (key k') == 1#1)
      (fun a b hab => by
        simp only [e] at hab ⊢
        have := of_decide_eq_true hab
        exact decide_eq_false (by omega))
      (fun _ _ h => h)
      (fun a b c h1 h2 => by
        simp only [e] at h1 h2 ⊢
        have := of_decide_eq_false h1
        have := of_decide_eq_false h2
        exact decide_eq_false (by omega)) p q h
    rw [e] at this
    have := of_decide_eq_false this
    exact Nat.le_of_not_lt this
  · exact le_refl _

/-- The positions below the number of smaller keys are those with smaller keys. -/
theorem srt_below (hk : ∀ p, (key p).toNat < 2 ^ 31) (e : ℕ) (p : Fin N) : (key (srt key p)).toNat < e ↔ p.val < beg key e := by
  have hc : beg key e = (Finset.univ.filter fun q : Fin N => (key (srt key q)).toNat < e).card := by
    unfold beg
    symm
    refine Finset.card_bij (fun q _ => srt key q) ?_ ?_ ?_
    · intro q hq
      exact Finset.mem_filter.2 ⟨Finset.mem_univ _, (Finset.mem_filter.1 hq).2⟩
    · intro a _ b _ hab
      exact srt_inj key hab
    · intro b hb
      obtain ⟨a, rfl⟩ := srt_surj key b
      exact ⟨a, Finset.mem_filter.2 ⟨Finset.mem_univ _, (Finset.mem_filter.1 hb).2⟩, rfl⟩
  rw [hc]
  constructor
  · intro h
    have hsub : Finset.Iic p ⊆ Finset.univ.filter fun q : Fin N => (key (srt key q)).toNat < e := by
      intro q hq
      have := srt_mono key hk q p (Finset.mem_Iic.1 hq)
      exact Finset.mem_filter.2 ⟨Finset.mem_univ _, by omega⟩
    have := Finset.card_le_card hsub
    rw [Fin.card_Iic] at this
    omega
  · intro h
    by_contra hn
    have hsub : (Finset.univ.filter fun q : Fin N => (key (srt key q)).toNat < e) ⊆ Finset.Iio p := by
      intro q hq
      refine Finset.mem_Iio.2 (lt_of_not_ge fun hpq => ?_)
      have := srt_mono key hk p q hpq
      have := (Finset.mem_filter.1 hq).2
      omega
    have := Finset.card_le_card hsub
    rw [Fin.card_Iio] at this
    omega

/-- The positions of key `e` are the `cnt` positions from `beg` on. -/
theorem srt_at (hk : ∀ p, (key p).toNat < 2 ^ 31) (e : ℕ) (p : Fin N) :
    (key (srt key p)).toNat = e ↔ beg key e ≤ p.val ∧ p.val < beg key e + cnt key e := by
  have h1 := srt_below key hk e p
  have h2 := srt_below key hk (e + 1) p
  rw [beg_succ] at h2
  omega

end

/-! ## The host's sort, counts and running sums -/

/-- What the sort of every row by key does to the column numbers. -/
theorem sort2_iota {A N : ℕ} (x : IVec (shape2 A N) 32) (cmp : BitVec 32 × BitVec 32 → BitVec 32 × BitVec 32 → BitVec 1)
    (hcmp : ∀ l r, cmp l r = IntOp.cmpi .slt l.1 r.1) (b : Fin A) (p : Fin N) :
    (Host.sort2 (shape2 A N) 1 cmp x (iotaInDim (shape2 A N) 32 1)).2 (ix2 b p) = BitVec.ofNat 32 (srt (fun q => x (ix2 b q)) p).val := by
  have hal : ∀ k : Fin N, (ix2 b p : (shape2 A N).Idx).along (1 : Fin 2) k = ix2 b k := by
    intro k
    funext a
    match a with
    | ⟨0, _⟩ => rfl
    | ⟨1, _⟩ => rfl
  unfold Host.sort2
  rw [dif_pos (show 1 < (shape2 A N).rank from Nat.one_lt_two)]
  refine (congrArg (iotaInDim (shape2 A N) 32 1) (hal _)).trans ?_
  show BitVec.ofNat 32 (sortedFrom _ p).val = BitVec.ofNat 32 (sortedFrom _ p).val
  refine congrArg (fun R : Fin N → Fin N → Bool => BitVec.ofNat 32 (sortedFrom R p).val) (funext fun k => funext fun k' => ?_)
  refine congrArg (· == 1#1) ((hcmp _ _).trans ?_)
  exact congrArg₂ (IntOp.cmpi .slt) (congrArg x (hal k)) (congrArg x (hal k'))

/-- The number of set bits down the middle axis. -/
theorem reduce_count_mid {A N B : ℕ} (hN : N < 2 ^ 32) (msk : IVec (shape3 A N B) 1) (hw : 1 < 32) (h : (shape3 A N B).ReducesTo [1] (shape2 A B))
    {u : Shape} (hu : 0 < u.numel) (p : Fin A) (q : Fin B) :
    Host.reduce IntOp.addi (extui 32 msk hw) (constantI u 32 0#32) h hu (ix2 p q)
      = BitVec.ofNat 32 (Finset.univ.filter fun j : Fin N => msk (ix3 p j q) = 1#1).card := by
  classical
  have hdrop : ∀ i : (shape3 A N B).Idx, h.drop i = ix2 p q ↔ i 0 = p ∧ i 2 = q := by
    intro i
    have hv0 : (h.drop i 0 : ℕ) = i 0 := Shape.ReducesTo.drop_apply_val h i 0
    have hv1 : (h.drop i 1 : ℕ) = i 2 := Shape.ReducesTo.drop_apply_val h i 1
    constructor
    · intro e
      rw [e] at hv0 hv1
      exact ⟨Fin.ext hv0.symm, Fin.ext hv1.symm⟩
    · rintro ⟨e1, e2⟩
      funext c
      match c with
      | ⟨0, _⟩ => exact Fin.ext (hv0.trans (congrArg Fin.val e1))
      | ⟨1, _⟩ => exact Fin.ext (hv1.trans (congrArg Fin.val e2))
  have hback : ∀ i : (shape3 A N B).Idx, i 0 = p ∧ i 2 = q → ix3 p (i 1) q = i := fun i hi => by
    funext c
    match c with
    | ⟨0, _⟩ => exact hi.1.symm
    | ⟨1, _⟩ => rfl
    | ⟨2, _⟩ => exact hi.2.symm
  have hsum : ∑ i ∈ Finset.univ.filter (fun i : (shape3 A N B).Idx => h.drop i = ix2 p q), (extui 32 msk hw i).toNat
      = (Finset.univ.filter (fun j : Fin N => msk (ix3 p j q) = 1#1)).card := by
    rw [Finset.card_filter]
    refine Finset.sum_bij' (fun i _ => i 1) (fun j _ => ix3 p j q) (fun _ _ => Finset.mem_univ _)
      (fun j _ => Finset.mem_filter.2 ⟨Finset.mem_univ _, (hdrop _).2 ⟨rfl, rfl⟩⟩)
      (fun i hi => hback i ((hdrop i).1 (Finset.mem_filter.1 hi).2)) (fun _ _ => rfl) ?_
    intro i hi
    refine (StableHlo.Predicate.toNat_setWidth_bit (msk i)).trans ?_
    exact (congrArg (fun x => if msk x = 1#1 then 1 else 0) (hback i ((hdrop i).1 (Finset.mem_filter.1 hi).2))).symm
  have hle : (Finset.univ.filter (fun j : Fin N => msk (ix3 p j q) = 1#1)).card < 2 ^ 32 := lt_of_le_of_lt (Finset.card_le_univ _) (by simpa using hN)
  apply BitVec.eq_of_toNat_eq
  rw [Host.reduce_eq_fold]
  show (Finset.fold IntOp.addi 0#32 (extui 32 msk hw) (Finset.univ.filter fun i : (shape3 A N B).Idx => h.drop i = ix2 p q)).toNat = _
  rw [StableHlo.Predicate.toNat_fold_addi _ _ (by rw [hsum]; exact hle), hsum, BitVec.toNat_ofNat, Nat.mod_eq_of_lt hle]

/-- The running sums along the rows of a matrix of words that hold naturals. -/
theorem running_sum {A B Bm1 : ℕ} (hB : Bm1 + 1 = B) (x : IVec (shape2 A B) 32) (f : ℕ → ℕ → ℕ)
    (hx : ∀ (r : Fin A) (i : Fin B), x (ix2 r i) = BitVec.ofNat 32 (f r.val i.val)) (init : IVec shape0 32) (hinit : init ix0 = 0#32)
    (h : (shape2 A B).ReduceWindows (![1, B] : Fin 2 → ℕ) ![1, 1] ![0, Bm1] ![0, 0] (shape2 A B)) (hu : 0 < shape0.numel) (r : Fin A) (j : Fin B) :
    Host.reduceWindow IntOp.addi ![1, B] ![1, 1] ![0, Bm1] ![0, 0] x init h hu (ix2 r j)
      = BitVec.ofNat 32 ((List.range (j.val + 1)).map (f r.val)).sum := by
  subst hB
  have hv : init (Shape.Idx.first hu) = BitVec.ofNat 32 0 := (congrArg init (eq_ix0 _)).trans hinit
  have hj := j.isLt
  have hr := r.isLt
  have hnum : (shape2 1 (Bm1 + 1)).numel = Bm1 + 1 := (Shape.numel_rank2 _).trans (Nat.one_mul _)
  have hs : ∀ n : Fin (shape2 1 (Bm1 + 1)).numel, (shape2 1 (Bm1 + 1)).rowMajor.symm n = ix2 (0 : Fin 1) (n.cast hnum) := by
    intro n
    have hn : n.val < Bm1 + 1 := (n.cast hnum).isLt
    refine ((shape2 1 (Bm1 + 1)).rowMajor.symm_apply_eq).2 (Fin.ext ?_)
    rw [Shape.rowMajor_val_two]
    show n.val = 0 * (Bm1 + 1) + n.val
    omega
  unfold Host.reduceWindow
  refine (Routing.foldl_addi_ofNat _ _ (fun n => if Bm1 ≤ j.val + n.val then f r.val (j.val + n.val - Bm1) else 0) (fun n _ => ?_) _ 0 hv).trans ?_
  · have hw0 : ((shape2 1 (Bm1 + 1)).rowMajor.symm n 0).val = 0 := by rw [hs]; rfl
    have hw1 : ((shape2 1 (Bm1 + 1)).rowMajor.symm n 1).val = n.val := by rw [hs]; rfl
    have hn : n.val < Bm1 + 1 := (n.cast hnum).isLt
    dsimp only
    split
    · next hin =>
      have h1 := hin 1
      change Bm1 ≤ j.val * 1 + ((shape2 1 (Bm1 + 1)).rowMajor.symm n 1).val
        ∧ j.val * 1 + ((shape2 1 (Bm1 + 1)).rowMajor.symm n 1).val - Bm1 < Bm1 + 1 at h1
      rw [hw1] at h1
      rw [if_pos (by omega)]
      refine (congrArg x (funext fun a => Fin.ext ?_)).trans (hx r ⟨j.val + n.val - Bm1, by omega⟩)
      match a with
      | ⟨0, _⟩ =>
        show r.val * 1 + ((shape2 1 (Bm1 + 1)).rowMajor.symm n 0).val - 0 = r.val
        rw [hw0]
        omega
      | ⟨1, _⟩ =>
        show j.val * 1 + ((shape2 1 (Bm1 + 1)).rowMajor.symm n 1).val - Bm1 = j.val + n.val - Bm1
        rw [hw1, Nat.mul_one]
    · next hin =>
      rw [if_neg fun hle => hin fun a => by
        match a with
        | ⟨0, _⟩ =>
          show 0 ≤ r.val * 1 + ((shape2 1 (Bm1 + 1)).rowMajor.symm n 0).val ∧ r.val * 1 + ((shape2 1 (Bm1 + 1)).rowMajor.symm n 0).val - 0 < A
          rw [hw0]
          omega
        | ⟨1, _⟩ =>
          show Bm1 ≤ j.val * 1 + ((shape2 1 (Bm1 + 1)).rowMajor.symm n 1).val
            ∧ j.val * 1 + ((shape2 1 (Bm1 + 1)).rowMajor.symm n 1).val - Bm1 < Bm1 + 1
          rw [hw1]
          omega]
      exact hv
  · rw [Nat.zero_add, Routing.map_finRange_val _ (fun w => if Bm1 ≤ j.val + w then f r.val (j.val + w - Bm1) else 0)]
    exact congrArg (BitVec.ofNat 32) ((congrArg (fun M => ((List.range M).map fun w => if Bm1 ≤ j.val + w then f r.val (j.val + w - Bm1) else 0).sum)
      hnum).trans (Routing.sum_window (f r.val) Bm1 j.val (by omega)))

/-- Rows lengthened by a filling value. -/
theorem pad_rows {α : Type} {A N M K : ℕ} (x : (shape2 A N).Idx → α) {u : Shape} (v : u.Idx → α)
    (h : (shape2 A N).Pads (![0, 0] : Fin 2 → ℕ) ![0, K] ![0, 0] (shape2 A M)) (hu : 0 < u.numel) (b : Fin A) (p : Fin M) :
    pad (shape2 A M) (![0, 0] : Fin 2 → ℕ) ![0, K] ![0, 0] x v h hu (ix2 b p) = if hp : p.val < N then x (ix2 b ⟨p.val, hp⟩) else v (Shape.Idx.first hu) := by
  have hb := b.isLt
  unfold pad
  by_cases hp : p.val < N
  · rw [dif_pos hp, dif_pos (by
      intro a
      match a with
      | ⟨0, _⟩ =>
        show 0 ≤ b.val ∧ (b.val - 0) % 1 = 0 ∧ (b.val - 0) / 1 < A
        omega
      | ⟨1, _⟩ =>
        show 0 ≤ p.val ∧ (p.val - 0) % 1 = 0 ∧ (p.val - 0) / 1 < N
        omega)]
    refine congrArg x (funext fun a => Fin.ext ?_)
    match a with
    | ⟨0, _⟩ =>
      show (b.val - 0) / 1 = b.val
      omega
    | ⟨1, _⟩ =>
      show (p.val - 0) / 1 = p.val
      omega
  · rw [dif_neg hp, dif_neg (by
      intro hin
      have h1 := (hin 1).2.2
      change (p.val - 0) / 1 < N at h1
      omega)]

end Cert.Proof
-- ==== Proof.ITrips.lean ====
/-
  How many row tiles the rows of one expert take, by enumeration of the row counts.
-/
module

public import proofs.«01_k».proof.Proof.Gen.KernelIdeal.Loops
public import Idealize.ShloMosaic.Lib.WordArith.Masks
public import Idealize.ShloMosaic.Lib.LoopRemainder

@[expose] public section

set_option maxRecDepth 16384

namespace Cert.Proof.KernelIdeal

open Cert.KernelIdeal
open Idealize.ShloMosaic

/-- The number of row tiles that `n` rows take, by enumeration of the row counts. -/
theorem t1_fin : ∀ n : Fin 9217, (k0_t1_loop (BitVec.ofNat 32 n.val)).ub = BitVec.ofNat 32 ((n.val + 319) / 320) := by
  decide +kernel

end Cert.Proof.KernelIdeal
-- ==== Proof.IWords.lean ====
/-
  The words of the experts' kernel read as numbers: how many row tiles one expert takes, where a tile's rows stand in the order
  table, and which output row each of them goes to.
-/
module

public import proofs.«01_k».proof.Proof.ITrips
public import Idealize.ShloMosaic.Lib.WordArith.Masks
public import Idealize.ShloMosaic.Lib.LoopRemainder

@[expose] public section

set_option maxRecDepth 16384

namespace Cert.Proof.KernelIdeal

open Cert.KernelIdeal
open Idealize.ShloMosaic

/-- What the launch hands one expert of one batch element: `n` rows starting at place `st` of an order table of 9216 entries. -/
structure Sched (n st : BitVec 32) : Prop where
  room : st.toNat + n.toNat ≤ 9216

theorem ofNat_self (n : BitVec 32) : BitVec.ofNat 32 n.toNat = n := by simp

/-- Every trip count of the tile loop: `n` rows in tiles of 320. -/
theorem t1_ub {n st : BitVec 32} (h : Sched n st) : (k0_t1_loop n).ub = BitVec.ofNat 32 ((n.toNat + 319) / 320) := by
  have := t1_fin ⟨n.toNat, by have := h.room; omega⟩
  rwa [ofNat_self] at this

theorem t1_loop_eq {n st : BitVec 32} (h : Sched n st) :
    k0_t1_loop n = ⟨0#32, BitVec.ofNat 32 ((n.toNat + 319) / 320), 1#32⟩ := by
  show (⟨0#32, (k0_t1_loop n).ub, 1#32⟩ : Scf.Loop 32) = _
  rw [t1_ub h]

theorem fin_loops : ∀ k : Fin 30, (⟨0#32, BitVec.ofNat 32 k.val, 1#32⟩ : Scf.Loop 32).OK
    ∧ (⟨0#32, BitVec.ofNat 32 k.val, 1#32⟩ : Scf.Loop 32).trips = k.val := by decide +kernel

theorem t1_ok {n st : BitVec 32} (h : Sched n st) : (k0_t1_loop n).OK := by
  rw [t1_loop_eq h]
  exact (fin_loops ⟨(n.toNat + 319) / 320, by have := h.room; omega⟩).1

/-- The tile loop makes as many trips as `n` rows take tiles. -/
theorem t1_trips {n st : BitVec 32} (h : Sched n st) : (k0_t1_loop n).trips = (n.toNat + 319) / 320 := by
  rw [t1_loop_eq h]
  exact (fin_loops ⟨(n.toNat + 319) / 320, by have := h.room; omega⟩).2

theorem t4_none (n : BitVec 32) (k : Fin (k0_t4_loop n).trips) : False := Scf.rem_no_trip _ _ k

/-- The two loops over the tiles have a meaning. -/
theorem chk1 {n st : BitVec 32} (h : Sched n st) : k0_chk1 n := ⟨t1_ok h, Scf.rem_ok _ _⟩

theorem t2_trips : k0_t2_loop.trips = 320 := by decide +kernel
theorem t3_trips : k0_t3_loop.trips = 40 := by decide +kernel

theorem t1_lt {n st : BitVec 32} (h : Sched n st) (j : Fin (k0_t1_loop n).trips) : j.val * 320 < n.toNat ∧ j.val < 29 := by
  have := j.isLt
  have e := t1_trips h
  have := h.room
  omega

theorem t2_lt (r : Fin k0_t2_loop.trips) : r.val < 320 := lt_of_lt_of_eq r.isLt t2_trips
theorem t3_lt (t : Fin k0_t3_loop.trips) : t.val < 40 := lt_of_lt_of_eq t.isLt t3_trips

theorem iv_nat (k : ℕ) (hk : k < 2 ^ 32) : Scf.iv 0#32 1#32 k = BitVec.ofNat 32 k := by
  apply BitVec.eq_of_toNat_eq
  rw [WordArith.toNat_iv_zero_one k hk, BitVec.toNat_ofNat, Nat.mod_eq_of_lt hk]

/-- The place of a tile's row in the order table. -/
theorem off2_eq {n st : BitVec 32} (h : Sched n st) (j : Fin (k0_t1_loop n).trips) (r : Fin k0_t2_loop.trips) :
    k0_off2 n st j r = ![0, 0, st.toNat + j.val * 320 + r.val] := by
  have hj := t1_lt h j
  have hr := t2_lt r
  have := h.room
  have e : (Scalar.addi (Scalar.addi st (Scalar.muli (Scf.iv 0#32 1#32 j.val) 320#32)) (Scf.iv 0#32 1#32 r.val)).toNat = st.toNat + j.val * 320 + r.val := by
    rw [iv_nat _ (by omega), iv_nat _ (by omega)]
    simp only [Scalar.addi, Scalar.muli, IntOp.addi, IntOp.muli, BitVec.toNat_add, BitVec.toNat_mul, BitVec.toNat_ofNat]
    omega
  exact congrArg (fun q : ℕ => (![0, 0, q] : Fin 3 → ℕ)) e

/-- The same, of the row that the scatter takes as row `q` of its trip. -/
theorem off5_eq {n st : BitVec 32} (h : Sched n st) (j : Fin (k0_t1_loop n).trips) (t : Fin k0_t3_loop.trips) (q : ℕ) (hq : q < 8) :
    k0_off5 n st j t (BitVec.ofNat 32 q) = ![0, 0, st.toNat + j.val * 320 + (t.val * 8 + q)] := by
  have hj := t1_lt h j
  have hr := t3_lt t
  have := h.room
  have e : (Scalar.addi (Scalar.addi st (Scalar.muli (Scf.iv 0#32 1#32 j.val) 320#32)) (Scalar.addi (Scalar.muli (Scf.iv 0#32 1#32 t.val) 8#32) (BitVec.ofNat 32 q))).toNat
      = st.toNat + j.val * 320 + (t.val * 8 + q) := by
    rw [iv_nat _ (by omega), iv_nat _ (by omega)]
    simp only [Scalar.addi, Scalar.muli, IntOp.addi, IntOp.muli, BitVec.toNat_add, BitVec.toNat_mul, BitVec.toNat_ofNat]
    omega
  exact congrArg (fun q : ℕ => (![0, 0, q] : Fin 3 → ℕ)) e

theorem off4_eq (r : Fin k0_t2_loop.trips) : k0_off4 r = ![r.val, 0, 0] := by
  have hr := t2_lt r
  exact congrArg (fun q : ℕ => (![q, 0, 0] : Fin 3 → ℕ)) (WordArith.toNat_iv_zero_one r.val (by omega))

theorem off14_eq (t : Fin k0_t3_loop.trips) (q : ℕ) (hq : q < 8) : k0_off14 t (BitVec.ofNat 32 q) = ![t.val * 8 + q, 0, 0] := by
  have hr := t3_lt t
  have e : (Scalar.addi (Scalar.muli (Scf.iv 0#32 1#32 t.val) 8#32) (BitVec.ofNat 32 q)).toNat = t.val * 8 + q := by
    rw [iv_nat _ (by omega)]
    simp only [Scalar.addi, Scalar.muli, IntOp.addi, IntOp.muli, BitVec.toNat_add, BitVec.toNat_mul, BitVec.toNat_ofNat]
    omega
  exact congrArg (fun q : ℕ => (![q, 0, 0] : Fin 3 → ℕ)) e

/-- A quarter of a word below 9216. -/
theorem quarter (w : BitVec 32) (hw : w.toNat < 9216) : (Scalar.shrsi w 2#32).toNat = w.toNat / 4 := by
  have hm : w.msb = false := by
    rw [BitVec.msb_eq_decide]; simp; omega
  unfold Scalar.shrsi IntOp.shrsi
  rw [if_pos (by decide)]
  show (w.sshiftRight (2#32 : BitVec 32).toNat).toNat = _
  rw [BitVec.toNat_sshiftRight_of_msb_false hm]
  show w.toNat >>> 2 = _
  rw [Nat.shiftRight_eq_div_pow]

theorem off3_eq (w : BitVec 32) (hw : w.toNat < 9216) : k0_off3 w = ![0, w.toNat / 4, 0, 0] :=
  congrArg (fun q : ℕ => (![0, q, 0, 0] : Fin 4 → ℕ)) (quarter w hw)

theorem row4_inb {q m : ℕ} (hq : q < m) (a : Fin 4) : (![0, q, 0, 0] : Fin 4 → ℕ) a + S1x1x8x128.size a ≤ (![1, m, 8, 128] : Fin 4 → ℕ) a := by
  fin_cases a
  · show 0 + 1 ≤ 1; omega
  · show q + 1 ≤ m; omega
  · show 0 + 8 ≤ 8; omega
  · show 0 + 128 ≤ 128; omega

theorem row3_inb {q m : ℕ} (hq : q < m) (a : Fin 3) : (![0, 0, q] : Fin 3 → ℕ) a + S1x1x1.size a ≤ (![1, 1, m] : Fin 3 → ℕ) a := by
  fin_cases a
  · show 0 + 1 ≤ 1; omega
  · show 0 + 1 ≤ 1; omega
  · show q + 1 ≤ m; omega

theorem chk3 (w : BitVec 32) (hw : w.toNat < 9216) : k0_chk3 w := by
  intro a
  rw [off3_eq w hw]
  exact row4_inb (m := 2304) (by omega) a

/-- Every row that the tiles look at lies in the order table. -/
theorem chk2 {n st : BitVec 32} (h : Sched n st) : k0_chk2 n st := by
  have hr := h.room
  refine ⟨fun j r a => ?_, fun j t q a => ?_, fun j => (t4_none _ j).elim, fun j => (t4_none _ j).elim⟩
  · rw [off2_eq h]
    have := t1_lt h j
    have := t2_lt r
    exact row3_inb (m := 9536) (by omega) a
  · rw [off5_eq h j t q.val q.isLt]
    have := t1_lt h j
    have := t3_lt t
    have := q.isLt
    exact row3_inb (m := 9536) (by omega) a

/-- The output row of the row at place `p` after the expert's first, whose order word is `w`: the word's token, or the spare row 2304 behind the expert's last row. -/
def dst (n p w : ℕ) : ℕ := if p < n then w / 4 else 2304

theorem dst_lt (n p w : ℕ) (hw : w < 9216) : dst n p w < 2312 := by
  unfold dst; split <;> omega

/-- The comparison of a row's place in its tile with the number of rows left. -/
theorem left_eq {n st : BitVec 32} (h : Sched n st) (j : Fin (k0_t1_loop n).trips) (t : Fin k0_t3_loop.trips) (q : ℕ) (hq : q < 8) :
    Scalar.cmpi .slt (Scalar.addi (Scalar.muli (Scf.iv 0#32 1#32 t.val) 8#32) (BitVec.ofNat 32 q)) (Scalar.subi n (Scalar.muli (Scf.iv 0#32 1#32 j.val) 320#32))
      = BitVec.ofBool (decide (j.val * 320 + (t.val * 8 + q) < n.toNat)) := by
  have hj := t1_lt h j
  have ht := t3_lt t
  have hr := h.room
  have ea : (Scalar.addi (Scalar.muli (Scf.iv 0#32 1#32 t.val) 8#32) (BitVec.ofNat 32 q)).toNat = t.val * 8 + q := by
    rw [iv_nat _ (by omega)]
    simp only [Scalar.addi, Scalar.muli, IntOp.addi, IntOp.muli, BitVec.toNat_add, BitVec.toNat_mul, BitVec.toNat_ofNat]
    omega
  have em : (Scalar.subi n (Scalar.muli (Scf.iv 0#32 1#32 j.val) 320#32)).toNat = n.toNat - j.val * 320 := by
    rw [iv_nat _ (by omega)]
    simp only [Scalar.subi, Scalar.muli, IntOp.subi, IntOp.muli, BitVec.toNat_sub, BitVec.toNat_mul, BitVec.toNat_ofNat]
    omega
  generalize Scalar.addi (Scalar.muli (Scf.iv 0#32 1#32 t.val) 8#32) (BitVec.ofNat 32 q) = x at ea ⊢
  generalize Scalar.subi n (Scalar.muli (Scf.iv 0#32 1#32 j.val) 320#32) = y at em ⊢
  show BitVec.ofBool (x.slt y) = _
  congr 1
  rw [BitVec.slt_eq_decide]
  have hx : x.toInt = (x.toNat : ℤ) := BitVec.toInt_eq_toNat_of_lt (by omega)
  have hy : y.toInt = (y.toNat : ℤ) := BitVec.toInt_eq_toNat_of_lt (by omega)
  rw [hx, hy, ea, em]
  apply decide_eq_decide.mpr
  omega

theorem dst_word {n st : BitVec 32} (h : Sched n st) (j : Fin (k0_t1_loop n).trips) (t : Fin k0_t3_loop.trips) (q : ℕ) (hq : q < 8)
    (w : BitVec 32) (hw : w.toNat < 9216) :
    (![0, (Scalar.select (Scalar.cmpi .slt (Scalar.addi (Scalar.muli (Scf.iv 0#32 1#32 t.val) 8#32) (BitVec.ofNat 32 q)) (Scalar.subi n (Scalar.muli (Scf.iv 0#32 1#32 j.val) 320#32)))
      (Scalar.shrsi w 2#32) 2304#32 : BitVec 32).toNat, 0, 0] : Fin 4 → ℕ) = ![0, dst n.toNat (j.val * 320 + (t.val * 8 + q)) w.toNat, 0, 0] := by
  refine congrArg (fun q : ℕ => (![0, q, 0, 0] : Fin 4 → ℕ)) ?_
  rw [left_eq h j t q hq, dst]
  by_cases hc : j.val * 320 + (t.val * 8 + q) < n.toNat
  · rw [if_pos hc, decide_eq_true hc]
    exact quarter w hw
  · rw [if_neg hc, decide_eq_false hc]
    rfl

theorem off6_eq {n st : BitVec 32} (h : Sched n st) (j : Fin (k0_t1_loop n).trips) (t : Fin k0_t3_loop.trips) (w : BitVec 32) (hw : w.toNat < 9216) :
    k0_off6 n j t w = ![0, dst n.toNat (j.val * 320 + (t.val * 8 + 0)) w.toNat, 0, 0] := dst_word h j t 0 (by omega) w hw

theorem off15_eq {n st : BitVec 32} (h : Sched n st) (j : Fin (k0_t1_loop n).trips) (t : Fin k0_t3_loop.trips) (w : BitVec 32) (hw : w.toNat < 9216) :
    k0_off15 n j t w = ![0, dst n.toNat (j.val * 320 + (t.val * 8 + 0)) w.toNat, 0, 0] := dst_word h j t 0 (by omega) w hw

theorem chk4 {n st : BitVec 32} (h : Sched n st) (j : Fin (k0_t1_loop n).trips) (t : Fin k0_t3_loop.trips) (w : BitVec 32) (hw : w.toNat < 9216) :
    k0_chk4 n j t w :=
  ⟨(fun a => by rw [off6_eq h j t w hw]; exact row4_inb (m := 2312) (dst_lt _ _ _ hw) a),
    (fun a => by rw [off15_eq h j t w hw]; exact row4_inb (m := 2312) (dst_lt _ _ _ hw) a)⟩

theorem off7_eq {n st : BitVec 32} (h : Sched n st) (j : Fin (k0_t1_loop n).trips) (t : Fin k0_t3_loop.trips) (w : BitVec 32) (hw : w.toNat < 9216) :
    k0_off7 n j t w = ![0, dst n.toNat (j.val * 320 + (t.val * 8 + 1)) w.toNat, 0, 0] := dst_word h j t 1 (by omega) w hw

theorem off16_eq {n st : BitVec 32} (h : Sched n st) (j : Fin (k0_t1_loop n).trips) (t : Fin k0_t3_loop.trips) (w : BitVec 32) (hw : w.toNat < 9216) :
    k0_off16 n j t w = ![0, dst n.toNat (j.val * 320 + (t.val * 8 + 1)) w.toNat, 0, 0] := dst_word h j t 1 (by omega) w hw

theorem chk5 {n st : BitVec 32} (h : Sched n st) (j : Fin (k0_t1_loop n).trips) (t : Fin k0_t3_loop.trips) (w : BitVec 32) (hw : w.toNat < 9216) :
    k0_chk5 n j t w :=
  ⟨(fun a => by rw [off7_eq h j t w hw]; exact row4_inb (m := 2312) (dst_lt _ _ _ hw) a),
    (fun a => by rw [off16_eq h j t w hw]; exact row4_inb (m := 2312) (dst_lt _ _ _ hw) a)⟩

theorem off8_eq {n st : BitVec 32} (h : Sched n st) (j : Fin (k0_t1_loop n).trips) (t : Fin k0_t3_loop.trips) (w : BitVec 32) (hw : w.toNat < 9216) :
    k0_off8 n j t w = ![0, dst n.toNat (j.val * 320 + (t.val * 8 + 2)) w.toNat, 0, 0] := dst_word h j t 2 (by omega) w hw

theorem off17_eq {n st : BitVec 32} (h : Sched n st) (j : Fin (k0_t1_loop n).trips) (t : Fin k0_t3_loop.trips) (w : BitVec 32) (hw : w.toNat < 9216) :
    k0_off17 n j t w = ![0, dst n.toNat (j.val * 320 + (t.val * 8 + 2)) w.toNat, 0, 0] := dst_word h j t 2 (by omega) w hw

theorem chk6 {n st : BitVec 32} (h : Sched n st) (j : Fin (k0_t1_loop n).trips) (t : Fin k0_t3_loop.trips) (w : BitVec 32) (hw : w.toNat < 9216) :
    k0_chk6 n j t w :=
  ⟨(fun a => by rw [off8_eq h j t w hw]; exact row4_inb (m := 2312) (dst_lt _ _ _ hw) a),
    (fun a => by rw [off17_eq h j t w hw]; exact row4_inb (m := 2312) (dst_lt _ _ _ hw) a)⟩

theorem off9_eq {n st : BitVec 32} (h : Sched n st) (j : Fin (k0_t1_loop n).trips) (t : Fin k0_t3_loop.trips) (w : BitVec 32) (hw : w.toNat < 9216) :
    k0_off9 n j t w = ![0, dst n.toNat (j.val * 320 + (t.val * 8 + 3)) w.toNat, 0, 0] := dst_word h j t 3 (by omega) w hw

theorem off18_eq {n st : BitVec 32} (h : Sched n st) (j : Fin (k0_t1_loop n).trips) (t : Fin k0_t3_loop.trips) (w : BitVec 32) (hw : w.toNat < 9216) :
    k0_off18 n j t w = ![0, dst n.toNat (j.val * 320 + (t.val * 8 + 3)) w.toNat, 0, 0] := dst_word h j t 3 (by omega) w hw

theorem chk7 {n st : BitVec 32} (h : Sched n st) (j : Fin (k0_t1_loop n).trips) (t : Fin k0_t3_loop.trips) (w : BitVec 32) (hw : w.toNat < 9216) :
    k0_chk7 n j t w :=
  ⟨(fun a => by rw [off9_eq h j t w hw]; exact row4_inb (m := 2312) (dst_lt _ _ _ hw) a),
    (fun a => by rw [off18_eq h j t w hw]; exact row4_inb (m := 2312) (dst_lt _ _ _ hw) a)⟩

theorem off10_eq {n st : BitVec 32} (h : Sched n st) (j : Fin (k0_t1_loop n).trips) (t : Fin k0_t3_loop.trips) (w : BitVec 32) (hw : w.toNat < 9216) :
    k0_off10 n j t w = ![0, dst n.toNat (j.val * 320 + (t.val * 8 + 4)) w.toNat, 0, 0] := dst_word h j t 4 (by omega) w hw

theorem off19_eq {n st : BitVec 32} (h : Sched n st) (j : Fin (k0_t1_loop n).trips) (t : Fin k0_t3_loop.trips) (w : BitVec 32) (hw : w.toNat < 9216) :
    k0_off19 n j t w = ![0, dst n.toNat (j.val * 320 + (t.val * 8 + 4)) w.toNat, 0, 0] := dst_word h j t 4 (by omega) w hw

theorem chk8 {n st : BitVec 32} (h : Sched n st) (j : Fin (k0_t1_loop n).trips) (t : Fin k0_t3_loop.trips) (w : BitVec 32) (hw : w.toNat < 9216) :
    k0_chk8 n j t w :=
  ⟨(fun a => by rw [off10_eq h j t w hw]; exact row4_inb (m := 2312) (dst_lt _ _ _ hw) a),
    (fun a => by rw [off19_eq h j t w hw]; exact row4_inb (m := 2312) (dst_lt _ _ _ hw) a)⟩

theorem off11_eq {n st : BitVec 32} (h : Sched n st) (j : Fin (k0_t1_loop n).trips) (t : Fin k0_t3_loop.trips) (w : BitVec 32) (hw : w.toNat < 9216) :
    k0_off11 n j t w = ![0, dst n.toNat (j.val * 320 + (t.val * 8 + 5)) w.toNat, 0, 0] := dst_word h j t 5 (by omega) w hw

theorem off20_eq {n st : BitVec 32} (h : Sched n st) (j : Fin (k0_t1_loop n).trips) (t : Fin k0_t3_loop.trips) (w : BitVec 32) (hw : w.toNat < 9216) :
    k0_off20 n j t w = ![0, dst n.toNat (j.val * 320 + (t.val * 8 + 5)) w.toNat, 0, 0] := dst_word h j t 5 (by omega) w hw

theorem chk9 {n st : BitVec 32} (h : Sched n st) (j : Fin (k0_t1_loop n).trips) (t : Fin k0_t3_loop.trips) (w : BitVec 32) (hw : w.toNat < 9216) :
    k0_chk9 n j t w :=
  ⟨(fun a => by rw [off11_eq h j t w hw]; exact row4_inb (m := 2312) (dst_lt _ _ _ hw) a),
    (fun a => by rw [off20_eq h j t w hw]; exact row4_inb (m := 2312) (dst_lt _ _ _ hw) a)⟩

theorem off12_eq {n st : BitVec 32} (h : Sched n st) (j : Fin (k0_t1_loop n).trips) (t : Fin k0_t3_loop.trips) (w : BitVec 32) (hw : w.toNat < 9216) :
    k0_off12 n j t w = ![0, dst n.toNat (j.val * 320 + (t.val * 8 + 6)) w.toNat, 0, 0] := dst_word h j t 6 (by omega) w hw

theorem off21_eq {n st : BitVec 32} (h : Sched n st) (j : Fin (k0_t1_loop n).trips) (t : Fin k0_t3_loop.trips) (w : BitVec 32) (hw : w.toNat < 9216) :
    k0_off21 n j t w = ![0, dst n.toNat (j.val * 320 + (t.val * 8 + 6)) w.toNat, 0, 0] := dst_word h j t 6 (by omega) w hw

theorem chk10 {n st : BitVec 32} (h : Sched n st) (j : Fin (k0_t1_loop n).trips) (t : Fin k0_t3_loop.trips) (w : BitVec 32) (hw : w.toNat < 9216) :
    k0_chk10 n j t w :=
  ⟨(fun a => by rw [off12_eq h j t w hw]; exact row4_inb (m := 2312) (dst_lt _ _ _ hw) a),
    (fun a => by rw [off21_eq h j t w hw]; exact row4_inb (m := 2312) (dst_lt _ _ _ hw) a)⟩

theorem off13_eq {n st : BitVec 32} (h : Sched n st) (j : Fin (k0_t1_loop n).trips) (t : Fin k0_t3_loop.trips) (w : BitVec 32) (hw : w.toNat < 9216) :
    k0_off13 n j t w = ![0, dst n.toNat (j.val * 320 + (t.val * 8 + 7)) w.toNat, 0, 0] := dst_word h j t 7 (by omega) w hw

theorem chk11 {n st : BitVec 32} (h : Sched n st) (j : Fin (k0_t1_loop n).trips) (t : Fin k0_t3_loop.trips) (w : BitVec 32) (hw : w.toNat < 9216) :
    k0_chk11 n j t w :=
  (fun a => by rw [off13_eq h j t w hw]; exact row4_inb (m := 2312) (dst_lt _ _ _ hw) a)

end Cert.Proof.KernelIdeal
-- ==== Proof.ITile.lean ====
/-
  One row tile of the experts' kernel: the functions that its two row loops compute. The gather copies into row `r` of a scratch
  block the input row that the order table names; the scatter adds the weighted rows of the second scratch block to the output rows.
-/
module

public import proofs.«01_k».proof.Proof.IWords
public import Idealize.ShloMosaic.Lib.Tactic
public import Idealize.ShloMosaic.Lib.Pipeline.Kit
public import Idealize.ShloMosaic.Lib.VecWindow
public import Idealize.ShloMosaic.Lib.LaneScatter.Loop
public import Idealize.ShloMosaic.Lib.ValueIdxCoords
public import Idealize.ShloMosaic.Lib.ValueLayout

@[expose] public section

set_option maxRecDepth 16384

noncomputable section

namespace Cert.Proof.KernelIdeal

open Cert.KernelIdeal
open Idealize.ShloMosaic Idealize.ShloMosaic.TcCoe Idealize.ShloMosaic.Tactic
open Idealize.ShloMosaic.ValueIdx (ix3 ix4)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the separation logic: no counters beside the memory. -/
local notation "𝕄" => MT nD τ sig Unit (Elt F) ℕ (UR sig nD τ) ℕ

/-- Entry `p` of a table of 9536 entries. -/
def tab {α : Type} (X : S1x1x9536.Idx → α) (p : ℕ) : α := X (ix3 0 0 ⟨p % 9536, Nat.mod_lt _ (by decide)⟩)

/-- The rows that the table names from place `q` on: row `y 0` is the input row of the token that entry `q + y 0` belongs to. -/
def gat (H : Vec F S1x2304x8x128 .f32) (O : S1x1x9536.Idx → BitVec 32) (q : ℕ) : Vec F S320x8x128 .f32 :=
  fun y => H (ix4 0 ⟨(tab O (q + (y 0).val)).toNat / 4 % 2304, Nat.mod_lt _ (by decide)⟩ (y 1) (y 2))

/-- Row `p` of a block of 2304 rows, as the kernel loads it. -/
def rowH (H : Vec F S1x2304x8x128 .f32) (p : ℕ) : Vec F S1x1x8x128 .f32 :=
  fun y => H (ix4 0 ⟨p % 2304, Nat.mod_lt _ (by decide)⟩ (y 2) (y 3))

/-- Row `p` of the block of 2312 output rows, as the kernel loads it. -/
def rowP (P : Vec F S1x2312x8x128 .f32) (p : ℕ) : Vec F S1x1x8x128 .f32 :=
  fun y => P (ix4 0 ⟨p % 2312, Nat.mod_lt _ (by decide)⟩ (y 2) (y 3))

/-- Row `p` of a scratch block, as the kernel loads it. -/
def rowY (Y : Vec F S320x8x128 .f32) (p : ℕ) : Vec F S1x8x128 .f32 :=
  fun y => Y (ix3 ⟨p % 320, Nat.mod_lt _ (by decide)⟩ (y 1) (y 2))

/-- The output rows with row `p` replaced. -/
def putRow (P : Vec F S1x2312x8x128 .f32) (p : ℕ) (R : Vec F S1x1x8x128 .f32) : Vec F S1x2312x8x128 .f32 :=
  fun x => if (x 1).val = p then R (ix4 0 0 (x 2) (x 3)) else P x

/-- The output row that row `s` of a tile is added to, for the `n` rows from place `q` of the order table on, the tile starting at row `b` of them. -/
def dstAt (n q b : ℕ) (O : S1x1x9536.Idx → BitVec 32) (s : ℕ) : ℕ := dst n (b + s) (tab O (q + s)).toNat

/-- The weight that row `s` of a tile is added with: the table's, or none behind the last row. -/
def wtAt (n q b : ℕ) (T : S1x1x9536.Idx → F .f32) (s : ℕ) : F .f32 := if b + s < n then tab T (q + s) else Scalar.ofBits .f32 0x00000000#32

/-- The output row with row `s` of the second scratch block, times a weight, added. -/
def newRow (P : Vec F S1x2312x8x128 .f32) (Y : Vec F S320x8x128 .f32) (n q b : ℕ) (O : S1x1x9536.Idx → BitVec 32) (T : S1x1x9536.Idx → F .f32) (s : ℕ) :
    Vec F S1x1x8x128 .f32 :=
  Gen.k0_pay17 (wtAt n q b T s) (Gen.k0_pay9 (rowP P (dstAt n q b O s))) (rowY Y s)

/-- Eight rows of a tile added to the output rows: all eight output rows are read before the first is written. -/
def scat8 (n q b : ℕ) (O : S1x1x9536.Idx → BitVec 32) (T : S1x1x9536.Idx → F .f32) (Y : Vec F S320x8x128 .f32) (t : ℕ) (P : Vec F S1x2312x8x128 .f32) :
    Vec F S1x2312x8x128 .f32 :=
  let p : ℕ → ℕ := fun r => dstAt n q b O (t * 8 + r)
  let R : ℕ → Vec F S1x1x8x128 .f32 := fun r => newRow P Y n q b O T (t * 8 + r)
  putRow (putRow (putRow (putRow (putRow (putRow (putRow (putRow P (p 0) (R 0)) (p 1) (R 1)) (p 2) (R 2)) (p 3) (R 3)) (p 4) (R 4)) (p 5) (R 5)) (p 6) (R 6)) (p 7) (R 7)

/-- A memref held whole at given contents. -/
abbrev held (c : Dev nD) {sp : Space} {s : Shape} {e : EltTy} (M : Memref sig .tc sp s e) (f : M.view.ty.Contents (Elt F)) : sProp 𝕄 :=
  M.view.loc (c : Thread nD τ) ↦[M.view.set]{fullShare} f

section
variable (c : Dev nD) (i : grid0.Coords) (arg2 : Memref sig .tc .smem S512 .i32) (harg2 : arg2.IsWhole) (arg3 : Memref sig .tc .smem S512 .i32) (harg3 : arg3.IsWhole) (arg4 : Memref sig .tc .smem S1x1x9536 .i32) (harg4 : arg4.IsWhole) (arg5 : Memref sig .tc .smem S1x1x9536 .f32) (harg5 : arg5.IsWhole) (arg6 : Memref sig .tc .vmem S1x2304x8x128 .f32) (harg6 : arg6.IsWhole) (arg7 : Memref sig .tc .vmem S1x1x1024x1024 .bf16) (harg7 : arg7.IsWhole) (arg8 : Memref sig .tc .vmem S1x1x1x1024 .f32) (harg8 : arg8.IsWhole) (arg9 : Memref sig .tc .vmem S1x1x1024x1024 .bf16) (harg9 : arg9.IsWhole) (arg10 : Memref sig .tc .vmem S1x1x1x1024 .f32) (harg10 : arg10.IsWhole) (arg11 : Memref sig .tc .vmem S1x1x1024x1024 .bf16) (harg11 : arg11.IsWhole) (arg12 : Memref sig .tc .vmem S1x1x1x1024 .f32) (harg12 : arg12.IsWhole) (arg13 : Memref sig .tc .vmem S1x2312x8x128 .f32) (harg13 : arg13.IsWhole) (arg14 : Memref sig .tc .vmem S320x8x128 .f32) (harg14 : arg14.IsWhole) (arg15 : Memref sig .tc .vmem S320x8x128 .f32) (harg15 : arg15.IsWhole)
  (H : Vec F S1x2304x8x128 .f32) (O : S1x1x9536.Idx → BitVec 32)

/-- A word loaded from a table of words below 9216 is below 9216. -/
theorem load_lt (M : Memref sig .tc .smem S1x1x9536 .i32) (hM : M.IsWhole) (X : S1x1x9536.Idx → BitVec 32) (hX : ∀ y, (X y).toNat < 9216)
    (off : Fin 3 → ℕ) (inb : ∀ a, off a + S1x1x1.size a ≤ S1x1x9536.size a) (z) :
    (View.readAt (Elt F) M.view (Rect.unit (s := S1x1x9536) off S1x1x1.size inb).toLoadRect (hM.unread X) z : BitVec 32).toNat < 9216 := by
  rw [View.readAt_unit M.view _ inb rfl inb, hM.read_unread]
  exact hX _

/-- An entry loaded from a table at place `p`. -/
theorem load_tab {e : EltTy} (M : Memref sig .tc .smem S1x1x9536 e) (hM : M.IsWhole) (X : S1x1x9536.Idx → Elt F e)
    {off : Fin 3 → ℕ} (inb : ∀ a, off a + S1x1x1.size a ≤ S1x1x9536.size a) {p : ℕ} (ho : off = ![0, 0, p]) (hp : p < 9536) (z) :
    View.readAt (Elt F) M.view (Rect.unit (s := S1x1x9536) off S1x1x1.size inb).toLoadRect (hM.unread X) z = tab X p := by
  subst ho
  rw [View.readAt_unit M.view _ inb rfl inb, hM.read_unread]
  refine congrArg X (funext fun a => Fin.ext ?_)
  fin_cases a
  · show 0 + 1 * (z 0).val = 0
    have : (z 0).val < 1 := (z 0).isLt
    omega
  · show 0 + 1 * (z 1).val = 0
    have : (z 1).val < 1 := (z 1).isLt
    omega
  · show p + 1 * (z 2).val = p % 9536
    have : (z 2).val < 1 := (z 2).isLt
    rw [Nat.mod_eq_of_lt hp]
    omega

/-- A loaded input row. -/
theorem load_rowH (M : Memref sig .tc .vmem S1x2304x8x128 .f32) (hM : M.IsWhole) (H : Vec F S1x2304x8x128 .f32)
    {off : Fin 4 → ℕ} (inb : ∀ a, off a + S1x1x8x128.size a ≤ S1x2304x8x128.size a) {p : ℕ} (ho : off = ![0, p, 0, 0]) :
    View.readAt (Elt F) M.view (Rect.unit (s := S1x2304x8x128) off S1x1x8x128.size inb).toLoadRect (hM.unread H) = rowH H p := by
  subst ho
  have hp : p + 1 ≤ 2304 := inb 1
  rw [View.readAt_unit M.view _ inb rfl inb, hM.read_unread]
  funext z
  refine congrArg H (funext fun a => Fin.ext ?_)
  fin_cases a
  · show 0 + 1 * (z 0).val = 0
    have : (z 0).val < 1 := (z 0).isLt
    omega
  · show p + 1 * (z 1).val = p % 2304
    have : (z 1).val < 1 := (z 1).isLt
    rw [Nat.mod_eq_of_lt (by omega)]
    omega
  · show 0 + 1 * (z 2).val = (z 2).val
    omega
  · show 0 + 1 * (z 3).val = (z 3).val
    omega

/-- A loaded output row. -/
theorem load_rowP (M : Memref sig .tc .vmem S1x2312x8x128 .f32) (f : M.view.ty.Contents (Elt F))
    {off : Fin 4 → ℕ} (inb : ∀ a, off a + S1x1x8x128.size a ≤ S1x2312x8x128.size a) {p : ℕ} (ho : off = ![0, p, 0, 0]) :
    View.readAt (Elt F) M.view (Rect.unit (s := S1x2312x8x128) off S1x1x8x128.size inb).toLoadRect f = rowP (M.view.read (Elt F) f) p := by
  subst ho
  have hp : p + 1 ≤ 2312 := inb 1
  rw [View.readAt_unit M.view _ inb rfl inb]
  funext z
  refine congrArg (M.view.read (Elt F) f) (funext fun a => Fin.ext ?_)
  fin_cases a
  · show 0 + 1 * (z 0).val = 0
    have : (z 0).val < 1 := (z 0).isLt
    omega
  · show p + 1 * (z 1).val = p % 2312
    have : (z 1).val < 1 := (z 1).isLt
    rw [Nat.mod_eq_of_lt (by omega)]
    omega
  · show 0 + 1 * (z 2).val = (z 2).val
    omega
  · show 0 + 1 * (z 3).val = (z 3).val
    omega

/-- A loaded row of a scratch block. -/
theorem load_rowY (M : Memref sig .tc .vmem S320x8x128 .f32) (f : M.view.ty.Contents (Elt F))
    {off : Fin 3 → ℕ} (inb : ∀ a, off a + S1x8x128.size a ≤ S320x8x128.size a) {p : ℕ} (ho : off = ![p, 0, 0]) :
    View.readAt (Elt F) M.view (Rect.unit (s := S320x8x128) off S1x8x128.size inb).toLoadRect f = rowY (M.view.read (Elt F) f) p := by
  subst ho
  have hp : p + 1 ≤ 320 := inb 0
  rw [View.readAt_unit M.view _ inb rfl inb]
  funext z
  refine congrArg (M.view.read (Elt F) f) (funext fun a => Fin.ext ?_)
  fin_cases a
  · show p + 1 * (z 0).val = p % 320
    have : (z 0).val < 1 := (z 0).isLt
    rw [Nat.mod_eq_of_lt (by omega)]
    omega
  · show 0 + 1 * (z 1).val = (z 1).val
    omega
  · show 0 + 1 * (z 2).val = (z 2).val
    omega

/-- A stored output row. -/
theorem store_row (M : Memref sig .tc .vmem S1x2312x8x128 .f32) (f : M.view.ty.Contents (Elt F)) (L : List (View.Piece (Elt F) S1x2312x8x128 .f32))
    {off : Fin 4 → ℕ} (inb : ∀ a, off a + S1x1x8x128.size a ≤ S1x2312x8x128.size a) {p : ℕ} (ho : off = ![0, p, 0, 0]) (R : Vec F S1x1x8x128 .f32) :
    M.view.read (Elt F) (M.view.writes (Elt F) f (⟨Rect.unit (s := S1x2312x8x128) off S1x1x8x128.size inb, R⟩ :: L)) = putRow (M.view.read (Elt F) (M.view.writes (Elt F) f L)) p R := by
  funext y
  rw [View.read_writes_cons_unit M.view f _ _ L y ho]
  unfold putRow
  have h0 : (y 0).val < 1 := (y 0).isLt
  by_cases hy : (y 1).val = p
  · rw [if_pos hy, dif_pos (by
      intro a
      have := (y a).isLt
      fin_cases a
      · exact ⟨Nat.zero_le _, by simpa using this⟩
      · show p ≤ (y 1).val ∧ (y 1).val < p + 1; omega
      · exact ⟨Nat.zero_le _, by simpa using this⟩
      · exact ⟨Nat.zero_le _, by simpa using this⟩)]
    refine congrArg R (funext fun a => Fin.ext ?_)
    fin_cases a
    · show (y 0).val - 0 = 0; omega
    · show (y 1).val - p = 0; omega
    · rfl
    · rfl
  · rw [if_neg hy, dif_neg (by
      intro hh
      have : p ≤ (y 1).val ∧ (y 1).val < p + 1 := hh 1
      omega)]

/-- A `[1, 1, a, b]` array cast to `[a, b]`, at one place. -/
theorem cast_11ab {α : Type} {a b : ℕ} (x : (⟨4, ![1, 1, a, b]⟩ : Shape).Idx → α) (h : (⟨4, ![1, 1, a, b]⟩ : Shape).ShapeCasts ⟨2, ![a, b]⟩)
    (i : Fin a) (j : Fin b) : shapeCast ⟨2, ![a, b]⟩ x h (ValueIdx.ix2 i j) = x (ix4 0 0 i j) :=
  shapeCast_apply x h _ _ (by
    rw [Shape.rowMajor_val_four, Shape.rowMajor_val_two]
    show ((0 * 1 + 0) * a + i.val) * b + j.val = i.val * b + j.val
    simp)

/-- An `[a, b]` array cast to `[1, 1, a, b]`, at one place. -/
theorem cast_ab11 {α : Type} {a b : ℕ} (x : (⟨2, ![a, b]⟩ : Shape).Idx → α) (h : (⟨2, ![a, b]⟩ : Shape).ShapeCasts ⟨4, ![1, 1, a, b]⟩)
    (i : Fin a) (j : Fin b) : shapeCast ⟨4, ![1, 1, a, b]⟩ x h (ix4 0 0 i j) = x (ValueIdx.ix2 i j) :=
  shapeCast_apply x h _ _ (by
    rw [Shape.rowMajor_val_four, Shape.rowMajor_val_two]
    show i.val * b + j.val = ((0 * 1 + 0) * a + i.val) * b + j.val
    simp)

theorem idx3_eq (z : S1x8x128.Idx) : z = ix3 (0 : Fin 1) (z 1 : Fin 8) (z 2 : Fin 128) := by
  have h0 : (z 0).val < 1 := (z 0).isLt
  funext a
  fin_cases a
  · exact Fin.ext (show (z 0).val = 0 by omega)
  · rfl
  · rfl

/-- The gathered row is the loaded row, laid out over one axis less. -/
theorem pay23_apply (v : Vec F S1x1x8x128 .f32) (z : S1x8x128.Idx) : Gen.k0_pay23 v z = v (ix4 0 0 (z 1) (z 2)) := by
  rw [idx3_eq z]
  unfold Gen.k0_pay23
  exact (ValueIdx.shapeCast_ab_1ab_apply _ _ (0 : Fin 1) (z 1 : Fin 8) (z 2 : Fin 128)).trans (cast_11ab v _ (z 1 : Fin 8) (z 2 : Fin 128))

set_option maxHeartbeats 4000000 in
/-- One trip of the gather loop. -/
theorem gather_trip {n st : BitVec 32} (h : Sched n st) (hO : ∀ y, (O y).toNat < 9216) (hw : k0_chk2 n st) (j : Fin (k0_t1_loop n).trips)
    (r : Fin k0_t2_loop.trips) (f : arg14.view.ty.Contents (Elt F)) :
    (iprop(held c arg4 (harg4.unread O) ∗ held c arg6 (harg6.unread H) ∗ held c arg14 f) : sProp 𝕄) ⊢
      wp frame (wpE defs₀ Variants.none (c : Thread nD τ) none) Set.univ
        (Gen.k0_t2_body i arg2 harg2 arg3 harg3 arg4 harg4 arg5 harg5 arg6 harg6 arg7 harg7 arg8 harg8 arg9 harg9 arg10 harg10 arg11 harg11 arg12 harg12 arg13 harg13 arg14 harg14 arg15 harg15 n st hw 0#32 1#32 j r ())
        (fun _ => iprop(held c arg4 (harg4.unread O) ∗ held c arg6 (harg6.unread H) ∗ ∃ f', held c arg14 f' ∗
          ⌜∀ y, arg14.view.read (Elt F) f' y = if (y 0).val = r.val then gat H O (st.toNat + j.val * 320) y else arg14.view.read (Elt F) f y⌝)) := by
  unfold Gen.k0_t2_body
  iintro ⟨H4, H6, H14⟩
  sl_exec (disch := (refine chk3 _ ?_; delta gather_trip.sl.r; exact load_lt arg4 harg4 O hO _ _ _))
  sl_step
  isplitl [H4]
  · iexact H4
  isplitl [H6]
  · iexact H6
  iexists _
  isplitl [H14]
  · iexact H14
  ipureintro
  intro y
  rw [View.read_writes_cons_unit arg14.view f _ _ [] y (off4_eq r), View.writes_nil]
  have hr := t2_lt r
  have hq := h.room
  have hj := t1_lt h j
  by_cases hy : (y 0).val = r.val
  · rw [if_pos hy, dif_pos (by
      intro a
      have := (y a).isLt
      fin_cases a
      · show r.val ≤ (y 0).val ∧ (y 0).val < r.val + 1; omega
      · exact ⟨Nat.zero_le _, by simpa using this⟩
      · exact ⟨Nat.zero_le _, by simpa using this⟩)]
    rw [pay23_apply]
    delta gather_trip.sl.v137 gather_trip.sl.r
    rw [load_rowH arg6 harg6 H _ (p := (tab O (st.toNat + j.val * 320 + r.val)).toNat / 4) (by
      rw [off3_eq _ (load_lt arg4 harg4 O hO _ _ _), load_tab (F := F) (e := .i32) arg4 harg4 O _ (off2_eq h j r) (by omega)])]
    refine congrArg H (funext fun a => Fin.ext ?_)
    fin_cases a
    · rfl
    · show _ % 2304 = _ % 2304
      rw [← hy]
    · rfl
    · rfl
  · rw [if_neg hy, dif_neg (by
      intro hh
      have := hh 0
      have : r.val ≤ (y 0).val ∧ (y 0).val < r.val + 1 := this
      omega)]

theorem putRow_congr {P P' : Vec F S1x2312x8x128 .f32} {p p' : ℕ} {R R' : Vec F S1x1x8x128 .f32} (h1 : P = P') (h2 : p = p') (h3 : R = R') :
    putRow P p R = putRow P' p' R' := by rw [h1, h2, h3]

/-- The new output row from its three parts. -/
theorem newRow_of {P : Vec F S1x2312x8x128 .f32} {Y : Vec F S320x8x128 .f32} {n q b : ℕ} {O : S1x1x9536.Idx → BitVec 32} {T : S1x1x9536.Idx → F .f32} {s : ℕ}
    {w : F .f32} {a : Vec F S1x1x8x128 .f32} {y : Vec F S1x8x128 .f32}
    (hw : w = wtAt n q b T s) (ha : a = rowP P (dstAt n q b O s)) (hy : y = rowY Y s) :
    Gen.k0_pay17 w (Gen.k0_pay9 a) y = newRow P Y n q b O T s := by
  rw [hw, ha, hy]; rfl

/-- The weight that the kernel selects for row `q` of a trip. -/
theorem wt_word {n st : BitVec 32} (h : Sched n st) (j : Fin (k0_t1_loop n).trips) (t : Fin k0_t3_loop.trips) (q : ℕ) (hq : q < 8) (x : F .f32) :
    (Scalar.select (Scalar.cmpi .slt (Scalar.addi (Scalar.muli (Scf.iv 0#32 1#32 t.val) 8#32) (BitVec.ofNat 32 q)) (Scalar.subi n (Scalar.muli (Scf.iv 0#32 1#32 j.val) 320#32)))
      x (Scalar.ofBits .f32 0x00000000#32) : F .f32) = if j.val * 320 + (t.val * 8 + q) < n.toNat then x else Scalar.ofBits .f32 0x00000000#32 := by
  rw [left_eq h j t q hq]
  by_cases hc : j.val * 320 + (t.val * 8 + q) < n.toNat
  · rw [if_pos hc, decide_eq_true hc]
    rfl
  · rw [if_neg hc, decide_eq_false hc]
    rfl

set_option maxHeartbeats 40000000 in
/-- One trip of the scatter loop. -/
theorem scatter_trip (T : S1x1x9536.Idx → F .f32) (Y : Vec F S320x8x128 .f32) {n st : BitVec 32} (h : Sched n st) (hO : ∀ y, (O y).toNat < 9216) (hw : k0_chk2 n st)
    (j : Fin (k0_t1_loop n).trips) (t : Fin k0_t3_loop.trips) (g : arg15.view.ty.Contents (Elt F)) (hg : arg15.view.read (Elt F) g = Y) (f : arg13.view.ty.Contents (Elt F)) :
    (iprop(held c arg4 (harg4.unread O) ∗ held c arg5 (harg5.unread T) ∗ held c arg15 g ∗ held c arg13 f) : sProp 𝕄) ⊢
      wp frame (wpE defs₀ Variants.none (c : Thread nD τ) none) Set.univ
        (Gen.k0_t3_body i arg2 harg2 arg3 harg3 arg4 harg4 arg5 harg5 arg6 harg6 arg7 harg7 arg8 harg8 arg9 harg9 arg10 harg10 arg11 harg11 arg12 harg12 arg13 harg13 arg14 harg14 arg15 harg15 n st hw j (Scalar.addi st (Scalar.muli (Scf.iv 0#32 1#32 j.val) 320#32)) (Scalar.subi n (Scalar.muli (Scf.iv 0#32 1#32 j.val) 320#32)) t ())
        (fun _ => iprop(held c arg4 (harg4.unread O) ∗ held c arg5 (harg5.unread T) ∗ held c arg15 g ∗ ∃ f', held c arg13 f' ∗
          ⌜arg13.view.read (Elt F) f' = scat8 n.toNat (st.toNat + j.val * 320) (j.val * 320) O T Y t.val (arg13.view.read (Elt F) f)⌝)) := by
  unfold Gen.k0_t3_body
  iintro ⟨H4, H5, H15, H13⟩
  sl_exec (disch := ((first | with_reducible refine chk4 h j t _ ?_ | with_reducible refine chk5 h j t _ ?_ | with_reducible refine chk6 h j t _ ?_ | with_reducible refine chk7 h j t _ ?_ | with_reducible refine chk8 h j t _ ?_ | with_reducible refine chk9 h j t _ ?_ | with_reducible refine chk10 h j t _ ?_ | with_reducible refine chk11 h j t _ ?_); exact load_lt arg4 harg4 O hO _ _ _))
  sl_step
  isplitl [H4]
  · iexact H4
  isplitl [H5]
  · iexact H5
  isplitl [H15]
  · iexact H15
  iexists _
  isplitl [H13]
  · iexact H13
  ipureintro
  have hr := t3_lt t
  have hq := h.room
  have hj := t1_lt h j
  subst hg
  refine ((store_row arg13 f _ _ (off13_eq h j t _ (by exact load_lt arg4 harg4 O hO _ _ _)) _).trans (putRow_congr
    ((store_row arg13 f _ _ (off21_eq h j t _ (by exact load_lt arg4 harg4 O hO _ _ _)) _).trans (putRow_congr
    ((store_row arg13 f _ _ (off20_eq h j t _ (by exact load_lt arg4 harg4 O hO _ _ _)) _).trans (putRow_congr
    ((store_row arg13 f _ _ (off19_eq h j t _ (by exact load_lt arg4 harg4 O hO _ _ _)) _).trans (putRow_congr
    ((store_row arg13 f _ _ (off18_eq h j t _ (by exact load_lt arg4 harg4 O hO _ _ _)) _).trans (putRow_congr
    ((store_row arg13 f _ _ (off17_eq h j t _ (by exact load_lt arg4 harg4 O hO _ _ _)) _).trans (putRow_congr
    ((store_row arg13 f _ _ (off16_eq h j t _ (by exact load_lt arg4 harg4 O hO _ _ _)) _).trans (putRow_congr
    ((store_row arg13 f _ _ (off15_eq h j t _ (by exact load_lt arg4 harg4 O hO _ _ _)) _).trans (putRow_congr
    (congrArg (arg13.view.read (Elt F)) (View.writes_nil arg13.view f)) ?p0 ?R0)) ?p1 ?R1)) ?p2 ?R2)) ?p3 ?R3)) ?p4 ?R4)) ?p5 ?R5)) ?p6 ?R6)) ?p7 ?R7))
  case p0 => exact congrArg (fun w : BitVec 32 => dst n.toNat (j.val * 320 + (t.val * 8 + 0)) w.toNat) (load_tab (F := F) (e := .i32) arg4 harg4 O _ (off5_eq h j t 0 (by omega)) (by omega) _)
  case R0 =>
    exact newRow_of (by
        refine (wt_word h j t 0 (by omega) _).trans ?_
        exact congrArg (fun x => if j.val * 320 + (t.val * 8 + 0) < n.toNat then x else Scalar.ofBits .f32 0x00000000#32)
          (load_tab (F := F) (e := .f32) arg5 harg5 T _ (off5_eq h j t 0 (by omega)) (by omega) _))
      ((load_rowP arg13 f _ (off6_eq h j t _ (load_lt arg4 harg4 O hO _ _ _))).trans
        (congrArg (fun w : BitVec 32 => rowP (arg13.view.read (Elt F) f) (dst n.toNat (j.val * 320 + (t.val * 8 + 0)) w.toNat))
          (load_tab (F := F) (e := .i32) arg4 harg4 O _ (off5_eq h j t 0 (by omega)) (by omega) _)))
      (load_rowY arg15 g _ (off14_eq t 0 (by omega)))
  case p1 => exact congrArg (fun w : BitVec 32 => dst n.toNat (j.val * 320 + (t.val * 8 + 1)) w.toNat) (load_tab (F := F) (e := .i32) arg4 harg4 O _ (off5_eq h j t 1 (by omega)) (by omega) _)
  case R1 =>
    exact newRow_of (by
        refine (wt_word h j t 1 (by omega) _).trans ?_
        exact congrArg (fun x => if j.val * 320 + (t.val * 8 + 1) < n.toNat then x else Scalar.ofBits .f32 0x00000000#32)
          (load_tab (F := F) (e := .f32) arg5 harg5 T _ (off5_eq h j t 1 (by omega)) (by omega) _))
      ((load_rowP arg13 f _ (off7_eq h j t _ (load_lt arg4 harg4 O hO _ _ _))).trans
        (congrArg (fun w : BitVec 32 => rowP (arg13.view.read (Elt F) f) (dst n.toNat (j.val * 320 + (t.val * 8 + 1)) w.toNat))
          (load_tab (F := F) (e := .i32) arg4 harg4 O _ (off5_eq h j t 1 (by omega)) (by omega) _)))
      (load_rowY arg15 g _ (off14_eq t 1 (by omega)))
  case p2 => exact congrArg (fun w : BitVec 32 => dst n.toNat (j.val * 320 + (t.val * 8 + 2)) w.toNat) (load_tab (F := F) (e := .i32) arg4 harg4 O _ (off5_eq h j t 2 (by omega)) (by omega) _)
  case R2 =>
    exact newRow_of (by
        refine (wt_word h j t 2 (by omega) _).trans ?_
        exact congrArg (fun x => if j.val * 320 + (t.val * 8 + 2) < n.toNat then x else Scalar.ofBits .f32 0x00000000#32)
          (load_tab (F := F) (e := .f32) arg5 harg5 T _ (off5_eq h j t 2 (by omega)) (by omega) _))
      ((load_rowP arg13 f _ (off8_eq h j t _ (load_lt arg4 harg4 O hO _ _ _))).trans
        (congrArg (fun w : BitVec 32 => rowP (arg13.view.read (Elt F) f) (dst n.toNat (j.val * 320 + (t.val * 8 + 2)) w.toNat))
          (load_tab (F := F) (e := .i32) arg4 harg4 O _ (off5_eq h j t 2 (by omega)) (by omega) _)))
      (load_rowY arg15 g _ (off14_eq t 2 (by omega)))
  case p3 => exact congrArg (fun w : BitVec 32 => dst n.toNat (j.val * 320 + (t.val * 8 + 3)) w.toNat) (load_tab (F := F) (e := .i32) arg4 harg4 O _ (off5_eq h j t 3 (by omega)) (by omega) _)
  case R3 =>
    exact newRow_of (by
        refine (wt_word h j t 3 (by omega) _).trans ?_
        exact congrArg (fun x => if j.val * 320 + (t.val * 8 + 3) < n.toNat then x else Scalar.ofBits .f32 0x00000000#32)
          (load_tab (F := F) (e := .f32) arg5 harg5 T _ (off5_eq h j t 3 (by omega)) (by omega) _))
      ((load_rowP arg13 f _ (off9_eq h j t _ (load_lt arg4 harg4 O hO _ _ _))).trans
        (congrArg (fun w : BitVec 32 => rowP (arg13.view.read (Elt F) f) (dst n.toNat (j.val * 320 + (t.val * 8 + 3)) w.toNat))
          (load_tab (F := F) (e := .i32) arg4 harg4 O _ (off5_eq h j t 3 (by omega)) (by omega) _)))
      (load_rowY arg15 g _ (off14_eq t 3 (by omega)))
  case p4 => exact congrArg (fun w : BitVec 32 => dst n.toNat (j.val * 320 + (t.val * 8 + 4)) w.toNat) (load_tab (F := F) (e := .i32) arg4 harg4 O _ (off5_eq h j t 4 (by omega)) (by omega) _)
  case R4 =>
    exact newRow_of (by
        refine (wt_word h j t 4 (by omega) _).trans ?_
        exact congrArg (fun x => if j.val * 320 + (t.val * 8 + 4) < n.toNat then x else Scalar.ofBits .f32 0x00000000#32)
          (load_tab (F := F) (e := .f32) arg5 harg5 T _ (off5_eq h j t 4 (by omega)) (by omega) _))
      ((load_rowP arg13 f _ (off10_eq h j t _ (load_lt arg4 harg4 O hO _ _ _))).trans
        (congrArg (fun w : BitVec 32 => rowP (arg13.view.read (Elt F) f) (dst n.toNat (j.val * 320 + (t.val * 8 + 4)) w.toNat))
          (load_tab (F := F) (e := .i32) arg4 harg4 O _ (off5_eq h j t 4 (by omega)) (by omega) _)))
      (load_rowY arg15 g _ (off14_eq t 4 (by omega)))
  case p5 => exact congrArg (fun w : BitVec 32 => dst n.toNat (j.val * 320 + (t.val * 8 + 5)) w.toNat) (load_tab (F := F) (e := .i32) arg4 harg4 O _ (off5_eq h j t 5 (by omega)) (by omega) _)
  case R5 =>
    exact newRow_of (by
        refine (wt_word h j t 5 (by omega) _).trans ?_
        exact congrArg (fun x => if j.val * 320 + (t.val * 8 + 5) < n.toNat then x else Scalar.ofBits .f32 0x00000000#32)
          (load_tab (F := F) (e := .f32) arg5 harg5 T _ (off5_eq h j t 5 (by omega)) (by omega) _))
      ((load_rowP arg13 f _ (off11_eq h j t _ (load_lt arg4 harg4 O hO _ _ _))).trans
        (congrArg (fun w : BitVec 32 => rowP (arg13.view.read (Elt F) f) (dst n.toNat (j.val * 320 + (t.val * 8 + 5)) w.toNat))
          (load_tab (F := F) (e := .i32) arg4 harg4 O _ (off5_eq h j t 5 (by omega)) (by omega) _)))
      (load_rowY arg15 g _ (off14_eq t 5 (by omega)))
  case p6 => exact congrArg (fun w : BitVec 32 => dst n.toNat (j.val * 320 + (t.val * 8 + 6)) w.toNat) (load_tab (F := F) (e := .i32) arg4 harg4 O _ (off5_eq h j t 6 (by omega)) (by omega) _)
  case R6 =>
    exact newRow_of (by
        refine (wt_word h j t 6 (by omega) _).trans ?_
        exact congrArg (fun x => if j.val * 320 + (t.val * 8 + 6) < n.toNat then x else Scalar.ofBits .f32 0x00000000#32)
          (load_tab (F := F) (e := .f32) arg5 harg5 T _ (off5_eq h j t 6 (by omega)) (by omega) _))
      ((load_rowP arg13 f _ (off12_eq h j t _ (load_lt arg4 harg4 O hO _ _ _))).trans
        (congrArg (fun w : BitVec 32 => rowP (arg13.view.read (Elt F) f) (dst n.toNat (j.val * 320 + (t.val * 8 + 6)) w.toNat))
          (load_tab (F := F) (e := .i32) arg4 harg4 O _ (off5_eq h j t 6 (by omega)) (by omega) _)))
      (load_rowY arg15 g _ (off14_eq t 6 (by omega)))
  case p7 => exact congrArg (fun w : BitVec 32 => dst n.toNat (j.val * 320 + (t.val * 8 + 7)) w.toNat) (load_tab (F := F) (e := .i32) arg4 harg4 O _ (off5_eq h j t 7 (by omega)) (by omega) _)
  case R7 =>
    exact newRow_of (by
        refine (wt_word h j t 7 (by omega) _).trans ?_
        exact congrArg (fun x => if j.val * 320 + (t.val * 8 + 7) < n.toNat then x else Scalar.ofBits .f32 0x00000000#32)
          (load_tab (F := F) (e := .f32) arg5 harg5 T _ (off5_eq h j t 7 (by omega)) (by omega) _))
      ((load_rowP arg13 f _ (off13_eq h j t _ (load_lt arg4 harg4 O hO _ _ _))).trans
        (congrArg (fun w : BitVec 32 => rowP (arg13.view.read (Elt F) f) (dst n.toNat (j.val * 320 + (t.val * 8 + 7)) w.toNat))
          (load_tab (F := F) (e := .i32) arg4 harg4 O _ (off5_eq h j t 7 (by omega)) (by omega) _)))
      (load_rowY arg15 g _ (off14_eq t 7 (by omega)))

end

end Cert.Proof.KernelIdeal
-- ==== Proof.ITiles.lean ====
/-
  One row tile of the experts' kernel and the loop over the tiles: gather, the expert's three products, scatter.
-/
module

public import proofs.«01_k».proof.Proof.ITile

@[expose] public section

set_option maxRecDepth 16384

noncomputable section

namespace Cert.Proof.KernelIdeal

open Cert.KernelIdeal
open Idealize.ShloMosaic Idealize.ShloMosaic.TcCoe Idealize.ShloMosaic.Tactic
open Idealize.ShloMosaic.ValueIdx (ix3 ix4)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the separation logic: no counters beside the memory. -/
local notation "𝕄" => MT nD τ sig Unit (Elt F) ℕ (UR sig nD τ) ℕ

/-- The output rows after the first `t` groups of eight rows of a tile. -/
def scatN (n q b : ℕ) (O : S1x1x9536.Idx → BitVec 32) (T : S1x1x9536.Idx → F .f32) (Y : Vec F S320x8x128 .f32) (P : Vec F S1x2312x8x128 .f32) :
    ℕ → Vec F S1x2312x8x128 .f32
  | 0 => P
  | t + 1 => scat8 n q b O T Y t (scatN n q b O T Y P t)

/-- Column `k` of the eight columns of 128 that a row is stored in. -/
def col (X : Vec F S320x8x128 .f32) (k : Fin 8) : Vec F S320x1x128 .f32 := fun y => X (ix3 (y 0 : Fin 320) k (y 2 : Fin 128))

/-- The expert's result on the 320 rows of a tile. -/
def expert (Wg : Vec F S1x1x1024x1024 .bf16) (bg : Vec F S1x1x1x1024 .f32) (Wu : Vec F S1x1x1024x1024 .bf16) (bu : Vec F S1x1x1x1024 .f32)
    (Wd : Vec F S1x1x1024x1024 .bf16) (bd : Vec F S1x1x1x1024 .f32) (X : Vec F S320x8x128 .f32) : Vec F S320x1024 .f32 :=
  Gen.k0_pay26 (Gen.k0_pay25 (Gen.k0_pay24 (col X 0) (col X 1) (col X 2) (col X 3) (col X 4) (col X 5) (col X 6) (col X 7)) Wg bg Wu bu) Wd bd

/-- Rows of 1024 stored as eight columns of 128. -/
def cols (v : Vec F S320x1024 .f32) : Vec F S320x8x128 .f32 :=
  fun y => v (ValueIdx.ix2 (y 0 : Fin 320) (⟨(y 1).val * 128 + (y 2).val, by
    have h1 : (y 1).val < 8 := (y 1).isLt
    have h2 : (y 2).val < 128 := (y 2).isLt
    omega⟩ : Fin 1024))

/-- Column `k` of the eight, the rest kept. -/
def putCol (P : Vec F S320x8x128 .f32) (k : ℕ) (R : Vec F S320x1x128 .f32) : Vec F S320x8x128 .f32 :=
  fun y => if (y 1).val = k then R (ix3 (y 0 : Fin 320) (0 : Fin 1) (y 2 : Fin 128)) else P y

/-- Lanes `o` to `o + 127` of rows of 1024. -/
def lanes (v : Vec F S320x1024 .f32) (o : ℕ) : Vec F S320x1x128 .f32 :=
  fun z => v (ValueIdx.ix2 (z 0 : Fin 320) (⟨(o + (z 2).val) % 1024, Nat.mod_lt _ (by omega)⟩ : Fin 1024))

/-- A load of one column. -/
theorem load_col (M : Memref sig .tc .vmem S320x8x128 .f32) (f : M.view.ty.Contents (Elt F)) {X : Vec F S320x8x128 .f32} (hX : M.view.read (Elt F) f = X)
    {off : Fin 3 → ℕ} (inb : ∀ a, off a + S320x1x128.size a ≤ S320x8x128.size a) (k : Fin 8) (ho : off = ![0, k.val, 0]) :
    View.readAt (Elt F) M.view (Rect.unit (s := S320x8x128) off S320x1x128.size inb).toLoadRect f = col X k := by
  subst ho hX
  rw [View.readAt_unit M.view _ inb rfl inb]
  funext z
  refine congrArg (M.view.read (Elt F) f) (funext fun a => Fin.ext ?_)
  fin_cases a
  · show 0 + 1 * (z 0).val = (z 0).val
    omega
  · show k.val + 1 * (z 1).val = k.val
    have : (z 1).val < 1 := (z 1).isLt
    omega
  · show 0 + 1 * (z 2).val = (z 2).val
    omega

/-- A store of one column. -/
theorem store_col (M : Memref sig .tc .vmem S320x8x128 .f32) (f : M.view.ty.Contents (Elt F)) (L : List (View.Piece (Elt F) S320x8x128 .f32))
    {off : Fin 3 → ℕ} (inb : ∀ a, off a + S320x1x128.size a ≤ S320x8x128.size a) {p : ℕ} (ho : off = ![0, p, 0]) (R : Vec F S320x1x128 .f32) :
    M.view.read (Elt F) (M.view.writes (Elt F) f (⟨Rect.unit (s := S320x8x128) off S320x1x128.size inb, R⟩ :: L)) = putCol (M.view.read (Elt F) (M.view.writes (Elt F) f L)) p R := by
  funext y
  rw [View.read_writes_cons_unit M.view f _ _ L y ho]
  unfold putCol
  by_cases hy : (y 1).val = p
  · rw [if_pos hy, dif_pos (by
      intro a
      have := (y a).isLt
      fin_cases a
      · exact ⟨Nat.zero_le _, by simpa using this⟩
      · show p ≤ (y 1).val ∧ (y 1).val < p + 1; omega
      · exact ⟨Nat.zero_le _, by simpa using this⟩)]
    refine congrArg R (funext fun a => Fin.ext ?_)
    fin_cases a
    · rfl
    · show (y 1).val - p = 0; omega
    · rfl
  · rw [if_neg hy, dif_neg (by
      intro hh
      have : p ≤ (y 1).val ∧ (y 1).val < p + 1 := hh 1
      omega)]

/-- An `[a, b]` array cast to `[a, 1, b]`, at one place. -/
theorem cast_a1b {α : Type} {a b : ℕ} (x : (⟨2, ![a, b]⟩ : Shape).Idx → α) (h : (⟨2, ![a, b]⟩ : Shape).ShapeCasts ⟨3, ![a, 1, b]⟩)
    (i : Fin a) (j : Fin b) : shapeCast ⟨3, ![a, 1, b]⟩ x h (ix3 i (0 : Fin 1) j) = x (ValueIdx.ix2 i j) :=
  shapeCast_apply x h _ _ (by
    rw [Shape.rowMajor_val_three, Shape.rowMajor_val_two]
    show i.val * b + j.val = (i.val * 1 + 0) * b + j.val
    simp)

/-- A slice of 128 lanes cast to one of eight columns. -/
theorem lanes_eq (v : Vec F S320x1024 .f32) (o : ℕ) (hs : S320x1024.Slices ![0, o] S320x128) (hc : S320x128.ShapeCasts S320x1x128) :
    shapeCast S320x1x128 (extractStridedSlice S320x128 ![0, o] v hs) hc = lanes v o := by
  funext z
  have hz : z = ix3 (z 0 : Fin 320) (0 : Fin 1) (z 2 : Fin 128) := by
    have h0 : (z 1).val < 1 := (z 1).isLt
    funext a
    fin_cases a
    · rfl
    · exact Fin.ext (show (z 1).val = 0 by omega)
    · rfl
  have ho : o + 128 ≤ 1024 := hs.2 1
  have h2 : (z 2).val < 128 := (z 2).isLt
  rw [hz]
  refine (cast_a1b (a := 320) (b := 128) _ hc (z 0) (z 2)).trans ?_
  refine extractStridedSlice_apply ![0, o] v hs _ _ fun a => ?_
  fin_cases a
  · show (z 0).val = 0 + (z 0).val
    omega
  · show (o + (z 2).val) % 1024 = o + (z 2).val
    exact Nat.mod_eq_of_lt (by omega)

/-- The eight columns put together are the rows. -/
theorem cols_put (P : Vec F S320x8x128 .f32) (v : Vec F S320x1024 .f32) :
    putCol (putCol (putCol (putCol (putCol (putCol (putCol (putCol P 0 (lanes v 0)) 1 (lanes v 128)) 2 (lanes v 256)) 3 (lanes v 384)) 4 (lanes v 512))
      5 (lanes v 640)) 6 (lanes v 768)) 7 (lanes v 896) = cols v := by
  funext y
  have h1 : (y 1).val < 8 := (y 1).isLt
  have h2 : (y 2).val < 128 := (y 2).isLt
  have key : ∀ o, o = (y 1).val * 128 → lanes v o (ix3 (y 0 : Fin 320) (0 : Fin 1) (y 2 : Fin 128)) = cols v y := by
    intro o ho
    subst ho
    unfold lanes cols
    refine congrArg v (congrArg (ValueIdx.ix2 (y 0 : Fin 320)) (Fin.ext ?_))
    exact Nat.mod_eq_of_lt (show (y 1).val * 128 + (y 2).val < 1024 by omega)
  unfold putCol
  repeat' split
  all_goals first | (exact key _ (by omega)) | omega

theorem putCol_congr {P P' : Vec F S320x8x128 .f32} {k : ℕ} {R R' : Vec F S320x1x128 .f32} (h : P = P') (h' : R = R') : putCol P k R = putCol P' k R' := by
  rw [h, h']

section
variable (c : Dev nD) (i : grid0.Coords) (arg2 : Memref sig .tc .smem S512 .i32) (harg2 : arg2.IsWhole) (arg3 : Memref sig .tc .smem S512 .i32) (harg3 : arg3.IsWhole) (arg4 : Memref sig .tc .smem S1x1x9536 .i32) (harg4 : arg4.IsWhole) (arg5 : Memref sig .tc .smem S1x1x9536 .f32) (harg5 : arg5.IsWhole) (arg6 : Memref sig .tc .vmem S1x2304x8x128 .f32) (harg6 : arg6.IsWhole) (arg7 : Memref sig .tc .vmem S1x1x1024x1024 .bf16) (harg7 : arg7.IsWhole) (arg8 : Memref sig .tc .vmem S1x1x1x1024 .f32) (harg8 : arg8.IsWhole) (arg9 : Memref sig .tc .vmem S1x1x1024x1024 .bf16) (harg9 : arg9.IsWhole) (arg10 : Memref sig .tc .vmem S1x1x1x1024 .f32) (harg10 : arg10.IsWhole) (arg11 : Memref sig .tc .vmem S1x1x1024x1024 .bf16) (harg11 : arg11.IsWhole) (arg12 : Memref sig .tc .vmem S1x1x1x1024 .f32) (harg12 : arg12.IsWhole) (arg13 : Memref sig .tc .vmem S1x2312x8x128 .f32) (harg13 : arg13.IsWhole) (arg14 : Memref sig .tc .vmem S320x8x128 .f32) (harg14 : arg14.IsWhole) (arg15 : Memref sig .tc .vmem S320x8x128 .f32) (harg15 : arg15.IsWhole)

set_option warn.classDefReducibility false in
/-- The gather loop: before trip `k` the first `k` rows are gathered. -/
@[sl_loop] def gatherInv (H : Vec F S1x2304x8x128 .f32) (O : S1x1x9536.Idx → BitVec 32) {n st : BitVec 32} (h : Sched n st) (hO : ∀ y, (O y).toNat < 9216)
    (hw : k0_chk2 n st) (j : Fin (k0_t1_loop n).trips) :
    Gen.LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 n st hw 0#32 1#32 j where
  inv k _ := iprop(held c arg4 (harg4.unread O) ∗ held c arg6 (harg6.unread H) ∗ ∃ f, held c arg14 f ∗
    ⌜∀ y, (y 0).val < k → arg14.view.read (Elt F) f y = gat H O (st.toNat + j.val * 320) y⌝)
  step k acc := by
    iintro ⟨H4, H6, ⟨%f, H14, %hf⟩⟩
    iapply (wp_wand_r Idealize.ShloMosaic.frame (wpE defs₀ Variants.none (c : Thread nD τ) none) Set.univ)
    isplitl [H4 H6 H14]
    · iapply (gather_trip c i arg2 harg2 arg3 harg3 arg4 harg4 arg5 harg5 arg6 harg6 arg7 harg7 arg8 harg8 arg9 harg9 arg10 harg10 arg11 harg11 arg12 harg12 arg13 harg13 arg14 harg14 arg15 harg15 H O h hO hw j k f)
      isplitl [H4]; · iexact H4
      isplitl [H6]; · iexact H6
      iexact H14
    · iintro %_ ⟨H4, H6, ⟨%f', H14, %hf'⟩⟩
      isplitl [H4]; · iexact H4
      isplitl [H6]; · iexact H6
      iexists f'
      isplitl [H14]; · iexact H14
      ipureintro
      intro y hy
      rw [hf' y]
      by_cases e : (y 0).val = k.val
      · rw [if_pos e]
      · rw [if_neg e]
        exact hf y (by omega)

set_option warn.classDefReducibility false in
/-- The scatter loop: before trip `t` the first `t` groups of eight rows are added. -/
@[sl_loop] def scatterInv (O : S1x1x9536.Idx → BitVec 32) (T : S1x1x9536.Idx → F .f32) {n st : BitVec 32} (h : Sched n st) (hO : ∀ y, (O y).toNat < 9216)
    (hw : k0_chk2 n st) (j : Fin (k0_t1_loop n).trips) (g : arg15.view.ty.Contents (Elt F)) (f₀ : arg13.view.ty.Contents (Elt F)) :
    Gen.LoopInvTy_k0_t3 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 n st hw j
      (Scalar.addi st (Scalar.muli (Scf.iv 0#32 1#32 j.val) 320#32)) (Scalar.subi n (Scalar.muli (Scf.iv 0#32 1#32 j.val) 320#32)) where
  inv k _ := iprop(held c arg4 (harg4.unread O) ∗ held c arg5 (harg5.unread T) ∗ held c arg15 g ∗ ∃ f, held c arg13 f ∗
    ⌜arg13.view.read (Elt F) f = scatN n.toNat (st.toNat + j.val * 320) (j.val * 320) O T (arg15.view.read (Elt F) g) (arg13.view.read (Elt F) f₀) k⌝)
  step k acc := by
    iintro ⟨H4, H5, H15, ⟨%f, H13, %hf⟩⟩
    iapply (wp_wand_r Idealize.ShloMosaic.frame (wpE defs₀ Variants.none (c : Thread nD τ) none) Set.univ)
    isplitl [H4 H5 H15 H13]
    · iapply (scatter_trip c i arg2 harg2 arg3 harg3 arg4 harg4 arg5 harg5 arg6 harg6 arg7 harg7 arg8 harg8 arg9 harg9 arg10 harg10 arg11 harg11 arg12 harg12 arg13 harg13 arg14 harg14 arg15 harg15 O T _ h hO hw j k g rfl f)
      isplitl [H4]; · iexact H4
      isplitl [H5]; · iexact H5
      isplitl [H15]; · iexact H15
      iexact H13
    · iintro %_ ⟨H4, H5, H15, ⟨%f', H13, %hf'⟩⟩
      isplitl [H4]; · iexact H4
      isplitl [H5]; · iexact H5
      isplitl [H15]; · iexact H15
      iexists f'
      isplitl [H13]; · iexact H13
      ipureintro
      rw [hf', hf]
      rfl

/-- The expert's result from the windows the body loads. -/
theorem expert_of (Wg : Vec F S1x1x1024x1024 .bf16) (bg : Vec F S1x1x1x1024 .f32) (Wu : Vec F S1x1x1024x1024 .bf16) (bu : Vec F S1x1x1x1024 .f32)
    (Wd : Vec F S1x1x1024x1024 .bf16) (bd : Vec F S1x1x1x1024 .f32) {X : Vec F S320x8x128 .f32}
    {c0 c1 c2 c3 c4 c5 c6 c7 : Vec F S320x1x128 .f32} (e0 : c0 = col X 0) (e1 : c1 = col X 1) (e2 : c2 = col X 2) (e3 : c3 = col X 3) (e4 : c4 = col X 4)
    (e5 : c5 = col X 5) (e6 : c6 = col X 6) (e7 : c7 = col X 7) {w1 w3 w5 : Vec F S1x1x1024x1024 .bf16} {w2 w4 w6 : Vec F S1x1x1x1024 .f32}
    (h1 : w1 = Wg) (h2 : w2 = bg) (h3 : w3 = Wu) (h4 : w4 = bu) (h5 : w5 = Wd) (h6 : w6 = bd) :
    Gen.k0_pay26 (Gen.k0_pay25 (Gen.k0_pay24 c0 c1 c2 c3 c4 c5 c6 c7) w1 w2 w3 w4) w5 w6 = expert Wg bg Wu bu Wd bd X := by
  subst e0 e1 e2 e3 e4 e5 e6 e7 h1 h2 h3 h4 h5 h6
  rfl

set_option maxHeartbeats 40000000 in
/-- One row tile. -/
theorem tile_trip (H : Vec F S1x2304x8x128 .f32) (O : S1x1x9536.Idx → BitVec 32) (T : S1x1x9536.Idx → F .f32)
    (Wg : Vec F S1x1x1024x1024 .bf16) (bg : Vec F S1x1x1x1024 .f32) (Wu : Vec F S1x1x1024x1024 .bf16) (bu : Vec F S1x1x1x1024 .f32)
    (Wd : Vec F S1x1x1024x1024 .bf16) (bd : Vec F S1x1x1x1024 .f32)
    {n st : BitVec 32} (h : Sched n st) (hO : ∀ y, (O y).toNat < 9216)
    (hw1 : k0_chk1 n) (hw : k0_chk2 n st) (j : Fin (k0_t1_loop n).trips) (f14 : arg14.view.ty.Contents (Elt F)) (f15 : arg15.view.ty.Contents (Elt F))
    (f : arg13.view.ty.Contents (Elt F)) :
    (iprop(held c arg4 (harg4.unread O) ∗ held c arg5 (harg5.unread T) ∗ held c arg6 (harg6.unread H) ∗ held c arg7 (harg7.unread Wg) ∗ held c arg8 (harg8.unread bg)
        ∗ held c arg9 (harg9.unread Wu) ∗ held c arg10 (harg10.unread bu) ∗ held c arg11 (harg11.unread Wd) ∗ held c arg12 (harg12.unread bd)
        ∗ held c arg13 f ∗ held c arg14 f14 ∗ held c arg15 f15) : sProp 𝕄) ⊢
      wp frame (wpE defs₀ Variants.none (c : Thread nD τ) none) Set.univ
        (Gen.k0_t1_body i arg2 harg2 arg3 harg3 arg4 harg4 arg5 harg5 arg6 harg6 arg7 harg7 arg8 harg8 arg9 harg9 arg10 harg10 arg11 harg11 arg12 harg12 arg13 harg13 arg14 harg14 arg15 harg15 n hw1 st hw j ())
        (fun _ => iprop(held c arg4 (harg4.unread O) ∗ held c arg5 (harg5.unread T) ∗ held c arg6 (harg6.unread H) ∗ held c arg7 (harg7.unread Wg) ∗ held c arg8 (harg8.unread bg)
        ∗ held c arg9 (harg9.unread Wu) ∗ held c arg10 (harg10.unread bu) ∗ held c arg11 (harg11.unread Wd) ∗ held c arg12 (harg12.unread bd)
        ∗ (∃ f', held c arg13 f' ∗ ⌜arg13.view.read (Elt F) f' = scatN n.toNat (st.toNat + j.val * 320) (j.val * 320) O T
            (cols (expert Wg bg Wu bu Wd bd (gat H O (st.toNat + j.val * 320)))) (arg13.view.read (Elt F) f) 40⌝)
        ∗ (∃ f, held c arg14 f) ∗ ∃ f, held c arg15 f)) := by
  unfold Gen.k0_t1_body
  iintro ⟨H4, H5, H6, H7, H8, H9, H10, H11, H12, H13, H14, H15⟩
  sl_exec
  sl_step
  have hX : arg14.view.read (Elt F) fL0 = gat H O (st.toNat + j.val * 320) := funext fun y => hL3 y (by
    have : (y 0).val < 320 := (y 0).isLt
    have e : Scf.trips k0_t2_loop.lb k0_t2_loop.ub k0_t2_loop.st = 320 := t2_trips
    omega)
  have hv : ∀ v : Vec F S320x1024 .f32, v = expert Wg bg Wu bu Wd bd (gat H O (st.toNat + j.val * 320)) → ∀ o, lanes v o = lanes (expert Wg bg Wu bu Wd bd (gat H O (st.toNat + j.val * 320))) o :=
    fun v e o => e ▸ rfl
  have hE := expert_of Wg bg Wu bu Wd bd (load_col arg14 fL0 hX Gen.inb_S320x8x128_S320x1x128_0_0_0 0 rfl) (load_col arg14 fL0 hX Gen.inb_S320x8x128_S320x1x128_0_1_0 1 rfl)
    (load_col arg14 fL0 hX Gen.inb_S320x8x128_S320x1x128_0_2_0 2 rfl) (load_col arg14 fL0 hX Gen.inb_S320x8x128_S320x1x128_0_3_0 3 rfl)
    (load_col arg14 fL0 hX Gen.inb_S320x8x128_S320x1x128_0_4_0 4 rfl) (load_col arg14 fL0 hX Gen.inb_S320x8x128_S320x1x128_0_5_0 5 rfl)
    (load_col arg14 fL0 hX Gen.inb_S320x8x128_S320x1x128_0_6_0 6 rfl) (load_col arg14 fL0 hX Gen.inb_S320x8x128_S320x1x128_0_7_0 7 rfl)
    ((View.readAt_full arg7.view _ Gen.inb_S1x1x1024x1024_S1x1x1024x1024_0_0_0_0).trans (harg7.read_unread Wg))
    ((View.readAt_full arg8.view _ Gen.inb_S1x1x1x1024_S1x1x1x1024_0_0_0_0).trans (harg8.read_unread bg))
    ((View.readAt_full arg9.view _ Gen.inb_S1x1x1024x1024_S1x1x1024x1024_0_0_0_0).trans (harg9.read_unread Wu))
    ((View.readAt_full arg10.view _ Gen.inb_S1x1x1x1024_S1x1x1x1024_0_0_0_0).trans (harg10.read_unread bu))
    ((View.readAt_full arg11.view _ Gen.inb_S1x1x1024x1024_S1x1x1024x1024_0_0_0_0).trans (harg11.read_unread Wd))
    ((View.readAt_full arg12.view _ Gen.inb_S1x1x1x1024_S1x1x1x1024_0_0_0_0).trans (harg12.read_unread bd))
  have hY : arg15.view.read (Elt F) (arg15.view.writes (Elt F) arg15.view.junk
      (tile_trip.sl.H15_8 arg7 harg7 arg8 harg8 arg9 harg9 arg10 harg10 arg11 harg11 arg12 harg12 arg14 Wg bg Wu bu Wd bd fL0)) =
      cols (expert Wg bg Wu bu Wd bd (gat H O (st.toNat + j.val * 320))) := by
    refine Eq.trans ?_ (cols_put (arg15.view.read (Elt F) (arg15.view.writes (Elt F) arg15.view.junk [])) _)
    refine (store_col arg15 _ _ Gen.inb_S320x8x128_S320x1x128_0_7_0 rfl _).trans (putCol_congr ?_ ((lanes_eq _ 896 _ _).trans (hv _ hE _)))
    refine (store_col arg15 _ _ Gen.inb_S320x8x128_S320x1x128_0_6_0 rfl _).trans (putCol_congr ?_ ((lanes_eq _ 768 _ _).trans (hv _ hE _)))
    refine (store_col arg15 _ _ Gen.inb_S320x8x128_S320x1x128_0_5_0 rfl _).trans (putCol_congr ?_ ((lanes_eq _ 640 _ _).trans (hv _ hE _)))
    refine (store_col arg15 _ _ Gen.inb_S320x8x128_S320x1x128_0_4_0 rfl _).trans (putCol_congr ?_ ((lanes_eq _ 512 _ _).trans (hv _ hE _)))
    refine (store_col arg15 _ _ Gen.inb_S320x8x128_S320x1x128_0_3_0 rfl _).trans (putCol_congr ?_ ((lanes_eq _ 384 _ _).trans (hv _ hE _)))
    refine (store_col arg15 _ _ Gen.inb_S320x8x128_S320x1x128_0_2_0 rfl _).trans (putCol_congr ?_ ((lanes_eq _ 256 _ _).trans (hv _ hE _)))
    refine (store_col arg15 _ _ Gen.inb_S320x8x128_S320x1x128_0_1_0 rfl _).trans (putCol_congr ?_ ((lanes_eq _ 128 _ _).trans (hv _ hE _)))
    exact (store_col arg15 _ _ Gen.inb_S320x8x128_S320x1x128_0_0_0 rfl _).trans (putCol_congr rfl ((lanes_eq _ 0 _ _).trans (hv _ hE _)))
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists fL1
    isplitl [H13]; · iexact H13
    ipureintro
    rw [hY] at hL8
    have e : Scf.trips k0_t3_loop.lb k0_t3_loop.ub k0_t3_loop.st = 40 := t3_trips
    rw [e] at hL8
    exact hL8
  isplitl [H14]
  · iexists _; iexact H14
  iexists _; iexact H15

end

end Cert.Proof.KernelIdeal
-- ==== Proof.IBody.lean ====
/-
  The loop over the row tiles of one expert, and the body of the experts' kernel at one grid point.
-/
module

public import proofs.«01_k».proof.Proof.ITiles

@[expose] public section

set_option maxRecDepth 16384

noncomputable section

namespace Cert.Proof.KernelIdeal

open Cert.KernelIdeal
open Idealize.ShloMosaic Idealize.ShloMosaic.TcCoe Idealize.ShloMosaic.Tactic
open Idealize.ShloMosaic.ValueIdx (ix3 ix4)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the separation logic: no counters beside the memory. -/
local notation "𝕄" => MT nD τ sig Unit (Elt F) ℕ (UR sig nD τ) ℕ

/-- The output rows after the first `k` row tiles of one expert, the expert's assignments being `st` to `st + n - 1` of the table `O`. -/
def tiles (n st : ℕ) (O : S1x1x9536.Idx → BitVec 32) (T : S1x1x9536.Idx → F .f32) (H : Vec F S1x2304x8x128 .f32)
    (Wg : Vec F S1x1x1024x1024 .bf16) (bg : Vec F S1x1x1x1024 .f32) (Wu : Vec F S1x1x1024x1024 .bf16) (bu : Vec F S1x1x1x1024 .f32)
    (Wd : Vec F S1x1x1024x1024 .bf16) (bd : Vec F S1x1x1x1024 .f32) (P : Vec F S1x2312x8x128 .f32) :
    ℕ → Vec F S1x2312x8x128 .f32
  | 0 => P
  | k + 1 => scatN n (st + k * 320) (k * 320) O T (cols (expert Wg bg Wu bu Wd bd (gat H O (st + k * 320)))) (tiles n st O T H Wg bg Wu bu Wd bd P k) 40

section
variable (c : Dev nD) (i : grid0.Coords)

set_option warn.classDefReducibility false in
/-- The loop over the row tiles: before trip `k` the first `k` tiles are added. -/
@[sl_loop] def tileInv (arg2 : Memref sig .tc .smem S512 .i32) (harg2 : arg2.IsWhole) (arg3 : Memref sig .tc .smem S512 .i32) (harg3 : arg3.IsWhole) (arg4 : Memref sig .tc .smem S1x1x9536 .i32) (harg4 : arg4.IsWhole) (arg5 : Memref sig .tc .smem S1x1x9536 .f32) (harg5 : arg5.IsWhole) (arg6 : Memref sig .tc .vmem S1x2304x8x128 .f32) (harg6 : arg6.IsWhole) (arg7 : Memref sig .tc .vmem S1x1x1024x1024 .bf16) (harg7 : arg7.IsWhole) (arg8 : Memref sig .tc .vmem S1x1x1x1024 .f32) (harg8 : arg8.IsWhole) (arg9 : Memref sig .tc .vmem S1x1x1024x1024 .bf16) (harg9 : arg9.IsWhole) (arg10 : Memref sig .tc .vmem S1x1x1x1024 .f32) (harg10 : arg10.IsWhole) (arg11 : Memref sig .tc .vmem S1x1x1024x1024 .bf16) (harg11 : arg11.IsWhole) (arg12 : Memref sig .tc .vmem S1x1x1x1024 .f32) (harg12 : arg12.IsWhole) (arg13 : Memref sig .tc .vmem S1x2312x8x128 .f32) (harg13 : arg13.IsWhole) (arg14 : Memref sig .tc .vmem S320x8x128 .f32) (harg14 : arg14.IsWhole) (arg15 : Memref sig .tc .vmem S320x8x128 .f32) (harg15 : arg15.IsWhole) (H : Vec F S1x2304x8x128 .f32) (O : S1x1x9536.Idx → BitVec 32) (T : S1x1x9536.Idx → F .f32)
    (Wg : Vec F S1x1x1024x1024 .bf16) (bg : Vec F S1x1x1x1024 .f32) (Wu : Vec F S1x1x1024x1024 .bf16) (bu : Vec F S1x1x1x1024 .f32)
    (Wd : Vec F S1x1x1024x1024 .bf16) (bd : Vec F S1x1x1x1024 .f32)
    {n st : BitVec 32} (h : Sched n st) (hO : ∀ y, (O y).toNat < 9216) (hw1 : k0_chk1 n) (hw : k0_chk2 n st)
    (f₀ : arg13.view.ty.Contents (Elt F)) :
    Gen.LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 n hw1 st hw where
  inv k _ := iprop(held c arg4 (harg4.unread O) ∗ held c arg5 (harg5.unread T) ∗ held c arg6 (harg6.unread H) ∗ held c arg7 (harg7.unread Wg) ∗ held c arg8 (harg8.unread bg)
        ∗ held c arg9 (harg9.unread Wu) ∗ held c arg10 (harg10.unread bu) ∗ held c arg11 (harg11.unread Wd) ∗ held c arg12 (harg12.unread bd)
      ∗ (∃ f, held c arg13 f ∗ ⌜arg13.view.read (Elt F) f = tiles n.toNat st.toNat O T H Wg bg Wu bu Wd bd (arg13.view.read (Elt F) f₀) k⌝)
      ∗ (∃ f, held c arg14 f) ∗ ∃ f, held c arg15 f)
  step k acc := by
    iintro ⟨H4, H5, H6, H7, H8, H9, H10, H11, H12, ⟨%f, H13, %hf⟩, ⟨%f14, H14⟩, ⟨%f15, H15⟩⟩
    iapply (wp_wand_r Idealize.ShloMosaic.frame (wpE defs₀ Variants.none (c : Thread nD τ) none) Set.univ)
    isplitl [H4 H5 H6 H7 H8 H9 H10 H11 H12 H13 H14 H15]
    · iapply (tile_trip c i arg2 harg2 arg3 harg3 arg4 harg4 arg5 harg5 arg6 harg6 arg7 harg7 arg8 harg8 arg9 harg9 arg10 harg10 arg11 harg11 arg12 harg12 arg13 harg13 arg14 harg14 arg15 harg15 H O T Wg bg Wu bu Wd bd h hO hw1 hw k f14 f15 f)
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · iintro %_ ⟨H4, H5, H6, H7, H8, H9, H10, H11, H12, ⟨%f', H13, %hf'⟩, H14, H15⟩
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · iexists f'
        isplitl [H13]; · iexact H13
        ipureintro
        rw [hf', hf]
        rfl
      isplitl [H14]; · iexact H14
      iexact H15

/-- Entry `i 0 * 32 + i 1` of a table of 512 words. -/
def entry (N : S512.Idx → BitVec 32) : BitVec 32 := N (ValueIdx.ix1 (⟨((i 0).val * 32 + (i 1).val) % 512, Nat.mod_lt _ (by omega)⟩ : Fin 512))

/-- The word loaded from a table at a grid point. -/
theorem entry_eq (M : Memref sig .tc .smem S512 .i32) (g : M.view.ty.Contents (Elt F)) {N : S512.Idx → BitVec 32} (hM : M.view.read (Elt F) g = N)
    (inb : ∀ a, k0_off1 i a + S1.size a ≤ S512.size a) (z : S1.Idx) :
    View.readAt (Elt F) M.view (Rect.unit (s := S512) (k0_off1 i) S1.size inb).toLoadRect g z = entry i N := by
  subst hM
  rw [View.readAt_unit M.view _ inb rfl inb]
  refine congrArg (M.view.read (Elt F) g) (funext fun a => Fin.ext ?_)
  fin_cases a
  have h0 : (i 0).val < 16 := (i 0).isLt
  have h1 : (i 1).val < 32 := (i 1).isLt
  have hz : (z 0).val < 1 := (z 0).isLt
  have e : k0_off1 i 0 = (i 0).val * 32 + (i 1).val := by
    show (BitVec.ofNat 32 (i 0).val * 32#32 + BitVec.ofNat 32 (i 1).val).toNat = _
    simp only [BitVec.toNat_add, BitVec.toNat_mul, BitVec.toNat_ofNat]
    omega
  show k0_off1 i 0 + 1 * (z 0).val = ((i 0).val * 32 + (i 1).val) % 512
  rw [e, Nat.mod_eq_of_lt (by omega)]
  omega

/-- The body's test for the first expert. -/
theorem first_iff : ∀ k : Fin 32, Scalar.cmpi .ne (Scalar.extui (Scalar.cmpi .eq (BitVec.ofNat 32 k.val) 0#32) : BitVec 32) 0#32 = 1#1 ↔ k.val = 0 := by decide +kernel

set_option maxHeartbeats 40000000 in
/-- The kernel's body at one grid point. -/
theorem body_point (arg2 : Memref sig .tc .smem S512 .i32) (harg2 : arg2.IsWhole) (arg3 : Memref sig .tc .smem S512 .i32) (harg3 : arg3.IsWhole) (arg4 : Memref sig .tc .smem S1x1x9536 .i32) (harg4 : arg4.IsWhole) (arg5 : Memref sig .tc .smem S1x1x9536 .f32) (harg5 : arg5.IsWhole) (arg6 : Memref sig .tc .vmem S1x2304x8x128 .f32) (harg6 : arg6.IsWhole) (arg7 : Memref sig .tc .vmem S1x1x1024x1024 .bf16) (harg7 : arg7.IsWhole) (arg8 : Memref sig .tc .vmem S1x1x1x1024 .f32) (harg8 : arg8.IsWhole) (arg9 : Memref sig .tc .vmem S1x1x1024x1024 .bf16) (harg9 : arg9.IsWhole) (arg10 : Memref sig .tc .vmem S1x1x1x1024 .f32) (harg10 : arg10.IsWhole) (arg11 : Memref sig .tc .vmem S1x1x1024x1024 .bf16) (harg11 : arg11.IsWhole) (arg12 : Memref sig .tc .vmem S1x1x1x1024 .f32) (harg12 : arg12.IsWhole) (arg13 : Memref sig .tc .vmem S1x2312x8x128 .f32) (harg13 : arg13.IsWhole) (arg14 : Memref sig .tc .vmem S320x8x128 .f32) (harg14 : arg14.IsWhole) (arg15 : Memref sig .tc .vmem S320x8x128 .f32) (harg15 : arg15.IsWhole) (H : Vec F S1x2304x8x128 .f32) (O : S1x1x9536.Idx → BitVec 32) (T : S1x1x9536.Idx → F .f32)
    (Wg : Vec F S1x1x1024x1024 .bf16) (bg : Vec F S1x1x1x1024 .f32) (Wu : Vec F S1x1x1024x1024 .bf16) (bu : Vec F S1x1x1x1024 .f32)
    (Wd : Vec F S1x1x1024x1024 .bf16) (bd : Vec F S1x1x1x1024 .f32) (N S : S512.Idx → BitVec 32) (q : PosShare TreeShare)
    (g2 : arg2.view.ty.Contents (Elt F)) (g3 : arg3.view.ty.Contents (Elt F)) (h2 : arg2.view.read (Elt F) g2 = N) (h3 : arg3.view.read (Elt F) g3 = S)
    (h : Sched (entry i N) (entry i S)) (hO : ∀ y, (O y).toNat < 9216)
    (f14 : arg14.view.ty.Contents (Elt F)) (f15 : arg15.view.ty.Contents (Elt F)) (f : arg13.view.ty.Contents (Elt F)) :
    (iprop((View.loc (c : Thread nD τ) arg2.view ↦[arg2.view.set]{q} g2)
        ∗ (View.loc (c : Thread nD τ) arg3.view ↦[arg3.view.set]{q} g3)
        ∗ held c arg4 (harg4.unread O) ∗ held c arg5 (harg5.unread T) ∗ held c arg6 (harg6.unread H) ∗ held c arg7 (harg7.unread Wg) ∗ held c arg8 (harg8.unread bg)
        ∗ held c arg9 (harg9.unread Wu) ∗ held c arg10 (harg10.unread bu) ∗ held c arg11 (harg11.unread Wd) ∗ held c arg12 (harg12.unread bd)
        ∗ held c arg13 f ∗ held c arg14 f14 ∗ held c arg15 f15) : sProp 𝕄) ⊢
      wp frame (wpE defs₀ Variants.none (c : Thread nD τ) none) Set.univ
        (cc0_moe_experts i arg2 harg2 arg3 harg3 arg4 harg4 arg5 harg5 arg6 harg6 arg7 harg7 arg8 harg8 arg9 harg9 arg10 harg10 arg11 harg11 arg12 harg12 arg13 harg13 arg14 harg14 arg15 harg15)
        (fun _ => iprop((View.loc (c : Thread nD τ) arg2.view ↦[arg2.view.set]{q} g2)
        ∗ (View.loc (c : Thread nD τ) arg3.view ↦[arg3.view.set]{q} g3)
        ∗ held c arg4 (harg4.unread O) ∗ held c arg5 (harg5.unread T) ∗ held c arg6 (harg6.unread H) ∗ held c arg7 (harg7.unread Wg) ∗ held c arg8 (harg8.unread bg)
        ∗ held c arg9 (harg9.unread Wu) ∗ held c arg10 (harg10.unread bu) ∗ held c arg11 (harg11.unread Wd) ∗ held c arg12 (harg12.unread bd)
        ∗ (∃ f', held c arg13 f' ∗ ⌜arg13.view.read (Elt F) f' = tiles (entry i N).toNat (entry i S).toNat O T H Wg bg Wu bu Wd bd
            (if (i 1).val = 0 then Gen.k0_pay65 else arg13.view.read (Elt F) f) (((entry i N).toNat + 319) / 320)⌝)
        ∗ (∃ f, held c arg14 f) ∗ ∃ f, held c arg15 f)) := by
  rw [Gen.cc0_moe_experts_eq_skeleton]
  unfold Gen.cc0_moe_experts_skel
  iintro ⟨H2, H3, H4, H5, H6, H7, H8, H9, H10, H11, H12, H13, H14, H15⟩
  have e2 := fun inb z => entry_eq (F := F) i arg2 g2 h2 inb z
  have e3 := fun inb z => entry_eq (F := F) i arg3 g3 h3 inb z
  have hs : Sched (View.readAt (Elt F) arg2.view (Rect.unit (s := S512) (k0_off1 i) S1.size (Cert.KernelIdeal.Facts₀.k0_off1_inb i)).toLoadRect g2 (Shape.Idx.first (s := S1) (by rw [Gen.numel1_S1]; exact Nat.one_pos)))
      (View.readAt (Elt F) arg3.view (Rect.unit (s := S512) (k0_off1 i) S1.size (Cert.KernelIdeal.Facts₀.k0_off1_inb i)).toLoadRect g3 (Shape.Idx.first (s := S1) (by rw [Gen.numel1_S1]; exact Nat.one_pos))) := by
    rw [e2, e3]
    exact h
  have key : ∀ n st : BitVec 32, n = entry i N → st = entry i S → ∀ P P' : Vec F S1x2312x8x128 .f32, P = P' →
      tiles n.toNat st.toNat O T H Wg bg Wu bu Wd bd P (k0_t1_loop n).trips = tiles (entry i N).toNat (entry i S).toNat O T H Wg bg Wu bu Wd bd P' (((entry i N).toNat + 319) / 320) := by
    intro n st en es P P' eP
    subst en es eP
    rw [t1_trips h]
  by_cases h0 : (i 1).val = 0
  · have hc := (first_iff (i 1)).2 h0
    sl_exec (disch := first | exact chk1 hs | exact chk2 hs)
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexists fL0
      isplitl [H13]; · iexact H13
      ipureintro
      rw [if_pos h0]
      refine Eq.trans (hL10.trans ?_) (key (View.readAt (Elt F) arg2.view (Rect.unit (s := S512) (k0_off1 i) S1.size (Cert.KernelIdeal.Facts₀.k0_off1_inb i)).toLoadRect g2 (Shape.Idx.first (s := S1) (by rw [Gen.numel1_S1]; exact Nat.one_pos)))
        (View.readAt (Elt F) arg3.view (Rect.unit (s := S512) (k0_off1 i) S1.size (Cert.KernelIdeal.Facts₀.k0_off1_inb i)).toLoadRect g3 (Shape.Idx.first (s := S1) (by rw [Gen.numel1_S1]; exact Nat.one_pos)))
        (e2 _ _) (e3 _ _) _ _ (View.read_writes_full (Val := Elt F) arg13.view arg13.view.junk Gen.inb_S1x2312x8x128_S1x2312x8x128_0_0_0_0 (Gen.k0_pay65 (F := F)) []))
      rfl
    isplitl [H14]
    · iexists _; iexact H14
    iexists _; iexact H15
  · have hc := fun e => h0 ((first_iff (i 1)).1 e)
    sl_exec (disch := first | exact chk1 hs | exact chk2 hs)
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexists fL0
      isplitl [H13]; · iexact H13
      ipureintro
      rw [if_neg h0]
      have hL := hL10.trans (congrArg (fun P => tiles _ _ O T H Wg bg Wu bu Wd bd P _) (congrArg (arg13.view.read (Elt F)) (dif_neg hc)))
      refine Eq.trans (hL.trans ?_) (key (View.readAt (Elt F) arg2.view (Rect.unit (s := S512) (k0_off1 i) S1.size (Cert.KernelIdeal.Facts₀.k0_off1_inb i)).toLoadRect g2 (Shape.Idx.first (s := S1) (by rw [Gen.numel1_S1]; exact Nat.one_pos)))
        (View.readAt (Elt F) arg3.view (Rect.unit (s := S512) (k0_off1 i) S1.size (Cert.KernelIdeal.Facts₀.k0_off1_inb i)).toLoadRect g3 (Shape.Idx.first (s := S1) (by rw [Gen.numel1_S1]; exact Nat.one_pos)))
        (e2 _ _) (e3 _ _) _ _ rfl)
      rfl
    isplitl [H14]
    · iexists _; iexact H14
    iexists _; iexact H15

end

end Cert.Proof.KernelIdeal
-- ==== Proof.IData.lean ====
module

public import proofs.«01_k».proof.Proof.IBody
public import proofs.«01_k».proof.Proof.Gen.KernelIdeal.Launch
public import Idealize.ShloMosaic.Lib.Pipeline.ValueKit
public import Idealize.ShloMosaic.Lib.Pipeline.FrameBody

@[expose] public section

set_option maxRecDepth 16384

noncomputable section

namespace Cert.Proof.KernelIdeal

open Cert.KernelIdeal
open Idealize.ShloMosaic Idealize.ShloMosaic.TcCoe Idealize.ShloMosaic.Tactic
open Idealize.ShloMosaic.ValueIdx (ix3 ix4)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the separation logic: no counters beside the memory. -/
local notation "𝕄" => MT nD τ sig Unit (Elt F) ℕ (UR sig nD τ) ℕ

open Idealize.ShloMosaic.Pipeline (Dat Cfg Window)

/-- The arrays' contents where the call is entered. -/
abbrev Entry (F : FTy → Type) [FloatOps F] : Type :=
  (c : Dev nD) → (b : Ref sig .tc) → Buf (Elt F) ((c : Thread nD τ).loc b)

/-- What the body needs of them: every expert's rows lie inside the sorted order, and the order's words are rows. -/
structure Ok (V : Entry F) : Prop where
  sched : ∀ (c : Dev nD) (i : grid0.Coords),
    Sched (entry i (V c main_v21 : S512.Idx → BitVec 32)) (entry i (V c main_v22 : S512.Idx → BitVec 32))
  order : ∀ (c : Dev nD) (y : S16x1x9536.Idx), ((V c main_v18 : S16x1x9536.Idx → BitVec 32) y).toNat < 9216

variable (V : Entry F)

/-- The two prefetched tables' contents. -/
def adm : (p : Fin 1) → (pcfgs (F := F) p).Adm := fun _ => ⟨fun k => V 0 (pre0.ref k), trivial⟩

/-- The block an input window stages at a point. -/
abbrev blk (c : Dev nD) (w : Fin 10) (t : Fin grid0.N) :=
  ((win0 (adm V 0) w).blk t).view.read (Elt F) (V c (Pipeline.arrRef spec0 w))

/-- One point's change of the accumulated rows. -/
def step (c : Dev nD) (t : Fin grid0.N) (P : Vec F S1x2312x8x128 .f32) : Vec F S1x2312x8x128 .f32 :=
  tiles (entry (grid0.coords t) (V c main_v21 : S512.Idx → BitVec 32)).toNat
    (entry (grid0.coords t) (V c main_v22 : S512.Idx → BitVec 32)).toNat
    (blk V c 0 t) (blk V c 1 t) (blk V c 2 t) (blk V c 3 t) (blk V c 4 t) (blk V c 5 t) (blk V c 6 t) (blk V c 7 t)
    (blk V c 8 t) P (((entry (grid0.coords t) (V c main_v21 : S512.Idx → BitVec 32)).toNat + 319) / 320)

/-- The accumulated rows after point `n`, from the zero rows at each sequence's first expert. -/
def acc (c : Dev nD) : (n : ℕ) → n < grid0.N → Vec F S1x2312x8x128 .f32
  | 0, h => step V c ⟨0, h⟩ Gen.k0_pay65
  | n + 1, h => step V c ⟨n + 1, h⟩
      (if (grid0.coords ⟨n + 1, h⟩ 1).val = 0 then Gen.k0_pay65 else acc c n (Nat.lt_of_succ_lt h))

theorem acc_first (c : Dev nD) (t : Fin grid0.N) (h : (grid0.coords t 1).val = 0) :
    acc V c t.val t.isLt = step V c t Gen.k0_pay65 := by
  obtain ⟨n, hn⟩ := t
  cases n with
  | zero => rfl
  | succ n => unfold acc; rw [if_pos h]

theorem acc_next (c : Dev nD) (t : Fin grid0.N) (h : (grid0.coords t 1).val ≠ 0)
    (h' : t.val - 1 < grid0.N) (h0 : t.val ≠ 0) :
    acc V c t.val t.isLt = step V c t (acc V c (t.val - 1) h') := by
  obtain ⟨n, hn⟩ := t
  cases n with
  | zero => exact absurd rfl h0
  | succ n => rw [acc, if_neg h]; rfl

/-- The pipeline's proof data on core `c`. -/
def dats (p : Fin 1) (c : Dev nD) :
    Dat τ (Elt F) Unit ℕ (UR sig nD τ) ℕ (Pipeline.pin (pcfgs (F := F)) (adm V) p) c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => acc V c t.val t.isLt
  Φ _ := iprop(Pipeline.ΦA spec0 c ∗ Pipeline.ΦT pre0 (adm V 0).1 c)
  q _ := fullShare
  owed _ := 0

/-- Window 0 holds its block whether or not it was fetched. -/
theorem before_0 (c : Dev nD) (t : Fin grid0.N) (d) : (dats V 0 c).before 0 t d = blk V c 0 t :=
  ((dats V 0 c).before_in_eq_fetched 0 rfl (fun _ => rfl) (fun _ _ _ => rfl) (fun _ => rfl) t d).trans rfl

/-- Window 1 holds its block whether or not it was fetched. -/
theorem before_1 (c : Dev nD) (t : Fin grid0.N) (d) : (dats V 0 c).before 1 t d = blk V c 1 t :=
  ((dats V 0 c).before_in_eq_fetched 1 rfl (fun _ => rfl) (fun _ _ _ => rfl) (fun _ => rfl) t d).trans rfl

/-- Window 2 holds its block whether or not it was fetched. -/
theorem before_2 (c : Dev nD) (t : Fin grid0.N) (d) : (dats V 0 c).before 2 t d = blk V c 2 t :=
  ((dats V 0 c).before_in_eq_fetched 2 rfl (fun _ => rfl) (fun _ _ _ => rfl) (fun _ => rfl) t d).trans rfl

/-- Window 3 holds its block whether or not it was fetched. -/
theorem before_3 (c : Dev nD) (t : Fin grid0.N) (d) : (dats V 0 c).before 3 t d = blk V c 3 t :=
  ((dats V 0 c).before_in_eq_fetched 3 rfl (fun _ => rfl) (fun _ _ _ => rfl) (fun _ => rfl) t d).trans rfl

/-- Window 4 holds its block whether or not it was fetched. -/
theorem before_4 (c : Dev nD) (t : Fin grid0.N) (d) : (dats V 0 c).before 4 t d = blk V c 4 t :=
  ((dats V 0 c).before_in_eq_fetched 4 rfl (fun _ => rfl) (fun _ _ _ => rfl) (fun _ => rfl) t d).trans rfl

/-- Window 5 holds its block whether or not it was fetched. -/
theorem before_5 (c : Dev nD) (t : Fin grid0.N) (d) : (dats V 0 c).before 5 t d = blk V c 5 t :=
  ((dats V 0 c).before_in_eq_fetched 5 rfl (fun _ => rfl) (fun _ _ _ => rfl) (fun _ => rfl) t d).trans rfl

/-- Window 6 holds its block whether or not it was fetched. -/
theorem before_6 (c : Dev nD) (t : Fin grid0.N) (d) : (dats V 0 c).before 6 t d = blk V c 6 t :=
  ((dats V 0 c).before_in_eq_fetched 6 rfl (fun _ => rfl) (fun _ _ _ => rfl) (fun _ => rfl) t d).trans rfl

/-- Window 7 holds its block whether or not it was fetched. -/
theorem before_7 (c : Dev nD) (t : Fin grid0.N) (d) : (dats V 0 c).before 7 t d = blk V c 7 t :=
  ((dats V 0 c).before_in_eq_fetched 7 rfl (fun _ => rfl) (fun _ _ _ => rfl) (fun _ => rfl) t d).trans rfl

/-- Window 8 holds its block whether or not it was fetched. -/
theorem before_8 (c : Dev nD) (t : Fin grid0.N) (d) : (dats V 0 c).before 8 t d = blk V c 8 t :=
  ((dats V 0 c).before_in_eq_fetched 8 rfl (fun _ => rfl) (fun _ _ _ => rfl) (fun _ => rfl) t d).trans rfl

/-- The rows are the output block's reset value at a sequence's first expert, else what the point before left. -/
theorem flush_first : ∀ t : Fin grid0.N, (grid0.coords t 1).val = 0 → t.val ≠ 0 →
    (grid0.coords ⟨t.val - 1, Nat.lt_of_le_of_lt (Nat.sub_le _ _) t.isLt⟩ 1).val = 31 := by decide +kernel

end Cert.Proof.KernelIdeal
-- ==== Proof.IPoint.lean ====
module

public import proofs.«01_k».proof.Proof.IData
public import Idealize.ShloMosaic.Lib.LaneScatter.Own

@[expose] public section

set_option maxRecDepth 16384

noncomputable section

namespace Cert.Proof.KernelIdeal

open Cert.KernelIdeal
open Idealize.ShloMosaic Idealize.ShloMosaic.TcCoe Idealize.ShloMosaic.Tactic
open Idealize.ShloMosaic.ValueIdx (ix3 ix4)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the separation logic: no counters beside the memory. -/
local notation "𝕄" => MT nD τ sig Unit (Elt F) ℕ (UR sig nD τ) ℕ

open Idealize.ShloMosaic.Pipeline (Dat Cfg Window)

variable (V : Entry F)

/-- Inside a sequence's experts the point before is the same sequence's. -/
theorem seq_same : ∀ t : Fin grid0.N, (grid0.coords t 1).val ≠ 0 → t.val ≠ 0 ∧
    (grid0.coords ⟨t.val - 1, Nat.lt_of_le_of_lt (Nat.sub_le _ _) t.isLt⟩ 0).val = (grid0.coords t 0).val := by
  decide +kernel

/-- The output block's index is the sequence. -/
theorem out_index (t : Fin grid0.N) : (win0 (adm V 0) 9).index t = cc0_transform_9 (grid0.coords t) := rfl

/-- The output block is not written back between two experts of one sequence. -/
theorem no_flush (t : Fin grid0.N) (h : (grid0.coords t 1).val ≠ 0) :
    (win0 (adm V 0) 9).flush ⟨t.val - 1, Nat.lt_of_le_of_lt (Nat.sub_le _ _) t.isLt⟩ = false := by
  obtain ⟨h0, h1⟩ := seq_same t h
  rw [← Bool.not_eq_true, Window.flush_out _ rfl]
  have e : t.val - 1 + 1 = t.val := Nat.succ_pred_eq_of_ne_zero h0
  rintro (hl | ⟨hl, hne⟩)
  · exact absurd (e.symm.trans hl) (Nat.ne_of_lt t.isLt)
  · refine hne ?_
    have et : (⟨t.val - 1 + 1, hl⟩ : Fin grid0.N) = t := Fin.ext e
    refine (congrArg (win0 (adm V 0) 9).index et).trans ?_
    rw [out_index, out_index]
    unfold cc0_transform_9
    rw [h1]

/-- After a sequence's first expert the output block holds what the expert before left. -/
theorem before_9 (c : Dev nD) (t : Fin grid0.N) (h : (grid0.coords t 1).val ≠ 0) (d) :
    (dats V 0 c).before 9 t d = acc V c (t.val - 1) (Nat.lt_of_le_of_lt (Nat.sub_le _ _) t.isLt) :=
  ((dats V 0 c).before_out_kept 9 rfl t (seq_same t h).1 (no_flush V t h) (fun _ => rfl) (fun _ _ => rfl) d).trans rfl

/-- The accumulated rows after a point, from what the body found. -/
theorem acc_eq (c : Dev nD) (t : Fin grid0.N) (P : Vec F S1x2312x8x128 .f32)
    (hP : (grid0.coords t 1).val ≠ 0 → P = acc V c (t.val - 1) (Nat.lt_of_le_of_lt (Nat.sub_le _ _) t.isLt)) :
    step V c t (if (grid0.coords t 1).val = 0 then Gen.k0_pay65 else P) = acc V c t.val t.isLt := by
  by_cases h : (grid0.coords t 1).val = 0
  · rw [if_pos h]; exact (acc_first V c t h).symm
  · rw [if_neg h, hP h]; exact (acc_next V c t h _ (seq_same t h).1).symm

/-- The two tables, held one by one. -/
theorem tables_eq (c : Dev nD) :
    (Pipeline.ΦT pre0 (adm V 0).1 c : sProp 𝕄)
      = iprop((((c : Thread nD τ).loc main_v21) ↦{fullShare.right} (show Buf (Elt F) ((c : Thread nD τ).loc main_v21) from V 0 main_v21))
        ∗ (((c : Thread nD τ).loc main_v22) ↦{fullShare.right} (show Buf (Elt F) ((c : Thread nD τ).loc main_v22) from V 0 main_v22))) := by
  unfold Pipeline.ΦT Pipeline.prefHeld
  rw [show (Finset.univ : Finset (Fin 2)) = insert 0 {1} from by decide, bigSep_insert (by decide), bigSep_singleton]
  rfl

/-- Equal assertions entail one another. -/
theorem of_eq {P Q : sProp 𝕄} (h : P = Q) : P ⊢ Q := h ▸ BI.Entails.refl _

/-- A whole buffer held through its memref is the buffer held. -/
theorem whole_eq (c : Dev nD) (b : Ref sig .tc) (q : PosShare TreeShare) (f : Buf (Elt F) ((c : Thread nD τ).loc b)) :
    (View.loc (c : Thread nD τ) (Memref.whole b).view ↦[(Memref.whole b).view.set]{q} f : sProp 𝕄)
      = (((c : Thread nD τ).loc b) ↦{q} f : sProp 𝕄) := by
  rw [show (Memref.whole b).view.set = Finset.univ from View.set_whole b]

/-- A staging buffer with known contents, as the body's triple names it. -/
theorem held_of_owns (c : Dev nD) {sp : Space} {sh : Shape} {e : EltTy} (M : Memref sig .tc sp sh e) (h : M.IsWhole)
    (x : sh.Idx → Elt F e) : (owns (c : Thread nD τ) M fullShare x : sProp 𝕄) ⊢ held c M (h.unread x) :=
  LaneScatter.owns_raw (c : Thread nD τ) M h x

/-- And back. -/
theorem owns_of_held (c : Dev nD) {sp : Space} {sh : Shape} {e : EltTy} (M : Memref sig .tc sp sh e)
    {f : M.view.ty.Contents (Elt F)} {x : sh.Idx → Elt F e} (h : M.view.read (Elt F) f = x) :
    (held c M f : sProp 𝕄) ⊢ owns (c : Thread nD τ) M fullShare x :=
  LaneScatter.raw_owns (c : Thread nD τ) M h

/-- The body at one grid point, over the staging buffers' contents. -/
theorem point_run (ok : Ok V) (c : Dev nD) (t : Fin grid0.N) (arg4 : Memref sig .tc .smem S1x1x9536 .i32) (harg4 : arg4.IsWhole) (arg5 : Memref sig .tc .smem S1x1x9536 .f32) (harg5 : arg5.IsWhole) (arg6 : Memref sig .tc .vmem S1x2304x8x128 .f32) (harg6 : arg6.IsWhole) (arg7 : Memref sig .tc .vmem S1x1x1024x1024 .bf16) (harg7 : arg7.IsWhole) (arg8 : Memref sig .tc .vmem S1x1x1x1024 .f32) (harg8 : arg8.IsWhole) (arg9 : Memref sig .tc .vmem S1x1x1024x1024 .bf16) (harg9 : arg9.IsWhole) (arg10 : Memref sig .tc .vmem S1x1x1x1024 .f32) (harg10 : arg10.IsWhole) (arg11 : Memref sig .tc .vmem S1x1x1024x1024 .bf16) (harg11 : arg11.IsWhole) (arg12 : Memref sig .tc .vmem S1x1x1x1024 .f32) (harg12 : arg12.IsWhole) (arg13 : Memref sig .tc .vmem S1x2312x8x128 .f32) (harg13 : arg13.IsWhole)
    (P : Vec F S1x2312x8x128 .f32)
    (hP : (grid0.coords t 1).val ≠ 0 → P = acc V c (t.val - 1) (Nat.lt_of_le_of_lt (Nat.sub_le _ _) t.isLt)) :
    iprop(Pipeline.ΦA spec0 c ∗ Pipeline.ΦT pre0 (adm V 0).1 c ∗ owns (c : Thread nD τ) arg4 fullShare (blk V c 0 t) ∗ owns (c : Thread nD τ) arg5 fullShare (blk V c 1 t) ∗ owns (c : Thread nD τ) arg6 fullShare (blk V c 2 t) ∗ owns (c : Thread nD τ) arg7 fullShare (blk V c 3 t) ∗ owns (c : Thread nD τ) arg8 fullShare (blk V c 4 t) ∗ owns (c : Thread nD τ) arg9 fullShare (blk V c 5 t) ∗ owns (c : Thread nD τ) arg10 fullShare (blk V c 6 t) ∗ owns (c : Thread nD τ) arg11 fullShare (blk V c 7 t) ∗ owns (c : Thread nD τ) arg12 fullShare (blk V c 8 t) ∗ owns (c : Thread nD τ) arg13 fullShare P)
      ⊢ (wp frame (wpE (defs₀ (F := F)) Variants.none (c : Thread nD τ) none) Set.univ
          (cc0_moe_experts (grid0.coords t) (Memref.whole main_v21) (Memref.isWhole_whole _) (Memref.whole main_v22) (Memref.isWhole_whole _) arg4 harg4 arg5 harg5 arg6 harg6 arg7 harg7 arg8 harg8 arg9 harg9 arg10 harg10 arg11 harg11 arg12 harg12 arg13 harg13 (Memref.whole cc0_scratch0) (Memref.isWhole_whole _) (Memref.whole cc0_scratch1) (Memref.isWhole_whole _))
          (fun _ => iprop(Pipeline.ΦA spec0 c ∗ Pipeline.ΦT pre0 (adm V 0).1 c ∗ owns (c : Thread nD τ) arg4 fullShare (blk V c 0 t) ∗ owns (c : Thread nD τ) arg5 fullShare (blk V c 1 t) ∗ owns (c : Thread nD τ) arg6 fullShare (blk V c 2 t) ∗ owns (c : Thread nD τ) arg7 fullShare (blk V c 3 t) ∗ owns (c : Thread nD τ) arg8 fullShare (blk V c 4 t) ∗ owns (c : Thread nD τ) arg9 fullShare (blk V c 5 t) ∗ owns (c : Thread nD τ) arg10 fullShare (blk V c 6 t) ∗ owns (c : Thread nD τ) arg11 fullShare (blk V c 7 t) ∗ owns (c : Thread nD τ) arg12 fullShare (blk V c 8 t) ∗ owns (c : Thread nD τ) arg13 fullShare (acc V c t.val t.isLt))) : sProp 𝕄) := by
  obtain rfl : c = 0 := Subsingleton.elim _ _
  rw [tables_eq]
  unfold Pipeline.ΦA
  rw [Gen.scopedRest0_eq]
  iintro ⟨⟨⟨⟨%f14, H14⟩, %f15, H15⟩, Hg⟩, ⟨H2, H3⟩, H4, H5, H6, H7, H8, H9, H10, H11, H12, H13⟩
  ihave K4 := (held_of_owns 0 arg4 harg4 (blk V 0 0 t)) $$ H4
  ihave K5 := (held_of_owns 0 arg5 harg5 (blk V 0 1 t)) $$ H5
  ihave K6 := (held_of_owns 0 arg6 harg6 (blk V 0 2 t)) $$ H6
  ihave K7 := (held_of_owns 0 arg7 harg7 (blk V 0 3 t)) $$ H7
  ihave K8 := (held_of_owns 0 arg8 harg8 (blk V 0 4 t)) $$ H8
  ihave K9 := (held_of_owns 0 arg9 harg9 (blk V 0 5 t)) $$ H9
  ihave K10 := (held_of_owns 0 arg10 harg10 (blk V 0 6 t)) $$ H10
  ihave K11 := (held_of_owns 0 arg11 harg11 (blk V 0 7 t)) $$ H11
  ihave K12 := (held_of_owns 0 arg12 harg12 (blk V 0 8 t)) $$ H12
  ihave K13 := (held_of_owns 0 arg13 harg13 P) $$ H13
  iapply wp_wand_r
  isplitl [H2 H3 K4 K5 K6 K7 K8 K9 K10 K11 K12 K13 H14 H15]
  · iapply (body_point 0 (grid0.coords t) (Memref.whole main_v21) (Memref.isWhole_whole _) (Memref.whole main_v22) (Memref.isWhole_whole _) arg4 harg4 arg5 harg5 arg6 harg6 arg7 harg7 arg8 harg8 arg9 harg9 arg10 harg10 arg11 harg11 arg12 harg12 arg13 harg13 (Memref.whole cc0_scratch0) (Memref.isWhole_whole _) (Memref.whole cc0_scratch1) (Memref.isWhole_whole _) (blk V 0 2 t) (blk V 0 0 t) (blk V 0 1 t) (blk V 0 3 t) (blk V 0 4 t) (blk V 0 5 t) (blk V 0 6 t) (blk V 0 7 t) (blk V 0 8 t) (V 0 main_v21) (V 0 main_v22) fullShare.right (V 0 main_v21) (V 0 main_v22) rfl rfl (ok.sched 0 _) (fun y => ok.order 0 _) f14 f15 (harg13.unread P))
    isplitl [H2]; · iapply (of_eq (whole_eq (F := F) 0 main_v21 fullShare.right (V 0 main_v21)).symm); iexact H2
    isplitl [H3]; · iapply (of_eq (whole_eq (F := F) 0 main_v22 fullShare.right (V 0 main_v22)).symm); iexact H3
    isplitl [K4]; · iexact K4
    isplitl [K5]; · iexact K5
    isplitl [K6]; · iexact K6
    isplitl [K7]; · iexact K7
    isplitl [K8]; · iexact K8
    isplitl [K9]; · iexact K9
    isplitl [K10]; · iexact K10
    isplitl [K11]; · iexact K11
    isplitl [K12]; · iexact K12
    isplitl [K13]; · iexact K13
    isplitl [H14]; · iapply (of_eq (whole_eq (F := F) 0 cc0_scratch0 fullShare f14).symm); iexact H14
    iapply (of_eq (whole_eq (F := F) 0 cc0_scratch1 fullShare f15).symm); iexact H15
  iintro %_ ⟨H2, H3, K4, K5, K6, K7, K8, K9, K10, K11, K12, ⟨%f', K13, %e13⟩, ⟨%h14, H14⟩, ⟨%h15, H15⟩⟩
  isplitl [H14 H15 Hg]
  · isplitr [Hg]
    · isplitl [H14]
      · iexists h14; iapply (of_eq (whole_eq (F := F) 0 cc0_scratch0 fullShare h14)); iexact H14
      iexists h15; iapply (of_eq (whole_eq (F := F) 0 cc0_scratch1 fullShare h15)); iexact H15
    iexact Hg
  isplitl [H2 H3]
  · isplitl [H2]; · iapply (of_eq (whole_eq (F := F) 0 main_v21 fullShare.right (V 0 main_v21))); iexact H2
    iapply (of_eq (whole_eq (F := F) 0 main_v22 fullShare.right (V 0 main_v22))); iexact H3
  isplitl [K4]; · iapply (owns_of_held 0 arg4 (harg4.read_unread (blk V 0 0 t))); iexact K4
  isplitl [K5]; · iapply (owns_of_held 0 arg5 (harg5.read_unread (blk V 0 1 t))); iexact K5
  isplitl [K6]; · iapply (owns_of_held 0 arg6 (harg6.read_unread (blk V 0 2 t))); iexact K6
  isplitl [K7]; · iapply (owns_of_held 0 arg7 (harg7.read_unread (blk V 0 3 t))); iexact K7
  isplitl [K8]; · iapply (owns_of_held 0 arg8 (harg8.read_unread (blk V 0 4 t))); iexact K8
  isplitl [K9]; · iapply (owns_of_held 0 arg9 (harg9.read_unread (blk V 0 5 t))); iexact K9
  isplitl [K10]; · iapply (owns_of_held 0 arg10 (harg10.read_unread (blk V 0 6 t))); iexact K10
  isplitl [K11]; · iapply (owns_of_held 0 arg11 (harg11.read_unread (blk V 0 7 t))); iexact K11
  isplitl [K12]; · iapply (owns_of_held 0 arg12 (harg12.read_unread (blk V 0 8 t))); iexact K12
  iapply (owns_of_held 0 arg13 (e13.trans ?_))
  · rw [harg13.read_unread]
    exact acc_eq V 0 t P hP
  iexact K13

/-- The body's obligation: at every grid point, from the staged blocks and the accumulated rows, the next ones. -/
theorem obligation (ok : Ok V) (c : Dev nD) :
    Pipeline.BodyObligation (dats V 0 c) (defs₀ (F := F)) Variants.none () Set.univ := fun t => by
  rw [Gen.bigSep_W0, Gen.bigSep_W0]
  rw [show (dats V 0 c).Φ t.castSucc = iprop(Pipeline.ΦA spec0 c ∗ Pipeline.ΦT pre0 (adm V 0).1 c) from rfl,
    show (dats V 0 c).Φ t.succ = iprop(Pipeline.ΦA spec0 c ∗ Pipeline.ΦT pre0 (adm V 0).1 c) from rfl]
  unfold Dat.owesAt Pipeline.owesWithin
  rw [show (dats V 0 c).owed t.castSucc = 0 from rfl, show (dats V 0 c).owed t.succ = 0 from rfl]
  iintro ⟨⟨HA, HT⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply wp_wand_r
  isplitl [HA HT H0 H1 H2 H3 H4 H5 H6 H7 H8 H9]
  · iapply (point_run V ok c t _ _ _ _ _ _ _ _ _ _ _ _ _ _ _ _ _ _ _ _ ((dats V 0 c).before 9 t d9) (fun h => before_9 V c t h d9))
    isplitl [HA]; · iexact HA
    isplitl [HT]; · iexact HT
    isplitl [H0]; · rw [← before_0 V c t d0]; iexact H0
    isplitl [H1]; · rw [← before_1 V c t d1]; iexact H1
    isplitl [H2]; · rw [← before_2 V c t d2]; iexact H2
    isplitl [H3]; · rw [← before_3 V c t d3]; iexact H3
    isplitl [H4]; · rw [← before_4 V c t d4]; iexact H4
    isplitl [H5]; · rw [← before_5 V c t d5]; iexact H5
    isplitl [H6]; · rw [← before_6 V c t d6]; iexact H6
    isplitl [H7]; · rw [← before_7 V c t d7]; iexact H7
    isplitl [H8]; · rw [← before_8 V c t d8]; iexact H8
    iexact H9
  iintro %_ ⟨HA, HT, H0, H1, H2, H3, H4, H5, H6, H7, H8, H9⟩
  isplitl [HA HT]
  · isplitl [HA]; · iexact HA
    iexact HT
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Proof.KernelIdeal
-- ==== Proof.IResult.lean ====
module

public import proofs.«01_k».proof.Proof.IPoint
public import Idealize.ShloMosaic.Lib.Pipeline.ValueKit

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the separation logic: no counters beside the memory. -/
local notation "𝕄" => MT nD τ sig Unit (Elt F) ℕ (UR sig nD τ) ℕ

open Idealize.ShloMosaic.Pipeline (Dat Cfg Window)

variable (V : Entry F)

/-- A grid point's two coordinates. -/
theorem point_coords : ∀ t : Fin grid0.N, (grid0.coords t 0).val = t.val / 32 ∧ (grid0.coords t 1).val = t.val % 32 := by
  decide +kernel

/-- Point `n` of the grid, by its sequence: the last expert of it. -/
def lastPoint (b : Fin 16) : Fin grid0.N := ⟨b.val * 32 + 31, by rw [Gen.N_0]; omega⟩

/-- The array the call leaves: each sequence's rows after its last expert. -/
def final (c : Dev nD) : S16x2312x8x128.Idx → Elt F .f32 := fun j =>
  acc V c (lastPoint (j 0)).val (lastPoint (j 0)).isLt
    (ValueIdx.ix4 (0 : Fin 1) (j 1 : Fin 2312) (j 2 : Fin 8) (j 3 : Fin 128) : S1x2312x8x128.Idx)

/-- Window 0's block index at a point. -/
theorem transform_0 : ∀ t : Fin grid0.N, cc0_transform_0 (grid0.coords t) = ![t.val / 32, 0, 0] := by decide +kernel

/-- Window 1's block index at a point. -/
theorem transform_1 : ∀ t : Fin grid0.N, cc0_transform_1 (grid0.coords t) = ![t.val / 32, 0, 0] := by decide +kernel

/-- Window 2's block index at a point. -/
theorem transform_2 : ∀ t : Fin grid0.N, cc0_transform_2 (grid0.coords t) = ![t.val / 32, 0, 0, 0] := by decide +kernel

/-- Window 3's block index at a point. -/
theorem transform_3 : ∀ t : Fin grid0.N, cc0_transform_3 (grid0.coords t) = ![0, t.val % 32, 0, 0] := by decide +kernel

/-- Window 4's block index at a point. -/
theorem transform_4 : ∀ t : Fin grid0.N, cc0_transform_4 (grid0.coords t) = ![0, t.val % 32, 0, 0] := by decide +kernel

/-- Window 5's block index at a point. -/
theorem transform_5 : ∀ t : Fin grid0.N, cc0_transform_5 (grid0.coords t) = ![0, t.val % 32, 0, 0] := by decide +kernel

/-- Window 6's block index at a point. -/
theorem transform_6 : ∀ t : Fin grid0.N, cc0_transform_6 (grid0.coords t) = ![0, t.val % 32, 0, 0] := by decide +kernel

/-- Window 7's block index at a point. -/
theorem transform_7 : ∀ t : Fin grid0.N, cc0_transform_7 (grid0.coords t) = ![0, t.val % 32, 0, 0] := by decide +kernel

/-- Window 8's block index at a point. -/
theorem transform_8 : ∀ t : Fin grid0.N, cc0_transform_8 (grid0.coords t) = ![0, t.val % 32, 0, 0] := by decide +kernel

/-- Window 9's block index at a point. -/
theorem transform_9 : ∀ t : Fin grid0.N, cc0_transform_9 (grid0.coords t) = ![t.val / 32, 0, 0, 0] := by decide +kernel

/-- Window 0's block at a point, read at an index: the array there. -/
theorem blk_0 (c : Dev nD) (t : Fin grid0.N) (y : S1x1x9536.Idx) (hb : t.val / 32 < 16) :
    (blk V c 0 t : S1x1x9536.Idx → _) y = (V c main_v18 : S16x1x9536.Idx → _) (ValueIdx.ix3 (⟨t.val / 32, hb⟩ : Fin 16) (0 : Fin 1) (y 2 : Fin 9536)) := by
  refine congrArg (V c main_v18 : S16x1x9536.Idx → _) ?_
  have e : (win0 (adm V 0) 0).index t = ![t.val / 32, 0, 0] := transform_0 t
  funext a
  apply Fin.ext
  fin_cases a
  all_goals blk_simp [e]
  all_goals first | rfl | (simp [ValueIdx.ix3, ValueIdx.ix4]; done) | skip

/-- Window 1's block at a point, read at an index: the array there. -/
theorem blk_1 (c : Dev nD) (t : Fin grid0.N) (y : S1x1x9536.Idx) (hb : t.val / 32 < 16) :
    (blk V c 1 t : S1x1x9536.Idx → _) y = (V c main_v20 : S16x1x9536.Idx → _) (ValueIdx.ix3 (⟨t.val / 32, hb⟩ : Fin 16) (0 : Fin 1) (y 2 : Fin 9536)) := by
  refine congrArg (V c main_v20 : S16x1x9536.Idx → _) ?_
  have e : (win0 (adm V 0) 1).index t = ![t.val / 32, 0, 0] := transform_1 t
  funext a
  apply Fin.ext
  fin_cases a
  all_goals blk_simp [e]
  all_goals first | rfl | (simp [ValueIdx.ix3, ValueIdx.ix4]; done) | skip

/-- Window 2's block at a point, read at an index: the array there. -/
theorem blk_2 (c : Dev nD) (t : Fin grid0.N) (y : S1x2304x8x128.Idx) (hb : t.val / 32 < 16) :
    (blk V c 2 t : S1x2304x8x128.Idx → _) y = (V c main_arg0 : S16x2304x8x128.Idx → _) (ValueIdx.ix4 (⟨t.val / 32, hb⟩ : Fin 16) (y 1 : Fin 2304) (y 2 : Fin 8) (y 3 : Fin 128)) := by
  refine congrArg (V c main_arg0 : S16x2304x8x128.Idx → _) ?_
  have e : (win0 (adm V 0) 2).index t = ![t.val / 32, 0, 0, 0] := transform_2 t
  funext a
  apply Fin.ext
  fin_cases a
  all_goals blk_simp [e]
  all_goals first | rfl | (simp [ValueIdx.ix3, ValueIdx.ix4]; done) | skip

/-- Window 3's block at a point, read at an index: the array there. -/
theorem blk_3 (c : Dev nD) (t : Fin grid0.N) (y : S1x1x1024x1024.Idx) (hb : t.val % 32 < 32) :
    (blk V c 3 t : S1x1x1024x1024.Idx → _) y = (V c main_v0 : S4x32x1024x1024.Idx → _) (ValueIdx.ix4 (0 : Fin 4) (⟨t.val % 32, hb⟩ : Fin 32) (y 2 : Fin 1024) (y 3 : Fin 1024)) := by
  refine congrArg (V c main_v0 : S4x32x1024x1024.Idx → _) ?_
  have e : (win0 (adm V 0) 3).index t = ![0, t.val % 32, 0, 0] := transform_3 t
  funext a
  apply Fin.ext
  fin_cases a
  all_goals blk_simp [e]
  all_goals first | rfl | (simp [ValueIdx.ix3, ValueIdx.ix4]; done) | skip

/-- Window 4's block at a point, read at an index: the array there. -/
theorem blk_4 (c : Dev nD) (t : Fin grid0.N) (y : S1x1x1x1024.Idx) (hb : t.val % 32 < 32) :
    (blk V c 4 t : S1x1x1x1024.Idx → _) y = (V c main_v23 : S4x32x1x1024.Idx → _) (ValueIdx.ix4 (0 : Fin 4) (⟨t.val % 32, hb⟩ : Fin 32) (0 : Fin 1) (y 3 : Fin 1024)) := by
  refine congrArg (V c main_v23 : S4x32x1x1024.Idx → _) ?_
  have e : (win0 (adm V 0) 4).index t = ![0, t.val % 32, 0, 0] := transform_4 t
  funext a
  apply Fin.ext
  fin_cases a
  all_goals blk_simp [e]
  all_goals first | rfl | (simp [ValueIdx.ix3, ValueIdx.ix4]; done) | skip

/-- Window 5's block at a point, read at an index: the array there. -/
theorem blk_5 (c : Dev nD) (t : Fin grid0.N) (y : S1x1x1024x1024.Idx) (hb : t.val % 32 < 32) :
    (blk V c 5 t : S1x1x1024x1024.Idx → _) y = (V c main_v1 : S4x32x1024x1024.Idx → _) (ValueIdx.ix4 (0 : Fin 4) (⟨t.val % 32, hb⟩ : Fin 32) (y 2 : Fin 1024) (y 3 : Fin 1024)) := by
  refine congrArg (V c main_v1 : S4x32x1024x1024.Idx → _) ?_
  have e : (win0 (adm V 0) 5).index t = ![0, t.val % 32, 0, 0] := transform_5 t
  funext a
  apply Fin.ext
  fin_cases a
  all_goals blk_simp [e]
  all_goals first | rfl | (simp [ValueIdx.ix3, ValueIdx.ix4]; done) | skip

/-- Window 6's block at a point, read at an index: the array there. -/
theorem blk_6 (c : Dev nD) (t : Fin grid0.N) (y : S1x1x1x1024.Idx) (hb : t.val % 32 < 32) :
    (blk V c 6 t : S1x1x1x1024.Idx → _) y = (V c main_v24 : S4x32x1x1024.Idx → _) (ValueIdx.ix4 (0 : Fin 4) (⟨t.val % 32, hb⟩ : Fin 32) (0 : Fin 1) (y 3 : Fin 1024)) := by
  refine congrArg (V c main_v24 : S4x32x1x1024.Idx → _) ?_
  have e : (win0 (adm V 0) 6).index t = ![0, t.val % 32, 0, 0] := transform_6 t
  funext a
  apply Fin.ext
  fin_cases a
  all_goals blk_simp [e]
  all_goals first | rfl | (simp [ValueIdx.ix3, ValueIdx.ix4]; done) | skip

/-- Window 7's block at a point, read at an index: the array there. -/
theorem blk_7 (c : Dev nD) (t : Fin grid0.N) (y : S1x1x1024x1024.Idx) (hb : t.val % 32 < 32) :
    (blk V c 7 t : S1x1x1024x1024.Idx → _) y = (V c main_v2 : S4x32x1024x1024.Idx → _) (ValueIdx.ix4 (0 : Fin 4) (⟨t.val % 32, hb⟩ : Fin 32) (y 2 : Fin 1024) (y 3 : Fin 1024)) := by
  refine congrArg (V c main_v2 : S4x32x1024x1024.Idx → _) ?_
  have e : (win0 (adm V 0) 7).index t = ![0, t.val % 32, 0, 0] := transform_7 t
  funext a
  apply Fin.ext
  fin_cases a
  all_goals blk_simp [e]
  all_goals first | rfl | (simp [ValueIdx.ix3, ValueIdx.ix4]; done) | skip

/-- Window 8's block at a point, read at an index: the array there. -/
theorem blk_8 (c : Dev nD) (t : Fin grid0.N) (y : S1x1x1x1024.Idx) (hb : t.val % 32 < 32) :
    (blk V c 8 t : S1x1x1x1024.Idx → _) y = (V c main_v25 : S4x32x1x1024.Idx → _) (ValueIdx.ix4 (0 : Fin 4) (⟨t.val % 32, hb⟩ : Fin 32) (0 : Fin 1) (y 3 : Fin 1024)) := by
  refine congrArg (V c main_v25 : S4x32x1x1024.Idx → _) ?_
  have e : (win0 (adm V 0) 8).index t = ![0, t.val % 32, 0, 0] := transform_8 t
  funext a
  apply Fin.ext
  fin_cases a
  all_goals blk_simp [e]
  all_goals first | rfl | (simp [ValueIdx.ix3, ValueIdx.ix4]; done) | skip

/-- The output block is written back after a sequence's last expert only. -/
theorem flush_last (t : Fin grid0.N) : (win0 (adm V 0) 9).flush t = true ↔ t.val % 32 = 31 := by
  have hN : grid0.N = 512 := Gen.N_0
  have ht := t.isLt
  rw [Window.flush_out _ rfl]
  constructor
  · rintro (hl | ⟨hl, hne⟩)
    · have hl' : t.val + 1 = grid0.N := hl
      omega
    · have hl' : t.val + 1 < grid0.N := hl
      by_contra hc
      refine hne ?_
      refine (transform_9 ⟨t.val + 1, hl'⟩).trans (Eq.trans ?_ (transform_9 t).symm)
      exact congrArg (fun n => ![n, 0, 0, 0]) (show (t.val + 1) / 32 = t.val / 32 from by omega)
  · intro h
    by_cases hl : t.val + 1 = grid0.N
    · exact Or.inl hl
    · have hl' : t.val + 1 < grid0.N := by omega
      refine Or.inr ⟨hl', fun e => ?_⟩
      have e0 : (t.val + 1) / 32 = t.val / 32 := congrFun ((transform_9 ⟨t.val + 1, hl'⟩).symm.trans (Eq.trans e (transform_9 t))) 0
      omega

/-- The point's block of the result array, at an index. -/
theorem out_emb (t : Fin grid0.N) (y : S1x2312x8x128.Idx) (hb : t.val / 32 < 16) :
    ((win0 (adm V 0) 9).blk t).view.emb y = (ValueIdx.ix4 (⟨t.val / 32, hb⟩ : Fin 16) (y 1 : Fin 2312) (y 2 : Fin 8) (y 3 : Fin 128) : S16x2312x8x128.Idx) := by
  have e : (win0 (adm V 0) 9).index t = ![t.val / 32, 0, 0, 0] := transform_9 t
  funext a
  apply Fin.ext
  fin_cases a
  all_goals blk_simp [e]
  all_goals first | rfl | (simp [ValueIdx.ix3, ValueIdx.ix4]; done) | skip

/-- The accumulated rows at equal points. -/
theorem acc_congr (c : Dev nD) {n n' : ℕ} (e : n = n') (h : n < grid0.N) (h' : n' < grid0.N) : acc V c n h = acc V c n' h' := by
  subst e; rfl

/-- Every row of the array is written back. -/
theorem out_covered (i : S16x2312x8x128.Idx) (t : Fin grid0.N) (ht : t.val = (i 0 : Nat) * 32 + 31) :
    i ∈ ((win0 (adm V 0) 9).blk t).view.set := by
  have h0 : (i 0 : Nat) < 16 := (i 0).isLt
  have hb : t.val / 32 < 16 := by omega
  have e := out_emb V t (ValueIdx.ix4 (0 : Fin 1) (i 1 : Fin 2312) (i 2 : Fin 8) (i 3 : Fin 128)) hb
  have e' : (ValueIdx.ix4 (⟨t.val / 32, hb⟩ : Fin 16) (i 1 : Fin 2312) (i 2 : Fin 8) (i 3 : Fin 128) : S16x2312x8x128.Idx) = i := by
    funext a
    apply Fin.ext
    fin_cases a
    · show t.val / 32 = (i 0 : Nat)
      omega
    all_goals rfl
  have h := View.emb_mem_set ((win0 (adm V 0) 9).blk t).view (ValueIdx.ix4 (0 : Fin 1) (i 1 : Fin 2312) (i 2 : Fin 8) (i 3 : Fin 128))
  exact Eq.mp (congrArg (· ∈ ((win0 (adm V 0) 9).blk t).view.set) (e.trans e')) h

/-- The call leaves that array. -/
theorem result_eq (c : Dev nD) : (dats V 0 c).arrAt 9 grid0.N = final V c := by
  have hN : grid0.N = 512 := Gen.N_0
  refine (dats V 0 c).arrAt_eq_of_emb 9 (final V c) (fun t hf y => ?_) fun i => ?_
  · change S1x2312x8x128.Idx at y
    have h31 := (flush_last V t).1 hf
    have ht : t.val < grid0.N := t.isLt
    have hb : t.val / 32 < 16 := by omega
    refine Eq.trans ?_ (congrArg (final V c) (out_emb V t y hb)).symm
    have hx : t.val / 32 * 32 + 31 < grid0.N := by omega
    refine Eq.trans (b := acc V c t.val t.isLt (ValueIdx.ix4 (0 : Fin 1) (y 1 : Fin 2312) (y 2 : Fin 8) (y 3 : Fin 128))) ?_
      (congrFun (acc_congr V c (show t.val / 32 * 32 + 31 = t.val from by omega) hx t.isLt).symm _)
    refine congrArg (acc V c t.val t.isLt) (funext fun a => Fin.ext ?_)
    fin_cases a
    · have h := (y 0).isLt
      have h' : (y 0).val < 1 := h
      show (y 0).val = 0
      omega
    all_goals rfl
  · change S16x2312x8x128.Idx at i
    have h0 : (i 0 : Nat) < 16 := (i 0).isLt
    refine ⟨lastPoint ⟨(i 0 : Nat), h0⟩, (flush_last V _).2 (by show ((i 0 : Nat) * 32 + 31) % 32 = 31; omega), ?_⟩
    exact out_covered V i _ rfl

end Cert.Proof.KernelIdeal
-- ==== Proof.IRun.lean ====
module

public import proofs.«01_k».proof.Proof.IResult
public import Idealize.ShloMosaic.Lib.Pipeline.Frame

@[expose] public section

set_option maxRecDepth 16384

noncomputable section

namespace Cert.Proof.KernelIdeal

open Cert.KernelIdeal
open Idealize.ShloMosaic Idealize.ShloMosaic.TcCoe Idealize.ShloMosaic.Tactic
open Idealize.ShloMosaic.ValueIdx (ix3 ix4)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the separation logic: no counters beside the memory. -/
local notation "𝕄" => MT nD τ sig Unit (Elt F) ℕ (UR sig nD τ) ℕ

open Idealize.ShloMosaic.Pipeline (Dat Cfg Window)

variable (m : (ℓ : Loc nD τ sig) → Buf (Elt F) ℓ) (ρ : Dev nD → PrngReg)

/-- The host operations before the call, by stretches. -/
abbrev stretches : List (List (HloOp τ sig (Elt F))) := [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10]

/-- The arrays where the call is entered. -/
def atEntry : Entry F := fun c b => StableHlo.after (stretches (F := F)).flatten (fun b => m (c, b)) b

theorem stretches_sub : (stretches (F := F)).Forall fun ops => ops.Forall fun op => op.bufs ⊆ StableHlo.tcRefs τ sig :=
  ⟨Gen.hostOps0_sub, Gen.hostOps0_1_sub, Gen.hostOps0_2_sub, Gen.hostOps0_3_sub, Gen.hostOps0_4_sub, Gen.hostOps0_5_sub, Gen.hostOps0_6_sub, Gen.hostOps0_7_sub, Gen.hostOps0_8_sub, Gen.hostOps0_9_sub, Gen.hostOps0_10_sub⟩

theorem stretches_fresh : (stretches (F := F)).Forall fun ops => ops.Forall fun op => op.fresh = ∅ :=
  ⟨⟨rfl, rfl, rfl, rfl⟩,
      ⟨rfl, rfl, rfl⟩,
      rfl,
      ⟨rfl, rfl, rfl, rfl, rfl, rfl, rfl, rfl, rfl, rfl, rfl, rfl, rfl, rfl, rfl, rfl, rfl, rfl, rfl, rfl, rfl, rfl⟩,
      ⟨rfl, rfl, rfl, rfl, rfl, rfl, rfl, rfl, rfl⟩,
      ⟨rfl, rfl, rfl⟩,
      ⟨rfl, rfl⟩,
      ⟨rfl, rfl⟩,
      ⟨rfl, rfl⟩,
      ⟨rfl, rfl⟩,
      ⟨rfl, rfl, rfl, rfl, rfl, rfl⟩⟩

/-- The program up to the call leaves the arrays at those contents. -/
theorem main_entry : Pipeline.HMainP (Ix := Unit) (Name := ℕ) (U := UR sig nD τ) (Lvl := ℕ) (pcfgs (F := F)) 0 defs₀ Variants.none m main (atEntry m) :=
  Pipeline.hmainP_prefixes _ _ _ _ m main stretches stretches_sub stretches_fresh (fun c => Gen.main_chain c)

/-- The run, from what the body needs of the arrays at entry: the result array and every other array at the end. -/
theorem run_post (ok : Ok (atEntry m)) : θ_run defs (onTc (τ := τ) (main (F := F))) ⟨m, fun _ => 0, ρ⟩ fun r =>
    Pipeline.FramePost (Pipeline.pin (pcfgs (F := F)) (adm (atEntry m))) (dats (atEntry m)) 0 (atEntry m) r ∧ r.2.sem = fun _ => 0 :=
  Pipeline.θ_run_frameP (pcfgs (F := F)) (adm (atEntry m)) (dats (atEntry m)) 0 Gen.launch0 defs₀ Variants.none m ρ main
    (fun c => (obligation (atEntry m) ok c).loose) (fun c => (dats (atEntry m) 0 c).share_full fun _ => rfl) (fun _ _ => rfl)
    (atEntry m) (main_entry m) (fun _ _ => rfl) (fun c k => by obtain rfl : c = 0 := Subsingleton.elim _ _; rfl) (fun _ _ => rfl) (Q' := _) (hQ' := fun _ h => h)

end Cert.Proof.KernelIdeal
-- ==== Proof.IHost.lean ====
module

public import proofs.«01_k».proof.Proof.IRun
public import proofs.«01_k».proof.Proof.Routes
public import Idealize.ShloMosaic.Lib.StableHlo.RunRead

@[expose] public section

set_option maxRecDepth 16384

/-!
  The routing tables that the host makes before the call: the order of the assignments by expert, the number of assignments of
  every expert and the place where they start; with these the call's body has what it needs.
-/

noncomputable section

namespace Cert.Proof.KernelIdeal

open Cert.KernelIdeal
open Idealize.ShloMosaic Idealize.ShloMosaic.TcCoe Idealize.ShloMosaic.Tactic
open Idealize.SL.Sem

variable {F : FTy → Type} [FloatOps F]

/-- The experts of a sample's 9216 assignments: place `q` belongs to token `q / 4`. -/
def keys (E : S16x2304x4.Idx → BitVec 32) (b : Fin 16) (q : Fin 9216) : BitVec 32 :=
  E (ValueIdx.ix3 b (⟨q.val / 4, by omega⟩ : Fin 2304) (⟨q.val % 4, by omega⟩ : Fin 4))

/-- A `[16, 2304, 4]` array read row by row. -/
def flatE {α : Type} (E : S16x2304x4.Idx → α) : S16x9216.Idx → α := shapeCast S16x9216 E Gen.shapeCasts_S16x2304x4_S16x9216

theorem flatE_apply {α : Type} (E : S16x2304x4.Idx → α) (b : Fin 16) (q : Fin 9216) :
    flatE E (ValueIdx.ix2 b q) = E (ValueIdx.ix3 b (⟨q.val / 4, by omega⟩ : Fin 2304) (⟨q.val % 4, by omega⟩ : Fin 4)) := by
  refine shapeCast_apply E _ _ _ ?_
  rw [Shape.rowMajor_val_three, Shape.rowMajor_val_two]
  show (b.val * 2304 + q.val / 4) * 4 + q.val % 4 = b.val * 9216 + q.val
  omega

/-- The places in the order of their experts. -/
def orderW (E : S16x2304x4.Idx → BitVec 32) : S16x9216.Idx → BitVec 32 :=
  (Host.sort2 S16x9216 1 comparator_i32_i32_d1 (flatE E) (iotaInDim S16x9216 32 1)).2

theorem orderW_apply (E : S16x2304x4.Idx → BitVec 32) (b : Fin 16) (p : Fin 9216) :
    orderW E (ValueIdx.ix2 b p) = BitVec.ofNat 32 (srt (keys E b) p).val := by
  refine (sort2_iota (flatE E) comparator_i32_i32_d1 (fun _ _ => rfl) b p).trans ?_
  exact congrArg (fun k : Fin 9216 → BitVec 32 => BitVec.ofNat 32 (srt k p).val) (funext fun q => flatE_apply E b q)

/-- The table of places, lengthened by 320 zeros. -/
def orderT (E : S16x2304x4.Idx → BitVec 32) : S16x1x9536.Idx → BitVec 32 :=
  broadcastInDim S16x1x9536 ![0, 2] Gen.bcast_S16x9536_S16x1x9536_0_2
    (pad S16x9536 ![0, 0] ![0, 320] ![0, 0] (orderW E) (constantI S_ 32 0#32) Gen.pads_S16x9216_S16x9536_000_03200 Gen.h_S_)

/-- A table of rows of 9536 given a middle axis. -/
theorem mid_apply {α : Type} (v : S16x9536.Idx → α) (b : Fin 16) (p : Fin 9536) :
    broadcastInDim S16x1x9536 ![0, 2] Gen.bcast_S16x9536_S16x1x9536_0_2 v (ValueIdx.ix3 b (0 : Fin 1) p) = v (ValueIdx.ix2 b p) := by
  refine broadcastInDim_apply _ _ v _ _ fun e => ?_
  match e with
  | ⟨0, _⟩ => rfl
  | ⟨1, _⟩ => rfl

theorem orderT_apply (E : S16x2304x4.Idx → BitVec 32) (b : Fin 16) (p : Fin 9536) :
    orderT E (ValueIdx.ix3 b (0 : Fin 1) p) = if h : p.val < 9216 then BitVec.ofNat 32 (srt (keys E b) ⟨p.val, h⟩).val else 0#32 := by
  unfold orderT
  refine (mid_apply _ b p).trans ((pad_rows (orderW E) (constantI S_ 32 0#32) _ _ b p).trans ?_)
  by_cases h : p.val < 9216
  · rw [dif_pos h, dif_pos h]
    exact orderW_apply E b ⟨p.val, h⟩
  · rw [dif_neg h, dif_neg h]
    rfl

theorem ix3_self (y : S16x1x9536.Idx) : y = ValueIdx.ix3 (y 0 : Fin 16) (0 : Fin 1) (y 2 : Fin 9536) := by
  have h1 : (y 1).val < 1 := (y 1).isLt
  funext a
  match a with
  | ⟨0, _⟩ => rfl
  | ⟨1, _⟩ => exact Fin.ext (show (y 1).val = 0 by omega)
  | ⟨2, _⟩ => rfl

theorem orderT_lt (E : S16x2304x4.Idx → BitVec 32) (y : S16x1x9536.Idx) : (orderT E y).toNat < 9216 := by
  have key : ∀ (b : Fin 16) (p : Fin 9536), (orderT E (ValueIdx.ix3 b (0 : Fin 1) p)).toNat < 9216 := by
    intro b p
    rw [orderT_apply]
    split
    · next h =>
      have := (srt (keys E b) ⟨p.val, h⟩).isLt
      rw [BitVec.toNat_ofNat, Nat.mod_eq_of_lt (by omega)]
      exact this
    · decide
  exact lt_of_eq_of_lt (congrArg (fun z => (orderT E z).toNat) (ix3_self y)) (key (y 0) (y 2))

/-- The number of every expert's assignments. -/
def countW (E : S16x2304x4.Idx → BitVec 32) : S16x32.Idx → BitVec 32 :=
  Host.reduce IntOp.addi
    (extui 32 (cmpi .eq
      (broadcastInDim S16x9216x32 ![0, 1, 2] Gen.bcast_S16x9216x1_S16x9216x32_0_1_2 (broadcastInDim S16x9216x1 ![0, 1] Gen.bcast_S16x9216_S16x9216x1_0_1 (flatE E)))
      (broadcastInDim S16x9216x32 ![0, 1, 2] Gen.bcast_S1x1x32_S16x9216x32_0_1_2 (broadcastInDim S1x1x32 ![2] Gen.bcast_S32_S1x1x32_2 (iotaInDim S32 32 0)))) Gen.natLt_1_32)
    (constantI S_ 32 0#32) Gen.reducesTo_S16x9216x32_S16x32_d1 Gen.h_S_

theorem bc_key (x : S16x9216.Idx → BitVec 32) (b : Fin 16) (q : Fin 9216) (e : Fin 32) :
    broadcastInDim S16x9216x32 ![0, 1, 2] Gen.bcast_S16x9216x1_S16x9216x32_0_1_2 (broadcastInDim S16x9216x1 ![0, 1] Gen.bcast_S16x9216_S16x9216x1_0_1 x) (ValueIdx.ix3 b q e) = x (ValueIdx.ix2 b q) := by
  refine (broadcastInDim_apply _ _ _ _ (ValueIdx.ix3 b q (0 : Fin 1)) fun a => ?_).trans (broadcastInDim_apply _ _ x _ (ValueIdx.ix2 b q) fun a => ?_)
  · match a with
    | ⟨0, _⟩ => rfl
    | ⟨1, _⟩ => rfl
    | ⟨2, _⟩ => rfl
  · match a with
    | ⟨0, _⟩ => rfl
    | ⟨1, _⟩ => rfl

theorem bc_lane (x : S32.Idx → BitVec 32) (b : Fin 16) (q : Fin 9216) (e : Fin 32) :
    broadcastInDim S16x9216x32 ![0, 1, 2] Gen.bcast_S1x1x32_S16x9216x32_0_1_2 (broadcastInDim S1x1x32 ![2] Gen.bcast_S32_S1x1x32_2 x) (ValueIdx.ix3 b q e) = x (ValueIdx.ix1 e) := by
  refine (broadcastInDim_apply _ _ _ _ (ValueIdx.ix3 (0 : Fin 1) (0 : Fin 1) e) fun a => ?_).trans (broadcastInDim_apply _ _ x _ (ValueIdx.ix1 e) fun a => ?_)
  · match a with
    | ⟨0, _⟩ => rfl
    | ⟨1, _⟩ => rfl
    | ⟨2, _⟩ => rfl
  · match a with
    | ⟨0, _⟩ => rfl

theorem eq_word (x : BitVec 32) (e : Fin 32) : IntOp.cmpi .eq x (BitVec.ofNat 32 e.val) = 1#1 ↔ x.toNat = e.val := by
  have he := e.isLt
  have h2 : (BitVec.ofNat 32 e.val).toNat = e.val := by rw [BitVec.toNat_ofNat, Nat.mod_eq_of_lt (by omega)]
  show BitVec.ofBool (x == BitVec.ofNat 32 e.val) = 1#1 ↔ _
  constructor
  · intro h
    by_cases hx : x = BitVec.ofNat 32 e.val
    · rw [hx, h2]
    · rw [beq_eq_false_iff_ne.2 hx] at h
      exact absurd h (by decide)
  · intro h
    rw [BitVec.eq_of_toNat_eq (h.trans h2.symm), beq_self_eq_true]
    rfl

theorem countW_apply (E : S16x2304x4.Idx → BitVec 32) (b : Fin 16) (e : Fin 32) : countW E (ValueIdx.ix2 b e) = BitVec.ofNat 32 (cnt (keys E b) e.val) := by
  unfold countW
  refine (reduce_count_mid (by norm_num) _ _ _ _ b e).trans ?_
  refine congrArg (BitVec.ofNat 32) (congrArg Finset.card (Finset.filter_congr fun q _ => ?_))
  refine Iff.trans ?_ (eq_word (keys E b q) e)
  refine iff_of_eq (congrArg (· = 1#1) (congrArg₂ (IntOp.cmpi .eq) ((bc_key _ b q e).trans (flatE_apply E b q)) ((bc_lane _ b q e).trans ?_)))
  rfl

/-- The place where every expert's assignments start. -/
def startW (E : S16x2304x4.Idx → BitVec 32) : S16x32.Idx → BitVec 32 :=
  subi (Host.reduceWindow IntOp.addi ![1, 32] ![1, 1] ![0, 31] ![0, 0] (countW E) (broadcastInDim S_ ![] Gen.bcast_S_S_ (constantI S_ 32 0#32))
    Gen.reduceWindows_S16x32_S16x32_w1s1p0_0_w32s1p31_0 Gen.h_S_) (countW E)

theorem startW_apply (E : S16x2304x4.Idx → BitVec 32) (b : Fin 16) (e : Fin 32) : startW E (ValueIdx.ix2 b e) = BitVec.ofNat 32 (beg (keys E b) e.val) := by
  have hw := running_sum (A := 16) (B := 32) (Bm1 := 31) rfl (countW E) (fun b e => if h : b < 16 then cnt (keys E ⟨b, h⟩) e else 0)
    (fun r i => by rw [dif_pos r.isLt]; exact countW_apply E r i) (broadcastInDim S_ ![] Gen.bcast_S_S_ (constantI S_ 32 0#32)) rfl
    Gen.reduceWindows_S16x32_S16x32_w1s1p0_0_w32s1p31_0 Gen.h_S_ b e
  have hf : (fun e => if h : b.val < 16 then cnt (keys E ⟨b.val, h⟩) e else 0) = cnt (keys E b) := funext fun e => dif_pos b.isLt
  rw [hf] at hw
  refine (congrArg₂ (fun x y : BitVec 32 => x - y) hw (countW_apply E b e)).trans ?_
  show BitVec.ofNat 32 ((List.range (e.val + 1)).map (cnt (keys E b))).sum - BitVec.ofNat 32 (cnt (keys E b) e.val) = _
  rw [beg_eq_sum, beg_succ, BitVec.ofNat_add, BitVec.add_sub_cancel]

/-- A `[16, 32]` table read row by row. -/
theorem flat512 (x : S16x32.Idx → BitVec 32) (b : Fin 16) (e : Fin 32) (k : Fin 512) (hk : k.val = b.val * 32 + e.val) :
    shapeCast S512 x Gen.shapeCasts_S16x32_S512 (ValueIdx.ix1 k) = x (ValueIdx.ix2 b e) := by
  refine shapeCast_apply x _ _ _ ?_
  rw [Shape.rowMajor_val_two, Shape.rowMajor_val_one]
  exact hk.symm

variable (m : (ℓ : Loc nD τ sig) → Buf (Elt F) ℓ)

/-- The order table at entry. -/
theorem entry_18 (c : Dev nD) : (atEntry m c main_v18 : S16x1x9536.Idx → BitVec 32) = orderT (m ((c : Thread nD τ).loc main_arg1)) := by
  unfold atEntry stretches
  simp only [List.flatten, List.append]
  after_reads_simp
  rfl

/-- The counts at entry. -/
theorem entry_21 (c : Dev nD) : (atEntry m c main_v21 : S512.Idx → BitVec 32) = shapeCast S512 (countW (m ((c : Thread nD τ).loc main_arg1))) Gen.shapeCasts_S16x32_S512 := by
  unfold atEntry stretches
  simp only [List.flatten, List.append]
  after_reads_simp
  rfl

/-- A read of the running sum's result is the value itself. -/
theorem sum_to (p : main_v15.ty = ⟨S16x32, .i32⟩) (q : main_v15.space ≠ .host) (r : main_v15.isScoped = false) (y : S16x32.Idx → BitVec 32) :
    (StableHlo.TRef.of (T := ⟨S16x32, .i32⟩) main_v15 p q r).toBuf (Val := Elt F) y = y := rfl

/-- A read of the running sum's argument is the value itself. -/
theorem sum_of (p : main_v14.ty = ⟨S16x32, .i32⟩) (q : main_v14.space ≠ .host) (r : main_v14.isScoped = false) (y : S16x32.Idx → BitVec 32) :
    (StableHlo.TRef.of (T := ⟨S16x32, .i32⟩) main_v14 p q r).ofBuf (Val := Elt F) y = y := rfl

/-- The starts at entry. -/
theorem entry_22 (c : Dev nD) : (atEntry m c main_v22 : S512.Idx → BitVec 32) = shapeCast S512 (startW (m ((c : Thread nD τ).loc main_arg1))) Gen.shapeCasts_S16x32_S512 := by
  unfold atEntry stretches
  simp only [List.flatten, List.append]
  after_reads_simp
  rw [StableHlo.TRef.ofBuf_toBuf, StableHlo.TRef.ofBuf_toBuf]
  erw [sum_to, sum_of]
  rfl

theorem entry_arg0 (c : Dev nD) : atEntry m c main_arg0 = m ((c : Thread nD τ).loc main_arg0) := by
  unfold atEntry stretches
  simp only [List.flatten, List.append]
  after_reads_simp

/-- A grid point's word of a table of 512. -/
theorem entry_cast (x : S16x32.Idx → BitVec 32) (i : grid0.Coords) : entry i (shapeCast S512 x Gen.shapeCasts_S16x32_S512) = x (ValueIdx.ix2 (i 0 : Fin 16) (i 1 : Fin 32)) := by
  have h0 : (i 0).val < 16 := (i 0).isLt
  have h1 : (i 1).val < 32 := (i 1).isLt
  exact flat512 x (i 0) (i 1) _ (Nat.mod_eq_of_lt (by omega))

/-- The number of assignments at a grid point. -/
theorem entry_count (c : Dev nD) (i : grid0.Coords) :
    (entry i (atEntry m c main_v21 : S512.Idx → BitVec 32)).toNat = cnt (keys (m ((c : Thread nD τ).loc main_arg1)) (i 0)) (i 1).val := by
  rw [entry_21, entry_cast]
  refine (congrArg BitVec.toNat (countW_apply _ _ _)).trans ?_
  have := room (keys (m ((c : Thread nD τ).loc main_arg1)) (i 0)) (i 1).val
  rw [BitVec.toNat_ofNat]
  exact Nat.mod_eq_of_lt (by omega)

/-- The place of the first assignment at a grid point. -/
theorem entry_start (c : Dev nD) (i : grid0.Coords) :
    (entry i (atEntry m c main_v22 : S512.Idx → BitVec 32)).toNat = beg (keys (m ((c : Thread nD τ).loc main_arg1)) (i 0)) (i 1).val := by
  rw [entry_22, entry_cast]
  refine (congrArg BitVec.toNat (startW_apply _ _ _)).trans ?_
  have := room (keys (m ((c : Thread nD τ).loc main_arg1)) (i 0)) (i 1).val
  rw [BitVec.toNat_ofNat]
  exact Nat.mod_eq_of_lt (by omega)

/-- What the body needs of the arrays holds at entry, whatever the arguments are. -/
theorem ok : Ok (atEntry m) where
  sched := fun c i => ⟨by
    rw [entry_count, entry_start]
    exact room _ _⟩
  order := fun c y => by
    rw [entry_18]
    exact orderT_lt _ y

end Cert.Proof.KernelIdeal
-- ==== Proof.IEnd.lean ====
module

public import proofs.«01_k».proof.Proof.IHost

@[expose] public section

set_option maxRecDepth 16384

/-!
  The whole run: the arguments end unchanged, every semaphore at zero, and the result array holds what the 512 grid points leave.
-/

noncomputable section

namespace Cert.Proof.KernelIdeal

open Cert.KernelIdeal
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

/-- An argument at entry. -/
theorem entry_arg1 (c : Dev nD) : atEntry m c main_arg1 = m ((c : Thread nD τ).loc main_arg1) := by
  unfold atEntry stretches
  simp only [List.flatten, List.append]
  after_reads_simp

/-- An argument at entry. -/
theorem entry_arg2 (c : Dev nD) : atEntry m c main_arg2 = m ((c : Thread nD τ).loc main_arg2) := by
  unfold atEntry stretches
  simp only [List.flatten, List.append]
  after_reads_simp

/-- An argument at entry. -/
theorem entry_arg3 (c : Dev nD) : atEntry m c main_arg3 = m ((c : Thread nD τ).loc main_arg3) := by
  unfold atEntry stretches
  simp only [List.flatten, List.append]
  after_reads_simp

/-- An argument at entry. -/
theorem entry_arg4 (c : Dev nD) : atEntry m c main_arg4 = m ((c : Thread nD τ).loc main_arg4) := by
  unfold atEntry stretches
  simp only [List.flatten, List.append]
  after_reads_simp

/-- An argument at entry. -/
theorem entry_arg5 (c : Dev nD) : atEntry m c main_arg5 = m ((c : Thread nD τ).loc main_arg5) := by
  unfold atEntry stretches
  simp only [List.flatten, List.append]
  after_reads_simp

/-- An argument at entry. -/
theorem entry_arg6 (c : Dev nD) : atEntry m c main_arg6 = m ((c : Thread nD τ).loc main_arg6) := by
  unfold atEntry stretches
  simp only [List.flatten, List.append]
  after_reads_simp

/-- An argument at entry. -/
theorem entry_arg7 (c : Dev nD) : atEntry m c main_arg7 = m ((c : Thread nD τ).loc main_arg7) := by
  unfold atEntry stretches
  simp only [List.flatten, List.append]
  after_reads_simp

/-- An argument at entry. -/
theorem entry_arg8 (c : Dev nD) : atEntry m c main_arg8 = m ((c : Thread nD τ).loc main_arg8) := by
  unfold atEntry stretches
  simp only [List.flatten, List.append]
  after_reads_simp

/-- No window's array is a buffer that is none of the ten. -/
theorem off (b : Ref sig .tc) (hb : b ∉ [main_v18, main_v20, main_arg0, main_v0, main_v23, main_v1, main_v24, main_v2, main_v25, main_v26]) :
    ∀ w, ((Pipeline.pin pcfgs (adm (atEntry m)) 0).spec w).arr.view.ref ≠ b := fun w h => by
  simp only [List.mem_cons, List.not_mem_nil, or_false, not_or] at hb
  obtain ⟨h0, h1, h2, h3, h4, h5, h6, h7, h8, h9⟩ := hb
  match w, h with
  | ⟨0, _⟩, h => exact h0 h.symm
  | ⟨1, _⟩, h => exact h1 h.symm
  | ⟨2, _⟩, h => exact h2 h.symm
  | ⟨3, _⟩, h => exact h3 h.symm
  | ⟨4, _⟩, h => exact h4 h.symm
  | ⟨5, _⟩, h => exact h5 h.symm
  | ⟨6, _⟩, h => exact h6 h.symm
  | ⟨7, _⟩, h => exact h7 h.symm
  | ⟨8, _⟩, h => exact h8 h.symm
  | ⟨9, _⟩, h => exact h9 h.symm

/-- What a run ends with: the result array, the arguments, the semaphores. -/
def Ends (r : PUnit × MemSt nD τ sig (Elt F)) : Prop :=
  (∀ c : Dev nD, r.2.mem ((c : Thread nD τ).loc main_v26) = final (atEntry m) c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)) ∧ r.2.sem = fun _ => 0

/-- The run, from any memory. -/
theorem run : θ_run defs (onTc (τ := τ) (main (F := F))) ⟨m, fun _ => 0, ρ⟩ (Ends m) := by
  refine (θ_run defs _ _).mono (fun r h => ?_) (run_post m ρ (ok m))
  refine ⟨fun c => ?_, h.2⟩
  have hr := (h.1 c).2
  refine ⟨((h.1 c).1 9).trans (result_eq (atEntry m) c), ((h.1 c).1 2).trans ((Pipeline.Dat.arrAt_in (dats (atEntry m) 0 c) 2 rfl _).trans (entry_arg0 m c)), ?_, ?_, ?_, ?_, ?_, ?_, ?_, ?_⟩
  · exact (hr main_arg1 (Pipeline.mem_restRefs_of _ rfl (off m main_arg1 (by decide)))).trans (entry_arg1 m c)
  · exact (hr main_arg2 (Pipeline.mem_restRefs_of _ rfl (off m main_arg2 (by decide)))).trans (entry_arg2 m c)
  · exact (hr main_arg3 (Pipeline.mem_restRefs_of _ rfl (off m main_arg3 (by decide)))).trans (entry_arg3 m c)
  · exact (hr main_arg4 (Pipeline.mem_restRefs_of _ rfl (off m main_arg4 (by decide)))).trans (entry_arg4 m c)
  · exact (hr main_arg5 (Pipeline.mem_restRefs_of _ rfl (off m main_arg5 (by decide)))).trans (entry_arg5 m c)
  · exact (hr main_arg6 (Pipeline.mem_restRefs_of _ rfl (off m main_arg6 (by decide)))).trans (entry_arg6 m c)
  · exact (hr main_arg7 (Pipeline.mem_restRefs_of _ rfl (off m main_arg7 (by decide)))).trans (entry_arg7 m c)
  · exact (hr main_arg8 (Pipeline.mem_restRefs_of _ rfl (off m main_arg8 (by decide)))).trans (entry_arg8 m c)

end Cert.Proof.KernelIdeal
-- ==== Proof.Spec.lean ====
/-
  What one expert computes of one row, over the extended reals, written once for both programs.
-/
module

public import Idealize.ShloMosaic.Lib.Pointwise

@[expose] public section

noncomputable section

namespace Cert.Proof

open Idealize.ShloMosaic

/-- A row times a matrix, plus a bias, at column `f`. -/
def lin (x : Fin 1024 → EReal) (w : Fin 1024 → Fin 1024 → EReal) (b : Fin 1024 → EReal) (f : Fin 1024) : EReal := ∑ d, x d * w d f + b f

/-- The gate half, cut off above at 7. -/
def gate (x : Fin 1024 → EReal) (w : Fin 1024 → Fin 1024 → EReal) (b : Fin 1024 → EReal) (f : Fin 1024) : EReal :=
  min (lin x w b f) (Ideal.ofBits .f32 1088421888#32)

/-- The linear half, cut off below at −7 and above at 7. -/
def line (x : Fin 1024 → EReal) (w : Fin 1024 → Fin 1024 → EReal) (b : Fin 1024 → EReal) (f : Fin 1024) : EReal :=
  min (Ideal.ofBits .f32 1088421888#32) (max (Ideal.ofBits .f32 3235905536#32) (lin x w b f))

/-- The gated row: the linear half plus one, times the gate, times the sigmoid of the scaled gate. -/
def act (u g : EReal) : EReal := (u + 1) * g * Ideal.div 1 (1 + Ideal.exp (-(Ideal.ofBits .f32 1071242019#32 * g)))

/-- The weights and biases of one expert. -/
structure Expert where
  /-- the gate's matrix -/
  wg : Fin 1024 → Fin 1024 → EReal
  /-- the gate's bias -/
  bg : Fin 1024 → EReal
  /-- the linear half's matrix -/
  wu : Fin 1024 → Fin 1024 → EReal
  /-- the linear half's bias -/
  bu : Fin 1024 → EReal
  /-- the closing matrix -/
  wd : Fin 1024 → Fin 1024 → EReal
  /-- the closing bias -/
  bd : Fin 1024 → EReal

/-- What an expert makes of a row. -/
def ffn (E : Expert) (x : Fin 1024 → EReal) (j : Fin 1024) : EReal :=
  lin (fun f => act (line x E.wu E.bu f) (gate x E.wg E.bg f)) E.wd E.bd j

/-- Place `l` of column `a` of a row of 1024. -/
def place (a : Fin 8) (l : Fin 128) : Fin 1024 := ⟨a.val * 128 + l.val, by have := a.isLt; have := l.isLt; omega⟩

/-- The row of token `r` of sequence `b`. -/
def tok (x : (⟨4, ![16, 2304, 8, 128]⟩ : Shape).Idx → EReal) (b : Fin 16) (r : Fin 2304) : Fin 1024 → EReal :=
  fun d => x (ValueIdx.ix4 b r (⟨d.val / 128, by have := d.isLt; omega⟩ : Fin 8) (⟨d.val % 128, Nat.mod_lt _ (by decide)⟩ : Fin 128))

/-- The weights and biases of expert `e` of the first layer. -/
def expertOf (wg : (⟨4, ![4, 32, 1024, 1024]⟩ : Shape).Idx → EReal) (bg : (⟨3, ![4, 32, 1024]⟩ : Shape).Idx → EReal)
    (wu : (⟨4, ![4, 32, 1024, 1024]⟩ : Shape).Idx → EReal) (bu : (⟨3, ![4, 32, 1024]⟩ : Shape).Idx → EReal)
    (wd : (⟨4, ![4, 32, 1024, 1024]⟩ : Shape).Idx → EReal) (bd : (⟨3, ![4, 32, 1024]⟩ : Shape).Idx → EReal) (e : Fin 32) : Expert where
  wg a b := wg (ValueIdx.ix4 (0 : Fin 4) e a b)
  bg a := bg (ValueIdx.ix3 (0 : Fin 4) e a)
  wu a b := wu (ValueIdx.ix4 (0 : Fin 4) e a b)
  bu a := bu (ValueIdx.ix3 (0 : Fin 4) e a)
  wd a b := wd (ValueIdx.ix4 (0 : Fin 4) e a b)
  bd a := bd (ValueIdx.ix3 (0 : Fin 4) e a)

/-- The weighted sum of the results of the experts that the four choices of token `r` of sequence `b` name. -/
def routed (ti : (⟨3, ![16, 2304, 4]⟩ : Shape).Idx → BitVec 32) (tw : (⟨3, ![16, 2304, 4]⟩ : Shape).Idx → EReal) (E : Fin 32 → Expert)
    (x : Fin 1024 → EReal) (b : Fin 16) (r : Fin 2304) (j : Fin 1024) : EReal :=
  ∑ e : Fin 32, ∑ k : Fin 4, if (ti (ValueIdx.ix3 b r k)).toNat = e.val then tw (ValueIdx.ix3 b r k) * ffn (E e) x j else 0

/-- A sum of at most one term times a number. -/
theorem pick_mul (c : Fin 4 → Prop) [DecidablePred c] (hc : ∀ k k', c k → c k' → k = k') (w : Fin 4 → EReal) (y : EReal) :
    (∑ k, (if c k then (1 : EReal) else 0) * w k) * y = ∑ k, if c k then w k * y else 0 := by
  by_cases h : ∃ k, c k
  · obtain ⟨k, hk⟩ := h
    rw [Finset.sum_eq_single k, Finset.sum_eq_single k]
    · rw [if_pos hk, if_pos hk, one_mul]
    · exact fun k' _ hne => if_neg fun h' => hne (hc _ _ h' hk)
    · exact fun h' => absurd (Finset.mem_univ _) h'
    · exact fun k' _ hne => by rw [if_neg fun h' => hne (hc _ _ h' hk), zero_mul]
    · exact fun h' => absurd (Finset.mem_univ _) h'
  · have h' : ∀ k, ¬ c k := fun k hk => h ⟨k, hk⟩
    simp only [h', if_false, zero_mul, Finset.sum_const_zero]

end Cert.Proof

end
-- ==== Proof.VRow.lean ====
/-
  The expert's result on one row of a tile, over the extended reals: the three products with their biases, the clipped gate and the clipped
  linear half, as one function of the row of 1024 numbers.
-/
module

public import proofs.«01_k».proof.Proof.ITiles
public import proofs.«01_k».proof.Proof.Spec

@[expose] public section

set_option maxRecDepth 16384

noncomputable section

namespace Cert.Proof.KernelIdeal

open Cert.KernelIdeal
open Idealize.ShloMosaic

/-- The eight columns joined: number `d` of a row is number `d % 128` of its column `d / 128`. -/
theorem joined (X : Vec Ideal S320x8x128 .f32) (r : Fin 320) (d : Fin 1024) :
    Gen.k0_pay24 (F := Ideal) (col X 0) (col X 1) (col X 2) (col X 3) (col X 4) (col X 5) (col X 6) (col X 7) (ValueIdx.ix2 r d)
      = X (ValueIdx.ix3 r ⟨d.val / 128, by have := d.isLt; omega⟩ ⟨d.val % 128, Nat.mod_lt _ (by decide)⟩) := by
  rw [← ix2_eq_valueIdx]
  pointwise [Gen.k0_pay24, col]
  obtain ⟨v, hv⟩ := d
  have key : ∀ (a a' : Fin 8) (l l' : Fin 128), a.val = a'.val → l.val = l'.val → X (ValueIdx.ix3 r a l) = X (ValueIdx.ix3 r a' l') := by
    intro a a' l l' h h'
    rw [Fin.ext h, Fin.ext h']
  dsimp only
  repeat' split
  all_goals (apply key <;> dsimp <;> omega)

/-- A block of one matrix as a matrix. -/
def mat (W : Vec Ideal S1x1x1024x1024 .bf16) : Fin 1024 → Fin 1024 → EReal := fun a b => W (ValueIdx.ix4 0 0 a b)

/-- A block of one bias as a row. -/
def vec (b : Vec Ideal S1x1x1x1024 .f32) : Fin 1024 → EReal := fun a => b (ValueIdx.ix4 0 0 0 a)

/-- The gated rows. -/
theorem inner (V : FVec Ideal S320x1024 .bf16) (Wg Wu : Vec Ideal S1x1x1024x1024 .bf16) (bg bu : Vec Ideal S1x1x1x1024 .f32) (r : Fin 320) (f : Fin 1024) :
    Gen.k0_pay25 (F := Ideal) V Wg bg Wu bu (ValueIdx.ix2 r f)
      = act (line (fun d => V (ValueIdx.ix2 r d)) (mat Wu) (vec bu) f) (gate (fun d => V (ValueIdx.ix2 r d)) (mat Wg) (vec bg) f) := by
  rw [← ix2_eq_valueIdx]
  pointwise [Gen.k0_pay25]
  simp only [act, line, gate, lin, mat, vec, ← ix2_eq_valueIdx, ← ix4_eq_valueIdx, zero_sub]

/-- The closing product. -/
theorem outer (V : FVec Ideal S320x1024 .bf16) (Wd : Vec Ideal S1x1x1024x1024 .bf16) (bd : Vec Ideal S1x1x1x1024 .f32) (r : Fin 320) (f : Fin 1024) :
    Gen.k0_pay26 (F := Ideal) V Wd bd (ValueIdx.ix2 r f) = lin (fun d => V (ValueIdx.ix2 r d)) (mat Wd) (vec bd) f := by
  rw [← ix2_eq_valueIdx]
  pointwise [Gen.k0_pay26]
  simp only [lin, mat, vec, ← ix2_eq_valueIdx, ← ix4_eq_valueIdx]

/-- Row `r` of a tile of rows stored as eight columns of 128. -/
def flat (X : Vec Ideal S320x8x128 .f32) (r : Fin 320) : Fin 1024 → EReal :=
  fun d => X (ValueIdx.ix3 r ⟨d.val / 128, by have := d.isLt; omega⟩ ⟨d.val % 128, Nat.mod_lt _ (by decide)⟩)

/-- The expert's result on a tile is the expert's function of each row. -/
theorem expert_apply (Wg : Vec Ideal S1x1x1024x1024 .bf16) (bg : Vec Ideal S1x1x1x1024 .f32) (Wu : Vec Ideal S1x1x1024x1024 .bf16)
    (bu : Vec Ideal S1x1x1x1024 .f32) (Wd : Vec Ideal S1x1x1024x1024 .bf16) (bd : Vec Ideal S1x1x1x1024 .f32) (X : Vec Ideal S320x8x128 .f32)
    (r : Fin 320) (f : Fin 1024) :
    expert (F := Ideal) Wg bg Wu bu Wd bd X (ValueIdx.ix2 r f) = ffn ⟨mat Wg, vec bg, mat Wu, vec bu, mat Wd, vec bd⟩ (flat X r) f := by
  unfold expert
  rw [outer]
  unfold ffn
  have h : (fun d => Gen.k0_pay24 (F := Ideal) (col X 0) (col X 1) (col X 2) (col X 3) (col X 4) (col X 5) (col X 6) (col X 7) (ValueIdx.ix2 r d)) = flat X r :=
    funext fun d => joined X r d
  refine congrArg (fun x => lin x (mat Wd) (vec bd) f) (funext fun d => ?_)
  rw [inner, h]

end Cert.Proof.KernelIdeal

end
-- ==== Proof.VScat.lean ====
/-
  The row loops of the experts' kernel over the extended reals: after any number of tiles an output row holds what it held before plus
  the sum of the weighted rows that the order table sends to it.
-/
module

public import proofs.«01_k».proof.Proof.VRow
public import proofs.«01_k».proof.Proof.IResult

@[expose] public section

set_option maxRecDepth 16384

noncomputable section

namespace Cert.Proof.KernelIdeal

open Cert.KernelIdeal
open Idealize.ShloMosaic

/-- A row with a weighted row added, read at one place. -/
theorem newRow_at (P : Vec Ideal S1x2312x8x128 .f32) (Y : Vec Ideal S320x8x128 .f32) (n q b : ℕ) (O : S1x1x9536.Idx → BitVec 32)
    (T : S1x1x9536.Idx → Ideal .f32) (s : ℕ) (a : Fin 8) (l : Fin 128) :
    newRow (F := Ideal) P Y n q b O T s (ValueIdx.ix4 0 0 a l)
      = (P (ValueIdx.ix4 0 ⟨dstAt n q b O s % 2312, Nat.mod_lt _ (by decide)⟩ a l)
        + wtAt (F := Ideal) n q b T s * Y (ValueIdx.ix3 ⟨s % 320, Nat.mod_lt _ (by decide)⟩ a l) : EReal) := by
  rw [← ix4_eq_valueIdx]
  pointwise [newRow, Gen.k0_pay17, Gen.k0_pay9, rowP, rowY]

/-- Rows put one after another. -/
def puts (P : Vec Ideal S1x2312x8x128 .f32) (p : ℕ → ℕ) (R : ℕ → Vec Ideal S1x1x8x128 .f32) : ℕ → Vec Ideal S1x2312x8x128 .f32
  | 0 => P
  | k + 1 => putRow (puts P p R k) (p k) (R k)

/-- Rows put one after another, each the old row plus a term, add up, where a row that is overwritten later had a zero term. -/
theorem puts_at (P : Vec Ideal S1x2312x8x128 .f32) (p : ℕ → ℕ) (R : ℕ → Vec Ideal S1x1x8x128 .f32) (r : Fin 2312) (a : Fin 8) (l : Fin 128)
    (g : ℕ → EReal) (k : ℕ) (hR : ∀ u < k, p u = r.val → R u (ValueIdx.ix4 0 0 a l) = (P (ValueIdx.ix4 0 r a l) + g u : EReal))
    (hz : ∀ u u', u < u' → u' < k → p u = p u' → g u = 0) :
    puts P p R k (ValueIdx.ix4 0 r a l) = (P (ValueIdx.ix4 0 r a l) + ∑ u ∈ Finset.range k, if p u = r.val then g u else 0 : EReal) := by
  induction k with
  | zero => simp [puts]
  | succ k ih =>
    rw [Finset.sum_range_succ]
    have ih := ih (fun u hu => hR u (by omega)) (fun u u' h h' => hz u u' h (by omega))
    show (if r.val = p k then R k (ValueIdx.ix4 0 0 a l) else puts P p R k (ValueIdx.ix4 0 r a l)) = _
    by_cases h : p k = r.val
    · rw [if_pos h.symm, if_pos h, hR k (by omega) h, Finset.sum_eq_zero, zero_add]
      intro u hu
      rw [Finset.mem_range] at hu
      by_cases h' : p u = r.val
      · rw [if_pos h', hz u k hu (by omega) (h'.trans h.symm)]
      · rw [if_neg h']
    · rw [if_neg (Ne.symm h), if_neg h, ih, add_zero]

/-- The term that row `s` of a tile adds to output row `r`. -/
def term (n q b : ℕ) (O : S1x1x9536.Idx → BitVec 32) (T : S1x1x9536.Idx → Ideal .f32) (Y : Vec Ideal S320x8x128 .f32) (a : Fin 8) (l : Fin 128)
    (s : ℕ) : EReal :=
  wtAt (F := Ideal) n q b T s * Y (ValueIdx.ix3 ⟨s % 320, Nat.mod_lt _ (by decide)⟩ a l)

/-- Eight rows of a tile, read at one place. -/
theorem scat8_at (n q b : ℕ) (O : S1x1x9536.Idx → BitVec 32) (T : S1x1x9536.Idx → Ideal .f32) (Y : Vec Ideal S320x8x128 .f32) (t : ℕ)
    (P : Vec Ideal S1x2312x8x128 .f32) (r : Fin 2312) (a : Fin 8) (l : Fin 128)
    (hz : ∀ u u', u < u' → u' < 8 → dstAt n q b O (t * 8 + u) = dstAt n q b O (t * 8 + u') → wtAt (F := Ideal) n q b T (t * 8 + u) = (0 : EReal)) :
    scat8 (F := Ideal) n q b O T Y t P (ValueIdx.ix4 0 r a l)
      = (P (ValueIdx.ix4 0 r a l) + ∑ u ∈ Finset.range 8, if dstAt n q b O (t * 8 + u) = r.val then term n q b O T Y a l (t * 8 + u) else 0 : EReal) := by
  refine Eq.trans ?_ (puts_at P (fun u => dstAt n q b O (t * 8 + u)) (fun u => newRow (F := Ideal) P Y n q b O T (t * 8 + u)) r a l
    (fun u => term n q b O T Y a l (t * 8 + u)) 8 ?_ ?_)
  · rfl
  · intro u _ h
    rw [newRow_at]
    have e : (⟨dstAt n q b O (t * 8 + u) % 2312, Nat.mod_lt _ (by decide)⟩ : Fin 2312) = r :=
      Fin.ext ((congrArg (· % 2312) h).trans (Nat.mod_eq_of_lt r.isLt))
    rw [e]
    rfl
  · intro u u' h h' e
    show term n q b O T Y a l (t * 8 + u) = 0
    unfold term
    rw [hz u u' h h' e, zero_mul]

/-- The first `t` groups of eight rows of a tile, read at one place. -/
theorem scatN_at (n q b : ℕ) (O : S1x1x9536.Idx → BitVec 32) (T : S1x1x9536.Idx → Ideal .f32) (Y : Vec Ideal S320x8x128 .f32)
    (P : Vec Ideal S1x2312x8x128 .f32) (r : Fin 2312) (a : Fin 8) (l : Fin 128) (t : ℕ)
    (hz : ∀ s s', s < s' → dstAt n q b O s = dstAt n q b O s' → wtAt (F := Ideal) n q b T s = (0 : EReal)) :
    scatN (F := Ideal) n q b O T Y P t (ValueIdx.ix4 0 r a l)
      = (P (ValueIdx.ix4 0 r a l) + ∑ s ∈ Finset.range (t * 8), if dstAt n q b O s = r.val then term n q b O T Y a l s else 0 : EReal) := by
  induction t with
  | zero => simp [scatN]
  | succ t ih =>
    show scat8 (F := Ideal) n q b O T Y t (scatN (F := Ideal) n q b O T Y P t) (ValueIdx.ix4 0 r a l) = _
    rw [scat8_at n q b O T Y t _ r a l (fun u u' h _ e => hz _ _ (by omega) e), ih, Nat.succ_mul, Finset.sum_range_add, add_assoc]

/-- The input row of the token that assignment `w` belongs to. -/
def hrow (H : Vec Ideal S1x2304x8x128 .f32) (w : ℕ) : Fin 1024 → EReal :=
  fun d => H (ValueIdx.ix4 0 ⟨w / 4 % 2304, Nat.mod_lt _ (by decide)⟩ ⟨d.val / 128, by have := d.isLt; omega⟩ ⟨d.val % 128, Nat.mod_lt _ (by decide)⟩)

section
variable (n st : ℕ) (O : S1x1x9536.Idx → BitVec 32) (T : S1x1x9536.Idx → Ideal .f32) (H : Vec Ideal S1x2304x8x128 .f32)
  (Wg : Vec Ideal S1x1x1024x1024 .bf16) (bg : Vec Ideal S1x1x1x1024 .f32) (Wu : Vec Ideal S1x1x1024x1024 .bf16)
  (bu : Vec Ideal S1x1x1x1024 .f32) (Wd : Vec Ideal S1x1x1024x1024 .bf16) (bd : Vec Ideal S1x1x1x1024 .f32)
  (P : Vec Ideal S1x2312x8x128 .f32)

/-- The tiles so far, read at one place. -/
theorem tiles_at (r : Fin 2312) (a : Fin 8) (l : Fin 128) (K : ℕ)
    (hz : ∀ p p', p < p' → dst n p (tab O (st + p)).toNat = dst n p' (tab O (st + p')).toNat → (if p < n then tab T (st + p) else 0 : EReal) = 0) :
    tiles (F := Ideal) n st O T H Wg bg Wu bu Wd bd P K (ValueIdx.ix4 0 r a l)
      = (P (ValueIdx.ix4 0 r a l) + ∑ p ∈ Finset.range (K * 320), if dst n p (tab O (st + p)).toNat = r.val then
          (if p < n then tab T (st + p) else 0) * ffn ⟨mat Wg, vec bg, mat Wu, vec bu, mat Wd, vec bd⟩ (hrow H (tab O (st + p)).toNat) (place a l) else 0 : EReal) := by
  have w0 : ∀ k s, wtAt (F := Ideal) n (st + k * 320) (k * 320) T s = (if k * 320 + s < n then tab T (st + (k * 320 + s)) else 0 : EReal) := by
    intro k s
    unfold wtAt
    rw [Nat.add_assoc]
    congr 1
    exact Ideal.ofBits_zero_f32
  have d0 : ∀ k s, dstAt n (st + k * 320) (k * 320) O s = dst n (k * 320 + s) (tab O (st + (k * 320 + s))).toNat := by
    intro k s
    unfold dstAt
    rw [Nat.add_assoc]
  induction K with
  | zero => simp [tiles]
  | succ K ih =>
    show scatN (F := Ideal) n (st + K * 320) (K * 320) O T _ (tiles (F := Ideal) n st O T H Wg bg Wu bu Wd bd P K) 40 (ValueIdx.ix4 0 r a l) = _
    rw [scatN_at _ _ _ _ _ _ _ _ _ _ _ (fun s s' h e => by rw [d0, d0] at e; rw [w0]; exact hz _ _ (by omega) e), ih, show (K + 1) * 320 = K * 320 + 40 * 8 by omega, Finset.sum_range_add _ (K * 320) (40 * 8), add_assoc]
    refine congrArg _ (congrArg _ (Finset.sum_congr rfl fun s hs => ?_))
    have hs : s < 320 := Finset.mem_range.1 hs
    rw [d0]
    refine if_congr Iff.rfl ?_ rfl
    unfold term
    rw [w0]
    refine congrArg _ ?_
    show expert (F := Ideal) Wg bg Wu bu Wd bd _ (ValueIdx.ix2 _ (place a l)) = _
    rw [expert_apply]
    refine congrArg (fun x => ffn _ x (place a l)) (funext fun d => ?_)
    show H _ = H _
    have e : s % 320 = s := Nat.mod_eq_of_lt hs
    have e' : st + K * 320 + s % 320 = st + (K * 320 + s) := by omega
    refine congrArg H ?_
    congr 1
    refine Fin.ext ?_
    show (tab O (st + K * 320 + s % 320)).toNat / 4 % 2304 = (tab O (st + (K * 320 + s))).toNat / 4 % 2304
    rw [e']

/-- All tiles of an expert, read at one place: the sum over the expert's assignments that belong to token `r`. -/
theorem tiles_all (r : Fin 2312) (a : Fin 8) (l : Fin 128) (hw : ∀ p < n, (tab O (st + p)).toNat < 9216)
    (hd : ∀ p p', p < p' → p' < n → (tab O (st + p)).toNat / 4 ≠ (tab O (st + p')).toNat / 4) :
    tiles (F := Ideal) n st O T H Wg bg Wu bu Wd bd P ((n + 319) / 320) (ValueIdx.ix4 0 r a l)
      = (P (ValueIdx.ix4 0 r a l) + ∑ p ∈ Finset.range n, if (tab O (st + p)).toNat / 4 = r.val then
          tab T (st + p) * ffn ⟨mat Wg, vec bg, mat Wu, vec bu, mat Wd, vec bd⟩ (hrow H (tab O (st + p)).toNat) (place a l) else 0 : EReal) := by
  rw [tiles_at]
  · refine congrArg _ ?_
    obtain ⟨j, hj⟩ : ∃ j, (n + 319) / 320 * 320 = n + j := ⟨(n + 319) / 320 * 320 - n, by omega⟩
    rw [hj, Finset.sum_range_add, Finset.sum_eq_zero (s := Finset.range j), add_zero]
    · refine Finset.sum_congr rfl fun p hp => ?_
      have hp : p < n := Finset.mem_range.1 hp
      unfold dst
      rw [if_pos hp, if_pos hp]
    · intro p _
      rw [if_neg (by omega : ¬ n + p < n), zero_mul, ite_self]
  · intro p p' h e
    by_cases hp : p < n
    · exfalso
      unfold dst at e
      rw [if_pos hp] at e
      have := hw p hp
      by_cases hp' : p' < n
      · rw [if_pos hp'] at e
        exact hd p p' h hp' e
      · rw [if_neg hp'] at e
        omega
    · rw [if_neg hp]

end

end Cert.Proof.KernelIdeal

end
-- ==== Proof.VHost.lean ====
/-
  The other arrays that the host makes before the call: the table of weights in the order of the experts, and the layer's matrices and biases.
-/
module

public import proofs.«01_k».proof.Proof.IEnd
public import Idealize.ShloMosaic.Lib.ReduceAll
public import Idealize.ShloMosaic.Lib.ValueIdxCore

@[expose] public section

set_option maxRecDepth 16384

noncomputable section

namespace Cert.Proof.KernelIdeal

open Cert.KernelIdeal
open Idealize.ShloMosaic Idealize.ShloMosaic.TcCoe Idealize.ShloMosaic.Tactic
open Idealize.SL.Sem

variable {F : FTy → Type} [FloatOps F]

/-- Places below zero counted from the end. -/
def wrapW (o : S16x9216.Idx → BitVec 32) : S16x9216x1.Idx → BitVec 32 :=
  shapeCast S16x9216x1 (select (cmpi .slt o (broadcastInDim S16x9216 ![] Gen.bcast_S_S16x9216 (constantI S_ 32 0#32)))
    (addi o (broadcastInDim S16x9216 ![] Gen.bcast_S_S16x9216 (constantI S_ 32 9216#32))) o) Gen.shapeCasts_S16x9216_S16x9216x1

/-- Whether a place lies in the row. -/
def insideW (o : S16x9216.Idx → BitVec 32) : S16x9216.Idx → BitVec 1 :=
  Host.reduce IntOp.andi (andi (cmpi .sge (wrapW o) (broadcastInDim S16x9216x1 ![] Gen.bcast_S_S16x9216x1 (constantI S_ 32 0#32)))
    (cmpi .sle (wrapW o) (broadcastInDim S16x9216x1 ![0, 1, 2] Gen.bcast_S1x1x1_S16x9216x1_0_1_2 (broadcastInDim S1x1x1 ![2] Gen.bcast_S1_S1x1x1_2 (constantI S1 32 9215#32)))))
    (constantI S_ 1 1#1) Gen.reducesTo_S16x9216x1_S16x9216_d2 Gen.h_S_

/-- A row's entries in the order of the places. -/
def takeW (x : S16x9216.Idx → F .f32) (o : S16x9216.Idx → BitVec 32) : S16x9216.Idx → F .f32 :=
  select (insideW o) (Host.gather gather_S16x9216_S16x9216x1_S16x9216_n_1_0_0_1_2_11 x (wrapW o))
    (broadcastInDim S16x9216 ![] Gen.bcast_S_S16x9216 (constant (F := F) S_ .f32 0x7FC00000#32))

/-- The table of weights, lengthened by 320 zeros. -/
def weightT (E : S16x2304x4.Idx → BitVec 32) (W : S16x2304x4.Idx → F .f32) : S16x1x9536.Idx → F .f32 :=
  broadcastInDim S16x1x9536 ![0, 2] Gen.bcast_S16x9536_S16x1x9536_0_2
    (pad S16x9536 ![0, 0] ![0, 320] ![0, 0] (takeW (flatE W) (orderW E)) (sitofp (F := F) .f32 (constantI S_ 32 0#32)) Gen.pads_S16x9216_S16x9536_000_03200 Gen.h_S_)

variable (m : (ℓ : Loc nD τ sig) → Buf (Elt F) ℓ)

/-- A cast of `main_v3` between its two descriptions changes nothing. -/
theorem v3_of (p : main_v3.ty = ⟨S16x9216, .i32⟩) (q : main_v3.space ≠ .host) (r : main_v3.isScoped = false) (y : S16x9216.Idx → BitVec 32) :
    (StableHlo.TRef.of (T := ⟨S16x9216, .i32⟩) main_v3 p q r).ofBuf (Val := Elt F) y = y := rfl

/-- A cast of `main_call1_v5` between its two descriptions changes nothing. -/
theorem c5_of (p : main_call1_v5.ty = ⟨S16x9216x1, .i32⟩) (q : main_call1_v5.space ≠ .host) (r : main_call1_v5.isScoped = false) (y : S16x9216x1.Idx → BitVec 32) :
    (StableHlo.TRef.of (T := ⟨S16x9216x1, .i32⟩) main_call1_v5 p q r).ofBuf (Val := Elt F) y = y := rfl

/-- A cast of `main_call1_v4` between its two descriptions changes nothing. -/
theorem c4_to (p : main_call1_v4.ty = ⟨S16x9216, .i32⟩) (q : main_call1_v4.space ≠ .host) (r : main_call1_v4.isScoped = false) (y : S16x9216.Idx → BitVec 32) :
    (StableHlo.TRef.of (T := ⟨S16x9216, .i32⟩) main_call1_v4 p q r).toBuf (Val := Elt F) y = y := rfl

/-- A cast of `main_v5` between its two descriptions changes nothing. -/
theorem v5_of (p : main_v5.ty = ⟨S16x9216, .f32⟩) (q : main_v5.space ≠ .host) (r : main_v5.isScoped = false) (y : S16x9216.Idx → F .f32) :
    (StableHlo.TRef.of (T := ⟨S16x9216, .f32⟩) main_v5 p q r).ofBuf (Val := Elt F) y = y := rfl

/-- A cast of `main_c_1` between its two descriptions changes nothing. -/
theorem c1_of (p : main_c_1.ty = ⟨S_, .i32⟩) (q : main_c_1.space ≠ .host) (r : main_c_1.isScoped = false) (y : S_.Idx → BitVec 32) :
    (StableHlo.TRef.of (T := ⟨S_, .i32⟩) main_c_1 p q r).ofBuf (Val := Elt F) y = y := rfl

/-- A cast of `main_v19` between its two descriptions changes nothing. -/
theorem v19_to (p : main_v19.ty = ⟨S16x9536, .f32⟩) (q : main_v19.space ≠ .host) (r : main_v19.isScoped = false) (y : S16x9536.Idx → F .f32) :
    (StableHlo.TRef.of (T := ⟨S16x9536, .f32⟩) main_v19 p q r).toBuf (Val := Elt F) y = y := rfl

/-- The weights at entry. -/
theorem entry_20 (c : Dev nD) : (atEntry m c main_v20 : S16x1x9536.Idx → F .f32) = weightT (m ((c : Thread nD τ).loc main_arg1)) (m ((c : Thread nD τ).loc main_arg2)) := by
  unfold atEntry stretches
  simp only [List.flatten, List.append]
  after_reads_simp
  simp only [StableHlo.TRef.ofBuf_toBuf]
  simp only [v3_of, c5_of, c4_to, v5_of, c1_of, v19_to]
  rfl

/-- The gate's matrices at entry. -/
theorem entry_0 (c : Dev nD) : atEntry m c main_v0 = truncf FTy.bf16 (m ((c : Thread nD τ).loc main_arg3)) Gen.bitsLt_bf16_f32 := by
  unfold atEntry stretches
  simp only [List.flatten, List.append]
  after_reads_simp

/-- The linear half's matrices at entry. -/
theorem entry_1 (c : Dev nD) : atEntry m c main_v1 = truncf FTy.bf16 (m ((c : Thread nD τ).loc main_arg5)) Gen.bitsLt_bf16_f32 := by
  unfold atEntry stretches
  simp only [List.flatten, List.append]
  after_reads_simp

/-- The closing matrices at entry. -/
theorem entry_2 (c : Dev nD) : atEntry m c main_v2 = truncf FTy.bf16 (m ((c : Thread nD τ).loc main_arg7)) Gen.bitsLt_bf16_f32 := by
  unfold atEntry stretches
  simp only [List.flatten, List.append]
  after_reads_simp

/-- A bias array with a third axis of one. -/
def biasW (b : S4x32x1024.Idx → F .f32) : S4x32x1x1024.Idx → F .f32 := broadcastInDim S4x32x1x1024 ![0, 1, 3] Gen.bcast_S4x32x1024_S4x32x1x1024_0_1_3 b

/-- The gate's biases at entry. -/
theorem entry_23 (c : Dev nD) : (atEntry m c main_v23 : S4x32x1x1024.Idx → F .f32) = biasW (m ((c : Thread nD τ).loc main_arg4)) := by
  unfold atEntry stretches
  simp only [List.flatten, List.append]
  after_reads_simp
  rfl

/-- The linear half's biases at entry. -/
theorem entry_24 (c : Dev nD) : (atEntry m c main_v24 : S4x32x1x1024.Idx → F .f32) = biasW (m ((c : Thread nD τ).loc main_arg6)) := by
  unfold atEntry stretches
  simp only [List.flatten, List.append]
  after_reads_simp
  rfl

/-- The closing biases at entry. -/
theorem entry_25 (c : Dev nD) : (atEntry m c main_v25 : S4x32x1x1024.Idx → F .f32) = biasW (m ((c : Thread nD τ).loc main_arg8)) := by
  unfold atEntry stretches
  simp only [List.flatten, List.append]
  after_reads_simp
  rfl

/-- A word below 9216, read signed. -/
theorem toInt_small (w : BitVec 32) (h : w.toNat < 9216) : w.toInt = w.toNat := BitVec.toInt_eq_toNat_of_lt (by omega)

/-- No place below 9216 is counted from the end. -/
theorem wrapW_eq (o : S16x9216.Idx → BitVec 32) (ho : ∀ i, (o i).toNat < 9216) : wrapW o = shapeCast S16x9216x1 o Gen.shapeCasts_S16x9216_S16x9216x1 := by
  unfold wrapW
  refine congrArg (fun v => shapeCast S16x9216x1 v Gen.shapeCasts_S16x9216_S16x9216x1) (funext fun i => ?_)
  show (if BitVec.ofBool ((o i).slt 0#32) = 1#1 then o i + 9216#32 else o i) = o i
  have h : (o i).slt 0#32 = false := by
    rw [BitVec.slt, toInt_small _ (ho i)]
    simp
  rw [h]
  rfl

/-- Every place below 9216 lies in the row. -/
theorem insideW_eq (o : S16x9216.Idx → BitVec 32) (ho : ∀ i, (o i).toNat < 9216) (j : S16x9216.Idx) : insideW o j = 1#1 := by
  unfold insideW
  rw [wrapW_eq o ho]
  refine Host.reduce_andi_one _ _ _ _ _ rfl fun i => ?_
  obtain ⟨k, hk⟩ : ∃ k, shapeCast S16x9216x1 o Gen.shapeCasts_S16x9216_S16x9216x1 i = o k := ⟨_, rfl⟩
  show IntOp.andi (IntOp.cmpi .sge (shapeCast S16x9216x1 o Gen.shapeCasts_S16x9216_S16x9216x1 i) 0#32)
    (IntOp.cmpi .sle (shapeCast S16x9216x1 o Gen.shapeCasts_S16x9216_S16x9216x1 i) 9215#32) = 1#1
  rw [hk]
  have h1 : IntOp.cmpi .sge (o k) 0#32 = 1#1 := by
    show BitVec.ofBool ((0#32 : BitVec 32).sle (o k)) = 1#1
    rw [BitVec.sle, toInt_small _ (ho k)]
    simp
  have h2 : IntOp.cmpi .sle (o k) 9215#32 = 1#1 := by
    show BitVec.ofBool ((o k).sle 9215#32) = 1#1
    have : (9215#32 : BitVec 32).toInt = 9215 := by decide
    rw [BitVec.sle, toInt_small _ (ho k), this]
    have := ho k
    rw [decide_eq_true (by omega)]
    rfl
  rw [h1, h2]
  rfl

/-- The place read by the gather. -/
theorem gather_row {α : Type} (x : S16x9216.Idx → α) (idx : S16x9216x1.Idx → BitVec 32) (b : Fin 16) (p : Fin 9216) :
    Host.gather gather_S16x9216_S16x9216x1_S16x9216_n_1_0_0_1_2_11 x idx (ValueIdx.ix2 b p)
      = x (ValueIdx.ix2 b ⟨min (idx (ValueIdx.ix3 b p (0 : Fin 1))).toInt.toNat 9215, by omega⟩) := by
  unfold Host.gather
  congr 1
  funext a
  refine Fin.ext ?_
  show gather_S16x9216_S16x9216x1_S16x9216_n_1_0_0_1_2_11.start (ValueIdx.ix2 b p) idx a
    + gather_S16x9216_S16x9216x1_S16x9216_n_1_0_0_1_2_11.batchCoord (ValueIdx.ix2 b p) a
    + gather_S16x9216_S16x9216x1_S16x9216_n_1_0_0_1_2_11.offCoord (ValueIdx.ix2 b p) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S16x9216_S16x9216x1_S16x9216_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16x9216_S16x9216x1_S16x9216_n_1_0_0_1_2_11.startIndexMap from List.mem_singleton.mpr rfl)]
    have hsi : gather_S16x9216_S16x9216x1_S16x9216_n_1_0_0_1_2_11.siIdx (ValueIdx.ix2 b p)
        ⟨List.idxOf (1 : Fin 2) gather_S16x9216_S16x9216x1_S16x9216_n_1_0_0_1_2_11.startIndexMap,
          List.idxOf_lt_length_iff.2 (List.mem_singleton.mpr rfl)⟩ = ValueIdx.ix3 b p (0 : Fin 1) := by
      funext c; refine Fin.ext ?_
      match c with
      | ⟨0, _⟩ => rfl
      | ⟨1, _⟩ => rfl
      | ⟨2, _⟩ => rfl
    rw [hsi]
    rfl

/-- An array of words with a last axis of one. -/
theorem lastOne_apply (o : S16x9216.Idx → BitVec 32) (b : Fin 16) (p : Fin 9216) :
    shapeCast S16x9216x1 o Gen.shapeCasts_S16x9216_S16x9216x1 (ValueIdx.ix3 b p (0 : Fin 1)) = o (ValueIdx.ix2 b p) := by
  refine shapeCast_apply o _ _ _ ?_
  rw [Shape.rowMajor_val_three, Shape.rowMajor_val_two]
  show b.val * 9216 + p.val = (b.val * 9216 + p.val) * 1 + 0
  omega

/-- An entry taken at a place below 9216. -/
theorem takeW_apply (x : S16x9216.Idx → F .f32) (o : S16x9216.Idx → BitVec 32) (ho : ∀ i, (o i).toNat < 9216) (b : Fin 16) (p w : Fin 9216)
    (hw : o (ValueIdx.ix2 b p) = BitVec.ofNat 32 w.val) : takeW x o (ValueIdx.ix2 b p) = x (ValueIdx.ix2 b w) := by
  unfold takeW
  have sel : ∀ (k : BitVec 1) (u v : F .f32), k = 1#1 → Scalar.select k u v = u := by
    rintro _ u v rfl
    rfl
  refine (sel _ _ _ (insideW_eq o ho (ValueIdx.ix2 b p))).trans ?_
  rw [gather_row, wrapW_eq o ho]
  refine congrArg (fun k => x (ValueIdx.ix2 b k)) (Fin.ext ?_)
  show min (shapeCast S16x9216x1 o Gen.shapeCasts_S16x9216_S16x9216x1 (ValueIdx.ix3 b p (0 : Fin 1))).toInt.toNat 9215 = w.val
  have h1 : (BitVec.ofNat 32 w.val).toNat = w.val := by rw [BitVec.toNat_ofNat, Nat.mod_eq_of_lt (by omega)]
  rw [lastOne_apply, hw, toInt_small _ (by omega), h1, Int.toNat_natCast]
  omega

/-- The place words are below 9216. -/
theorem orderW_lt (E : S16x2304x4.Idx → BitVec 32) (i : S16x9216.Idx) : (orderW E i).toNat < 9216 := by
  have key : ∀ (b : Fin 16) (p : Fin 9216), (orderW E (ValueIdx.ix2 b p)).toNat < 9216 := by
    intro b p
    rw [orderW_apply]
    have := (srt (keys E b) p).isLt
    rw [BitVec.toNat_ofNat, Nat.mod_eq_of_lt (by omega)]
    exact this
  have e : i = ValueIdx.ix2 (i 0 : Fin 16) (i 1 : Fin 9216) := by
    funext a
    match a with
    | ⟨0, _⟩ => rfl
    | ⟨1, _⟩ => rfl
  rw [e]
  exact key _ _

/-- The weights' table at a place: the weight of the assignment that the order puts there. -/
theorem weightT_apply (E : S16x2304x4.Idx → BitVec 32) (W : S16x2304x4.Idx → F .f32) (b : Fin 16) (p : Fin 9536) (h : p.val < 9216) :
    weightT E W (ValueIdx.ix3 b (0 : Fin 1) p)
      = W (ValueIdx.ix3 b (⟨(srt (keys E b) ⟨p.val, h⟩).val / 4, by omega⟩ : Fin 2304) (⟨(srt (keys E b) ⟨p.val, h⟩).val % 4, by omega⟩ : Fin 4)) := by
  unfold weightT
  refine (mid_apply _ b p).trans ((pad_rows (takeW (flatE W) (orderW E)) _ _ _ b p).trans ?_)
  rw [dif_pos h]
  refine (takeW_apply (flatE W) (orderW E) (orderW_lt E) b ⟨p.val, h⟩ (srt (keys E b) ⟨p.val, h⟩) (orderW_apply E b _)).trans ?_
  exact flatE_apply W b _

/-- A bias array with a third axis of one, read. -/
theorem biasW_apply (v : S4x32x1024.Idx → F .f32) (a : Fin 4) (e : Fin 32) (f : Fin 1024) :
    biasW v (ValueIdx.ix4 a e (0 : Fin 1) f) = v (ValueIdx.ix3 a e f) := by
  refine broadcastInDim_apply _ _ v _ _ fun k => ?_
  match k with
  | ⟨0, _⟩ => rfl
  | ⟨1, _⟩ => rfl
  | ⟨2, _⟩ => rfl

end Cert.Proof.KernelIdeal
-- ==== Proof.VSort.lean ====
/-
  A sum over the places of one key in the sorted order is the sum over all places with that key, in their own order.
-/
module

public import proofs.«01_k».proof.Proof.Routes
public import Mathlib.Data.EReal.Basic

@[expose] public section

noncomputable section

namespace Cert.Proof

open Idealize.ShloMosaic

/-- The places of key `e` in the sorted order, one after another, are all places with that key. -/
theorem sum_sorted {N : ℕ} (key : Fin N → BitVec 32) (hk : ∀ p, (key p).toNat < 2 ^ 31) (e : ℕ) (f : Fin N → EReal) (g : ℕ → EReal)
    (hg : ∀ p (h : p < N), beg key e ≤ p → p < beg key e + cnt key e → g p = f (srt key ⟨p, h⟩)) :
    ∑ p ∈ Finset.range (cnt key e), g (beg key e + p) = ∑ q : Fin N, if (key q).toNat = e then f q else 0 := by
  have hb : Function.Bijective (srt key) := ⟨srt_inj key, srt_surj key⟩
  have hroom := room key e
  rw [← Equiv.sum_comp (Equiv.ofBijective _ hb)]
  have h1 : ∀ p : Fin N, (if (key (Equiv.ofBijective _ hb p)).toNat = e then f (Equiv.ofBijective _ hb p) else 0)
      = (fun x : ℕ => if x ∈ Finset.Ico (beg key e) (beg key e + cnt key e) then g x else 0) p.val := by
    intro p
    show (if (key (srt key p)).toNat = e then f (srt key p) else 0) = _
    by_cases h : (key (srt key p)).toNat = e
    · have h' := (srt_at key hk e p).1 h
      rw [if_pos h]
      dsimp only
      rw [if_pos (Finset.mem_Ico.2 h')]
      exact (hg p.val p.isLt h'.1 h'.2).symm
    · rw [if_neg h]
      dsimp only
      rw [if_neg fun h' => h ((srt_at key hk e p).2 (Finset.mem_Ico.1 h'))]
  rw [Finset.sum_congr rfl fun p _ => h1 p, Fin.sum_univ_eq_sum_range (fun x : ℕ => if x ∈ Finset.Ico (beg key e) (beg key e + cnt key e) then g x else 0) N,
    ← Finset.sum_filter]
  have h2 : (Finset.range N).filter (· ∈ Finset.Ico (beg key e) (beg key e + cnt key e)) = Finset.Ico (beg key e) (beg key e + cnt key e) := by
    ext x
    simp only [Finset.mem_filter, Finset.mem_range, Finset.mem_Ico]
    omega
  rw [h2, Finset.sum_Ico_eq_sum_range, Nat.add_sub_cancel_left]

/-- A sum over 9216 places is a sum over 2304 tokens of four places each. -/
theorem sum_places (f : Fin 9216 → EReal) : ∑ q, f q = ∑ i : Fin 2304, ∑ k : Fin 4, f ⟨i.val * 4 + k.val, by have := i.isLt; have := k.isLt; omega⟩ := by
  rw [← Fintype.sum_prod_type']
  refine (Fintype.sum_equiv (finProdFinEquiv (m := 2304) (n := 4)) _ _ fun x => congrArg f (Fin.ext ?_)).symm
  show x.1.val * 4 + x.2.val = x.2.val + 4 * x.1.val
  omega

end Cert.Proof

end
-- ==== Proof.VAcc.lean ====
/-
  What the whole call leaves at one place of its result, over the extended reals: the weighted sum of the chosen experts' results.
-/
module

public import proofs.«01_k».proof.Proof.VScat
public import proofs.«01_k».proof.Proof.VHost
public import proofs.«01_k».proof.Proof.VSort

@[expose] public section

set_option maxRecDepth 16384

noncomputable section

namespace Cert.Proof.KernelIdeal

open Cert.KernelIdeal
open Idealize.ShloMosaic Idealize.ShloMosaic.TcCoe

variable (m : (ℓ : Loc nD τ sig) → Buf (Elt Ideal) ℓ) (c : Dev nD)

/-- The token rows. -/
abbrev argX : S16x2304x8x128.Idx → EReal := m ((c : Thread nD τ).loc main_arg0)
/-- The chosen experts. -/
abbrev argI : S16x2304x4.Idx → BitVec 32 := m ((c : Thread nD τ).loc main_arg1)
/-- Their weights. -/
abbrev argW : S16x2304x4.Idx → EReal := m ((c : Thread nD τ).loc main_arg2)
/-- The first layer's experts. -/
abbrev argE : Fin 32 → Expert :=
  expertOf (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The grid point of an expert of a sequence. -/
def pt (b : Fin 16) (e : Fin 32) : Fin grid0.N := ⟨b.val * 32 + e.val, by rw [Gen.N_0]; have := b.isLt; have := e.isLt; omega⟩

theorem pt_div (b : Fin 16) (e : Fin 32) : (pt b e).val / 32 = b.val := by
  show (b.val * 32 + e.val) / 32 = b.val
  have := e.isLt
  omega

theorem pt_mod (b : Fin 16) (e : Fin 32) : (pt b e).val % 32 = e.val := by
  show (b.val * 32 + e.val) % 32 = e.val
  have := e.isLt
  omega

theorem pt_coords (b : Fin 16) (e : Fin 32) : (grid0.coords (pt b e) 0 : Fin 16) = b ∧ (grid0.coords (pt b e) 1).val = e.val :=
  ⟨Fin.ext ((point_coords (pt b e)).1.trans (pt_div b e)), (point_coords (pt b e)).2.trans (pt_mod b e)⟩

theorem lt_div (b : Fin 16) (e : Fin 32) : (pt b e).val / 32 < 16 := by rw [pt_div]; exact b.isLt
theorem lt_mod (b : Fin 16) (e : Fin 32) : (pt b e).val % 32 < 32 := by rw [pt_mod]; exact e.isLt
theorem fin_div (b : Fin 16) (e : Fin 32) : (⟨(pt b e).val / 32, lt_div b e⟩ : Fin 16) = b := Fin.ext (pt_div b e)
theorem fin_mod (b : Fin 16) (e : Fin 32) : (⟨(pt b e).val % 32, lt_mod b e⟩ : Fin 32) = e := Fin.ext (pt_mod b e)

/-- A point's matrices are those of its expert. -/
theorem blk_mat3 (b : Fin 16) (e : Fin 32) : mat (blk (atEntry m) c 3 (pt b e)) = (argE m c e).wg := by
  funext p q
  refine (blk_3 (atEntry m) c (pt b e) (ValueIdx.ix4 (0 : Fin 1) (0 : Fin 1) p q) (lt_mod b e)).trans ?_
  rw [entry_0, fin_mod]
  rfl

theorem blk_mat5 (b : Fin 16) (e : Fin 32) : mat (blk (atEntry m) c 5 (pt b e)) = (argE m c e).wu := by
  funext p q
  refine (blk_5 (atEntry m) c (pt b e) (ValueIdx.ix4 (0 : Fin 1) (0 : Fin 1) p q) (lt_mod b e)).trans ?_
  rw [entry_1, fin_mod]
  rfl

theorem blk_mat7 (b : Fin 16) (e : Fin 32) : mat (blk (atEntry m) c 7 (pt b e)) = (argE m c e).wd := by
  funext p q
  refine (blk_7 (atEntry m) c (pt b e) (ValueIdx.ix4 (0 : Fin 1) (0 : Fin 1) p q) (lt_mod b e)).trans ?_
  rw [entry_2, fin_mod]
  rfl

/-- A point's biases are those of its expert. -/
theorem blk_vec4 (b : Fin 16) (e : Fin 32) : vec (blk (atEntry m) c 4 (pt b e)) = (argE m c e).bg := by
  funext p
  refine (blk_4 (atEntry m) c (pt b e) (ValueIdx.ix4 (0 : Fin 1) (0 : Fin 1) (0 : Fin 1) p) (lt_mod b e)).trans ?_
  rw [entry_23, fin_mod]
  exact biasW_apply _ _ _ _

theorem blk_vec6 (b : Fin 16) (e : Fin 32) : vec (blk (atEntry m) c 6 (pt b e)) = (argE m c e).bu := by
  funext p
  refine (blk_6 (atEntry m) c (pt b e) (ValueIdx.ix4 (0 : Fin 1) (0 : Fin 1) (0 : Fin 1) p) (lt_mod b e)).trans ?_
  rw [entry_24, fin_mod]
  exact biasW_apply _ _ _ _

theorem blk_vec8 (b : Fin 16) (e : Fin 32) : vec (blk (atEntry m) c 8 (pt b e)) = (argE m c e).bd := by
  funext p
  refine (blk_8 (atEntry m) c (pt b e) (ValueIdx.ix4 (0 : Fin 1) (0 : Fin 1) (0 : Fin 1) p) (lt_mod b e)).trans ?_
  rw [entry_25, fin_mod]
  exact biasW_apply _ _ _ _

/-- The order table at a point, at a place below 9216. -/
theorem tab_order (b : Fin 16) (e : Fin 32) (p : ℕ) (h : p < 9216) :
    (tab (blk (atEntry m) c 0 (pt b e)) p : BitVec 32).toNat = (srt (keys (argI m c) b) ⟨p, h⟩).val := by
  have hp : p % 9536 = p := Nat.mod_eq_of_lt (by omega)
  have e1 : (tab (blk (atEntry m) c 0 (pt b e)) p : BitVec 32) = BitVec.ofNat 32 (srt (keys (argI m c) b) ⟨p, h⟩).val := by
    refine (blk_0 (atEntry m) c (pt b e) (ValueIdx.ix3 (0 : Fin 1) (0 : Fin 1) (⟨p % 9536, Nat.mod_lt _ (by decide)⟩ : Fin 9536)) (lt_div b e)).trans ?_
    rw [entry_18, fin_div]
    refine (orderT_apply (argI m c) b _).trans ?_
    rw [dif_pos (show p % 9536 < 9216 by omega)]
    exact congrArg (fun k => BitVec.ofNat 32 (srt (keys (argI m c) b) k).val) (Fin.ext hp)
  rw [e1, BitVec.toNat_ofNat]
  have := (srt (keys (argI m c) b) ⟨p, h⟩).isLt
  exact Nat.mod_eq_of_lt (by omega)

/-- The weight of an assignment. -/
def wAt (b : Fin 16) (q : Fin 9216) : EReal := argW m c (ValueIdx.ix3 b (⟨q.val / 4, by omega⟩ : Fin 2304) (⟨q.val % 4, by omega⟩ : Fin 4))

/-- The weights' table at a point, at a place below 9216. -/
theorem tab_weight (b : Fin 16) (e : Fin 32) (p : ℕ) (h : p < 9216) :
    (tab (blk (atEntry m) c 1 (pt b e)) p : EReal) = wAt m c b (srt (keys (argI m c) b) ⟨p, h⟩) := by
  have hp : p % 9536 = p := Nat.mod_eq_of_lt (by omega)
  refine (blk_1 (atEntry m) c (pt b e) (ValueIdx.ix3 (0 : Fin 1) (0 : Fin 1) (⟨p % 9536, Nat.mod_lt _ (by decide)⟩ : Fin 9536)) (lt_div b e)).trans ?_
  rw [entry_20, fin_div]
  refine (weightT_apply (F := Ideal) (argI m c) (argW m c) b _ (show p % 9536 < 9216 by omega)).trans ?_
  exact congrArg (fun k => wAt m c b (srt (keys (argI m c) b) k)) (Fin.ext hp)

/-- A token's row at a point. -/
theorem hrow_tok (b : Fin 16) (e : Fin 32) (w : ℕ) (h : w / 4 < 2304) : hrow (blk (atEntry m) c 2 (pt b e)) w = tok (argX m c) b ⟨w / 4, h⟩ := by
  funext d
  refine (blk_2 (atEntry m) c (pt b e) (ValueIdx.ix4 (0 : Fin 1) (⟨w / 4 % 2304, Nat.mod_lt _ (by decide)⟩ : Fin 2304)
    (⟨d.val / 128, by have := d.isLt; omega⟩ : Fin 8) (⟨d.val % 128, Nat.mod_lt _ (by decide)⟩ : Fin 128)) (lt_div b e)).trans ?_
  rw [entry_arg0, fin_div]
  exact congrArg (fun k => argX m c (ValueIdx.ix4 b k (⟨d.val / 128, by have := d.isLt; omega⟩ : Fin 8) (⟨d.val % 128, Nat.mod_lt _ (by decide)⟩ : Fin 128)))
    (Fin.ext (Nat.mod_eq_of_lt h))

/-- What expert `e` adds at place `j` of output row `r` of sequence `b`. -/
def part (b : Fin 16) (e : Fin 32) (r : Fin 2312) (j : Fin 1024) : EReal :=
  if h : r.val < 2304 then ∑ k : Fin 4, if (argI m c (ValueIdx.ix3 b ⟨r.val, h⟩ k)).toNat = e.val
    then argW m c (ValueIdx.ix3 b ⟨r.val, h⟩ k) * ffn (argE m c e) (tok (argX m c) b ⟨r.val, h⟩) j else 0 else 0

/-- No expert's number is negative and the four choices of a token are different. -/
structure Good : Prop where
  /-- not negative -/
  range : ∀ (b : Fin 16) (r : Fin 2304) (k : Fin 4), (argI m c (ValueIdx.ix3 b r k)).toNat < 2 ^ 31
  /-- different -/
  apart : ∀ (b : Fin 16) (r : Fin 2304) (k k' : Fin 4), (argI m c (ValueIdx.ix3 b r k)).toNat = (argI m c (ValueIdx.ix3 b r k')).toNat → k = k'

theorem keys_lt (hm : Good m c) (b : Fin 16) (q : Fin 9216) : (keys (argI m c) b q).toNat < 2 ^ 31 :=
  hm.range b _ _

/-- Two assignments of one token to one expert are the same. -/
theorem keys_apart (hm : Good m c) (b : Fin 16) (q q' : Fin 9216) (ht : q.val / 4 = q'.val / 4)
    (hk : (keys (argI m c) b q).toNat = (keys (argI m c) b q').toNat) : q = q' := by
  have e : (⟨q.val / 4, by omega⟩ : Fin 2304) = ⟨q'.val / 4, by omega⟩ := Fin.ext ht
  have h : (argI m c (ValueIdx.ix3 b (⟨q'.val / 4, by omega⟩ : Fin 2304) (⟨q.val % 4, by omega⟩ : Fin 4))).toNat
      = (argI m c (ValueIdx.ix3 b (⟨q'.val / 4, by omega⟩ : Fin 2304) (⟨q'.val % 4, by omega⟩ : Fin 4))).toNat := by
    rw [← e]
    refine hk.trans ?_
    show _ = (argI m c (ValueIdx.ix3 b (⟨q.val / 4, by omega⟩ : Fin 2304) (⟨q'.val % 4, by omega⟩ : Fin 4))).toNat
    rw [e]
    rfl
  have := congrArg Fin.val (hm.apart b _ _ _ h)
  dsimp only at this
  exact Fin.ext (by omega)

/-- A point's change of the output rows, read at one place. -/
theorem step_at (hm : Good m c) (b : Fin 16) (e : Fin 32) (P : Vec Ideal S1x2312x8x128 .f32) (r : Fin 2312) (a : Fin 8) (l : Fin 128) :
    step (F := Ideal) (atEntry m) c (pt b e) P (ValueIdx.ix4 0 r a l) = (P (ValueIdx.ix4 0 r a l) + part m c b e r (place a l) : EReal) := by
  have hroom := room (keys (argI m c) b) e.val
  have hs : ∀ p (h : p < 9216), beg (keys (argI m c) b) e.val ≤ p → p < beg (keys (argI m c) b) e.val + cnt (keys (argI m c) b) e.val →
      (keys (argI m c) b (srt (keys (argI m c) b) ⟨p, h⟩)).toNat = e.val := fun p h h1 h2 =>
    (srt_at _ (keys_lt m c hm b) e.val ⟨p, h⟩).2 ⟨h1, h2⟩
  unfold step
  have ec : (entry (grid0.coords (pt b e)) (atEntry m c main_v21)).toNat = cnt (keys (argI m c) b) e.val :=
    (entry_count m c _).trans (congrArg₂ (fun (i : Fin 16) k => cnt (keys (argI m c) i) k) (pt_coords b e).1 (pt_coords b e).2)
  have es : (entry (grid0.coords (pt b e)) (atEntry m c main_v22)).toNat = beg (keys (argI m c) b) e.val :=
    (entry_start m c _).trans (congrArg₂ (fun (i : Fin 16) k => beg (keys (argI m c) i) k) (pt_coords b e).1 (pt_coords b e).2)
  rw [ec, es, tiles_all]
  · refine congrArg _ ?_
    rw [blk_mat3, blk_mat5, blk_mat7, blk_vec4, blk_vec6, blk_vec8]
    rw [sum_sorted (keys (argI m c) b) (keys_lt m c hm b) e.val
      (fun q => if q.val / 4 = r.val then wAt m c b q * ffn (argE m c e) (tok (argX m c) b ⟨q.val / 4, by omega⟩) (place a l) else 0)
      (fun p => if (tab (blk (atEntry m) c 0 (pt b e)) p : BitVec 32).toNat / 4 = r.val then
        (tab (blk (atEntry m) c 1 (pt b e)) p : EReal) * ffn (argE m c e) (hrow (blk (atEntry m) c 2 (pt b e)) (tab (blk (atEntry m) c 0 (pt b e)) p : BitVec 32).toNat) (place a l) else 0)]
    · rw [sum_places]
      unfold part
      have hd : ∀ (i : Fin 2304) (k : Fin 4), (i.val * 4 + k.val) / 4 = i.val := fun i k => by have := k.isLt; omega
      have hq : ∀ (i : Fin 2304) (k : Fin 4), (i.val * 4 + k.val) % 4 = k.val := fun i k => by have := k.isLt; omega
      by_cases hr : r.val < 2304
      · rw [dif_pos hr, Finset.sum_eq_single (⟨r.val, hr⟩ : Fin 2304)]
        · refine Finset.sum_congr rfl fun k _ => ?_
          have e1 : (⟨(r.val * 4 + k.val) / 4, by have := k.isLt; omega⟩ : Fin 2304) = ⟨r.val, hr⟩ := Fin.ext (hd ⟨r.val, hr⟩ k)
          have e2 : (⟨(r.val * 4 + k.val) % 4, by omega⟩ : Fin 4) = k := Fin.ext (hq ⟨r.val, hr⟩ k)
          have e3 : (keys (argI m c) b ⟨r.val * 4 + k.val, by have := k.isLt; omega⟩) = argI m c (ValueIdx.ix3 b ⟨r.val, hr⟩ k) := by
            refine Eq.trans ?_ (congrArg₂ (fun i j => argI m c (ValueIdx.ix3 b i j)) e1 e2)
            rfl
          have e4 : wAt m c b ⟨r.val * 4 + k.val, by have := k.isLt; omega⟩ = argW m c (ValueIdx.ix3 b ⟨r.val, hr⟩ k) := by
            refine Eq.trans ?_ (congrArg₂ (fun i j => argW m c (ValueIdx.ix3 b i j)) e1 e2)
            rfl
          dsimp only
          rw [e3, e4, e1, if_pos (c := (r.val * 4 + k.val) / 4 = r.val) (hd ⟨r.val, hr⟩ k)]
        · intro i _ hi
          refine Finset.sum_eq_zero fun k _ => ?_
          dsimp only
          rw [if_neg (c := (i.val * 4 + k.val) / 4 = r.val) (fun h => hi (Fin.ext ((hd i k).symm.trans h))), ite_self]
        · exact fun h => absurd (Finset.mem_univ _) h
      · rw [dif_neg hr]
        refine Finset.sum_eq_zero fun i _ => Finset.sum_eq_zero fun k _ => ?_
        dsimp only
        rw [if_neg (c := (i.val * 4 + k.val) / 4 = r.val) (fun h => hr (((hd i k).symm.trans h) ▸ i.isLt)), ite_self]
    · intro p h h1 h2
      rw [tab_order m c b e p h, tab_weight m c b e p h, hrow_tok m c b e _ (by have := (srt (keys (argI m c) b) ⟨p, h⟩).isLt; omega)]
  · intro p hp
    rw [tab_order m c b e _ (by omega)]
    exact Fin.isLt _
  · intro p p' h h' ht
    rw [tab_order m c b e _ (by omega), tab_order m c b e _ (by omega)] at ht
    have hq := keys_apart m c hm b _ _ ht ((hs _ (by omega) (by omega) (by omega)).trans (hs _ (by omega) (by omega) (by omega)).symm)
    have := congrArg Fin.val (srt_inj _ hq)
    dsimp only at this
    omega

/-- The output rows start at zero. -/
theorem pay_zero (i : S1x2312x8x128.Idx) : (Gen.k0_pay65 (F := Ideal) i : EReal) = 0 := by
  show Scalar.ofBits (F := Ideal) .f32 0x00000000#32 = (0 : EReal)
  exact Ideal.ofBits_zero_f32

/-- The output rows after a point of sequence `b`: what the experts so far have added. -/
theorem acc_at (hm : Good m c) (b : Fin 16) (r : Fin 2312) (a : Fin 8) (l : Fin 128) (n : ℕ) : ∀ (hn : n < 32),
    acc (F := Ideal) (atEntry m) c (pt b ⟨n, hn⟩).val (pt b ⟨n, hn⟩).isLt (ValueIdx.ix4 0 r a l)
      = (∑ e ∈ Finset.range (n + 1), if h : e < 32 then part m c b ⟨e, h⟩ r (place a l) else 0 : EReal) := by
  induction n with
  | zero =>
    intro hn
    rw [acc_first (atEntry m) c (pt b ⟨0, hn⟩) (pt_coords b ⟨0, hn⟩).2, step_at m c hm, pay_zero, Finset.sum_range_one, dif_pos hn, zero_add]
  | succ n ih =>
    intro hn
    have hn' : n < 32 := by omega
    have e0 : (pt b ⟨n + 1, hn⟩).val - 1 = (pt b ⟨n, hn'⟩).val := by
      show b.val * 32 + (n + 1) - 1 = b.val * 32 + n
      omega
    have h0 : (grid0.coords (pt b ⟨n + 1, hn⟩) 1).val ≠ 0 := by
      rw [(pt_coords b ⟨n + 1, hn⟩).2]
      exact Nat.succ_ne_zero n
    rw [acc_next (atEntry m) c (pt b ⟨n + 1, hn⟩) h0 (e0 ▸ (pt b ⟨n, hn'⟩).isLt) (by show b.val * 32 + (n + 1) ≠ 0; omega), step_at m c hm, Finset.sum_range_succ _ (n + 1), dif_pos hn]
    refine congrArg (· + _) ?_
    refine Eq.trans ?_ (ih hn')
    congr 1

/-- The call's result at a place: the weighted sum of the results of the token's experts, and zero in the rows past the last token. -/
theorem final_at (hm : Good m c) (b : Fin 16) (r : Fin 2312) (a : Fin 8) (l : Fin 128) :
    (final (F := Ideal) (atEntry m) c (ValueIdx.ix4 b r a l) : EReal)
      = if h : r.val < 2304 then routed (argI m c) (argW m c) (argE m c) (tok (argX m c) b ⟨r.val, h⟩) b ⟨r.val, h⟩ (place a l) else 0 := by
  refine (show _ = acc (F := Ideal) (atEntry m) c (pt b ⟨31, by decide⟩).val (pt b ⟨31, by decide⟩).isLt (ValueIdx.ix4 0 r a l) from rfl).trans ?_
  rw [acc_at m c hm b r a l 31 (by decide)]
  have h1 : (∑ e ∈ Finset.range (31 + 1), if h : e < 32 then part m c b ⟨e, h⟩ r (place a l) else 0) = ∑ e : Fin 32, part m c b e r (place a l) := by
    rw [← Fin.sum_univ_eq_sum_range (fun e => if h : e < 32 then part m c b ⟨e, h⟩ r (place a l) else 0) (31 + 1)]
    exact Finset.sum_congr rfl fun e _ => dif_pos e.isLt
  rw [h1]
  by_cases hr : r.val < 2304
  · rw [dif_pos hr]
    exact Finset.sum_congr rfl fun e _ => dif_pos hr
  · rw [dif_neg hr]
    exact Finset.sum_eq_zero fun e _ => dif_neg hr

end Cert.Proof.KernelIdeal

end
-- ==== Proof.VRef.lean ====
/-
  The reference's result read at one place, over the extended reals.
-/
module

public import proofs.«01_k».proof.Proof.Gen.ReferenceIdeal.Run
public import proofs.«01_k».proof.Proof.Spec
public import Idealize.ShloMosaic.Lib.Tactic

@[expose] public section

set_option maxRecDepth 16384

noncomputable section

namespace Cert.Proof.Reference

open Cert.ReferenceIdeal Cert.ReferenceIdeal.Value Cert.ReferenceIdeal.Gen
open Idealize.ShloMosaic Idealize.ShloMosaic.TcCoe

/-- The tokens as rows of 1024. -/
def rowsR (x : FVec Ideal S16x2304x8x128 .f32) : FVec Ideal S36864x1024 .f32 := shapeCast S36864x1024 x shapeCasts_S16x2304x8x128_S36864x1024

/-- The first layer's matrices. -/
def matR (W : FVec Ideal S4x32x1024x1024 .f32) : FVec Ideal S32x1024x1024 .f32 :=
  shapeCast S32x1024x1024 (extractStridedSlice S1x32x1024x1024 ![0, 0, 0, 0] W slices_S4x32x1024x1024_S1x32x1024x1024_0_0_0_0) shapeCasts_S1x32x1024x1024_S32x1024x1024

/-- The first layer's biases, the same for every row. -/
def biasR (b : FVec Ideal S4x32x1024 .f32) : FVec Ideal S32x36864x1024 .f32 :=
  broadcastInDim S32x36864x1024 ![0, 1, 2] bcast_S32x1x1024_S32x36864x1024_0_1_2 (broadcastInDim S32x1x1024 ![0, 2] bcast_S32x1024_S32x1x1024_0_2
    (shapeCast S32x1024 (extractStridedSlice S1x32x1024 ![0, 0, 0] b slices_S4x32x1024_S1x32x1024_0_0_0) shapeCasts_S1x32x1024_S32x1024))

/-- Every row times every expert's matrix, plus the bias. -/
def halfR (x : FVec Ideal S16x2304x8x128 .f32) (W : FVec Ideal S4x32x1024x1024 .f32) (b : FVec Ideal S4x32x1024 .f32) : FVec Ideal S32x36864x1024 .f32 :=
  addf (transpose S32x36864x1024 [0, 2, 1] (Host.dotGeneral dot_S32x1024x1024_S36864x1024_S32x1024x36864_1_1_02_0_n_n none (matR W) (rowsR x)) transposes_S32x1024x36864_S32x36864x1024_0_2_1) (biasR b)

/-- A constant in every place. -/
def fillR (w : BitVec 32) : FVec Ideal S32x36864x1024 .f32 := broadcastInDim S32x36864x1024 ![] bcast_S_S32x36864x1024 (constant S_ .f32 w)

/-- The gated rows of every expert. -/
def actR (u g : FVec Ideal S32x36864x1024 .f32) : FVec Ideal S32x36864x1024 .f32 :=
  mulf (mulf (addf (minimumf (fillR 0x40E00000#32) (maximumf (fillR 0xC0E00000#32) u)) (fillR 0x3F800000#32)) (minimumf g (fillR 0x40E00000#32)))
    (Host.divf (fillR 0x3F800000#32) (addf (fillR 0x3F800000#32) (Host.exp (Host.negf (mulf (fillR 0x3FD9DB23#32) (minimumf g (fillR 0x40E00000#32)))))))

/-- Every expert's result on every row. -/
def outR (v : FVec Ideal S32x36864x1024 .f32) (W : FVec Ideal S4x32x1024x1024 .f32) (b : FVec Ideal S4x32x1024 .f32) : FVec Ideal S32x36864x1024 .f32 :=
  addf (Host.dotGeneral dot_S32x36864x1024_S32x1024x1024_S32x36864x1024_2_1_1_2_0_0 none v (matR W)) (biasR b)

/-- The weight of every expert for every row. -/
def weightR (ti : IVec S16x2304x4 32) (tw : FVec Ideal S16x2304x4 .f32) : FVec Ideal S32x36864 .f32 :=
  transpose S32x36864 [1, 0] (Host.dotGeneral dot_S36864x4x32_S36864x4_S36864x32_1_1_2_n_0_0 none (uitofp .f32 (cmpi .eq
    (broadcastInDim S36864x4x32 ![0, 1, 2] bcast_S36864x4x1_S36864x4x32_0_1_2 (broadcastInDim S36864x4x1 ![0, 1] bcast_S36864x4_S36864x4x1_0_1 (shapeCast S36864x4 ti shapeCasts_S16x2304x4_S36864x4)))
    (broadcastInDim S36864x4x32 ![0, 1, 2] bcast_S1x1x32_S36864x4x32_0_1_2 (broadcastInDim S1x1x32 ![2] bcast_S32_S1x1x32_2 (iotaInDim S32 32 0)))))
    (shapeCast S36864x4 tw shapeCasts_S16x2304x4_S36864x4)) transposes_S36864x32_S32x36864_1_0

/-- The weighted sum over the experts, with eight zero rows behind every sequence. -/
def sumR (w : FVec Ideal S32x36864 .f32) (y : FVec Ideal S32x36864x1024 .f32) : FVec Ideal S16x2312x8x128 .f32 :=
  pad S16x2312x8x128 ![0, 0, 0, 0] ![0, 8, 0, 0] ![0, 0, 0, 0] (shapeCast S16x2304x8x128 (Host.reduceAdd
    (mulf (broadcastInDim S32x36864x1024 ![0, 1, 2] bcast_S32x36864x1_S32x36864x1024_0_1_2 (broadcastInDim S32x36864x1 ![0, 1] bcast_S32x36864_S32x36864x1_0_1 w)) y)
    (constant S_ .f32 0x00000000#32) reducesTo_S32x36864x1024_S36864x1024_d0 h_S_) shapeCasts_S36864x1024_S16x2304x8x128) (sitofp .f32 (constantI S_ 32 0#32)) pads_S16x2304x8x128_S16x2312x8x128_000_080_000_000 h_S_

/-- The reference's result by its stages. -/
theorem result_eq (m : (ℓ : Loc nD τ sig) → Buf (Elt Ideal) ℓ) (c : Dev nD) :
    (res_main_v58 m c : S16x2312x8x128.Idx → EReal) = sumR (weightR (m ((c.tc : Thread nD τ).loc main_arg1)) (m ((c.tc : Thread nD τ).loc main_arg2)))
      (outR (actR (halfR (m ((c.tc : Thread nD τ).loc main_arg0)) (m ((c.tc : Thread nD τ).loc main_arg5)) (m ((c.tc : Thread nD τ).loc main_arg6)))
        (halfR (m ((c.tc : Thread nD τ).loc main_arg0)) (m ((c.tc : Thread nD τ).loc main_arg3)) (m ((c.tc : Thread nD τ).loc main_arg4))))
        (m ((c.tc : Thread nD τ).loc main_arg7)) (m ((c.tc : Thread nD τ).loc main_arg8))) := rfl

/-- A row number of the flat rows. -/
def rowAt (b : Fin 16) (r : Fin 2304) : Fin 36864 := ⟨b.val * 2304 + r.val, by have := b.isLt; have := r.isLt; omega⟩

theorem row_div (b : Fin 16) (r : Fin 2304) (h : (rowAt b r).val / 2304 < 16) : (⟨(rowAt b r).val / 2304, h⟩ : Fin 16) = b :=
  Fin.ext (show (b.val * 2304 + r.val) / 2304 = b.val by have := r.isLt; omega)

theorem row_mod (b : Fin 16) (r : Fin 2304) (h : (rowAt b r).val % 2304 < 2304) : (⟨(rowAt b r).val % 2304, h⟩ : Fin 2304) = r :=
  Fin.ext (show (b.val * 2304 + r.val) % 2304 = r.val by have := r.isLt; omega)

/-- One half at a token. -/
theorem half_apply (x : FVec Ideal S16x2304x8x128 .f32) (W : FVec Ideal S4x32x1024x1024 .f32) (v : FVec Ideal S4x32x1024 .f32) (e : Fin 32) (b : Fin 16) (r : Fin 2304) (f : Fin 1024) :
    halfR x W v (ix3 e (rowAt b r) f) = lin (tok x b r) (fun a c => W (ValueIdx.ix4 (0 : Fin 4) e a c)) (fun a => v (ValueIdx.ix3 (0 : Fin 4) e a)) f := by
  pointwise [halfR, biasR, rowsR, matR]
  simp only [row_div, row_mod, lin, tok, ← ix4_eq_valueIdx, ← ix3_eq_valueIdx]
  refine congrArg (· + _) (Finset.sum_congr rfl fun d _ => mul_comm _ _)

/-- The gated rows at a place. -/
theorem act_apply (u g : FVec Ideal S32x36864x1024 .f32) (j : S32x36864x1024.Idx) :
    actR u g j = act (min (Ideal.ofBits .f32 1088421888#32) (max (Ideal.ofBits .f32 3235905536#32) (u j))) (min (g j) (Ideal.ofBits .f32 1088421888#32)) := by
  pointwise [actR, fillR]
  rfl

/-- The closing product at a place. -/
theorem out_apply (v : FVec Ideal S32x36864x1024 .f32) (W : FVec Ideal S4x32x1024x1024 .f32) (b : FVec Ideal S4x32x1024 .f32) (e : Fin 32) (q : Fin 36864) (f : Fin 1024) :
    outR v W b (ix3 e q f) = lin (fun d => v (ix3 e q d)) (fun a c => W (ValueIdx.ix4 (0 : Fin 4) e a c)) (fun a => b (ValueIdx.ix3 (0 : Fin 4) e a)) f := by
  pointwise [outR, biasR, matR]
  simp only [lin, ← ix4_eq_valueIdx, ← ix3_eq_valueIdx]

/-- A comparison with an expert's number, as a number. -/
theorem one_hot (w : BitVec 32) (e : Fin 32) : (FloatOps.uitofp (F := Ideal) .f32 (IntOp.cmpi .eq w (BitVec.ofNat 32 e.val)) : EReal) = if w.toNat = e.val then 1 else 0 := by
  have he := e.isLt
  have h2 : (BitVec.ofNat 32 e.val).toNat = e.val := by rw [BitVec.toNat_ofNat, Nat.mod_eq_of_lt (by omega)]
  by_cases h : w.toNat = e.val
  · have hw : w = BitVec.ofNat 32 e.val := BitVec.eq_of_toNat_eq (h.trans h2.symm)
    have hc : IntOp.cmpi .eq w (BitVec.ofNat 32 e.val) = 1#1 := by
      show BitVec.ofBool (w == BitVec.ofNat 32 e.val) = 1#1
      rw [hw, beq_self_eq_true]; rfl
    rw [if_pos h, hc]
    show (((1#1 : BitVec 1).toNat : ℝ) : EReal) = 1
    simp
  · have hw : w ≠ BitVec.ofNat 32 e.val := fun hw => h ((congrArg BitVec.toNat hw).trans h2)
    have hc : IntOp.cmpi .eq w (BitVec.ofNat 32 e.val) = 0#1 := by
      show BitVec.ofBool (w == BitVec.ofNat 32 e.val) = 0#1
      rw [beq_eq_false_iff_ne.2 hw]; rfl
    rw [if_neg h, hc]
    show (((0#1 : BitVec 1).toNat : ℝ) : EReal) = 0
    simp

/-- An expert's weight at a token. -/
theorem weight_apply (ti : IVec S16x2304x4 32) (tw : FVec Ideal S16x2304x4 .f32) (e : Fin 32) (b : Fin 16) (r : Fin 2304) :
    weightR ti tw (ix2 e (rowAt b r)) = (∑ k : Fin 4, (if (ti (ValueIdx.ix3 b r k)).toNat = e.val then (1 : EReal) else 0) * tw (ValueIdx.ix3 b r k) : EReal) := by
  pointwise [weightR]
  simp only [row_div, row_mod, ← ix3_eq_valueIdx, one_hot]

/-- The weighted sum at a place. -/
theorem sum_apply (w : FVec Ideal S32x36864 .f32) (y : FVec Ideal S32x36864x1024 .f32) (b : Fin 16) (r : Fin 2312) (a : Fin 8) (l : Fin 128) :
    sumR w y (ix4 b r a l) = (if h : r.val < 2304 then ∑ e : Fin 32, w (ix2 e (rowAt b ⟨r.val, h⟩)) * y (ix3 e (rowAt b ⟨r.val, h⟩) (place a l)) else 0 : EReal) := by
  pointwise [sumR]
  refine dite_congr rfl (fun h => rfl) fun h => ?_
  show (((0#32 : BitVec 32).toInt : ℝ) : EReal) = 0
  simp

/-- The reference's result at a place: the weighted sum of the chosen experts' results, zero in the last eight rows. -/
theorem result (m : (ℓ : Loc nD τ sig) → Buf (Elt Ideal) ℓ) (c : Dev nD) (b : Fin 16) (r : Fin 2312) (a : Fin 8) (l : Fin 128)
    (hd : ∀ (b : Fin 16) (r : Fin 2304) (k k' : Fin 4), ((m ((c.tc : Thread nD τ).loc main_arg1) : S16x2304x4.Idx → BitVec 32) (ValueIdx.ix3 b r k)).toNat
      = ((m ((c.tc : Thread nD τ).loc main_arg1) : S16x2304x4.Idx → BitVec 32) (ValueIdx.ix3 b r k')).toNat → k = k') :
    (res_main_v58 m c : S16x2312x8x128.Idx → EReal) (ix4 b r a l)
      = if h : r.val < 2304 then routed (m ((c.tc : Thread nD τ).loc main_arg1)) (m ((c.tc : Thread nD τ).loc main_arg2))
          (expertOf (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8)))
          (tok (m ((c.tc : Thread nD τ).loc main_arg0)) b ⟨r.val, h⟩) b ⟨r.val, h⟩ (place a l) else 0 := by
  refine (congrFun (result_eq m c) _).trans ((sum_apply _ _ b r a l).trans (dite_congr rfl (fun h => ?_) fun h => rfl))
  unfold routed
  refine Finset.sum_congr rfl fun e _ => ?_
  rw [weight_apply, out_apply]
  simp only [act_apply, half_apply]
  exact pick_mul _ (fun k k' hk hk' => hd b ⟨r.val, h⟩ k k' (hk.trans hk'.symm)) _ _

end Cert.Proof.Reference

end
-- ==== Proof.VPre.lean ====
/-
  The precondition read: no expert's number is negative, and the four numbers of a token are different.
-/
module

public import proofs.«01_k».proof.Pre_top4
public import Idealize.ShloMosaic.Lib.ReduceAll
public import Idealize.ShloMosaic.Lib.WordCmp
public import Idealize.ShloMosaic.Lib.Pointwise

@[expose] public section

set_option maxRecDepth 16384

noncomputable section

namespace Cert.Proof.Pre

open Cert.Pre_top4 Idealize.ShloMosaic

/-- The shapes of the precondition's operations fit. -/
theorem facts : Cert.Pre_top4.Facts := by
  constructor <;> decide +kernel

instance : Cert.Pre_top4.Facts := facts

/-- The one index of an array without axes. -/
theorem one_index (i j : S_.Idx) : i = j := funext fun a => Fin.elim0 a

instance : Subsingleton S_.Idx := ⟨one_index⟩

/-- A word that is not negative is below `2 ^ 31`. -/
theorem below (v : BitVec 32) (h : IntOp.cmpi .sge v 0#32 = 1#1) : v.toNat < 2 ^ 31 := by
  have a := IntOp.cmpi_sge.1 h
  rw [show (0#32 : BitVec 32).toInt = 0 from by decide] at a
  have e := BitVec.toInt_eq_toNat_cond v
  have := v.isLt
  split at e <;> omega

variable (X : FVec Ideal S16x2304x8x128 .f32) (I : IVec S16x2304x4 32) (W : FVec Ideal S16x2304x4 .f32)
  (A : FVec Ideal S4x32x1024x1024 .f32) (a : FVec Ideal S4x32x1024 .f32) (B : FVec Ideal S4x32x1024x1024 .f32) (b : FVec Ideal S4x32x1024 .f32)
  (D : FVec Ideal S4x32x1024x1024 .f32) (d : FVec Ideal S4x32x1024 .f32)

/-- The comparisons of all choices with 0. -/
def ranges : IVec S16x2304x4 1 := cmpi .sge I (broadcastInDim S16x2304x4 ![] Facts.bcast_S_S16x2304x4 (constantI S_ 32 0#32))

/-- One choice's column, sliced. -/
def col (k : ℕ) (h : S16x2304x4.Slices ![0, 0, k] S16x2304x1) : IVec S16x2304 32 :=
  shapeCast S16x2304 (extractStridedSlice S16x2304x1 ![0, 0, k] I h) Facts.shapeCasts_S16x2304x1_S16x2304

/-- The six comparisons. -/
def diffs (c0 c1 c2 c3 : IVec S16x2304 32) : IVec S16x2304 1 :=
  andi (andi (andi (andi (andi (cmpi .ne c0 c1) (cmpi .ne c0 c2)) (cmpi .ne c0 c3)) (cmpi .ne c1 c2)) (cmpi .ne c1 c3)) (cmpi .ne c2 c3)

/-- The precondition as the two conjunctions. -/
theorem fn_eq (j : S_.Idx) : fn (F := Ideal) X I W A a B b D d j =
    IntOp.andi (Host.reduce IntOp.andi (ranges I) (constantI S_ 1 1#1) Facts.reducesTo_S16x2304x4_S_d0_1_2 Facts.h_S_ j)
      (Host.reduce IntOp.andi (diffs (col I 0 Facts.slices_S16x2304x4_S16x2304x1_0_0_0) (col I 1 Facts.slices_S16x2304x4_S16x2304x1_0_0_1)
        (col I 2 Facts.slices_S16x2304x4_S16x2304x1_0_0_2) (col I 3 Facts.slices_S16x2304x4_S16x2304x1_0_0_3))
        (constantI S_ 1 1#1) Facts.reducesTo_S16x2304_S_d0_1 Facts.h_S_ j) := rfl

/-- A column at a token. -/
theorem col_0 (p : Fin 16) (r : Fin 2304) : col I 0 Facts.slices_S16x2304x4_S16x2304x1_0_0_0 (ValueIdx.ix2 p r) = I (ValueIdx.ix3 p r 0) := by
  rw [← ix2_eq_valueIdx]
  pointwise [col]
  rw [ix3_eq_valueIdx]

theorem col_1 (p : Fin 16) (r : Fin 2304) : col I 1 Facts.slices_S16x2304x4_S16x2304x1_0_0_1 (ValueIdx.ix2 p r) = I (ValueIdx.ix3 p r 1) := by
  rw [← ix2_eq_valueIdx]
  pointwise [col]
  rw [ix3_eq_valueIdx]

theorem col_2 (p : Fin 16) (r : Fin 2304) : col I 2 Facts.slices_S16x2304x4_S16x2304x1_0_0_2 (ValueIdx.ix2 p r) = I (ValueIdx.ix3 p r 2) := by
  rw [← ix2_eq_valueIdx]
  pointwise [col]
  rw [ix3_eq_valueIdx]

theorem col_3 (p : Fin 16) (r : Fin 2304) : col I 3 Facts.slices_S16x2304x4_S16x2304x1_0_0_3 (ValueIdx.ix2 p r) = I (ValueIdx.ix3 p r 3) := by
  rw [← ix2_eq_valueIdx]
  pointwise [col]
  rw [ix3_eq_valueIdx]

/-- Under the precondition no choice is negative. -/
theorem range_of (j : S_.Idx) (h : fn (F := Ideal) X I W A a B b D d j = 1#1) (i : S16x2304x4.Idx) : (I i).toNat < 2 ^ 31 := by
  rw [fn_eq] at h
  exact below _ (Host.reduce_andi_all _ _ _ _ j (IntOp.andi_eq_one.1 h).1 i)

/-- Under the precondition a token's four choices are different. -/
theorem apart_of (j : S_.Idx) (h : fn (F := Ideal) X I W A a B b D d j = 1#1) (p : Fin 16) (r : Fin 2304) (k k' : Fin 4)
    (e : (I (ValueIdx.ix3 p r k)).toNat = (I (ValueIdx.ix3 p r k')).toNat) : k = k' := by
  rw [fn_eq] at h
  have h1 := Host.reduce_andi_all _ _ _ _ j (IntOp.andi_eq_one.1 h).2 (ValueIdx.ix2 p r)
  obtain ⟨h1, d23⟩ := IntOp.andi_eq_one.1 h1
  obtain ⟨h1, d13⟩ := IntOp.andi_eq_one.1 h1
  obtain ⟨h1, d12⟩ := IntOp.andi_eq_one.1 h1
  obtain ⟨h1, d03⟩ := IntOp.andi_eq_one.1 h1
  obtain ⟨d01, d02⟩ := IntOp.andi_eq_one.1 h1
  have n : ∀ (u v : IVec S16x2304 32) (x y : BitVec 32), u (ValueIdx.ix2 p r) = x → v (ValueIdx.ix2 p r) = y →
      IntOp.cmpi .ne (u (ValueIdx.ix2 p r)) (v (ValueIdx.ix2 p r)) = 1#1 → x ≠ y := fun u v x y hx hy hn => by
    rw [hx, hy] at hn
    exact IntOp.cmpi_ne.1 hn
  have n01 := n _ _ _ _ (col_0 I p r) (col_1 I p r) d01
  have n02 := n _ _ _ _ (col_0 I p r) (col_2 I p r) d02
  have n03 := n _ _ _ _ (col_0 I p r) (col_3 I p r) d03
  have n12 := n _ _ _ _ (col_1 I p r) (col_2 I p r) d12
  have n13 := n _ _ _ _ (col_1 I p r) (col_3 I p r) d13
  have n23 := n _ _ _ _ (col_2 I p r) (col_3 I p r) d23
  have e' := BitVec.eq_of_toNat_eq e
  match k, k', e' with
  | 0, 0, _ => rfl
  | 1, 1, _ => rfl
  | 2, 2, _ => rfl
  | 3, 3, _ => rfl
  | 0, 1, e => exact absurd e n01
  | 0, 2, e => exact absurd e n02
  | 0, 3, e => exact absurd e n03
  | 1, 2, e => exact absurd e n12
  | 1, 3, e => exact absurd e n13
  | 2, 3, e => exact absurd e n23
  | 1, 0, e => exact absurd e.symm n01
  | 2, 0, e => exact absurd e.symm n02
  | 3, 0, e => exact absurd e.symm n03
  | 2, 1, e => exact absurd e.symm n12
  | 3, 1, e => exact absurd e.symm n13
  | 3, 2, e => exact absurd e.symm n23

end Cert.Proof.Pre

end
-- ==== Proof.LnRow.lean ====
/-
  The closing normalization of a layer on one row of 1024 numbers, over the extended reals, and what one block of the kernel computes of a row.
-/
module

public import proofs.«01_k».proof.Proof.Gen.Kernel2Ideal.Value
public import proofs.«01_k».proof.Proof.Spec
public import Idealize.ShloMosaic.Lib.Tactic

@[expose] public section

set_option maxRecDepth 16384

noncomputable section

namespace Cert.Proof

open Idealize.ShloMosaic

/-- The mean of a row: its sum over 1024. -/
def rowMean (z : Fin 1024 → EReal) : EReal := Ideal.div (∑ d, z d) (Ideal.ofBits .f32 0x44800000#32)

/-- A row normalized: its distance from its mean, over the root of its variance and a small constant, scaled and shifted. -/
def rowNorm (z g b : Fin 1024 → EReal) (d : Fin 1024) : EReal :=
  (z d - rowMean z) * Ideal.rsqrt (rowMean (fun e => (z e - rowMean z) * (z e - rowMean z)) + Ideal.ofBits .f32 0x3727C5AC#32) * g d + b d

/-- The residual row: the row scaled, plus the gated result of the experts. -/
def rowSum (x w y : Fin 1024 → EReal) (d : Fin 1024) : EReal := Ideal.ofBits .f32 0x3FD744FD#32 * x d + w d * y d

/-- Which gate a row takes: its sequence's own for the first 2048 rows, the shared one for the last 256. -/
def gateRow (b : Fin 16) (r : Fin 2304) : Fin 24 := if r.val < 2048 then ⟨b.val, by have := b.isLt; omega⟩ else 16

end Cert.Proof

namespace Cert.Proof.Kernel2Ideal

open Cert.Kernel2Ideal
open Idealize.ShloMosaic

/-- The normalization of one row of a block. -/
theorem norm_row (y t : FVec Ideal S256x1024 .f32) (w : Vec Ideal S1x1x1024 .f32) (g b : Vec Ideal S1x1024 .f32) (r : Fin 256) (d : Fin 1024) :
    Gen.k0_pay1 (F := Ideal) y t w g b (ValueIdx.ix3 0 r d)
      = rowNorm (fun e => t (ValueIdx.ix2 r e) + w (ValueIdx.ix3 0 0 e) * y (ValueIdx.ix2 r e)) (fun e => g (ValueIdx.ix2 0 e)) (fun e => b (ValueIdx.ix2 0 e)) d := by
  rw [← ix3_eq_valueIdx]
  pointwise [Gen.k0_pay1]
  simp only [rowNorm, rowMean, ← ix2_eq_valueIdx, ← ix3_eq_valueIdx]

/-- The scaled row of a block. -/
theorem scaled_row (x : Vec Ideal S1x256x1024 .f32) (r : Fin 256) (d : Fin 1024) :
    Gen.k0_pay3 (F := Ideal) x (ValueIdx.ix2 r d) = Ideal.ofBits .f32 0x3FD744FD#32 * x (ValueIdx.ix3 0 r d) := by
  rw [← ix2_eq_valueIdx]
  pointwise [Gen.k0_pay3]
  simp only [← ix3_eq_valueIdx]

/-- Column `q` of a block of rows stored as eight columns of 128. -/
def colB (X : Vec Ideal S1x256x8x128 .f32) (q : Fin 8) : Vec Ideal S1x256x1x128 .f32 := fun j => X (ValueIdx.ix4 0 (j 1 : Fin 256) q (j 3 : Fin 128))

/-- The eight columns joined: number `d` of a row is number `d % 128` of its column `d / 128`. -/
theorem joined (X : Vec Ideal S1x256x8x128 .f32) (r : Fin 256) (d : Fin 1024) :
    Gen.k0_pay2 (F := Ideal) (colB X 0) (colB X 1) (colB X 2) (colB X 3) (colB X 4) (colB X 5) (colB X 6) (colB X 7) (ValueIdx.ix2 r d)
      = X (ValueIdx.ix4 0 r ⟨d.val / 128, by have := d.isLt; omega⟩ ⟨d.val % 128, Nat.mod_lt _ (by decide)⟩) := by
  rw [← ix2_eq_valueIdx]
  pointwise [Gen.k0_pay2, colB]
  obtain ⟨v, hv⟩ := d
  have key : ∀ (a a' : Fin 8) (l l' : Fin 128), a.val = a'.val → l.val = l'.val → X (ValueIdx.ix4 0 r a l) = X (ValueIdx.ix4 0 r a' l') := by
    intro a a' l l' h h'
    rw [Fin.ext h, Fin.ext h']
  dsimp only
  repeat' split
  all_goals (apply key <;> dsimp <;> omega)

end Cert.Proof.Kernel2Ideal

end
-- ==== Proof.LnBlock.lean ====
/-
  The array the normalization call leaves, at every place: what a grid point's block holds, and where the blocks lie.
-/
module

public import proofs.«01_k».proof.Proof.LnRow
public import Idealize.ShloMosaic.Lib.Pipeline.ValueKit
public import Idealize.ShloMosaic.Lib.StableHlo.RunRead
public import Idealize.ShloMosaic.Lib.Tactic

@[expose] public section

set_option maxRecDepth 16384

noncomputable section

namespace Cert.Proof.Kernel2Ideal

open Cert.Kernel2Ideal Cert.Kernel2Ideal.Gen Cert.Kernel2Ideal.Value
open Idealize.ShloMosaic Idealize.ShloMosaic.TcCoe Idealize.SL.Sem
open Idealize.ShloMosaic.Pipeline (Dat Cfg Window)

theorem hz3 : (![0, 0, 0] : Fin 3 → Nat) = fun _ => 0 := funext fun a => by fin_cases a <;> rfl
theorem hz2 : (![0, 0] : Fin 2 → Nat) = fun _ => 0 := funext fun a => by fin_cases a <;> rfl

/-- A load of one column of 128 of a block reads that column. -/
theorem load_col (arg : Memref sig .tc .vmem S1x256x8x128 .f32) (h : arg.IsWhole) (x : Vec Ideal S1x256x8x128 .f32) (q : Fin 8)
    (inb : ∀ a, (![0, 0, q.val, 0] : Fin 4 → Nat) a + S1x256x1x128.size a ≤ S1x256x8x128.size a) :
    View.readAt (Elt Ideal) arg.view (Rect.unit (s := S1x256x8x128) ![0, 0, q.val, 0] S1x256x1x128.size inb).toLoadRect (h.unread x) = colB x q := by
  rw [View.readAt_eq_ld, h.read_unread]
  funext j
  refine congrArg x (funext fun a => Fin.ext ?_)
  have h0 : (j 0).val < 1 := (j 0).isLt
  have h2 : (j 2).val < 1 := (j 2).isLt
  match a with
  | ⟨0, _⟩ => show 0 + 1 * (j 0).val = 0; omega
  | ⟨1, _⟩ => show 0 + 1 * (j 1).val = (j 1).val; omega
  | ⟨2, _⟩ => show q.val + 1 * (j 2).val = q.val; omega
  | ⟨3, _⟩ => show 0 + 1 * (j 3).val = (j 3).val; omega

/-- What one grid point computes of its blocks. -/
def point (x0 : Vec Ideal S1x256x8x128 .f32) (x1 : Vec Ideal S1x256x1024 .f32) (x2 : Vec Ideal S1x1x1024 .f32) (x3 x4 : Vec Ideal S1x1024 .f32) : Vec Ideal S1x256x1024 .f32 :=
  k0_pay1 (F := Ideal) (k0_pay2 (F := Ideal) (colB x0 0) (colB x0 1) (colB x0 2) (colB x0 3) (colB x0 4) (colB x0 5) (colB x0 6) (colB x0 7)) (k0_pay3 (F := Ideal) x1) x2 x3 x4

/-- The body leaves that in the output's buffer: its one store covers the block. -/
theorem out_eq (c : Dev nD) (i : grid0.Coords) (arg2 : Memref sig .tc .vmem S1x256x8x128 .f32) (h2 : arg2.IsWhole) (arg3 : Memref sig .tc .vmem S1x256x1024 .f32) (h3 : arg3.IsWhole)
    (arg4 : Memref sig .tc .vmem S1x1x1024 .f32) (h4 : arg4.IsWhole) (arg5 : Memref sig .tc .vmem S1x1024 .f32) (h5 : arg5.IsWhole) (arg6 : Memref sig .tc .vmem S1x1024 .f32) (h6 : arg6.IsWhole)
    (arg7 : Memref sig .tc .vmem S1x256x1024 .f32) (h7 : arg7.IsWhole)
    (x0 : Vec Ideal S1x256x8x128 .f32) (x1 : Vec Ideal S1x256x1024 .f32) (x2 : Vec Ideal S1x1x1024 .f32) (x3 x4 : Vec Ideal S1x1024 .f32) :
    out0_A_5 c i arg2 h2 arg3 h3 arg4 h4 arg5 h5 arg6 h6 arg7 h7 x0 x1 x2 x3 x4 = point x0 x1 x2 x3 x4 := by
  unfold out0_A_5
  rw [View.read_writes_junk_eq_canon]
  show View.canon ([⟨Rect.unit ![0, 0, 0] S1x256x1024.size inb_S1x256x1024_S1x256x1024_0_0_0,
      k0_pay1 (F := Ideal) (k0_pay2 (F := Ideal)
        (View.readAt (Elt Ideal) arg2.view (Rect.unit (s := S1x256x8x128) ![0, 0, 0, 0] S1x256x1x128.size inb_S1x256x8x128_S1x256x1x128_0_0_0_0).toLoadRect (h2.unread x0))
        (View.readAt (Elt Ideal) arg2.view (Rect.unit (s := S1x256x8x128) ![0, 0, 1, 0] S1x256x1x128.size inb_S1x256x8x128_S1x256x1x128_0_0_1_0).toLoadRect (h2.unread x0))
        (View.readAt (Elt Ideal) arg2.view (Rect.unit (s := S1x256x8x128) ![0, 0, 2, 0] S1x256x1x128.size inb_S1x256x8x128_S1x256x1x128_0_0_2_0).toLoadRect (h2.unread x0))
        (View.readAt (Elt Ideal) arg2.view (Rect.unit (s := S1x256x8x128) ![0, 0, 3, 0] S1x256x1x128.size inb_S1x256x8x128_S1x256x1x128_0_0_3_0).toLoadRect (h2.unread x0))
        (View.readAt (Elt Ideal) arg2.view (Rect.unit (s := S1x256x8x128) ![0, 0, 4, 0] S1x256x1x128.size inb_S1x256x8x128_S1x256x1x128_0_0_4_0).toLoadRect (h2.unread x0))
        (View.readAt (Elt Ideal) arg2.view (Rect.unit (s := S1x256x8x128) ![0, 0, 5, 0] S1x256x1x128.size inb_S1x256x8x128_S1x256x1x128_0_0_5_0).toLoadRect (h2.unread x0))
        (View.readAt (Elt Ideal) arg2.view (Rect.unit (s := S1x256x8x128) ![0, 0, 6, 0] S1x256x1x128.size inb_S1x256x8x128_S1x256x1x128_0_0_6_0).toLoadRect (h2.unread x0))
        (View.readAt (Elt Ideal) arg2.view (Rect.unit (s := S1x256x8x128) ![0, 0, 7, 0] S1x256x1x128.size inb_S1x256x8x128_S1x256x1x128_0_0_7_0).toLoadRect (h2.unread x0)))
        (k0_pay3 (F := Ideal) (View.readAt (Elt Ideal) arg3.view (Rect.unit (s := S1x256x1024) ![0, 0, 0] S1x256x1024.size inb_S1x256x1024_S1x256x1024_0_0_0).toLoadRect (h3.unread x1)))
        (View.readAt (Elt Ideal) arg4.view (Rect.unit (s := S1x1x1024) ![0, 0, 0] S1x1x1024.size inb_S1x1x1024_S1x1x1024_0_0_0).toLoadRect (h4.unread x2))
        (View.readAt (Elt Ideal) arg5.view (Rect.unit (s := S1x1024) ![0, 0] S1x1024.size inb_S1x1024_S1x1024_0_0).toLoadRect (h5.unread x3))
        (View.readAt (Elt Ideal) arg6.view (Rect.unit (s := S1x1024) ![0, 0] S1x1024.size inb_S1x1024_S1x1024_0_0).toLoadRect (h6.unread x4))⟩] :
      List (View.Piece (Elt Ideal) S1x256x1024 .f32)) = _
  have e0 := load_col arg2 h2 x0 0 inb_S1x256x8x128_S1x256x1x128_0_0_0_0
  have e1 := load_col arg2 h2 x0 1 inb_S1x256x8x128_S1x256x1x128_0_0_1_0
  have e2 := load_col arg2 h2 x0 2 inb_S1x256x8x128_S1x256x1x128_0_0_2_0
  have e3 := load_col arg2 h2 x0 3 inb_S1x256x8x128_S1x256x1x128_0_0_3_0
  have e4 := load_col arg2 h2 x0 4 inb_S1x256x8x128_S1x256x1x128_0_0_4_0
  have e5 := load_col arg2 h2 x0 5 inb_S1x256x8x128_S1x256x1x128_0_0_5_0
  have e6 := load_col arg2 h2 x0 6 inb_S1x256x8x128_S1x256x1x128_0_0_6_0
  have e7 := load_col arg2 h2 x0 7 inb_S1x256x8x128_S1x256x1x128_0_0_7_0
  have f3 : View.readAt (Elt Ideal) arg3.view (Rect.unit (s := S1x256x1024) ![0, 0, 0] S1x256x1024.size inb_S1x256x1024_S1x256x1024_0_0_0).toLoadRect (h3.unread x1) = x1 := by
    rw [View.readAt_eq_ld, h3.read_unread, View.ld_unit_zero hz3]
  have f4 : View.readAt (Elt Ideal) arg4.view (Rect.unit (s := S1x1x1024) ![0, 0, 0] S1x1x1024.size inb_S1x1x1024_S1x1x1024_0_0_0).toLoadRect (h4.unread x2) = x2 := by
    rw [View.readAt_eq_ld, h4.read_unread, View.ld_unit_zero hz3]
  have f5 : View.readAt (Elt Ideal) arg5.view (Rect.unit (s := S1x1024) ![0, 0] S1x1024.size inb_S1x1024_S1x1024_0_0).toLoadRect (h5.unread x3) = x3 := by
    rw [View.readAt_eq_ld, h5.read_unread, View.ld_unit_zero hz2]
  have f6 : View.readAt (Elt Ideal) arg6.view (Rect.unit (s := S1x1024) ![0, 0] S1x1024.size inb_S1x1024_S1x1024_0_0).toLoadRect (h6.unread x4) = x4 := by
    rw [View.readAt_eq_ld, h6.read_unread, View.ld_unit_zero hz2]
  rw [View.canon_unit_zero hz3, f3, f4, f5, f6]
  refine congrArg (fun z => k0_pay1 (F := Ideal) z (k0_pay3 (F := Ideal) x1) x2 x3 x4) ?_
  exact (congr (congr (congr (congr (congr (congr (congr (congrArg (k0_pay2 (F := Ideal)) e0) e1) e2) e3) e4) e5) e6) e7)

/-- One grid point at a place of its block. -/
theorem point_apply (x0 : Vec Ideal S1x256x8x128 .f32) (x1 : Vec Ideal S1x256x1024 .f32) (x2 : Vec Ideal S1x1x1024 .f32) (x3 x4 : Vec Ideal S1x1024 .f32) (r : Fin 256) (d : Fin 1024) :
    point x0 x1 x2 x3 x4 (ValueIdx.ix3 0 r d)
      = rowNorm (rowSum (fun e => x1 (ValueIdx.ix3 0 r e)) (fun e => x2 (ValueIdx.ix3 0 0 e))
          (fun d => x0 (ValueIdx.ix4 0 r ⟨d.val / 128, by have := d.isLt; omega⟩ ⟨d.val % 128, Nat.mod_lt _ (by decide)⟩)))
          (fun e => x3 (ValueIdx.ix2 0 e)) (fun e => x4 (ValueIdx.ix2 0 e)) d := by
  unfold point
  rw [norm_row]
  refine congrArg (fun z => rowNorm z (fun e => x3 (ValueIdx.ix2 0 e)) (fun e => x4 (ValueIdx.ix2 0 e)) d) (funext fun e => ?_)
  rw [joined, scaled_row]
  rfl

/-- The index maps over the grid. -/
theorem index_0 : ∀ t : Fin grid0.N, cc0_transform_0 (grid0.coords t) = ![t.val / 9, t.val % 9, 0, 0] := by decide +kernel
theorem index_1 : ∀ t : Fin grid0.N, cc0_transform_1 (grid0.coords t) = ![t.val / 9, t.val % 9, 0] := by decide +kernel
theorem index_2 : ∀ t : Fin grid0.N, cc0_transform_2 (grid0.coords t) = ![if t.val % 9 = 8 then 16 else t.val / 9, 0, 0] := by decide +kernel
theorem index_3 : ∀ t : Fin grid0.N, cc0_transform_3 (grid0.coords t) = ![0, 0] := by decide +kernel
theorem index_4 : ∀ t : Fin grid0.N, cc0_transform_4 (grid0.coords t) = ![0, 0] := by decide +kernel
theorem index_5 : ∀ t : Fin grid0.N, cc0_transform_5 (grid0.coords t) = ![t.val / 9, t.val % 9, 0] := by decide +kernel

variable (m : (ℓ : Loc nD τ sig) → Buf (Elt Ideal) ℓ)

/-- The experts' rows at a point. -/
theorem blk_0 (c : Dev nD) (t : Fin grid0.N) (y : S1x256x8x128.Idx) (b : Fin 16) (r : Fin 2312) (hb : b.val = t.val / 9) (hr : r.val = t.val % 9 * 256 + (y 1).val) :
    (X0_0 m c t : S1x256x8x128.Idx → _) y = (m ((c : Thread nD τ).loc main_arg0) : S16x2312x8x128.Idx → _) (ValueIdx.ix4 b r (y 2 : Fin 8) (y 3 : Fin 128)) := by
  unfold X0_0 Window.fill
  refine (dif_pos (moved0_0 t y)).trans ?_
  refine Eq.trans ?_ (congrArg (fun z => (z : S16x2312x8x128.Idx → _) (ValueIdx.ix4 b r (y 2 : Fin 8) (y 3 : Fin 128))) (V_main_arg0 m c))
  refine congrArg (V m c main_arg0 : S16x2312x8x128.Idx → _) ?_
  have e : (cfg0.win 0).index t = ![t.val / 9, t.val % 9, 0, 0] := index_0 t
  have h0 : (y 0).val < 1 := (y 0).isLt
  funext a
  apply Fin.ext
  fin_cases a
  all_goals blk_simp [e]
  all_goals first | omega | rfl | (simp [ValueIdx.ix3, ValueIdx.ix4]; omega) | skip

/-- The residual rows at a point. -/
theorem blk_1 (c : Dev nD) (t : Fin grid0.N) (y : S1x256x1024.Idx) (b : Fin 16) (r : Fin 2304) (hb : b.val = t.val / 9) (hr : r.val = t.val % 9 * 256 + (y 1).val) :
    (iblk m c 1 t : S1x256x1024.Idx → _) y = (m ((c : Thread nD τ).loc main_arg1) : S16x2304x1024.Idx → _) (ValueIdx.ix3 b r (y 2 : Fin 1024)) := by
  refine Eq.trans ?_ (congrArg (fun z => (z : S16x2304x1024.Idx → _) (ValueIdx.ix3 b r (y 2 : Fin 1024))) (V_main_arg1 m c))
  refine congrArg (V m c main_arg1 : S16x2304x1024.Idx → _) ?_
  have e : (cfg0.win 1).index t = ![t.val / 9, t.val % 9, 0] := index_1 t
  have h0 : (y 0).val < 1 := (y 0).isLt
  funext a
  apply Fin.ext
  fin_cases a
  all_goals blk_simp [e]
  all_goals first | omega | rfl | (simp [ValueIdx.ix3, ValueIdx.ix4]; omega) | skip

/-- The gate at a point. -/
theorem blk_2 (c : Dev nD) (t : Fin grid0.N) (y : S1x1x1024.Idx) (b : Fin 24) (hb : b.val = if t.val % 9 = 8 then 16 else t.val / 9) :
    (iblk m c 2 t : S1x1x1024.Idx → _) y = (m ((c : Thread nD τ).loc main_arg2) : S24x1x1024.Idx → _) (ValueIdx.ix3 b 0 (y 2 : Fin 1024)) := by
  refine Eq.trans ?_ (congrArg (fun z => (z : S24x1x1024.Idx → _) (ValueIdx.ix3 b 0 (y 2 : Fin 1024))) (V_main_arg2 m c))
  refine congrArg (V m c main_arg2 : S24x1x1024.Idx → _) ?_
  have e : (cfg0.win 2).index t = ![if t.val % 9 = 8 then 16 else t.val / 9, 0, 0] := index_2 t
  have h0 : (y 0).val < 1 := (y 0).isLt
  have h1 : (y 1).val < 1 := (y 1).isLt
  funext a
  apply Fin.ext
  fin_cases a
  all_goals blk_simp [e]
  all_goals first | omega | rfl | (simp [ValueIdx.ix3, ValueIdx.ix4]; omega) | skip

/-- The scale the call is given: the first layer's row of its table. -/
theorem scale_eq (c : Dev nD) (d : Fin 1024) : (V m c main_v2 : S1x1024.Idx → EReal) (ValueIdx.ix2 0 d) = (m ((c : Thread nD τ).loc main_arg3) : S4x1024.Idx → EReal) (ValueIdx.ix2 0 d) := by
  have h : (V m c main_v2 : S1x1024.Idx → EReal) = broadcastInDim S1x1024 ![1] bcast_S1024_S1x1024_1
      (shapeCast S1024 (extractStridedSlice S1x1024 ![0, 0] (m ((c : Thread nD τ).loc main_arg3) : FVec Ideal S4x1024 .f32) slices_S4x1024_S1x1024_0_0) shapeCasts_S1x1024_S1024) := by
    unfold V hostOps0
    after_reads_simp
    rfl
  rw [h, ← ix2_eq_valueIdx, ← ix2_eq_valueIdx]
  pointwise []

/-- The shift the call is given. -/
theorem shift_eq (c : Dev nD) (d : Fin 1024) : (V m c main_v5 : S1x1024.Idx → EReal) (ValueIdx.ix2 0 d) = (m ((c : Thread nD τ).loc main_arg4) : S4x1024.Idx → EReal) (ValueIdx.ix2 0 d) := by
  have h : (V m c main_v5 : S1x1024.Idx → EReal) = broadcastInDim S1x1024 ![1] bcast_S1024_S1x1024_1
      (shapeCast S1024 (extractStridedSlice S1x1024 ![0, 0] (m ((c : Thread nD τ).loc main_arg4) : FVec Ideal S4x1024 .f32) slices_S4x1024_S1x1024_0_0) shapeCasts_S1x1024_S1024) := by
    unfold V hostOps0
    after_reads_simp
    rfl
  rw [h, ← ix2_eq_valueIdx, ← ix2_eq_valueIdx]
  pointwise []

/-- The scale at a point. -/
theorem blk_3 (c : Dev nD) (t : Fin grid0.N) (d : Fin 1024) :
    (iblk m c 3 t : S1x1024.Idx → EReal) (ValueIdx.ix2 0 d) = (m ((c : Thread nD τ).loc main_arg3) : S4x1024.Idx → EReal) (ValueIdx.ix2 0 d) := by
  refine Eq.trans ?_ (scale_eq m c d)
  refine congrArg (V m c main_v2 : S1x1024.Idx → _) ?_
  have e : (cfg0.win 3).index t = ![0, 0] := index_3 t
  funext a
  apply Fin.ext
  fin_cases a
  all_goals blk_simp [e]
  all_goals first | omega | rfl | (simp [ValueIdx.ix2]; done) | skip

/-- The shift at a point. -/
theorem blk_4 (c : Dev nD) (t : Fin grid0.N) (d : Fin 1024) :
    (iblk m c 4 t : S1x1024.Idx → EReal) (ValueIdx.ix2 0 d) = (m ((c : Thread nD τ).loc main_arg4) : S4x1024.Idx → EReal) (ValueIdx.ix2 0 d) := by
  refine Eq.trans ?_ (shift_eq m c d)
  refine congrArg (V m c main_v5 : S1x1024.Idx → _) ?_
  have e : (cfg0.win 4).index t = ![0, 0] := index_4 t
  funext a
  apply Fin.ext
  fin_cases a
  all_goals blk_simp [e]
  all_goals first | omega | rfl | (simp [ValueIdx.ix2]; done) | skip

/-- The place of a block's index in the result array. -/
theorem emb_5 (t : Fin grid0.N) (y : S1x256x1024.Idx) (b : Fin 16) (r : Fin 2304) (hb : b.val = t.val / 9) (hr : r.val = t.val % 9 * 256 + (y 1).val) :
    ((cfg0.win 5).blk t).view.emb y = (ValueIdx.ix3 b r (y 2 : Fin 1024) : S16x2304x1024.Idx) := by
  have e : (cfg0.win 5).index t = ![t.val / 9, t.val % 9, 0] := index_5 t
  have h0 : (y 0).val < 1 := (y 0).isLt
  funext a
  apply Fin.ext
  fin_cases a
  all_goals blk_simp [e]
  all_goals first | omega | rfl | (simp [ValueIdx.ix3, ValueIdx.ix4]; omega) | skip

/-- The array the call leaves, at a place. -/
theorem result_apply (c : Dev nD) (b : Fin 16) (r : Fin 2304) (d : Fin 1024) :
    ((dats m 0 c).arrAt 5 cfg0.N : S16x2304x1024.Idx → EReal) (ValueIdx.ix3 b r d)
      = rowNorm (rowSum (fun e => (m ((c : Thread nD τ).loc main_arg1) : S16x2304x1024.Idx → EReal) (ValueIdx.ix3 b r e))
          (fun e => (m ((c : Thread nD τ).loc main_arg2) : S24x1x1024.Idx → EReal) (ValueIdx.ix3 (gateRow b r) 0 e))
          (fun d => (m ((c : Thread nD τ).loc main_arg0) : S16x2312x8x128.Idx → EReal)
            (ValueIdx.ix4 b ⟨r.val, by have := r.isLt; omega⟩ ⟨d.val / 128, by have := d.isLt; omega⟩ ⟨d.val % 128, Nat.mod_lt _ (by decide)⟩)))
          (fun e => (m ((c : Thread nD τ).loc main_arg3) : S4x1024.Idx → EReal) (ValueIdx.ix2 0 e))
          (fun e => (m ((c : Thread nD τ).loc main_arg4) : S4x1024.Idx → EReal) (ValueIdx.ix2 0 e)) d := by
  have hbl := b.isLt
  have hrl := r.isLt
  have hN : grid0.N = 144 := by decide
  obtain ⟨t, ht⟩ : ∃ t : Fin grid0.N, t.val = b.val * 9 + r.val / 256 := ⟨⟨b.val * 9 + r.val / 256, by omega⟩, rfl⟩
  obtain ⟨q, hq⟩ : ∃ q : Fin 256, q.val = r.val % 256 := ⟨⟨r.val % 256, Nat.mod_lt _ (by decide)⟩, rfl⟩
  have hb : b.val = t.val / 9 := by omega
  have hr : r.val = t.val % 9 * 256 + q.val := by omega
  have hg : (gateRow b r).val = if t.val % 9 = 8 then 16 else t.val / 9 := by
    unfold gateRow
    by_cases h : r.val < 2048
    · rw [if_pos h, if_neg (by omega)]; exact hb
    · rw [if_neg h, if_pos (by omega)]; rfl
  have hf := congrFun (blocks5 m c t (flush0_5 t)) (ValueIdx.ix3 0 q d : S1x256x1024.Idx)
  have he := emb_5 t (ValueIdx.ix3 0 q d : S1x256x1024.Idx) b r hb hr
  refine Eq.trans (congrArg ((dats m 0 c).arrAt 5 cfg0.N : S16x2304x1024.Idx → EReal) he.symm) (hf.trans ?_)
  rw [flushed5_A, out_eq]
  refine (point_apply _ _ _ _ _ q d).trans ?_
  have g0 : (fun d : Fin 1024 => (X0_0 m c t : S1x256x8x128.Idx → EReal) (ValueIdx.ix4 0 q ⟨d.val / 128, by have := d.isLt; omega⟩ ⟨d.val % 128, Nat.mod_lt _ (by decide)⟩)) = _ :=
    funext fun d => blk_0 m c t (ValueIdx.ix4 0 q ⟨d.val / 128, by have := d.isLt; omega⟩ ⟨d.val % 128, Nat.mod_lt _ (by decide)⟩) b ⟨r.val, by omega⟩ hb hr
  have g1 : (fun e : Fin 1024 => (iblk m c 1 t : S1x256x1024.Idx → EReal) (ValueIdx.ix3 0 q e)) = _ := funext fun e => blk_1 m c t (ValueIdx.ix3 0 q e) b r hb hr
  have g2 : (fun e : Fin 1024 => (iblk m c 2 t : S1x1x1024.Idx → EReal) (ValueIdx.ix3 0 0 e)) = _ := funext fun e => blk_2 m c t (ValueIdx.ix3 0 0 e) (gateRow b r) hg
  have g3 := funext fun e => blk_3 m c t e
  have g4 := funext fun e => blk_4 m c t e
  exact congr (congr (congr (congrArg rowNorm (congr (congr (congrArg rowSum g1) g2) g0)) g3) g4) rfl

end Cert.Proof.Kernel2Ideal

end
-- ==== Proof.LnRef.lean ====
/-
  The closing normalization of a layer as the reference states it, read at one place.
-/
module

public import proofs.«01_k».proof.Proof.Gen.Reference2Ideal.Run
public import proofs.«01_k».proof.Proof.LnRow
public import Idealize.ShloMosaic.Lib.Tactic

@[expose] public section

set_option maxRecDepth 16384

noncomputable section

namespace Cert.Proof.Reference2

open Cert.Reference2Ideal Cert.Reference2Ideal.Value Cert.Reference2Ideal.Gen
open Idealize.ShloMosaic Idealize.ShloMosaic.TcCoe

/-- The experts' rows, without the eight zero rows behind every sequence. -/
def rowsR (f : FVec Ideal S16x2312x8x128 .f32) : FVec Ideal S16x2304x1024 .f32 :=
  shapeCast S16x2304x1024 (extractStridedSlice S16x2304x8x128 ![0, 0, 0, 0] f slices_S16x2312x8x128_S16x2304x8x128_0_0_0_0) shapeCasts_S16x2304x8x128_S16x2304x1024

/-- The gate of every row: a sequence's own for its first 2048 rows, one shared gate for the last 256. -/
def gateR (w : FVec Ideal S24x1x1024 .f32) : FVec Ideal S16x2304x1024 .f32 :=
  concatenate S16x2304x1024 1 [
    ⟨S16x2048x1024, broadcastInDim S16x2048x1024 ![0, 1, 2] bcast_S16x1x1024_S16x2048x1024_0_1_2 (extractStridedSlice S16x1x1024 ![0, 0, 0] w slices_S24x1x1024_S16x1x1024_0_0_0)⟩,
    ⟨S16x256x1024, broadcastInDim S16x256x1024 ![0, 1, 2] bcast_S1x1x1024_S16x256x1024_0_1_2 (broadcastInDim S1x1x1024 ![1, 2] bcast_S1x1024_S1x1x1024_1_2
      (shapeCast S1x1024 (extractStridedSlice S1x1x1024 ![16, 0, 0] w slices_S24x1x1024_S1x1x1024_16_0_0) shapeCasts_S1x1x1024_S1x1024))⟩]
    concatenates_S16x2048x1024_S16x256x1024_S16x2304x1024_d1

/-- A constant in every place. -/
def fillR (w : BitVec 32) : FVec Ideal S16x2304x1024 .f32 := broadcastInDim S16x2304x1024 ![] bcast_S_S16x2304x1024 (constant S_ .f32 w)

/-- The residual rows. -/
def sumR (f : FVec Ideal S16x2312x8x128 .f32) (x : FVec Ideal S16x2304x1024 .f32) (w : FVec Ideal S24x1x1024 .f32) : FVec Ideal S16x2304x1024 .f32 :=
  addf (mulf (fillR 0x3FD744FD#32) x) (mulf (gateR w) (rowsR f))

/-- The mean of every row. -/
def meanR (t : FVec Ideal S16x2304x1024 .f32) : FVec Ideal S16x2304x1 .f32 :=
  Host.divf (broadcastInDim S16x2304x1 ![0, 1] bcast_S16x2304_S16x2304x1_0_1 (Host.reduceAdd t (constant S_ .f32 0x00000000#32) reducesTo_S16x2304x1024_S16x2304_d2 h_S_))
    (broadcastInDim S16x2304x1 ![] bcast_S_S16x2304x1 (constant S_ .f32 0x44800000#32))

/-- One number for every row, in every place of the row. -/
def overR (v : FVec Ideal S16x2304x1 .f32) : FVec Ideal S16x2304x1024 .f32 := broadcastInDim S16x2304x1024 ![0, 1, 2] bcast_S16x2304x1_S16x2304x1024_0_1_2 v

/-- The first layer's row of a table, for every row. -/
def lineR (g : FVec Ideal S4x1024 .f32) : FVec Ideal S16x2304x1024 .f32 :=
  broadcastInDim S16x2304x1024 ![0, 1, 2] bcast_S1x1x1024_S16x2304x1024_0_1_2 (broadcastInDim S1x1x1024 ![2] bcast_S1024_S1x1x1024_2
    (shapeCast S1024 (extractStridedSlice S1x1024 ![0, 0] g slices_S4x1024_S1x1024_0_0) shapeCasts_S1x1024_S1024))

/-- The rows with their means removed. -/
def offR (t : FVec Ideal S16x2304x1024 .f32) : FVec Ideal S16x2304x1024 .f32 := subf t (overR (meanR t))

/-- The rows normalized. -/
def normR (t : FVec Ideal S16x2304x1024 .f32) (g b : FVec Ideal S4x1024 .f32) : FVec Ideal S16x2304x1024 .f32 :=
  addf (mulf (mulf (offR t) (overR (Host.rsqrt (addf (meanR (mulf (offR t) (offR t))) (broadcastInDim S16x2304x1 ![] bcast_S_S16x2304x1 (constant S_ .f32 0x3727C5AC#32)))))) (lineR g)) (lineR b)

/-- The reference's result by its stages. -/
theorem result_eq (m : (ℓ : Loc nD τ sig) → Buf (Elt Ideal) ℓ) (c : Dev nD) :
    (res_main_v38 m c : S16x2304x1024.Idx → EReal) = normR (sumR (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) := rfl

/-- The mean of a row. -/
theorem mean_apply (t : FVec Ideal S16x2304x1024 .f32) (b : Fin 16) (r : Fin 2304) : meanR t (ix3 b r 0) = rowMean (fun e => t (ix3 b r e)) := by
  pointwise [meanR]
  simp only [rowMean]

/-- A row's distance from its mean. -/
theorem off_apply (t : FVec Ideal S16x2304x1024 .f32) (b : Fin 16) (r : Fin 2304) (d : Fin 1024) :
    offR t (ix3 b r d) = t (ix3 b r d) - rowMean (fun e => t (ix3 b r e)) := by
  rw [← mean_apply]
  pointwise [offR, overR]

/-- The first layer's row of a table. -/
theorem line_apply (g : FVec Ideal S4x1024 .f32) (b : Fin 16) (r : Fin 2304) (d : Fin 1024) : lineR g (ix3 b r d) = g (ValueIdx.ix2 0 d) := by
  pointwise [lineR]
  simp only [← ix2_eq_valueIdx]

/-- A row normalized. -/
theorem norm_apply (t : FVec Ideal S16x2304x1024 .f32) (g h : FVec Ideal S4x1024 .f32) (b : Fin 16) (r : Fin 2304) (d : Fin 1024) :
    normR t g h (ix3 b r d) = rowNorm (fun e => t (ix3 b r e)) (fun e => g (ValueIdx.ix2 0 e)) (fun e => h (ValueIdx.ix2 0 e)) d := by
  have hm : meanR (mulf (offR t) (offR t)) (ix3 b r 0) = rowMean (fun e => (t (ix3 b r e) - rowMean (fun e => t (ix3 b r e))) * (t (ix3 b r e) - rowMean (fun e => t (ix3 b r e)))) := by
    rw [mean_apply]
    refine congrArg rowMean (funext fun e => ?_)
    rw [← off_apply]; rfl
  unfold rowNorm
  beta_reduce
  rw [← hm, ← off_apply, ← line_apply g b r d, ← line_apply h b r d]
  pointwise [normR, overR]

/-- A row of the experts' result. -/
theorem rows_apply (f : FVec Ideal S16x2312x8x128 .f32) (b : Fin 16) (r : Fin 2304) (d : Fin 1024) :
    rowsR f (ix3 b r d) = f (ValueIdx.ix4 b ⟨r.val, by have := r.isLt; omega⟩ ⟨d.val / 128, by have := d.isLt; omega⟩ ⟨d.val % 128, Nat.mod_lt _ (by decide)⟩) := by
  pointwise [rowsR]
  simp only [← ix4_eq_valueIdx]

/-- A row's gate. -/
theorem gate_apply (w : FVec Ideal S24x1x1024 .f32) (b : Fin 16) (r : Fin 2304) (d : Fin 1024) : gateR w (ix3 b r d) = w (ValueIdx.ix3 (gateRow b r) 0 d) := by
  pointwise [gateR]
  unfold gateRow
  split
  · simp only [← ix3_eq_valueIdx]
  · simp only [← ix3_eq_valueIdx]

/-- A residual row. -/
theorem sum_apply (f : FVec Ideal S16x2312x8x128 .f32) (x : FVec Ideal S16x2304x1024 .f32) (w : FVec Ideal S24x1x1024 .f32) (b : Fin 16) (r : Fin 2304) :
    (fun e => sumR f x w (ix3 b r e)) = rowSum (fun e => x (ValueIdx.ix3 b r e)) (fun e => w (ValueIdx.ix3 (gateRow b r) 0 e))
      (fun d => f (ValueIdx.ix4 b ⟨r.val, by have := r.isLt; omega⟩ ⟨d.val / 128, by have := d.isLt; omega⟩ ⟨d.val % 128, Nat.mod_lt _ (by decide)⟩)) := by
  funext e
  unfold rowSum
  beta_reduce
  rw [← gate_apply w b r e, ← rows_apply f b r e, ← ix3_eq_valueIdx]
  pointwise [sumR, fillR]

/-- The reference's result at a place. -/
theorem result (f : FVec Ideal S16x2312x8x128 .f32) (x : FVec Ideal S16x2304x1024 .f32) (w : FVec Ideal S24x1x1024 .f32) (g h : FVec Ideal S4x1024 .f32)
    (b : Fin 16) (r : Fin 2304) (d : Fin 1024) :
    normR (sumR f x w) g h (ix3 b r d) = rowNorm (rowSum (fun e => x (ValueIdx.ix3 b r e)) (fun e => w (ValueIdx.ix3 (gateRow b r) 0 e))
      (fun d => f (ValueIdx.ix4 b ⟨r.val, by have := r.isLt; omega⟩ ⟨d.val / 128, by have := d.isLt; omega⟩ ⟨d.val % 128, Nat.mod_lt _ (by decide)⟩)))
      (fun e => g (ValueIdx.ix2 0 e)) (fun e => h (ValueIdx.ix2 0 e)) d := by
  rw [norm_apply, sum_apply]

end Cert.Proof.Reference2

end
-- ==== Proof.LnEnd.lean ====
/-
  The normalization call and its reference: both runs end, and with the same array.
-/
module

public import proofs.«01_k».proof.Defs
public import proofs.«01_k».proof.Proof.Gen.Kernel2.Frame
public import proofs.«01_k».proof.Proof.LnBlock
public import proofs.«01_k».proof.Proof.LnRef

@[expose] public section

set_option maxRecDepth 16384

namespace Cert.Proof.Ln

open Idealize.ShloMosaic Idealize.SL.Sem

/-- The kernel's run at the words: it ends, its arguments unchanged, every semaphore at zero. -/
theorem frame_words : Cert.quiescent_Kernel2 (hKernel2 := Cert.Kernel2.Gen.facts) := fun m g _ => Cert.Kernel2.Gen.frame m g

/-- The same at the extended reals. -/
theorem frame_ideal : Cert.quiescent_Kernel2Ideal (hKernel2Ideal := Cert.Kernel2Ideal.Gen.facts) := fun m g _ => Cert.Kernel2Ideal.Gen.frame m g

/-- The reference's run at the extended reals; it declares no semaphore. -/
theorem frame_reference : Cert.quiescent_Reference2Ideal (hReference2Ideal := Cert.Reference2Ideal.Gen.facts) := fun m g _ =>
  (θ_run Cert.Reference2Ideal.defs _ _).mono (fun r h => ⟨fun c => (h c).2, Idealize.ShloMosaic.sem_eq_zero_of_no_sems (by decide) r.2⟩)
    (Cert.Reference2Ideal.Value.run (F := Ideal) m g)

/-- Both programs leave, at every place, the normalized residual row. -/
theorem values_agree (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) :
    (Cert.Reference2Ideal.Value.res_main_v38 m' c : Cert.Reference2Ideal.S16x2304x1024.Idx → EReal)
      = ((Cert.Kernel2Ideal.Gen.dats m 0 c).arrAt 5 Cert.Kernel2Ideal.cfg0.N : Cert.Kernel2Ideal.S16x2304x1024.Idx → EReal) := by
  funext j
  have hj : j = ValueIdx.ix3 (j 0 : Fin 16) (j 1 : Fin 2304) (j 2 : Fin 1024) := by
    funext a
    fin_cases a <;> rfl
  rw [hj]
  refine Eq.trans ?_ (Kernel2Ideal.result_apply m c (j 0 : Fin 16) (j 1 : Fin 2304) (j 2 : Fin 1024)).symm
  rw [Reference2.result_eq, h0, h1, h2, h3, h4, ← ix3_eq_valueIdx]
  exact Reference2.result _ _ _ _ _ _ _ _

/-- The call and the reference end with the same result from the same arguments. -/
theorem same_value : Cert.algebraic_Kernel2Ideal_Reference2Ideal (hKernel2Ideal := Cert.Kernel2Ideal.Gen.facts)
    (hReference2Ideal := Cert.Reference2Ideal.Gen.facts) := fun m g m' g' _ ha =>
  ⟨fun c => (Cert.Kernel2Ideal.Gen.dats m 0 c).arrAt 5 Cert.Kernel2Ideal.cfg0.N,
    Cert.Kernel2Ideal.Value.run_blocks (F := Ideal) m g,
    (θ_run Cert.Reference2Ideal.defs _ _).mono (fun r h c => by
      obtain ⟨h0, h1, h2, h3, h4⟩ := ha c
      exact ⟨(h c).1.trans (values_agree m m' c h0 h1 h2 h3 h4), (h c).2⟩)
      (Cert.Reference2Ideal.Value.run (F := Ideal) m' g')⟩

end Cert.Proof.Ln
-- ==== Proof.InRow.lean ====
/-
  The opening projections of a layer on the rows of a sequence, over the extended reals, and what one block of the kernel computes of a row.
-/
module

public import proofs.«01_k».proof.Proof.Gen.Kernel3Ideal.Value
public import proofs.«01_k».proof.Proof.LnRow
public import Idealize.ShloMosaic.Lib.Tactic

@[expose] public section

set_option maxRecDepth 16384

noncomputable section

namespace Cert.Proof

open Idealize.ShloMosaic

/-- How long the stretches are that the convolution keeps apart: 64 rows in the first 2048, 256 in the rest. -/
def stretch (r : Fin 2304) : Nat := if r.val < 2048 then 64 else 256

/-- The convolution over three neighbouring rows, of which those outside the row's stretch count as zero. -/
def conv3 (f : Fin 2304 → EReal) (w : Fin 3 → EReal) (r : Fin 2304) : EReal :=
  (if r.val % stretch r = 0 then 0 else f ⟨r.val - 1, by have := r.isLt; omega⟩ * w 0) + f r * w 1
    + (if r.val % stretch r = stretch r - 1 then 0 else f ⟨(r.val + 1) % 2304, Nat.mod_lt _ (by decide)⟩ * w 2)

/-- A row scaled and shifted, times one column. -/
def projRow (x s h w : Fin 1024 → EReal) : EReal := ∑ d, (x d * s d + h d) * w d

/-- The same convolution on the 256 rows of one block, in stretches of `n`. -/
def convB (n : Nat) (f : Fin 256 → EReal) (w : Fin 3 → EReal) (q : Fin 256) : EReal :=
  (if q.val % n = 0 then 0 else f ⟨q.val - 1, by have := q.isLt; omega⟩ * w 0) + f q * w 1
    + (if q.val % n = n - 1 then 0 else f ⟨(q.val + 1) % 256, Nat.mod_lt _ (by decide)⟩ * w 2)

/-- The length of a stretch in block `k` of a sequence. -/
def tileLen (k : Nat) : Nat := if k = 8 then 256 else 64

/-- On block `k` the two convolutions are the same. -/
theorem convB_eq (k : Fin 9) (f : Fin 256 → EReal) (F : Fin 2304 → EReal) (w : Fin 3 → EReal) (q : Fin 256) (r : Fin 2304) (hr : r.val = k.val * 256 + q.val)
    (hf : ∀ (q' : Fin 256) (r' : Fin 2304), r'.val = k.val * 256 + q'.val → f q' = F r') :
    convB (tileLen k.val) f w q = conv3 F w r := by
  have hk := k.isLt
  have hq := q.isLt
  have hs : stretch r = tileLen k.val := by
    unfold stretch tileLen
    by_cases h : k.val = 8
    · rw [if_pos h, if_neg (by omega)]
    · rw [if_neg h, if_pos (by omega)]
  have hm : r.val % tileLen k.val = q.val % tileLen k.val := by
    unfold tileLen
    split <;> omega
  have h64 : q.val % tileLen k.val ≠ 0 → q.val ≠ 0 := by
    intro h h0
    rw [h0] at h
    exact h (Nat.zero_mod _)
  have h63 : q.val % tileLen k.val ≠ tileLen k.val - 1 → q.val ≠ 255 := by
    intro h h0
    rw [h0] at h
    unfold tileLen at h
    split at h <;> omega
  unfold convB conv3
  rw [hs, hm, hf q r hr]
  refine congr (congrArg _ (congr (congrArg _ ?_) rfl)) ?_
  · by_cases h : q.val % tileLen k.val = 0
    · rw [if_pos h, if_pos h]
    · have := h64 h
      rw [if_neg h, if_neg h, hf ⟨q.val - 1, by omega⟩ ⟨r.val - 1, by omega⟩ (by show r.val - 1 = k.val * 256 + (q.val - 1); omega)]
  · by_cases h : q.val % tileLen k.val = tileLen k.val - 1
    · rw [if_pos h, if_pos h]
    · have := h63 h
      rw [if_neg h, if_neg h, hf ⟨(q.val + 1) % 256, Nat.mod_lt _ (by decide)⟩ ⟨(r.val + 1) % 2304, Nat.mod_lt _ (by decide)⟩
        (by show (r.val + 1) % 2304 = k.val * 256 + (q.val + 1) % 256; omega)]

end Cert.Proof

namespace Cert.Proof.Kernel3Ideal

open Cert.Kernel3Ideal
open Idealize.ShloMosaic

/-- The length of a stretch in block `k`, as the block's program computes it. -/
def lenW (k : Nat) : BitVec 32 := Scalar.select (Scalar.cmpi .eq (BitVec.ofNat 32 k) 8#32) 256#32 64#32

/-- The mask of the rows that open a stretch. -/
theorem opens : ∀ (k : Fin 9) (q : Fin 256), IntOp.cmpi CmpIPredicate.eq (IntOp.andi (BitVec.ofNat 32 q.val) (Scalar.subi (lenW k.val) 1#32)) 0#32
    = if q.val % tileLen k.val = 0 then 1#1 else 0#1 := by decide +kernel

/-- The mask of the rows that close a stretch. -/
theorem closes : ∀ (k : Fin 9) (q : Fin 256), IntOp.cmpi CmpIPredicate.eq (IntOp.andi (BitVec.ofNat 32 q.val) (Scalar.subi (lenW k.val) 1#32)) (Scalar.subi (lenW k.val) 1#32)
    = if q.val % tileLen k.val = tileLen k.val - 1 then 1#1 else 0#1 := by decide +kernel

/-- A choice by a mask. -/
theorem choose {α : Type} (p : Prop) [Decidable p] (a b : α) : Scalar.select (if p then 1#1 else 0#1) a b = if p then a else b := by
  split <;> simp [Scalar.select]

/-- The row before, round the block. -/
theorem before (q : Fin 256) (h : (q.val + 256 - 1) % 256 < 256) (p : Prop) [Decidable p] (hp : q.val = 0 → p) (g : Fin 256 → EReal) :
    (if p then 0 else g ⟨(q.val + 256 - 1) % 256, h⟩) = if p then 0 else g ⟨q.val - 1, by have := q.isLt; omega⟩ := by
  have := q.isLt
  by_cases hh : p
  · rw [if_pos hh, if_pos hh]
  · rw [if_neg hh, if_neg hh]
    exact congrArg g (Fin.ext (show (q.val + 256 - 1) % 256 = q.val - 1 by have : q.val ≠ 0 := fun h0 => hh (hp h0); omega))

/-- The row after, round the block. -/
theorem after (q : Fin 256) (h : (q.val + 256 - 255) % 256 < 256) (g : Fin 256 → EReal) :
    g ⟨(q.val + 256 - 255) % 256, h⟩ = g ⟨(q.val + 1) % 256, Nat.mod_lt _ (by decide)⟩ :=
  congrArg g (Fin.ext (show (q.val + 256 - 255) % 256 = (q.val + 1) % 256 by omega))

/-- A row of a block, scaled and shifted. -/
theorem row_2 (x : Vec Ideal S1x256x1024 .f32) (s h : Vec Ideal S1x1x1024 .f32) (q : Fin 256) (d : Fin 1024) :
    Gen.k0_pay2 (F := Ideal) x s h (ix2 q d) = x (ix3 0 q d) * s (ix3 0 0 d) + h (ix3 0 0 d) := by
  pointwise [Gen.k0_pay2]

/-- The first projection of a row. -/
theorem row_3 (x : Vec Ideal S1x256x1024 .f32) (s h : Vec Ideal S1x1x1024 .f32) (w : Vec Ideal S1024x768 .bf16) (q : Fin 256) (c : Fin 768) :
    Gen.k0_pay3 (F := Ideal) x s h w (ix2 q c) = ∑ d, Gen.k0_pay2 (F := Ideal) x s h (ix2 q d) * w (ix2 d c) := by
  pointwise [Gen.k0_pay3]

/-- The second projection of a row. -/
theorem row_14 (z : FVec Ideal S256x1024 .bf16) (w : Vec Ideal S1024x768 .bf16) (q : Fin 256) (c : Fin 768) :
    Gen.k0_pay14 (F := Ideal) z w (ix2 q c) = ∑ d, z (ix2 q d) * w (ix2 d c) := by
  pointwise [Gen.k0_pay14]

/-- The third projection of a row. -/
theorem row_18 (z : FVec Ideal S256x1024 .bf16) (w : Vec Ideal S1024x896 .bf16) (q : Fin 256) (c : Fin 896) :
    Gen.k0_pay18 (F := Ideal) z w (ix2 q c) = ∑ d, z (ix2 q d) * w (ix2 d c) := by
  pointwise [Gen.k0_pay18]

/-- The fourth projection of a row. -/
theorem row_25 (z : FVec Ideal S256x1024 .bf16) (w : Vec Ideal S1024x1152 .bf16) (q : Fin 256) (c : Fin 1152) :
    Gen.k0_pay25 (F := Ideal) z w (ix2 q c) = ∑ d, z (ix2 q d) * w (ix2 d c) := by
  pointwise [Gen.k0_pay25]

/-- The first convolution of a row. -/
theorem row_9 (i : grid0.Coords) (k : Fin 9) (hk : (i 1).val = k.val) (x : Vec Ideal S1x256x1024 .f32) (s h : Vec Ideal S1x1x1024 .f32) (w : Vec Ideal S1024x768 .bf16)
    (cw : Vec Ideal S3x768 .f32) (cb : Vec Ideal S1x768 .f32) (q : Fin 256) (c : Fin 768) :
    Gen.k0_pay9 (F := Ideal) (Gen.k0_pay3 (F := Ideal) x s h w) (Gen.k0_pay4 (F := Ideal) cw) (Gen.k0_pay6 (F := Ideal) i x s h w) (Gen.k0_pay7 (F := Ideal) i x s h w)
        (Gen.k0_pay8 (F := Ideal) cw) cb (ix2 q c)
      = convB (tileLen k.val) (fun q => Gen.k0_pay3 (F := Ideal) x s h w (ix2 q c)) (fun j => cw (ix2 j c)) q + cb (ix2 0 c) := by
  pointwise [Gen.k0_pay9, Gen.k0_pay4, Gen.k0_pay8, Gen.k0_pay6, Gen.k0_pay7, Gen.k0_pay5]
  rw [hk]
  have ho := opens k q
  have hc := closes k q
  unfold lenW at ho hc
  rw [ho, hc]
  simp only [choose]
  unfold convB
  beta_reduce
  rw [before q _ _ (fun h => by rw [h]; exact Nat.zero_mod _) (fun q => Gen.k0_pay3 (F := Ideal) x s h w (ix2 q c) * cw (ix2 0 c)),
    after q _ (fun q => Gen.k0_pay3 (F := Ideal) x s h w (ix2 q c) * cw (ix2 2 c))]

/-- The result of the second mixer's convolution of a row. -/
theorem row_17 (k : Fin 9) (a p : FVec Ideal S256x256 .f32) (w : Vec Ideal S3x256 .f32) (q : Fin 256) (c : Fin 256) :
    Gen.k0_pay17 (F := Ideal) (lenW k.val) a p w (ix3 0 q c)
      = a (ix2 q c) * convB (tileLen k.val) (fun q => p (ix2 q c)) (fun j => w (ix2 j c)) q := by
  pointwise [Gen.k0_pay17]
  rw [opens k q, closes k q]
  simp only [choose]
  unfold convB
  beta_reduce
  rw [before q _ _ (fun h => by rw [h]; exact Nat.zero_mod _) (fun q => p (ix2 q c) * w (ix2 0 c)),
    after q _ (fun q => p (ix2 q c) * w (ix2 2 c))]

/-- The fourth mixer's convolution of a row. -/
theorem row_26 (k : Fin 9) (z : FVec Ideal S256x1024 .bf16) (w : Vec Ideal S1024x1152 .bf16) (cw : Vec Ideal S3x768 .f32) (q : Fin 256) (c : Fin 768) :
    Gen.k0_pay26 (F := Ideal) (lenW k.val) z w cw (ix2 q c)
      = convB (tileLen k.val) (fun q => Gen.k0_pay25 (F := Ideal) z w (ix2 q ⟨c.val, by have := c.isLt; omega⟩)) (fun j => cw (ix2 j c)) q := by
  pointwise [Gen.k0_pay26]
  rw [opens k q, closes k q]
  simp only [choose]
  unfold convB
  beta_reduce
  rw [before q _ _ (fun h => by rw [h]; exact Nat.zero_mod _) (fun q => Gen.k0_pay25 (F := Ideal) z w (ix2 q ⟨c.val, by have := c.isLt; omega⟩) * cw (ix2 0 c)),
    after q _ (fun q => Gen.k0_pay25 (F := Ideal) z w (ix2 q ⟨c.val, by have := c.isLt; omega⟩) * cw (ix2 2 c))]

/-- What the fourth mixer leaves of its convolution: each number times its logistic. -/
theorem row_34 (v : BitVec 32) (z : FVec Ideal S256x1024 .bf16) (w : Vec Ideal S1024x1152 .bf16) (cw : Vec Ideal S3x768 .f32) (q : Fin 256) (c : Fin 256) :
    Gen.k0_pay34 (F := Ideal) (Gen.k0_pay28 (F := Ideal) (Gen.k0_pay26 (F := Ideal) v z w cw) (Gen.k0_pay27 (F := Ideal) v z w cw)) (ix3 0 q c)
      = Gen.k0_pay26 (F := Ideal) v z w cw (ix2 q ⟨512 + c.val, by have := c.isLt; omega⟩)
        * Ideal.div 1 (1 + Ideal.exp (-Gen.k0_pay26 (F := Ideal) v z w cw (ix2 q ⟨512 + c.val, by have := c.isLt; omega⟩))) := by
  rw [← zero_sub]
  pointwise [Gen.k0_pay34, Gen.k0_pay28, Gen.k0_pay27]

/-- The first mixer's gated product of a row. -/
theorem row_10 (v15 : FVec Ideal S256x768 .f32) (v17 : FVec Ideal S3x768 .f32) (v26 : FVec Ideal S256x768 .f32) (v32 : FVec Ideal S256x768 .f32) (v33 : FVec Ideal S1x768 .f32) (v44 : Vec Ideal S1x768 .f32) (q : Fin 256) (c : Fin 256) :
    Gen.k0_pay11 (F := Ideal) v15 v17 v26 v32 v33 v44 (ix3 0 q c) = Gen.k0_pay9 (F := Ideal) v15 v17 v26 v32 v33 v44 (ix2 q ⟨256 + c.val, by have := c.isLt; omega⟩)
      * Gen.k0_pay9 (F := Ideal) v15 v17 v26 v32 v33 v44 (ix2 q ⟨512 + c.val, by have := c.isLt; omega⟩) := by
  pointwise [Gen.k0_pay11, Gen.k0_pay10]

/-- The same, scaled. -/
theorem row_12 (v15 : FVec Ideal S256x768 .f32) (v17 : FVec Ideal S3x768 .f32) (v26 : FVec Ideal S256x768 .f32) (v32 : FVec Ideal S256x768 .f32) (v33 : FVec Ideal S1x768 .f32) (v44 : Vec Ideal S1x768 .f32) (v55 : Vec Ideal S1x256 .f32) (q : Fin 256) (c : Fin 256) :
    Gen.k0_pay12 (F := Ideal) v15 v17 v26 v32 v33 v44 v55 (ix3 0 q c) = Gen.k0_pay9 (F := Ideal) v15 v17 v26 v32 v33 v44 (ix2 q ⟨256 + c.val, by have := c.isLt; omega⟩)
      * Gen.k0_pay9 (F := Ideal) v15 v17 v26 v32 v33 v44 (ix2 q ⟨512 + c.val, by have := c.isLt; omega⟩) * v55 (ix2 0 c) := by
  pointwise [Gen.k0_pay12, Gen.k0_pay10]

/-- The first third of the first mixer's convolution. -/
theorem row_13 (v15 : FVec Ideal S256x768 .f32) (v17 : FVec Ideal S3x768 .f32) (v26 : FVec Ideal S256x768 .f32) (v32 : FVec Ideal S256x768 .f32) (v33 : FVec Ideal S1x768 .f32) (v44 : Vec Ideal S1x768 .f32) (q : Fin 256) (c : Fin 256) :
    Gen.k0_pay13 (F := Ideal) v15 v17 v26 v32 v33 v44 (ix3 0 q c) = Gen.k0_pay9 (F := Ideal) v15 v17 v26 v32 v33 v44 (ix2 q ⟨c.val, by have := c.isLt; omega⟩) := by
  pointwise [Gen.k0_pay13]

/-- The first third of the second projection. -/
theorem row_15 (z : FVec Ideal S256x1024 .bf16) (w : Vec Ideal S1024x768 .bf16) (q c : Fin 256) :
    Gen.k0_pay15 (F := Ideal) z w (ix2 q c) = Gen.k0_pay14 (F := Ideal) z w (ix2 q ⟨c.val, by have := c.isLt; omega⟩) := by
  pointwise [Gen.k0_pay15]

/-- The product of the other two thirds. -/
theorem row_16 (z : FVec Ideal S256x1024 .bf16) (w : Vec Ideal S1024x768 .bf16) (q c : Fin 256) :
    Gen.k0_pay16 (F := Ideal) z w (ix2 q c) = Gen.k0_pay14 (F := Ideal) z w (ix2 q ⟨256 + c.val, by have := c.isLt; omega⟩)
      * Gen.k0_pay14 (F := Ideal) z w (ix2 q ⟨512 + c.val, by have := c.isLt; omega⟩) := by
  pointwise [Gen.k0_pay16]

/-- The third projection's first part. -/
theorem row_19 (z : FVec Ideal S256x1024 .bf16) (w : Vec Ideal S1024x896 .bf16) (q c : Fin 256) :
    Gen.k0_pay19 (F := Ideal) z w (ix3 0 q c) = Gen.k0_pay18 (F := Ideal) z w (ix2 q ⟨c.val, by have := c.isLt; omega⟩) := by
  pointwise [Gen.k0_pay19]

/-- Its second part. -/
theorem row_21 (z : FVec Ideal S256x1024 .bf16) (w : Vec Ideal S1024x896 .bf16) (q c : Fin 256) :
    Gen.k0_pay21 (F := Ideal) (Gen.k0_pay20 (F := Ideal) z w) (ix3 0 q c) = Gen.k0_pay18 (F := Ideal) z w (ix2 q ⟨256 + c.val, by have := c.isLt; omega⟩) := by
  pointwise [Gen.k0_pay21, Gen.k0_pay20]

/-- Its third part. -/
theorem row_22 (a : FVec Ideal S256x896 .f32) (q c : Fin 256) :
    Gen.k0_pay22 (F := Ideal) a (ix3 0 q c) = a (ix2 q ⟨512 + c.val, by have := c.isLt; omega⟩) := by
  pointwise [Gen.k0_pay22]

/-- The fourth projection's last full part. -/
theorem row_35 (a : FVec Ideal S256x1152 .f32) (q c : Fin 256) :
    Gen.k0_pay35 (F := Ideal) a (ix3 0 q c) = a (ix2 q ⟨768 + c.val, by have := c.isLt; omega⟩) := by
  pointwise [Gen.k0_pay35]

end Cert.Proof.Kernel3Ideal

end
-- ==== Proof.InBlock.lean ====
/-
  The arrays the projection call leaves, at every place: what a grid point's blocks hold, and where the blocks lie.
-/
module

public import proofs.«01_k».proof.Proof.InRow
public import Idealize.ShloMosaic.Lib.Pipeline.ValueKit
public import Idealize.ShloMosaic.Lib.StableHlo.RunRead
public import Idealize.ShloMosaic.Lib.Tactic

@[expose] public section

set_option maxRecDepth 16384

noncomputable section

namespace Cert.Proof.Kernel3Ideal

open Cert.Kernel3Ideal Cert.Kernel3Ideal.Gen Cert.Kernel3Ideal.Value
open Idealize.ShloMosaic Idealize.ShloMosaic.TcCoe Idealize.SL.Sem
open Idealize.ShloMosaic.Pipeline (Dat Cfg Window)

theorem hz3 : (![0, 0, 0] : Fin 3 → Nat) = fun _ => 0 := funext fun a => by fin_cases a <;> rfl
theorem hz2 : (![0, 0] : Fin 2 → Nat) = fun _ => 0 := funext fun a => by fin_cases a <;> rfl

/-- A load of a whole block. -/
theorem whole_0 (x : Vec Ideal S1x256x1024 .f32) : (View.ld x r0_0 : Vec Ideal S1x256x1024 .f32) = x := View.ld_unit_zero hz3 _ _

/-- A load of a whole block. -/
theorem whole_1 (x : Vec Ideal S1x1x1024 .f32) : (View.ld x r0_1 : Vec Ideal S1x1x1024 .f32) = x := View.ld_unit_zero hz3 _ _

/-- A load of a whole block. -/
theorem whole_3 (x : Vec Ideal S3x768 .f32) : (View.ld x r0_3 : Vec Ideal S3x768 .f32) = x := View.ld_unit_zero hz2 _ _

/-- A load of a whole block. -/
theorem whole_4 (x : Vec Ideal S1x768 .f32) : (View.ld x r0_4 : Vec Ideal S1x768 .f32) = x := View.ld_unit_zero hz2 _ _

/-- A load of a whole block. -/
theorem whole_6 (x : Vec Ideal S1x256 .f32) : (View.ld x r0_6 : Vec Ideal S1x256 .f32) = x := View.ld_unit_zero hz2 _ _

/-- A load of a whole block. -/
theorem whole_8 (x : Vec Ideal S3x256 .f32) : (View.ld x r0_8 : Vec Ideal S3x256 .f32) = x := View.ld_unit_zero hz2 _ _

/-- The projection of one row of a block on one column of the table. -/
def projB (x0 : Vec Ideal S1x256x1024 .f32) (x1 x2 : Vec Ideal S1x1x1024 .f32) (x3 : Vec Ideal S1024x3584 .bf16) (q : Fin 256) (k : Fin 3584) : EReal :=
  ∑ d, (x0 (ix3 0 q d) * x1 (ix3 0 0 d) + x2 (ix3 0 0 d)) * x3 (ix2 d k)

/-- Columns 0 to 767. -/
theorem cols_2 (w : Vec Ideal S1024x3584 .bf16) (d : Fin 1024) (c : Fin 768) : (View.ld w r0_2 : Vec Ideal S1024x768 .bf16) (ix2 d c) = w (ix2 d ⟨c.val, by have := c.isLt; omega⟩) := by
  refine congrArg w (funext fun a => Fin.ext ?_)
  match a with
  | ⟨0, _⟩ => show 0 + 1 * d.val = d.val; omega
  | ⟨1, _⟩ => show 0 + 1 * c.val = c.val; omega

/-- Columns 768 to 1535. -/
theorem cols_7 (w : Vec Ideal S1024x3584 .bf16) (d : Fin 1024) (c : Fin 768) : (View.ld w r0_7 : Vec Ideal S1024x768 .bf16) (ix2 d c) = w (ix2 d ⟨768 + c.val, by have := c.isLt; omega⟩) := by
  refine congrArg w (funext fun a => Fin.ext ?_)
  match a with
  | ⟨0, _⟩ => show 0 + 1 * d.val = d.val; omega
  | ⟨1, _⟩ => show 768 + 1 * c.val = 768 + c.val; omega

/-- Columns 1536 to 2431. -/
theorem cols_9 (w : Vec Ideal S1024x3584 .bf16) (d : Fin 1024) (c : Fin 896) : (View.ld w r0_9 : Vec Ideal S1024x896 .bf16) (ix2 d c) = w (ix2 d ⟨1536 + c.val, by have := c.isLt; omega⟩) := by
  refine congrArg w (funext fun a => Fin.ext ?_)
  match a with
  | ⟨0, _⟩ => show 0 + 1 * d.val = d.val; omega
  | ⟨1, _⟩ => show 1536 + 1 * c.val = 1536 + c.val; omega

/-- Columns 2432 to 3583. -/
theorem cols_11 (w : Vec Ideal S1024x3584 .bf16) (d : Fin 1024) (c : Fin 1152) : (View.ld w r0_11 : Vec Ideal S1024x1152 .bf16) (ix2 d c) = w (ix2 d ⟨2432 + c.val, by have := c.isLt; omega⟩) := by
  refine congrArg w (funext fun a => Fin.ext ?_)
  match a with
  | ⟨0, _⟩ => show 0 + 1 * d.val = d.val; omega
  | ⟨1, _⟩ => show 2432 + 1 * c.val = 2432 + c.val; omega

variable (i : grid0.Coords) (x0 : Vec Ideal S1x256x1024 .f32) (x1 x2 : Vec Ideal S1x1x1024 .f32) (x3 : Vec Ideal S1024x3584 .bf16) (x4 : Vec Ideal S3x768 .f32)
  (x5 : Vec Ideal S1x768 .f32) (x6 : Vec Ideal S1x256 .f32) (x7 : Vec Ideal S3x256 .f32) (x8 : Vec Ideal S128x256 .f32) (x9 : Vec Ideal S1x256 .f32)
  (x10 : Vec Ideal S3x768 .f32) (x11 x12 : Vec Ideal S1x128 .f32) (x13 : Vec Ideal S256x256 .bf16)

/-- The first projection of a block. -/
theorem proj_3 (q : Fin 256) (c : Fin 768) : k0_pay3 (F := Ideal) x0 x1 x2 (View.ld x3 r0_2) (ix2 q c) = projB x0 x1 x2 x3 q ⟨c.val, by have := c.isLt; omega⟩ := by
  rw [row_3]
  exact Finset.sum_congr rfl fun d _ => by rw [row_2, cols_2]

/-- The second projection of a block. -/
theorem proj_14 (q : Fin 256) (c : Fin 768) : k0_pay14 (F := Ideal) (k0_pay2 (F := Ideal) x0 x1 x2) (View.ld x3 r0_7) (ix2 q c) = projB x0 x1 x2 x3 q ⟨768 + c.val, by have := c.isLt; omega⟩ := by
  rw [row_14]
  exact Finset.sum_congr rfl fun d _ => by rw [row_2, cols_7]

/-- The third projection of a block. -/
theorem proj_18 (q : Fin 256) (c : Fin 896) : k0_pay18 (F := Ideal) (k0_pay2 (F := Ideal) x0 x1 x2) (View.ld x3 r0_9) (ix2 q c) = projB x0 x1 x2 x3 q ⟨1536 + c.val, by have := c.isLt; omega⟩ := by
  rw [row_18]
  exact Finset.sum_congr rfl fun d _ => by rw [row_2, cols_9]

/-- The fourth projection of a block. -/
theorem proj_25 (q : Fin 256) (c : Fin 1152) : k0_pay25 (F := Ideal) (k0_pay2 (F := Ideal) x0 x1 x2) (View.ld x3 r0_11) (ix2 q c) = projB x0 x1 x2 x3 q ⟨2432 + c.val, by have := c.isLt; omega⟩ := by
  rw [row_25]
  exact Finset.sum_congr rfl fun d _ => by rw [row_2, cols_11]

/-- The first mixer's convolution of a block. -/
def convA (n : Nat) (q : Fin 256) (c : Fin 768) : EReal :=
  convB n (fun q => projB x0 x1 x2 x3 q ⟨c.val, by have := c.isLt; omega⟩) (fun j => x4 (ix2 j c)) q + x5 (ix2 0 c)

variable (k : Fin 9) (hk : (i 1).val = k.val)
include hk

/-- The first mixer's convolution, as the block's program computes it. -/
theorem conv_9 (q : Fin 256) (c : Fin 768) :
    k0_pay9 (F := Ideal) (k0_pay3 (F := Ideal) x0 x1 x2 (View.ld x3 r0_2)) (k0_pay4 (F := Ideal) x4) (k0_pay6 (F := Ideal) i x0 x1 x2 (View.ld x3 r0_2))
      (k0_pay7 (F := Ideal) i x0 x1 x2 (View.ld x3 r0_2)) (k0_pay8 (F := Ideal) x4) x5 (ix2 q c) = convA x0 x1 x2 x3 x4 x5 (tileLen k.val) q c := by
  rw [row_9 i k hk]
  unfold convA
  rw [funext fun q => proj_3 x0 x1 x2 x3 q c]

/-- The first output's block. -/
theorem out_14 (q c : Fin 256) : out0_14 (F := Ideal) i x0 x1 x2 x3 x4 x5 x6 x7 x8 x9 x10 x11 x12 x13 (ix3 0 q c)
    = convA x0 x1 x2 x3 x4 x5 (tileLen k.val) q ⟨256 + c.val, by have := c.isLt; omega⟩ * convA x0 x1 x2 x3 x4 x5 (tileLen k.val) q ⟨512 + c.val, by have := c.isLt; omega⟩ := by
  unfold out0_14 k0_pay41 k0_pay42 k0_pay43 k0_pay44 k0_pay45
  rw [View.canon_unit_zero hz3]
  simp only [whole_0, whole_1, whole_3, whole_4]
  rw [row_10, conv_9 (hk := hk), conv_9 (hk := hk)]

/-- The second output's block. -/
theorem out_15 (q c : Fin 256) : out0_15 (F := Ideal) i x0 x1 x2 x3 x4 x5 x6 x7 x8 x9 x10 x11 x12 x13 (ix3 0 q c)
    = convA x0 x1 x2 x3 x4 x5 (tileLen k.val) q ⟨256 + c.val, by have := c.isLt; omega⟩ * convA x0 x1 x2 x3 x4 x5 (tileLen k.val) q ⟨512 + c.val, by have := c.isLt; omega⟩ * x6 (ix2 0 c) := by
  unfold out0_15 k0_pay41 k0_pay42 k0_pay43 k0_pay44 k0_pay45
  rw [View.canon_unit_zero hz3]
  simp only [whole_0, whole_1, whole_3, whole_4, whole_6]
  rw [row_12, conv_9 (hk := hk), conv_9 (hk := hk)]

/-- The third output's block. -/
theorem out_16 (q c : Fin 256) : out0_16 (F := Ideal) i x0 x1 x2 x3 x4 x5 x6 x7 x8 x9 x10 x11 x12 x13 (ix3 0 q c)
    = convA x0 x1 x2 x3 x4 x5 (tileLen k.val) q ⟨c.val, by have := c.isLt; omega⟩ := by
  unfold out0_16 k0_pay41 k0_pay42 k0_pay43 k0_pay44 k0_pay45
  rw [View.canon_unit_zero hz3]
  simp only [whole_0, whole_1, whole_3, whole_4]
  rw [row_13, conv_9 (hk := hk)]

/-- The fourth output's block. -/
theorem out_17 (q c : Fin 256) : out0_17 (F := Ideal) i x0 x1 x2 x3 x4 x5 x6 x7 x8 x9 x10 x11 x12 x13 (ix3 0 q c)
    = projB x0 x1 x2 x3 q ⟨768 + c.val, by have := c.isLt; omega⟩
      * convB (tileLen k.val) (fun q => projB x0 x1 x2 x3 q ⟨1024 + c.val, by have := c.isLt; omega⟩ * projB x0 x1 x2 x3 q ⟨1280 + c.val, by have := c.isLt; omega⟩) (fun j => x7 (ix2 j c)) q := by
  unfold out0_17 k0_pay40
  rw [View.canon_unit_zero hz3, hk]
  simp only [whole_0, whole_1, whole_8]
  refine (row_17 k _ _ _ q c).trans ?_
  rw [row_15, proj_14]
  refine congrArg (fun f => projB x0 x1 x2 x3 q ⟨768 + c.val, by have := c.isLt; omega⟩ * convB (tileLen k.val) f (fun j => x7 (ix2 j c)) q) (funext fun q => ?_)
  rw [row_16, proj_14, proj_14]
  refine congr (congrArg _ (congrArg (projB x0 x1 x2 x3 q) (Fin.ext ?_))) (congrArg (projB x0 x1 x2 x3 q) (Fin.ext ?_))
  · show 768 + (256 + c.val) = 1024 + c.val; omega
  · show 768 + (512 + c.val) = 1280 + c.val; omega

/-- The eleventh output's block. -/
theorem out_24 (q c : Fin 256) : out0_24 (F := Ideal) i x0 x1 x2 x3 x4 x5 x6 x7 x8 x9 x10 x11 x12 x13 (ix3 0 q c)
    = (fun v => v * Ideal.div 1 (1 + Ideal.exp (-v)))
      (convB (tileLen k.val) (fun q => projB x0 x1 x2 x3 q ⟨2944 + c.val, by have := c.isLt; omega⟩) (fun j => x10 (ix2 j ⟨512 + c.val, by have := c.isLt; omega⟩)) q) := by
  unfold out0_24 k0_pay48 k0_pay49 k0_pay40
  rw [View.canon_unit_zero hz3, hk]
  simp only [whole_0, whole_1, whole_3]
  refine (row_34 _ _ _ _ q c).trans ?_
  refine congrArg (fun v => v * Ideal.div 1 (1 + Ideal.exp (-v))) ((row_26 k _ _ _ q ⟨512 + c.val, by have := c.isLt; omega⟩).trans ?_)
  refine congrArg (fun f => convB (tileLen k.val) f (fun j => x10 (ix2 j ⟨512 + c.val, by have := c.isLt; omega⟩)) q) (funext fun q => ?_)
  refine (proj_25 x0 x1 x2 x3 q _).trans (congrArg (projB x0 x1 x2 x3 q) (Fin.ext ?_))
  show 2432 + (512 + c.val) = 2944 + c.val
  omega

omit hk

/-- The fifth output's block. -/
theorem out_18 (q c : Fin 256) : out0_18 (F := Ideal) i x0 x1 x2 x3 x4 x5 x6 x7 x8 x9 x10 x11 x12 x13 (ix3 0 q c) = projB x0 x1 x2 x3 q ⟨1536 + c.val, by have := c.isLt; omega⟩ := by
  unfold out0_18 k0_pay40
  rw [View.canon_unit_zero hz3]
  simp only [whole_0, whole_1]
  rw [row_19, proj_18]

/-- The sixth output's block. -/
theorem out_19 (q c : Fin 256) : out0_19 (F := Ideal) i x0 x1 x2 x3 x4 x5 x6 x7 x8 x9 x10 x11 x12 x13 (ix3 0 q c) = projB x0 x1 x2 x3 q ⟨1792 + c.val, by have := c.isLt; omega⟩ := by
  unfold out0_19 k0_pay40
  rw [View.canon_unit_zero hz3]
  simp only [whole_0, whole_1]
  rw [row_21, proj_18]
  refine congrArg (projB x0 x1 x2 x3 q) (Fin.ext ?_)
  show 1536 + (256 + c.val) = 1792 + c.val
  omega

/-- The seventh output's block. -/
theorem out_20 (q c : Fin 256) : out0_20 (F := Ideal) i x0 x1 x2 x3 x4 x5 x6 x7 x8 x9 x10 x11 x12 x13 (ix3 0 q c) = projB x0 x1 x2 x3 q ⟨2048 + c.val, by have := c.isLt; omega⟩ := by
  unfold out0_20 k0_pay46 k0_pay40
  rw [View.canon_unit_zero hz3]
  simp only [whole_0, whole_1]
  rw [row_22, proj_18]
  refine congrArg (projB x0 x1 x2 x3 q) (Fin.ext ?_)
  show 1536 + (512 + c.val) = 2048 + c.val
  omega

/-- The twelfth output's block. -/
theorem out_25 (q c : Fin 256) : out0_25 (F := Ideal) i x0 x1 x2 x3 x4 x5 x6 x7 x8 x9 x10 x11 x12 x13 (ix3 0 q c) = projB x0 x1 x2 x3 q ⟨3200 + c.val, by have := c.isLt; omega⟩ := by
  unfold out0_25 k0_pay47 k0_pay40
  rw [View.canon_unit_zero hz3]
  simp only [whole_0, whole_1]
  rw [row_35, proj_25]
  refine congrArg (projB x0 x1 x2 x3 q) (Fin.ext ?_)
  show 2432 + (768 + c.val) = 3200 + c.val
  omega

end Cert.Proof.Kernel3Ideal

end
-- ==== Proof.InHost.lean ====
/-
  The operands the projections' call prepares for its blocks: the first layer's slices of the parameters, and the projection table with zero columns inserted.
-/
module

public import proofs.«01_k».proof.Proof.InBlock

@[expose] public section

set_option maxRecDepth 16384

noncomputable section

namespace Cert.Proof.Kernel3Ideal

open Cert.Kernel3Ideal Cert.Kernel3Ideal.Gen Cert.Kernel3Ideal.Value
open Idealize.ShloMosaic Idealize.ShloMosaic.TcCoe Idealize.SL.Sem

/-- The first layer of three tables side by side. -/
def tableJ (a : FVec Ideal S4x1024x1536 .f32) (b : FVec Ideal S4x1024x896 .f32) (c : FVec Ideal S4x1024x1152 .f32) : Vec Ideal S1024x3584 .bf16 :=
  shapeCast S1024x3584 (extractStridedSlice S1x1024x3584 ![0, 0, 0] (truncf .bf16 (concatenate S4x1024x3584 2 [⟨S4x1024x1536, a⟩, ⟨S4x1024x896, b⟩, ⟨S4x1024x1152, c⟩]
    concatenates_S4x1024x1536_S4x1024x896_S4x1024x1152_S4x1024x3584_d2 : FVec Ideal S4x1024x3584 .f32) bitsLt_bf16_f32) slices_S4x1024x3584_S1x1024x3584_0_0_0) shapeCasts_S1x1024x3584_S1024x3584

/-- The projection table of the first layer, zero columns inserted behind column 2335 and behind the last. -/
def tableT (W : FVec Ideal S4x1024x3376 .f32) : Vec Ideal S1024x3584 .bf16 :=
  tableJ (extractStridedSlice S4x1024x1536 ![0, 0, 0] W slices_S4x1024x3376_S4x1024x1536_0_0_0)
    (pad S4x1024x896 ![0, 0, 0] ![0, 0, 96] ![0, 0, 0] (extractStridedSlice S4x1024x800 ![0, 0, 1536] W slices_S4x1024x3376_S4x1024x800_0_0_1536)
      (sitofp (F := Ideal) .f32 (constantI S_ 32 0#32)) pads_S4x1024x800_S4x1024x896_000_000_0960 h_S_)
    (pad S4x1024x1152 ![0, 0, 0] ![0, 0, 112] ![0, 0, 0] (extractStridedSlice S4x1024x1040 ![0, 0, 2336] W slices_S4x1024x3376_S4x1024x1040_0_0_2336)
      (sitofp (F := Ideal) .f32 (constantI S_ 32 0#32)) pads_S4x1024x1040_S4x1024x1152_000_000_01120 h_S_)

/-- The table's columns up to 2335 are the parameters' own. -/
theorem table_low (W : FVec Ideal S4x1024x3376 .f32) (d : Fin 1024) (k : Fin 3584) (j : Fin 3376) (hk : k.val < 2336) (hj : j.val = k.val) : tableT W (ix2 d k) = W (ix3 0 d j) := by
  have h : k.val < 2336 := hk
  obtain ⟨j, hj'⟩ := j
  obtain rfl : j = k.val := hj
  pointwise [tableT, tableJ]
  repeat' split
  all_goals first | rfl | (exfalso; omega) | skip
  all_goals refine congrArg (fun z => W (ix3 0 d z)) (Fin.ext ?_)
  all_goals simp
  all_goals omega

/-- The table's columns from 2432 on are the parameters' own, 96 places further. -/
theorem table_high (W : FVec Ideal S4x1024x3376 .f32) (d : Fin 1024) (k : Fin 3584) (j : Fin 3376) (hj : k.val = j.val + 96) (hk : 2432 ≤ k.val) : tableT W (ix2 d k) = W (ix3 0 d j) := by
  have := j.isLt
  pointwise [tableT, tableJ]
  repeat' split
  all_goals first | rfl | (exfalso; omega) | skip
  all_goals refine congrArg (fun z => W (ix3 0 d z)) (Fin.ext ?_)
  all_goals simp
  all_goals omega

variable (m : (ℓ : Loc nD τ sig) → Buf (Elt Ideal) ℓ)

/-- A cast of `main_v1` between its two descriptions changes nothing. -/
theorem v1_of (p : main_v1.ty = ⟨S4x1024x800, .f32⟩) (q : main_v1.space ≠ .host) (r : main_v1.isScoped = false) (y : S4x1024x800.Idx → Ideal .f32) :
    (StableHlo.TRef.of (T := ⟨S4x1024x800, .f32⟩) main_v1 p q r).ofBuf (Val := Elt Ideal) y = y := rfl

/-- A cast of `main_c` between its two descriptions changes nothing. -/
theorem c0_of (p : main_c.ty = ⟨S_, .i32⟩) (q : main_c.space ≠ .host) (r : main_c.isScoped = false) (y : S_.Idx → BitVec 32) :
    (StableHlo.TRef.of (T := ⟨S_, .i32⟩) main_c p q r).ofBuf (Val := Elt Ideal) y = y := rfl

/-- A cast of `main_v2` between its two descriptions changes nothing. -/
theorem v2_to (p : main_v2.ty = ⟨S4x1024x896, .f32⟩) (q : main_v2.space ≠ .host) (r : main_v2.isScoped = false) (y : S4x1024x896.Idx → Ideal .f32) :
    (StableHlo.TRef.of (T := ⟨S4x1024x896, .f32⟩) main_v2 p q r).toBuf (Val := Elt Ideal) y = y := rfl

/-- A cast of `main_v3` between its two descriptions changes nothing. -/
theorem v3_of (p : main_v3.ty = ⟨S4x1024x1040, .f32⟩) (q : main_v3.space ≠ .host) (r : main_v3.isScoped = false) (y : S4x1024x1040.Idx → Ideal .f32) :
    (StableHlo.TRef.of (T := ⟨S4x1024x1040, .f32⟩) main_v3 p q r).ofBuf (Val := Elt Ideal) y = y := rfl

/-- A cast of `main_c_0` between its two descriptions changes nothing. -/
theorem c1_of (p : main_c_0.ty = ⟨S_, .i32⟩) (q : main_c_0.space ≠ .host) (r : main_c_0.isScoped = false) (y : S_.Idx → BitVec 32) :
    (StableHlo.TRef.of (T := ⟨S_, .i32⟩) main_c_0 p q r).ofBuf (Val := Elt Ideal) y = y := rfl

/-- A cast of `main_v4` between its two descriptions changes nothing. -/
theorem v4_to (p : main_v4.ty = ⟨S4x1024x1152, .f32⟩) (q : main_v4.space ≠ .host) (r : main_v4.isScoped = false) (y : S4x1024x1152.Idx → Ideal .f32) :
    (StableHlo.TRef.of (T := ⟨S4x1024x1152, .f32⟩) main_v4 p q r).toBuf (Val := Elt Ideal) y = y := rfl

/-- The table at entry. -/
theorem entry_32 (c : Dev nD) : (V m c main_v32 : S1024x3584.Idx → EReal) = tableT (m ((c : Thread nD τ).loc main_arg3)) := by
  unfold V
  simp only [List.flatten, List.append]
  after_reads_simp
  show tableJ _ _ _ = tableJ _ _ _
  refine congr (congr (congrArg tableJ ?_) ?_) ?_
  · show StableHlo.upto _ _ 9 (Proc.devRef .tc main_v0) = _
    after_reads_simp
  · show StableHlo.upto _ _ 9 (Proc.devRef .tc main_v2) = _
    after_reads_simp
    simp only [StableHlo.TRef.ofBuf_toBuf]
    simp only [v1_of, c0_of, v2_to]
  · show StableHlo.upto _ _ 9 (Proc.devRef .tc main_v4) = _
    after_reads_simp
    simp only [StableHlo.TRef.ofBuf_toBuf]
    simp only [v3_of, c1_of, v4_to]

/-- The scale of a row at entry. -/
theorem entry_30 (c : Dev nD) (b : Fin 24) (d : Fin 1024) : (V m c main_v30 : S24x1x1024.Idx → EReal) (ix3 b 0 d) = (1 : EReal) + (m ((c : Thread nD τ).loc main_arg1) : S24x1x1024.Idx → EReal) (ix3 b 0 d) := by
  have h : (V m c main_v30 : S24x1x1024.Idx → EReal) = (addf (broadcastInDim S24x1x1024 ![] bcast_S_S24x1x1024 (constant S_ .f32 0x3F800000#32)) (m ((c : Thread nD τ).loc main_arg1) : FVec Ideal S24x1x1024 .f32) : FVec Ideal S24x1x1024 .f32) := by
    unfold V
    simp only [List.flatten, List.append]
    after_reads_simp
    first | done | rfl
  rw [h]
  pointwise []

/-- The first convolution at entry. -/
theorem entry_34 (c : Dev nD) (j : Fin 3) (k : Fin 768) : (V m c main_v34 : S3x768.Idx → EReal) (ix2 j k) = (m ((c : Thread nD τ).loc main_arg4) : FVec Ideal S4x3x768 .f32) (ix3 0 j k) := by
  have h : (V m c main_v34 : S3x768.Idx → EReal) = shapeCast S3x768 (extractStridedSlice S1x3x768 ![0, 0, 0] (m ((c : Thread nD τ).loc main_arg4) : FVec Ideal S4x3x768 .f32) slices_S4x3x768_S1x3x768_0_0_0) shapeCasts_S1x3x768_S3x768 := by
    unfold V
    simp only [List.flatten, List.append]
    after_reads_simp
    first | done | rfl
  rw [h]
  pointwise []

/-- The second convolution at entry. -/
theorem entry_40 (c : Dev nD) (j : Fin 3) (k : Fin 256) : (V m c main_v40 : S3x256.Idx → EReal) (ix2 j k) = (m ((c : Thread nD τ).loc main_arg7) : FVec Ideal S4x3x256 .f32) (ix3 0 j k) := by
  have h : (V m c main_v40 : S3x256.Idx → EReal) = shapeCast S3x256 (extractStridedSlice S1x3x256 ![0, 0, 0] (m ((c : Thread nD τ).loc main_arg7) : FVec Ideal S4x3x256 .f32) slices_S4x3x256_S1x3x256_0_0_0) shapeCasts_S1x3x256_S3x256 := by
    unfold V
    simp only [List.flatten, List.append]
    after_reads_simp
    first | done | rfl
  rw [h]
  pointwise []

/-- The third convolution at entry. -/
theorem entry_46 (c : Dev nD) (j : Fin 3) (k : Fin 768) : (V m c main_v46 : S3x768.Idx → EReal) (ix2 j k) = (m ((c : Thread nD τ).loc main_arg10) : FVec Ideal S4x3x768 .f32) (ix3 0 j k) := by
  have h : (V m c main_v46 : S3x768.Idx → EReal) = shapeCast S3x768 (extractStridedSlice S1x3x768 ![0, 0, 0] (m ((c : Thread nD τ).loc main_arg10) : FVec Ideal S4x3x768 .f32) slices_S4x3x768_S1x3x768_0_0_0) shapeCasts_S1x3x768_S3x768 := by
    unfold V
    simp only [List.flatten, List.append]
    after_reads_simp
    first | done | rfl
  rw [h]
  pointwise []

/-- The first bias at entry. -/
theorem entry_36 (c : Dev nD) (k : Fin 768) : (V m c main_v36 : S1x768.Idx → EReal) (ix2 0 k) = (m ((c : Thread nD τ).loc main_arg5) : FVec Ideal S4x768 .f32) (ix2 0 k) := by
  have h : (V m c main_v36 : S1x768.Idx → EReal) = shapeCast S1x768 (extractStridedSlice S1x1x768 ![0, 0, 0] (broadcastInDim S4x1x768 ![0, 2] bcast_S4x768_S4x1x768_0_2 (m ((c : Thread nD τ).loc main_arg5) : FVec Ideal S4x768 .f32)) slices_S4x1x768_S1x1x768_0_0_0) shapeCasts_S1x1x768_S1x768 := by
    unfold V
    simp only [List.flatten, List.append]
    after_reads_simp
    first | done | rfl
  rw [h]
  pointwise []

/-- The first scale at entry. -/
theorem entry_38 (c : Dev nD) (k : Fin 256) : (V m c main_v38 : S1x256.Idx → EReal) (ix2 0 k) = (m ((c : Thread nD τ).loc main_arg6) : FVec Ideal S4x256 .f32) (ix2 0 k) := by
  have h : (V m c main_v38 : S1x256.Idx → EReal) = shapeCast S1x256 (extractStridedSlice S1x1x256 ![0, 0, 0] (broadcastInDim S4x1x256 ![0, 2] bcast_S4x256_S4x1x256_0_2 (m ((c : Thread nD τ).loc main_arg6) : FVec Ideal S4x256 .f32)) slices_S4x1x256_S1x1x256_0_0_0) shapeCasts_S1x1x256_S1x256 := by
    unfold V
    simp only [List.flatten, List.append]
    after_reads_simp
    first | done | rfl
  rw [h]
  pointwise []

end Cert.Proof.Kernel3Ideal

end
-- ==== Proof.InSpec.lean ====
/-
  What the opening projections' call leaves at a place, over the extended reals, from the rows of one sequence.
-/
module

public import proofs.«01_k».proof.Proof.InRow

@[expose] public section

noncomputable section

namespace Cert.Proof

open Idealize.ShloMosaic

/-- Every projection of every row: the row, scaled and shifted by its own pair of vectors, times one column of the table. -/
def inP (x : Fin 16 → Fin 2304 → Fin 1024 → EReal) (s h : Fin 24 → Fin 1024 → EReal) (w : Fin 1024 → Fin 3376 → EReal) (b : Fin 16) (r : Fin 2304) (k : Fin 3376) : EReal :=
  projRow (x b r) (fun d => 1 + s (gateRow b r) d) (h (gateRow b r)) (fun d => w d k)

/-- The first mixer's three convolved inputs. -/
def inU (P : Fin 2304 → Fin 3376 → EReal) (w : Fin 3 → Fin 768 → EReal) (e : Fin 768 → EReal) (r : Fin 2304) (c : Fin 768) : EReal :=
  conv3 (fun r => P r ⟨c.val, by have := c.isLt; omega⟩) (fun j => w j c) r + e c

/-- The product of the last two of them. -/
def inZ (P : Fin 2304 → Fin 3376 → EReal) (w : Fin 3 → Fin 768 → EReal) (e : Fin 768 → EReal) (r : Fin 2304) (c : Fin 256) : EReal :=
  inU P w e r ⟨256 + c.val, by have := c.isLt; omega⟩ * inU P w e r ⟨512 + c.val, by have := c.isLt; omega⟩

/-- The second mixer's result: a projection times the convolved product of two others. -/
def inY (P : Fin 2304 → Fin 3376 → EReal) (w : Fin 3 → Fin 256 → EReal) (r : Fin 2304) (c : Fin 256) : EReal :=
  P r ⟨768 + c.val, by have := c.isLt; omega⟩
    * conv3 (fun r => P r ⟨1024 + c.val, by have := c.isLt; omega⟩ * P r ⟨1280 + c.val, by have := c.isLt; omega⟩) (fun j => w j c) r

/-- A number times its logistic. -/
def inS (v : EReal) : EReal := v * Ideal.div 1 (1 + Ideal.exp (-v))

/-- The fourth mixer's value. -/
def inV (P : Fin 2304 → Fin 3376 → EReal) (w : Fin 3 → Fin 768 → EReal) (r : Fin 2304) (c : Fin 256) : EReal :=
  inS (conv3 (fun r => P r ⟨2848 + c.val, by have := c.isLt; omega⟩) (fun j => w j ⟨512 + c.val, by have := c.isLt; omega⟩) r)

end Cert.Proof

end
-- ==== Proof.InArr.lean ====
/-
  The arrays the projections' call leaves, read at one place of one sequence.
-/
module

public import proofs.«01_k».proof.Proof.InHost
public import proofs.«01_k».proof.Proof.InSpec

@[expose] public section

set_option maxRecDepth 16384

noncomputable section

namespace Cert.Proof.Kernel3Ideal

open Cert.Kernel3Ideal Cert.Kernel3Ideal.Gen Cert.Kernel3Ideal.Value
open Idealize.ShloMosaic Idealize.ShloMosaic.TcCoe Idealize.SL.Sem
open Idealize.ShloMosaic.Pipeline (Dat Cfg Window)

/-- The index maps over the grid. -/
theorem index_0 : ∀ t : Fin grid0.N, cc0_transform_0 (grid0.coords t) = ![t.val / 9, t.val % 9, 0] := by decide +kernel
theorem index_1 : ∀ t : Fin grid0.N, cc0_transform_1 (grid0.coords t) = ![if t.val % 9 = 8 then 16 else t.val / 9, 0, 0] := by decide +kernel
theorem index_2 : ∀ t : Fin grid0.N, cc0_transform_2 (grid0.coords t) = ![if t.val % 9 = 8 then 16 else t.val / 9, 0, 0] := by decide +kernel
theorem index_3 : ∀ t : Fin grid0.N, cc0_transform_3 (grid0.coords t) = ![0, 0] := by decide +kernel
theorem index_4 : ∀ t : Fin grid0.N, cc0_transform_4 (grid0.coords t) = ![0, 0] := by decide +kernel
theorem index_5 : ∀ t : Fin grid0.N, cc0_transform_5 (grid0.coords t) = ![0, 0] := by decide +kernel
theorem index_6 : ∀ t : Fin grid0.N, cc0_transform_6 (grid0.coords t) = ![0, 0] := by decide +kernel
theorem index_7 : ∀ t : Fin grid0.N, cc0_transform_7 (grid0.coords t) = ![0, 0] := by decide +kernel
theorem index_10 : ∀ t : Fin grid0.N, cc0_transform_10 (grid0.coords t) = ![0, 0] := by decide +kernel
theorem index_14 : ∀ t : Fin grid0.N, cc0_transform_14 (grid0.coords t) = ![t.val / 9, t.val % 9, 0] := by decide +kernel
theorem index_15 : ∀ t : Fin grid0.N, cc0_transform_15 (grid0.coords t) = ![t.val / 9, t.val % 9, 0] := by decide +kernel
theorem index_16 : ∀ t : Fin grid0.N, cc0_transform_16 (grid0.coords t) = ![t.val / 9, t.val % 9, 0] := by decide +kernel
theorem index_17 : ∀ t : Fin grid0.N, cc0_transform_17 (grid0.coords t) = ![t.val / 9, t.val % 9, 0] := by decide +kernel
theorem index_18 : ∀ t : Fin grid0.N, cc0_transform_18 (grid0.coords t) = ![t.val / 9, t.val % 9, 0] := by decide +kernel
theorem index_19 : ∀ t : Fin grid0.N, cc0_transform_19 (grid0.coords t) = ![t.val / 9, t.val % 9, 0] := by decide +kernel
theorem index_20 : ∀ t : Fin grid0.N, cc0_transform_20 (grid0.coords t) = ![t.val / 9, t.val % 9, 0] := by decide +kernel
theorem index_24 : ∀ t : Fin grid0.N, cc0_transform_24 (grid0.coords t) = ![t.val / 9, t.val % 9, 0] := by decide +kernel
theorem index_25 : ∀ t : Fin grid0.N, cc0_transform_25 (grid0.coords t) = ![t.val / 9, t.val % 9, 0] := by decide +kernel

/-- A grid point's place in its sequence. -/
theorem coord : ∀ t : Fin grid0.N, ((grid0.coords t) 1).val = t.val % 9 := by decide +kernel

variable (m : (ℓ : Loc nD τ sig) → Buf (Elt Ideal) ℓ)

/-- The rows at a point. -/
theorem blk_0 (c : Dev nD) (t : Fin grid0.N) (q : Fin 256) (d : Fin 1024) (b : Fin 16) (r : Fin 2304) (hb : b.val = t.val / 9) (hr : r.val = t.val % 9 * 256 + q.val) :
    (iblk m c 0 t : S1x256x1024.Idx → EReal) (ix3 0 q d) = (m ((c : Thread nD τ).loc main_arg0) : S16x2304x1024.Idx → EReal) (ix3 b r d) := by
  refine Eq.trans ?_ (congrArg (fun z => (z : S16x2304x1024.Idx → EReal) (ix3 b r d)) (V_main_arg0 m c))
  refine congrArg (V m c main_arg0 : S16x2304x1024.Idx → _) ?_
  have e : (cfg0.win 0).index t = ![t.val / 9, t.val % 9, 0] := index_0 t
  funext a
  apply Fin.ext
  fin_cases a
  all_goals blk_simp [e]
  all_goals first | omega | rfl | (simp [ix3]; omega) | skip

/-- The scale at a point. -/
theorem blk_1 (c : Dev nD) (t : Fin grid0.N) (d : Fin 1024) (b : Fin 24) (hb : b.val = if t.val % 9 = 8 then 16 else t.val / 9) :
    (iblk m c 1 t : S1x1x1024.Idx → EReal) (ix3 0 0 d) = (1 : EReal) + (m ((c : Thread nD τ).loc main_arg1) : S24x1x1024.Idx → EReal) (ix3 b 0 d) := by
  refine Eq.trans ?_ (entry_30 m c b d)
  refine congrArg (V m c main_v30 : S24x1x1024.Idx → _) ?_
  have e : (cfg0.win 1).index t = ![if t.val % 9 = 8 then 16 else t.val / 9, 0, 0] := index_1 t
  funext a
  apply Fin.ext
  fin_cases a
  all_goals blk_simp [e]
  all_goals first | omega | rfl | (simp [ix3]; omega) | skip

/-- The shift at a point. -/
theorem blk_2 (c : Dev nD) (t : Fin grid0.N) (d : Fin 1024) (b : Fin 24) (hb : b.val = if t.val % 9 = 8 then 16 else t.val / 9) :
    (iblk m c 2 t : S1x1x1024.Idx → EReal) (ix3 0 0 d) = (m ((c : Thread nD τ).loc main_arg2) : S24x1x1024.Idx → EReal) (ix3 b 0 d) := by
  refine Eq.trans ?_ (congrArg (fun z => (z : S24x1x1024.Idx → EReal) (ix3 b 0 d)) (V_main_arg2 m c))
  refine congrArg (V m c main_arg2 : S24x1x1024.Idx → _) ?_
  have e : (cfg0.win 2).index t = ![if t.val % 9 = 8 then 16 else t.val / 9, 0, 0] := index_2 t
  funext a
  apply Fin.ext
  fin_cases a
  all_goals blk_simp [e]
  all_goals first | omega | rfl | (simp [ix3]; omega) | skip

/-- The table at a point. -/
theorem blk_3 (c : Dev nD) (t : Fin grid0.N) (d : Fin 1024) (k : Fin 3584) :
    (iblk m c 3 t : S1024x3584.Idx → EReal) (ix2 d k) = tableT (m ((c : Thread nD τ).loc main_arg3) : S4x1024x3376.Idx → EReal) (ix2 d k) := by
  refine Eq.trans ?_ (congrFun (entry_32 m c) (ix2 d k))
  refine congrArg (V m c main_v32 : S1024x3584.Idx → _) ?_
  have e : (cfg0.win 3).index t = ![0, 0] := index_3 t
  funext a
  apply Fin.ext
  fin_cases a
  all_goals blk_simp [e]
  all_goals first | omega | rfl | (simp [ix2]; done) | (simp [ix2]; omega) | skip

/-- A convolution at a point. -/
theorem blk_4 (c : Dev nD) (t : Fin grid0.N) (j : Fin 3) (k : Fin 768) :
    (iblk m c 4 t : S3x768.Idx → EReal) (ix2 j k) = (m ((c : Thread nD τ).loc main_arg4) : S4x3x768.Idx → EReal) (ix3 0 j k) := by
  refine Eq.trans ?_ (entry_34 m c j k)
  refine congrArg (V m c main_v34 : S3x768.Idx → _) ?_
  have e : (cfg0.win 4).index t = ![0, 0] := index_4 t
  funext a
  apply Fin.ext
  fin_cases a
  all_goals blk_simp [e]
  all_goals first | omega | rfl | (simp [ix2]; done) | (simp [ix2]; omega) | skip

/-- A convolution at a point. -/
theorem blk_7 (c : Dev nD) (t : Fin grid0.N) (j : Fin 3) (k : Fin 256) :
    (iblk m c 7 t : S3x256.Idx → EReal) (ix2 j k) = (m ((c : Thread nD τ).loc main_arg7) : S4x3x256.Idx → EReal) (ix3 0 j k) := by
  refine Eq.trans ?_ (entry_40 m c j k)
  refine congrArg (V m c main_v40 : S3x256.Idx → _) ?_
  have e : (cfg0.win 7).index t = ![0, 0] := index_7 t
  funext a
  apply Fin.ext
  fin_cases a
  all_goals blk_simp [e]
  all_goals first | omega | rfl | (simp [ix2]; done) | (simp [ix2]; omega) | skip

/-- A convolution at a point. -/
theorem blk_10 (c : Dev nD) (t : Fin grid0.N) (j : Fin 3) (k : Fin 768) :
    (iblk m c 10 t : S3x768.Idx → EReal) (ix2 j k) = (m ((c : Thread nD τ).loc main_arg10) : S4x3x768.Idx → EReal) (ix3 0 j k) := by
  refine Eq.trans ?_ (entry_46 m c j k)
  refine congrArg (V m c main_v46 : S3x768.Idx → _) ?_
  have e : (cfg0.win 10).index t = ![0, 0] := index_10 t
  funext a
  apply Fin.ext
  fin_cases a
  all_goals blk_simp [e]
  all_goals first | omega | rfl | (simp [ix2]; done) | (simp [ix2]; omega) | skip

/-- A vector at a point. -/
theorem blk_5 (c : Dev nD) (t : Fin grid0.N) (k : Fin 768) :
    (iblk m c 5 t : S1x768.Idx → EReal) (ix2 0 k) = (m ((c : Thread nD τ).loc main_arg5) : S4x768.Idx → EReal) (ix2 0 k) := by
  refine Eq.trans ?_ (entry_36 m c k)
  refine congrArg (V m c main_v36 : S1x768.Idx → _) ?_
  have e : (cfg0.win 5).index t = ![0, 0] := index_5 t
  funext a
  apply Fin.ext
  fin_cases a
  all_goals blk_simp [e]
  all_goals first | omega | rfl | (simp [ix2]; done) | (simp [ix2]; omega) | skip

/-- A vector at a point. -/
theorem blk_6 (c : Dev nD) (t : Fin grid0.N) (k : Fin 256) :
    (iblk m c 6 t : S1x256.Idx → EReal) (ix2 0 k) = (m ((c : Thread nD τ).loc main_arg6) : S4x256.Idx → EReal) (ix2 0 k) := by
  refine Eq.trans ?_ (entry_38 m c k)
  refine congrArg (V m c main_v38 : S1x256.Idx → _) ?_
  have e : (cfg0.win 6).index t = ![0, 0] := index_6 t
  funext a
  apply Fin.ext
  fin_cases a
  all_goals blk_simp [e]
  all_goals first | omega | rfl | (simp [ix2]; done) | (simp [ix2]; omega) | skip

/-- The projections of a sequence's rows from the call's arguments. -/
def projK (c : Dev nD) (b : Fin 16) (r : Fin 2304) (k : Fin 3376) : EReal :=
  inP (fun b r d => (m ((c : Thread nD τ).loc main_arg0) : S16x2304x1024.Idx → EReal) (ix3 b r d)) (fun b d => (m ((c : Thread nD τ).loc main_arg1) : S24x1x1024.Idx → EReal) (ix3 b 0 d)) (fun b d => (m ((c : Thread nD τ).loc main_arg2) : S24x1x1024.Idx → EReal) (ix3 b 0 d))
    (fun d k => (m ((c : Thread nD τ).loc main_arg3) : S4x1024x3376.Idx → EReal) (ix3 0 d k)) b r k

/-- The first convolution's weights. -/
def w4K (c : Dev nD) (j : Fin 3) (k : Fin 768) : EReal := (m ((c : Thread nD τ).loc main_arg4) : S4x3x768.Idx → EReal) (ix3 0 j k)
/-- The first convolution's bias. -/
def w5K (c : Dev nD) (k : Fin 768) : EReal := (m ((c : Thread nD τ).loc main_arg5) : S4x768.Idx → EReal) (ix2 0 k)
/-- The first mixer's scale. -/
def w6K (c : Dev nD) (k : Fin 256) : EReal := (m ((c : Thread nD τ).loc main_arg6) : S4x256.Idx → EReal) (ix2 0 k)
/-- The second convolution's weights. -/
def w7K (c : Dev nD) (j : Fin 3) (k : Fin 256) : EReal := (m ((c : Thread nD τ).loc main_arg7) : S4x3x256.Idx → EReal) (ix3 0 j k)
/-- The third convolution's weights. -/
def w10K (c : Dev nD) (j : Fin 3) (k : Fin 768) : EReal := (m ((c : Thread nD τ).loc main_arg10) : S4x3x768.Idx → EReal) (ix3 0 j k)

/-- The gate's row at a point. -/
theorem gate_at (t : Fin grid0.N) (q : Fin 256) (b : Fin 16) (r : Fin 2304) (hb : b.val = t.val / 9) (hr : r.val = t.val % 9 * 256 + q.val) :
    (gateRow b r).val = if t.val % 9 = 8 then 16 else t.val / 9 := by
  have := q.isLt
  unfold gateRow
  by_cases h : r.val < 2048
  · rw [if_pos h, if_neg (by omega)]; exact hb
  · rw [if_neg h, if_pos (by omega)]; rfl

/-- A projection in a block is the row's own, once the table's column is the parameters'. -/
theorem proj_at (c : Dev nD) (t : Fin grid0.N) (q : Fin 256) (b : Fin 16) (r : Fin 2304) (hb : b.val = t.val / 9) (hr : r.val = t.val % 9 * 256 + q.val) (k : Fin 3584) (j : Fin 3376)
    (hk : ∀ d, tableT (m ((c : Thread nD τ).loc main_arg3) : S4x1024x3376.Idx → EReal) (ix2 d k) = (m ((c : Thread nD τ).loc main_arg3) : S4x1024x3376.Idx → EReal) (ix3 0 d j)) :
    projB (iblk m c 0 t) (iblk m c 1 t) (iblk m c 2 t) (iblk m c 3 t) q k = projK m c b r j := by
  have hg := gate_at t q b r hb hr
  unfold projB projK inP projRow
  refine Finset.sum_congr rfl fun d _ => ?_
  exact congr (congrArg HMul.hMul (congr (congrArg HAdd.hAdd (congr (congrArg HMul.hMul (blk_0 m c t q d b r hb hr)) (blk_1 m c t d (gateRow b r) hg))) (blk_2 m c t d (gateRow b r) hg)))
    ((blk_3 m c t d k).trans (hk d))

/-- The same for a column before the table's first inserted ones. -/
theorem proj_low (c : Dev nD) (t : Fin grid0.N) (b : Fin 16) (hb : b.val = t.val / 9) (k : Fin 3584) (j : Fin 3376) (hk : k.val < 2336) (hj : j.val = k.val)
    (q : Fin 256) (r : Fin 2304) (hr : r.val = t.val % 9 * 256 + q.val) : projB (iblk m c 0 t) (iblk m c 1 t) (iblk m c 2 t) (iblk m c 3 t) q k = projK m c b r j :=
  proj_at m c t q b r hb hr k j fun d => table_low _ d k j hk hj

/-- The same for a column behind them. -/
theorem proj_high (c : Dev nD) (t : Fin grid0.N) (b : Fin 16) (hb : b.val = t.val / 9) (k : Fin 3584) (j : Fin 3376) (hk : 2432 ≤ k.val) (hj : k.val = j.val + 96)
    (q : Fin 256) (r : Fin 2304) (hr : r.val = t.val % 9 * 256 + q.val) : projB (iblk m c 0 t) (iblk m c 1 t) (iblk m c 2 t) (iblk m c 3 t) q k = projK m c b r j :=
  proj_at m c t q b r hb hr k j fun d => table_high _ d k j hj hk

/-- The first mixer's convolution in a block is the sequence's own. -/
theorem convA_at (c : Dev nD) (t : Fin grid0.N) (q : Fin 256) (b : Fin 16) (r : Fin 2304) (hb : b.val = t.val / 9) (hr : r.val = t.val % 9 * 256 + q.val) (k : Fin 9) (hk : k.val = t.val % 9) (e : Fin 768) :
    convA (iblk m c 0 t) (iblk m c 1 t) (iblk m c 2 t) (iblk m c 3 t) (iblk m c 4 t) (iblk m c 5 t) (tileLen k.val) q e = inU (projK m c b) (w4K m c) (w5K m c) r e := by
  unfold convA inU
  have hw : (fun j : Fin 3 => (iblk m c 4 t : S3x768.Idx → EReal) (ix2 j e)) = fun j => w4K m c j e := funext fun j => blk_4 m c t j e
  refine congr (congrArg HAdd.hAdd ?_) (blk_5 m c t e)
  refine (congrArg (fun w => convB (tileLen k.val) (fun q => projB (iblk m c 0 t) (iblk m c 1 t) (iblk m c 2 t) (iblk m c 3 t) q ⟨e.val, by have := e.isLt; omega⟩) w q) hw).trans ?_
  exact convB_eq k _ (fun r => projK m c b r ⟨e.val, by have := e.isLt; omega⟩) _ q r (by rw [hk]; exact hr)
    fun q' r' h' => proj_low m c t b hb _ _ (by have := e.isLt; show e.val < 2336; omega) rfl q' r' (by rw [← hk]; exact h')

/-- Every place of a sequence lies in one block. -/
theorem place (b : Fin 16) (r : Fin 2304) : ∃ (t : Fin grid0.N) (q : Fin 256) (k : Fin 9), b.val = t.val / 9 ∧ r.val = t.val % 9 * 256 + q.val ∧ k.val = t.val % 9 := by
  have hbl := b.isLt
  have hrl := r.isLt
  have hN : grid0.N = 144 := by decide
  refine ⟨⟨b.val * 9 + r.val / 256, by omega⟩, ⟨r.val % 256, Nat.mod_lt _ (by decide)⟩, ⟨r.val / 256, by omega⟩, ?_, ?_, ?_⟩
  · show b.val = (b.val * 9 + r.val / 256) / 9; omega
  · show r.val = (b.val * 9 + r.val / 256) % 9 * 256 + r.val % 256; omega
  · show r.val / 256 = (b.val * 9 + r.val / 256) % 9; omega

/-- The place of a block's index in output 1. -/
theorem emb_14 (t : Fin grid0.N) (q e : Fin 256) (b : Fin 16) (r : Fin 2304) (hb : b.val = t.val / 9) (hr : r.val = t.val % 9 * 256 + q.val) :
    ((cfg0.win 14).blk t).view.emb (ix3 0 q e : S1x256x256.Idx) = (ix3 b r e : S16x2304x256.Idx) := by
  have h : (cfg0.win 14).index t = ![t.val / 9, t.val % 9, 0] := index_14 t
  funext a
  apply Fin.ext
  fin_cases a
  all_goals blk_simp [h]
  all_goals first | omega | rfl | (simp [ix3]; omega) | skip

/-- Output 1 at a place. -/
theorem result_14 (c : Dev nD) (b : Fin 16) (r : Fin 2304) (e : Fin 256) :
    ((dats m 0 c).arrAt 14 cfg0.N : S16x2304x256.Idx → EReal) (ix3 b r e) = inZ (projK m c b) (w4K m c) (w5K m c) r e := by
  obtain ⟨t, q, k, hb, hr, hk⟩ := place b r
  have hf := congrFun (blocks14 m c t (flush0_14 t)) (ix3 0 q e : S1x256x256.Idx)
  have he := emb_14 t q e b r hb hr
  refine Eq.trans (congrArg ((dats m 0 c).arrAt 14 cfg0.N : S16x2304x256.Idx → EReal) he.symm) (hf.trans ?_)
  rw [flushed14]
  refine (out_14 (grid0.coords t) _ _ _ _ _ _ _ _ _ _ _ _ _ _ k ((coord t).trans hk.symm) q e).trans ?_
  exact congr (congrArg HMul.hMul (convA_at m c t q b r hb hr k hk ⟨256 + e.val, by have := e.isLt; omega⟩)) (convA_at m c t q b r hb hr k hk ⟨512 + e.val, by have := e.isLt; omega⟩)

/-- The place of a block's index in output 2. -/
theorem emb_15 (t : Fin grid0.N) (q e : Fin 256) (b : Fin 16) (r : Fin 2304) (hb : b.val = t.val / 9) (hr : r.val = t.val % 9 * 256 + q.val) :
    ((cfg0.win 15).blk t).view.emb (ix3 0 q e : S1x256x256.Idx) = (ix3 b r e : S16x2304x256.Idx) := by
  have h : (cfg0.win 15).index t = ![t.val / 9, t.val % 9, 0] := index_15 t
  funext a
  apply Fin.ext
  fin_cases a
  all_goals blk_simp [h]
  all_goals first | omega | rfl | (simp [ix3]; omega) | skip

/-- Output 2 at a place. -/
theorem result_15 (c : Dev nD) (b : Fin 16) (r : Fin 2304) (e : Fin 256) :
    ((dats m 0 c).arrAt 15 cfg0.N : S16x2304x256.Idx → EReal) (ix3 b r e) = inZ (projK m c b) (w4K m c) (w5K m c) r e * w6K m c e := by
  obtain ⟨t, q, k, hb, hr, hk⟩ := place b r
  have hf := congrFun (blocks15 m c t (flush0_15 t)) (ix3 0 q e : S1x256x256.Idx)
  have he := emb_15 t q e b r hb hr
  refine Eq.trans (congrArg ((dats m 0 c).arrAt 15 cfg0.N : S16x2304x256.Idx → EReal) he.symm) (hf.trans ?_)
  rw [flushed15]
  refine (out_15 (grid0.coords t) _ _ _ _ _ _ _ _ _ _ _ _ _ _ k ((coord t).trans hk.symm) q e).trans ?_
  exact congr (congrArg HMul.hMul (congr (congrArg HMul.hMul (convA_at m c t q b r hb hr k hk ⟨256 + e.val, by have := e.isLt; omega⟩)) (convA_at m c t q b r hb hr k hk ⟨512 + e.val, by have := e.isLt; omega⟩))) (blk_6 m c t e)

/-- The place of a block's index in output 3. -/
theorem emb_16 (t : Fin grid0.N) (q e : Fin 256) (b : Fin 16) (r : Fin 2304) (hb : b.val = t.val / 9) (hr : r.val = t.val % 9 * 256 + q.val) :
    ((cfg0.win 16).blk t).view.emb (ix3 0 q e : S1x256x256.Idx) = (ix3 b r e : S16x2304x256.Idx) := by
  have h : (cfg0.win 16).index t = ![t.val / 9, t.val % 9, 0] := index_16 t
  funext a
  apply Fin.ext
  fin_cases a
  all_goals blk_simp [h]
  all_goals first | omega | rfl | (simp [ix3]; omega) | skip

/-- Output 3 at a place. -/
theorem result_16 (c : Dev nD) (b : Fin 16) (r : Fin 2304) (e : Fin 256) :
    ((dats m 0 c).arrAt 16 cfg0.N : S16x2304x256.Idx → EReal) (ix3 b r e) = inU (projK m c b) (w4K m c) (w5K m c) r ⟨e.val, by have := e.isLt; omega⟩ := by
  obtain ⟨t, q, k, hb, hr, hk⟩ := place b r
  have hf := congrFun (blocks16 m c t (flush0_16 t)) (ix3 0 q e : S1x256x256.Idx)
  have he := emb_16 t q e b r hb hr
  refine Eq.trans (congrArg ((dats m 0 c).arrAt 16 cfg0.N : S16x2304x256.Idx → EReal) he.symm) (hf.trans ?_)
  rw [flushed16]
  refine (out_16 (grid0.coords t) _ _ _ _ _ _ _ _ _ _ _ _ _ _ k ((coord t).trans hk.symm) q e).trans ?_
  exact convA_at m c t q b r hb hr k hk ⟨e.val, by have := e.isLt; omega⟩

/-- The place of a block's index in output 4. -/
theorem emb_17 (t : Fin grid0.N) (q e : Fin 256) (b : Fin 16) (r : Fin 2304) (hb : b.val = t.val / 9) (hr : r.val = t.val % 9 * 256 + q.val) :
    ((cfg0.win 17).blk t).view.emb (ix3 0 q e : S1x256x256.Idx) = (ix3 b r e : S16x2304x256.Idx) := by
  have h : (cfg0.win 17).index t = ![t.val / 9, t.val % 9, 0] := index_17 t
  funext a
  apply Fin.ext
  fin_cases a
  all_goals blk_simp [h]
  all_goals first | omega | rfl | (simp [ix3]; omega) | skip

/-- Output 4 at a place. -/
theorem result_17 (c : Dev nD) (b : Fin 16) (r : Fin 2304) (e : Fin 256) :
    ((dats m 0 c).arrAt 17 cfg0.N : S16x2304x256.Idx → EReal) (ix3 b r e) = inY (projK m c b) (w7K m c) r e := by
  obtain ⟨t, q, k, hb, hr, hk⟩ := place b r
  have hf := congrFun (blocks17 m c t (flush0_17 t)) (ix3 0 q e : S1x256x256.Idx)
  have he := emb_17 t q e b r hb hr
  refine Eq.trans (congrArg ((dats m 0 c).arrAt 17 cfg0.N : S16x2304x256.Idx → EReal) he.symm) (hf.trans ?_)
  rw [flushed17]
  refine (out_17 (grid0.coords t) _ _ _ _ _ _ _ _ _ _ _ _ _ _ k ((coord t).trans hk.symm) q e).trans ?_
  unfold inY
  refine congr (congrArg HMul.hMul (proj_low m c t b hb ⟨768 + e.val, by have := e.isLt; omega⟩ ⟨768 + e.val, by have := e.isLt; omega⟩ (by have := e.isLt; show 768 + e.val < 2336; omega) rfl q r hr)) ?_
  have hw : (fun j : Fin 3 => (iblk m c 7 t : S3x256.Idx → EReal) (ix2 j e)) = fun j => w7K m c j e := funext fun j => blk_7 m c t j e
  refine (congrArg (fun w => convB (tileLen k.val) _ w q) hw).trans ?_
  exact convB_eq k _ (fun r => projK m c b r ⟨1024 + e.val, by have := e.isLt; omega⟩ * projK m c b r ⟨1280 + e.val, by have := e.isLt; omega⟩) _ q r (by rw [hk]; exact hr)
    fun q' r' h' => congr (congrArg HMul.hMul (proj_low m c t b hb _ _ (by have := e.isLt; show 1024 + e.val < 2336; omega) rfl q' r' (by rw [← hk]; exact h')))
      (proj_low m c t b hb _ _ (by have := e.isLt; show 1280 + e.val < 2336; omega) rfl q' r' (by rw [← hk]; exact h'))

/-- The place of a block's index in output 5. -/
theorem emb_18 (t : Fin grid0.N) (q e : Fin 256) (b : Fin 16) (r : Fin 2304) (hb : b.val = t.val / 9) (hr : r.val = t.val % 9 * 256 + q.val) :
    ((cfg0.win 18).blk t).view.emb (ix3 0 q e : S1x256x256.Idx) = (ix3 b r e : S16x2304x256.Idx) := by
  have h : (cfg0.win 18).index t = ![t.val / 9, t.val % 9, 0] := index_18 t
  funext a
  apply Fin.ext
  fin_cases a
  all_goals blk_simp [h]
  all_goals first | omega | rfl | (simp [ix3]; omega) | skip

/-- Output 5 at a place. -/
theorem result_18 (c : Dev nD) (b : Fin 16) (r : Fin 2304) (e : Fin 256) :
    ((dats m 0 c).arrAt 18 cfg0.N : S16x2304x256.Idx → EReal) (ix3 b r e) = projK m c b r ⟨1536 + e.val, by have := e.isLt; omega⟩ := by
  obtain ⟨t, q, k, hb, hr, hk⟩ := place b r
  have hf := congrFun (blocks18 m c t (flush0_18 t)) (ix3 0 q e : S1x256x256.Idx)
  have he := emb_18 t q e b r hb hr
  refine Eq.trans (congrArg ((dats m 0 c).arrAt 18 cfg0.N : S16x2304x256.Idx → EReal) he.symm) (hf.trans ?_)
  rw [flushed18]
  refine (out_18 (grid0.coords t) _ _ _ _ _ _ _ _ _ _ _ _ _ _ k q e).trans ?_
  exact proj_low m c t b hb ⟨1536 + e.val, by have := e.isLt; omega⟩ ⟨1536 + e.val, by have := e.isLt; omega⟩ (by have := e.isLt; show 1536 + e.val < 2336; omega) rfl q r hr

/-- The place of a block's index in output 6. -/
theorem emb_19 (t : Fin grid0.N) (q e : Fin 256) (b : Fin 16) (r : Fin 2304) (hb : b.val = t.val / 9) (hr : r.val = t.val % 9 * 256 + q.val) :
    ((cfg0.win 19).blk t).view.emb (ix3 0 q e : S1x256x256.Idx) = (ix3 b r e : S16x2304x256.Idx) := by
  have h : (cfg0.win 19).index t = ![t.val / 9, t.val % 9, 0] := index_19 t
  funext a
  apply Fin.ext
  fin_cases a
  all_goals blk_simp [h]
  all_goals first | omega | rfl | (simp [ix3]; omega) | skip

/-- Output 6 at a place. -/
theorem result_19 (c : Dev nD) (b : Fin 16) (r : Fin 2304) (e : Fin 256) :
    ((dats m 0 c).arrAt 19 cfg0.N : S16x2304x256.Idx → EReal) (ix3 b r e) = projK m c b r ⟨1792 + e.val, by have := e.isLt; omega⟩ := by
  obtain ⟨t, q, k, hb, hr, hk⟩ := place b r
  have hf := congrFun (blocks19 m c t (flush0_19 t)) (ix3 0 q e : S1x256x256.Idx)
  have he := emb_19 t q e b r hb hr
  refine Eq.trans (congrArg ((dats m 0 c).arrAt 19 cfg0.N : S16x2304x256.Idx → EReal) he.symm) (hf.trans ?_)
  rw [flushed19]
  refine (out_19 (grid0.coords t) _ _ _ _ _ _ _ _ _ _ _ _ _ _ k q e).trans ?_
  exact proj_low m c t b hb ⟨1792 + e.val, by have := e.isLt; omega⟩ ⟨1792 + e.val, by have := e.isLt; omega⟩ (by have := e.isLt; show 1792 + e.val < 2336; omega) rfl q r hr

/-- The place of a block's index in output 7. -/
theorem emb_20 (t : Fin grid0.N) (q e : Fin 256) (b : Fin 16) (r : Fin 2304) (hb : b.val = t.val / 9) (hr : r.val = t.val % 9 * 256 + q.val) :
    ((cfg0.win 20).blk t).view.emb (ix3 0 q e : S1x256x256.Idx) = (ix3 b r e : S16x2304x256.Idx) := by
  have h : (cfg0.win 20).index t = ![t.val / 9, t.val % 9, 0] := index_20 t
  funext a
  apply Fin.ext
  fin_cases a
  all_goals blk_simp [h]
  all_goals first | omega | rfl | (simp [ix3]; omega) | skip

/-- Output 7 at a place. -/
theorem result_20 (c : Dev nD) (b : Fin 16) (r : Fin 2304) (e : Fin 256) :
    ((dats m 0 c).arrAt 20 cfg0.N : S16x2304x256.Idx → EReal) (ix3 b r e) = projK m c b r ⟨2048 + e.val, by have := e.isLt; omega⟩ := by
  obtain ⟨t, q, k, hb, hr, hk⟩ := place b r
  have hf := congrFun (blocks20 m c t (flush0_20 t)) (ix3 0 q e : S1x256x256.Idx)
  have he := emb_20 t q e b r hb hr
  refine Eq.trans (congrArg ((dats m 0 c).arrAt 20 cfg0.N : S16x2304x256.Idx → EReal) he.symm) (hf.trans ?_)
  rw [flushed20]
  refine (out_20 (grid0.coords t) _ _ _ _ _ _ _ _ _ _ _ _ _ _ k q e).trans ?_
  exact proj_low m c t b hb ⟨2048 + e.val, by have := e.isLt; omega⟩ ⟨2048 + e.val, by have := e.isLt; omega⟩ (by have := e.isLt; show 2048 + e.val < 2336; omega) rfl q r hr

/-- The place of a block's index in output 11. -/
theorem emb_24 (t : Fin grid0.N) (q e : Fin 256) (b : Fin 16) (r : Fin 2304) (hb : b.val = t.val / 9) (hr : r.val = t.val % 9 * 256 + q.val) :
    ((cfg0.win 24).blk t).view.emb (ix3 0 q e : S1x256x256.Idx) = (ix3 b r e : S16x2304x256.Idx) := by
  have h : (cfg0.win 24).index t = ![t.val / 9, t.val % 9, 0] := index_24 t
  funext a
  apply Fin.ext
  fin_cases a
  all_goals blk_simp [h]
  all_goals first | omega | rfl | (simp [ix3]; omega) | skip

/-- Output 11 at a place. -/
theorem result_24 (c : Dev nD) (b : Fin 16) (r : Fin 2304) (e : Fin 256) :
    ((dats m 0 c).arrAt 24 cfg0.N : S16x2304x256.Idx → EReal) (ix3 b r e) = inV (projK m c b) (w10K m c) r e := by
  obtain ⟨t, q, k, hb, hr, hk⟩ := place b r
  have hf := congrFun (blocks24 m c t (flush0_24 t)) (ix3 0 q e : S1x256x256.Idx)
  have he := emb_24 t q e b r hb hr
  refine Eq.trans (congrArg ((dats m 0 c).arrAt 24 cfg0.N : S16x2304x256.Idx → EReal) he.symm) (hf.trans ?_)
  rw [flushed24]
  refine (out_24 (grid0.coords t) _ _ _ _ _ _ _ _ _ _ _ _ _ _ k ((coord t).trans hk.symm) q e).trans ?_
  unfold inV
  refine congrArg inS ?_
  have hw : (fun j : Fin 3 => (iblk m c 10 t : S3x768.Idx → EReal) (ix2 j ⟨512 + e.val, by have := e.isLt; omega⟩)) = fun j => w10K m c j ⟨512 + e.val, by have := e.isLt; omega⟩ := funext fun j => blk_10 m c t j _
  refine (congrArg (fun w => convB (tileLen k.val) _ w q) hw).trans ?_
  exact convB_eq k _ (fun r => projK m c b r ⟨2848 + e.val, by have := e.isLt; omega⟩) _ q r (by rw [hk]; exact hr)
    fun q' r' h' => proj_high m c t b hb _ _ (by show 2432 ≤ 2944 + e.val; omega) (by show 2944 + e.val = 2848 + e.val + 96; omega) q' r' (by rw [← hk]; exact h')

/-- The place of a block's index in output 12. -/
theorem emb_25 (t : Fin grid0.N) (q e : Fin 256) (b : Fin 16) (r : Fin 2304) (hb : b.val = t.val / 9) (hr : r.val = t.val % 9 * 256 + q.val) :
    ((cfg0.win 25).blk t).view.emb (ix3 0 q e : S1x256x256.Idx) = (ix3 b r e : S16x2304x256.Idx) := by
  have h : (cfg0.win 25).index t = ![t.val / 9, t.val % 9, 0] := index_25 t
  funext a
  apply Fin.ext
  fin_cases a
  all_goals blk_simp [h]
  all_goals first | omega | rfl | (simp [ix3]; omega) | skip

/-- Output 12 at a place. -/
theorem result_25 (c : Dev nD) (b : Fin 16) (r : Fin 2304) (e : Fin 256) :
    ((dats m 0 c).arrAt 25 cfg0.N : S16x2304x256.Idx → EReal) (ix3 b r e) = projK m c b r ⟨3104 + e.val, by have := e.isLt; omega⟩ := by
  obtain ⟨t, q, k, hb, hr, hk⟩ := place b r
  have hf := congrFun (blocks25 m c t (flush0_25 t)) (ix3 0 q e : S1x256x256.Idx)
  have he := emb_25 t q e b r hb hr
  refine Eq.trans (congrArg ((dats m 0 c).arrAt 25 cfg0.N : S16x2304x256.Idx → EReal) he.symm) (hf.trans ?_)
  rw [flushed25]
  refine (out_25 (grid0.coords t) _ _ _ _ _ _ _ _ _ _ _ _ _ _ k q e).trans ?_
  exact proj_high m c t b hb ⟨3200 + e.val, by have := e.isLt; omega⟩ ⟨3104 + e.val, by have := e.isLt; omega⟩ (by show 2432 ≤ 3200 + e.val; omega) (by show 3200 + e.val = 3104 + e.val + 96; omega) q r hr

end Cert.Proof.Kernel3Ideal

end
-- ==== Proof.InConv.lean ====
/-
  The convolution over neighbouring rows as the reference states it, stretch by stretch on rows set between zero rows, read at one place.
-/
module

public import proofs.«01_k».proof.Proof.Gen.Reference3Ideal.Run
public import proofs.«01_k».proof.Proof.InSpec
public import Idealize.ShloMosaic.Lib.Tactic

@[expose] public section

set_option maxRecDepth 16384

noncomputable section

namespace Cert.Proof.Reference3

open Cert.Reference3Ideal Cert.Reference3Ideal.Value Cert.Reference3Ideal.Gen
open Idealize.ShloMosaic Idealize.ShloMosaic.TcCoe

/-- The integer zero is the number zero. -/
theorem zero_word : (FloatOps.sitofp (F := Ideal) FTy.f32 (0#32) : EReal) = 0 := by
  show (((0#32 : BitVec 32).toInt : ℝ) : EReal) = 0
  simp

/-- The rows 0 to 2047, every stretch of 64 set between two zero rows. -/
def padL768 (p : FVec Ideal S16x2304x768 .f32) : FVec Ideal S16x32x66x768 .f32 :=
  pad S16x32x66x768 ![0, 0, 1, 0] ![0, 0, 1, 0] ![0, 0, 0, 0] (shapeCast S16x32x64x768 (extractStridedSlice S16x2048x768 ![0, 0, 0] p slices_S16x2304x768_S16x2048x768_0_0_0) shapeCasts_S16x2048x768_S16x32x64x768)
    (sitofp (F := Ideal) .f32 (constantI S_ 32 0#32)) pads_S16x32x64x768_S16x32x66x768_000_000_110_000 h_S_

/-- The three neighbours' sum over these rows. -/
def convL768 (z : FVec Ideal S16x32x66x768 .f32) (w : FVec Ideal S3x768 .f32) : FVec Ideal S16x2048x768 .f32 :=
  shapeCast S16x2048x768 (addf (addf
    (mulf (extractStridedSlice S16x32x64x768 ![0, 0, 0, 0] z slices_S16x32x66x768_S16x32x64x768_0_0_0_0) (broadcastInDim S16x32x64x768 ![0, 1, 2, 3] bcast_S1x1x1x768_S16x32x64x768_0_1_2_3 (broadcastInDim S1x1x1x768 ![3] bcast_S768_S1x1x1x768_3 (shapeCast S768 (extractStridedSlice S1x768 ![0, 0] w slices_S3x768_S1x768_0_0) shapeCasts_S1x768_S768))))
    (mulf (extractStridedSlice S16x32x64x768 ![0, 0, 1, 0] z slices_S16x32x66x768_S16x32x64x768_0_0_1_0) (broadcastInDim S16x32x64x768 ![0, 1, 2, 3] bcast_S1x1x1x768_S16x32x64x768_0_1_2_3 (broadcastInDim S1x1x1x768 ![3] bcast_S768_S1x1x1x768_3 (shapeCast S768 (extractStridedSlice S1x768 ![1, 0] w slices_S3x768_S1x768_1_0) shapeCasts_S1x768_S768)))))
    (mulf (extractStridedSlice S16x32x64x768 ![0, 0, 2, 0] z slices_S16x32x66x768_S16x32x64x768_0_0_2_0) (broadcastInDim S16x32x64x768 ![0, 1, 2, 3] bcast_S1x1x1x768_S16x32x64x768_0_1_2_3 (broadcastInDim S1x1x1x768 ![3] bcast_S768_S1x1x1x768_3 (shapeCast S768 (extractStridedSlice S1x768 ![2, 0] w slices_S3x768_S1x768_2_0) shapeCasts_S1x768_S768)))))
    shapeCasts_S16x32x64x768_S16x2048x768

/-- The zero rows around a stretch. -/
theorem padL768_zero (p : FVec Ideal S16x2304x768 .f32) (b : Fin 16) (i : Fin 32) (j : Fin 66) (c : Fin 768) (h : j.val = 0 ∨ j.val = 65) : padL768 p (ix4 b i j c) = 0 := by
  have := i.isLt
  have := j.isLt
  pointwise [padL768]
  rw [dif_neg (by omega)]
  exact zero_word

/-- The rows of a stretch. -/
theorem padL768_mid (p : FVec Ideal S16x2304x768 .f32) (b : Fin 16) (i : Fin 32) (j : Fin 66) (c : Fin 768) (r : Fin 2304) (h : 1 ≤ j.val) (h' : j.val < 65)
    (hr : r.val = 0 + i.val * 64 + (j.val - 1)) : padL768 p (ix4 b i j c) = p (ix3 b r c) := by
  have := i.isLt
  have := j.isLt
  pointwise [padL768]
  rw [dif_pos (by omega)]
  exact congrArg (fun z => p (ix3 b z c)) (Fin.ext (by simp only []; omega))

/-- The neighbours' sum at a row. -/
theorem convL768_apply (z : FVec Ideal S16x32x66x768 .f32) (w : FVec Ideal S3x768 .f32) (b : Fin 16) (r : Fin 2048) (c : Fin 768) :
    convL768 z w (ix3 b r c) = z (ix4 b ⟨r.val / 64, by have := r.isLt; omega⟩ ⟨r.val % 64, by omega⟩ c) * w (ix2 0 c) + z (ix4 b ⟨r.val / 64, by have := r.isLt; omega⟩ ⟨1 + r.val % 64, by omega⟩ c) * w (ix2 1 c) + z (ix4 b ⟨r.val / 64, by have := r.isLt; omega⟩ ⟨2 + r.val % 64, by omega⟩ c) * w (ix2 2 c) := by
  have := r.isLt
  pointwise [convL768]

/-- The rows 2048 to 2303, every stretch of 256 set between two zero rows. -/
def padR768 (p : FVec Ideal S16x2304x768 .f32) : FVec Ideal S16x1x258x768 .f32 :=
  pad S16x1x258x768 ![0, 0, 1, 0] ![0, 0, 1, 0] ![0, 0, 0, 0] (shapeCast S16x1x256x768 (extractStridedSlice S16x256x768 ![0, 2048, 0] p slices_S16x2304x768_S16x256x768_0_2048_0) shapeCasts_S16x256x768_S16x1x256x768)
    (sitofp (F := Ideal) .f32 (constantI S_ 32 0#32)) pads_S16x1x256x768_S16x1x258x768_000_000_110_000 h_S_

/-- The three neighbours' sum over these rows. -/
def convR768 (z : FVec Ideal S16x1x258x768 .f32) (w : FVec Ideal S3x768 .f32) : FVec Ideal S16x256x768 .f32 :=
  shapeCast S16x256x768 (addf (addf
    (mulf (extractStridedSlice S16x1x256x768 ![0, 0, 0, 0] z slices_S16x1x258x768_S16x1x256x768_0_0_0_0) (broadcastInDim S16x1x256x768 ![0, 1, 2, 3] bcast_S1x1x1x768_S16x1x256x768_0_1_2_3 (broadcastInDim S1x1x1x768 ![3] bcast_S768_S1x1x1x768_3 (shapeCast S768 (extractStridedSlice S1x768 ![0, 0] w slices_S3x768_S1x768_0_0) shapeCasts_S1x768_S768))))
    (mulf (extractStridedSlice S16x1x256x768 ![0, 0, 1, 0] z slices_S16x1x258x768_S16x1x256x768_0_0_1_0) (broadcastInDim S16x1x256x768 ![0, 1, 2, 3] bcast_S1x1x1x768_S16x1x256x768_0_1_2_3 (broadcastInDim S1x1x1x768 ![3] bcast_S768_S1x1x1x768_3 (shapeCast S768 (extractStridedSlice S1x768 ![1, 0] w slices_S3x768_S1x768_1_0) shapeCasts_S1x768_S768)))))
    (mulf (extractStridedSlice S16x1x256x768 ![0, 0, 2, 0] z slices_S16x1x258x768_S16x1x256x768_0_0_2_0) (broadcastInDim S16x1x256x768 ![0, 1, 2, 3] bcast_S1x1x1x768_S16x1x256x768_0_1_2_3 (broadcastInDim S1x1x1x768 ![3] bcast_S768_S1x1x1x768_3 (shapeCast S768 (extractStridedSlice S1x768 ![2, 0] w slices_S3x768_S1x768_2_0) shapeCasts_S1x768_S768)))))
    shapeCasts_S16x1x256x768_S16x256x768

/-- The zero rows around a stretch. -/
theorem padR768_zero (p : FVec Ideal S16x2304x768 .f32) (b : Fin 16) (i : Fin 1) (j : Fin 258) (c : Fin 768) (h : j.val = 0 ∨ j.val = 257) : padR768 p (ix4 b i j c) = 0 := by
  have := i.isLt
  have := j.isLt
  pointwise [padR768]
  rw [dif_neg (by omega)]
  exact zero_word

/-- The rows of a stretch. -/
theorem padR768_mid (p : FVec Ideal S16x2304x768 .f32) (b : Fin 16) (i : Fin 1) (j : Fin 258) (c : Fin 768) (r : Fin 2304) (h : 1 ≤ j.val) (h' : j.val < 257)
    (hr : r.val = 2048 + i.val * 256 + (j.val - 1)) : padR768 p (ix4 b i j c) = p (ix3 b r c) := by
  have := i.isLt
  have := j.isLt
  pointwise [padR768]
  rw [dif_pos (by omega)]
  exact congrArg (fun z => p (ix3 b z c)) (Fin.ext (by simp only []; omega))

/-- The neighbours' sum at a row. -/
theorem convR768_apply (z : FVec Ideal S16x1x258x768 .f32) (w : FVec Ideal S3x768 .f32) (b : Fin 16) (r : Fin 256) (c : Fin 768) :
    convR768 z w (ix3 b r c) = z (ix4 b 0 ⟨r.val, by have := r.isLt; omega⟩ c) * w (ix2 0 c) + z (ix4 b 0 ⟨1 + r.val, by have := r.isLt; omega⟩ c) * w (ix2 1 c) + z (ix4 b 0 ⟨2 + r.val, by have := r.isLt; omega⟩ c) * w (ix2 2 c) := by
  have := r.isLt
  pointwise [convR768]

/-- The convolution over the whole sequence. -/
def conv768 (p : FVec Ideal S16x2304x768 .f32) (w : FVec Ideal S3x768 .f32) : FVec Ideal S16x2304x768 .f32 :=
  concatenate S16x2304x768 1 [⟨S16x2048x768, convL768 (padL768 p) w⟩, ⟨S16x256x768, convR768 (padR768 p) w⟩] concatenates_S16x2048x768_S16x256x768_S16x2304x768_d1

/-- The convolution at a row. -/
theorem conv768_apply (p : FVec Ideal S16x2304x768 .f32) (w : FVec Ideal S3x768 .f32) (b : Fin 16) (r : Fin 2304) (c : Fin 768) :
    conv768 p w (ix3 b r c) = conv3 (fun r => p (ix3 b r c)) (fun j => w (ix2 j c)) r := by
  have := r.isLt
  pointwise [conv768]
  by_cases hr : r.val < 2048
  · have hs : stretch r = 64 := if_pos hr
    rw [dif_pos hr, convL768_apply]
    unfold conv3
    rw [hs]
    refine congr (congrArg _ (congr (congrArg _ ?_) ?_)) ?_
    · by_cases h : r.val % 64 = 0
      · rw [if_pos h, padL768_zero _ _ _ _ _ (Or.inl (by simp only []; omega)), zero_mul]
      · rw [if_neg h, padL768_mid _ _ _ _ _ ⟨r.val - 1, by omega⟩ (by simp only []; omega) (by simp only []; omega) (by simp; omega)]
    · rw [padL768_mid _ _ _ _ _ r (by simp only []; omega) (by simp only []; omega) (by simp; omega)]
    · by_cases h : r.val % 64 = 64 - 1
      · rw [if_pos h, padL768_zero _ _ _ _ _ (Or.inr (by simp only []; omega)), zero_mul]
      · rw [if_neg h, padL768_mid _ _ _ _ _ ⟨(r.val + 1) % 2304, Nat.mod_lt _ (by decide)⟩ (by simp only []; omega) (by simp only []; omega) (by simp; omega)]
  · have hs : stretch r = 256 := if_neg hr
    rw [dif_neg hr, convR768_apply]
    unfold conv3
    rw [hs]
    refine congr (congrArg _ (congr (congrArg _ ?_) ?_)) ?_
    · by_cases h : r.val % 256 = 0
      · rw [if_pos h, padR768_zero _ _ _ _ _ (Or.inl (by simp only []; omega)), zero_mul]
      · rw [if_neg h, padR768_mid _ _ _ _ _ ⟨r.val - 1, by omega⟩ (by simp only []; omega) (by simp only []; omega) (by simp; omega)]
    · rw [padR768_mid _ _ _ _ _ r (by simp only []; omega) (by simp only []; omega) (by simp; omega)]
    · by_cases h : r.val % 256 = 256 - 1
      · rw [if_pos h, padR768_zero _ _ _ _ _ (Or.inr (by simp only []; omega)), zero_mul]
      · rw [if_neg h, padR768_mid _ _ _ _ _ ⟨(r.val + 1) % 2304, Nat.mod_lt _ (by decide)⟩ (by simp only []; omega) (by simp only []; omega) (by simp; omega)]

/-- The rows 0 to 2047, every stretch of 64 set between two zero rows. -/
def padL256 (p : FVec Ideal S16x2304x256 .f32) : FVec Ideal S16x32x66x256 .f32 :=
  pad S16x32x66x256 ![0, 0, 1, 0] ![0, 0, 1, 0] ![0, 0, 0, 0] (shapeCast S16x32x64x256 (extractStridedSlice S16x2048x256 ![0, 0, 0] p slices_S16x2304x256_S16x2048x256_0_0_0) shapeCasts_S16x2048x256_S16x32x64x256)
    (sitofp (F := Ideal) .f32 (constantI S_ 32 0#32)) pads_S16x32x64x256_S16x32x66x256_000_000_110_000 h_S_

/-- The three neighbours' sum over these rows. -/
def convL256 (z : FVec Ideal S16x32x66x256 .f32) (w : FVec Ideal S3x256 .f32) : FVec Ideal S16x2048x256 .f32 :=
  shapeCast S16x2048x256 (addf (addf
    (mulf (extractStridedSlice S16x32x64x256 ![0, 0, 0, 0] z slices_S16x32x66x256_S16x32x64x256_0_0_0_0) (broadcastInDim S16x32x64x256 ![0, 1, 2, 3] bcast_S1x1x1x256_S16x32x64x256_0_1_2_3 (broadcastInDim S1x1x1x256 ![3] bcast_S256_S1x1x1x256_3 (shapeCast S256 (extractStridedSlice S1x256 ![0, 0] w slices_S3x256_S1x256_0_0) shapeCasts_S1x256_S256))))
    (mulf (extractStridedSlice S16x32x64x256 ![0, 0, 1, 0] z slices_S16x32x66x256_S16x32x64x256_0_0_1_0) (broadcastInDim S16x32x64x256 ![0, 1, 2, 3] bcast_S1x1x1x256_S16x32x64x256_0_1_2_3 (broadcastInDim S1x1x1x256 ![3] bcast_S256_S1x1x1x256_3 (shapeCast S256 (extractStridedSlice S1x256 ![1, 0] w slices_S3x256_S1x256_1_0) shapeCasts_S1x256_S256)))))
    (mulf (extractStridedSlice S16x32x64x256 ![0, 0, 2, 0] z slices_S16x32x66x256_S16x32x64x256_0_0_2_0) (broadcastInDim S16x32x64x256 ![0, 1, 2, 3] bcast_S1x1x1x256_S16x32x64x256_0_1_2_3 (broadcastInDim S1x1x1x256 ![3] bcast_S256_S1x1x1x256_3 (shapeCast S256 (extractStridedSlice S1x256 ![2, 0] w slices_S3x256_S1x256_2_0) shapeCasts_S1x256_S256)))))
    shapeCasts_S16x32x64x256_S16x2048x256

/-- The zero rows around a stretch. -/
theorem padL256_zero (p : FVec Ideal S16x2304x256 .f32) (b : Fin 16) (i : Fin 32) (j : Fin 66) (c : Fin 256) (h : j.val = 0 ∨ j.val = 65) : padL256 p (ix4 b i j c) = 0 := by
  have := i.isLt
  have := j.isLt
  pointwise [padL256]
  rw [dif_neg (by omega)]
  exact zero_word

/-- The rows of a stretch. -/
theorem padL256_mid (p : FVec Ideal S16x2304x256 .f32) (b : Fin 16) (i : Fin 32) (j : Fin 66) (c : Fin 256) (r : Fin 2304) (h : 1 ≤ j.val) (h' : j.val < 65)
    (hr : r.val = 0 + i.val * 64 + (j.val - 1)) : padL256 p (ix4 b i j c) = p (ix3 b r c) := by
  have := i.isLt
  have := j.isLt
  pointwise [padL256]
  rw [dif_pos (by omega)]
  exact congrArg (fun z => p (ix3 b z c)) (Fin.ext (by simp only []; omega))

/-- The neighbours' sum at a row. -/
theorem convL256_apply (z : FVec Ideal S16x32x66x256 .f32) (w : FVec Ideal S3x256 .f32) (b : Fin 16) (r : Fin 2048) (c : Fin 256) :
    convL256 z w (ix3 b r c) = z (ix4 b ⟨r.val / 64, by have := r.isLt; omega⟩ ⟨r.val % 64, by omega⟩ c) * w (ix2 0 c) + z (ix4 b ⟨r.val / 64, by have := r.isLt; omega⟩ ⟨1 + r.val % 64, by omega⟩ c) * w (ix2 1 c) + z (ix4 b ⟨r.val / 64, by have := r.isLt; omega⟩ ⟨2 + r.val % 64, by omega⟩ c) * w (ix2 2 c) := by
  have := r.isLt
  pointwise [convL256]

/-- The rows 2048 to 2303, every stretch of 256 set between two zero rows. -/
def padR256 (p : FVec Ideal S16x2304x256 .f32) : FVec Ideal S16x1x258x256 .f32 :=
  pad S16x1x258x256 ![0, 0, 1, 0] ![0, 0, 1, 0] ![0, 0, 0, 0] (shapeCast S16x1x256x256 (extractStridedSlice S16x256x256 ![0, 2048, 0] p slices_S16x2304x256_S16x256x256_0_2048_0) shapeCasts_S16x256x256_S16x1x256x256)
    (sitofp (F := Ideal) .f32 (constantI S_ 32 0#32)) pads_S16x1x256x256_S16x1x258x256_000_000_110_000 h_S_

/-- The three neighbours' sum over these rows. -/
def convR256 (z : FVec Ideal S16x1x258x256 .f32) (w : FVec Ideal S3x256 .f32) : FVec Ideal S16x256x256 .f32 :=
  shapeCast S16x256x256 (addf (addf
    (mulf (extractStridedSlice S16x1x256x256 ![0, 0, 0, 0] z slices_S16x1x258x256_S16x1x256x256_0_0_0_0) (broadcastInDim S16x1x256x256 ![0, 1, 2, 3] bcast_S1x1x1x256_S16x1x256x256_0_1_2_3 (broadcastInDim S1x1x1x256 ![3] bcast_S256_S1x1x1x256_3 (shapeCast S256 (extractStridedSlice S1x256 ![0, 0] w slices_S3x256_S1x256_0_0) shapeCasts_S1x256_S256))))
    (mulf (extractStridedSlice S16x1x256x256 ![0, 0, 1, 0] z slices_S16x1x258x256_S16x1x256x256_0_0_1_0) (broadcastInDim S16x1x256x256 ![0, 1, 2, 3] bcast_S1x1x1x256_S16x1x256x256_0_1_2_3 (broadcastInDim S1x1x1x256 ![3] bcast_S256_S1x1x1x256_3 (shapeCast S256 (extractStridedSlice S1x256 ![1, 0] w slices_S3x256_S1x256_1_0) shapeCasts_S1x256_S256)))))
    (mulf (extractStridedSlice S16x1x256x256 ![0, 0, 2, 0] z slices_S16x1x258x256_S16x1x256x256_0_0_2_0) (broadcastInDim S16x1x256x256 ![0, 1, 2, 3] bcast_S1x1x1x256_S16x1x256x256_0_1_2_3 (broadcastInDim S1x1x1x256 ![3] bcast_S256_S1x1x1x256_3 (shapeCast S256 (extractStridedSlice S1x256 ![2, 0] w slices_S3x256_S1x256_2_0) shapeCasts_S1x256_S256)))))
    shapeCasts_S16x1x256x256_S16x256x256

/-- The zero rows around a stretch. -/
theorem padR256_zero (p : FVec Ideal S16x2304x256 .f32) (b : Fin 16) (i : Fin 1) (j : Fin 258) (c : Fin 256) (h : j.val = 0 ∨ j.val = 257) : padR256 p (ix4 b i j c) = 0 := by
  have := i.isLt
  have := j.isLt
  pointwise [padR256]
  rw [dif_neg (by omega)]
  exact zero_word

/-- The rows of a stretch. -/
theorem padR256_mid (p : FVec Ideal S16x2304x256 .f32) (b : Fin 16) (i : Fin 1) (j : Fin 258) (c : Fin 256) (r : Fin 2304) (h : 1 ≤ j.val) (h' : j.val < 257)
    (hr : r.val = 2048 + i.val * 256 + (j.val - 1)) : padR256 p (ix4 b i j c) = p (ix3 b r c) := by
  have := i.isLt
  have := j.isLt
  pointwise [padR256]
  rw [dif_pos (by omega)]
  exact congrArg (fun z => p (ix3 b z c)) (Fin.ext (by simp only []; omega))

/-- The neighbours' sum at a row. -/
theorem convR256_apply (z : FVec Ideal S16x1x258x256 .f32) (w : FVec Ideal S3x256 .f32) (b : Fin 16) (r : Fin 256) (c : Fin 256) :
    convR256 z w (ix3 b r c) = z (ix4 b 0 ⟨r.val, by have := r.isLt; omega⟩ c) * w (ix2 0 c) + z (ix4 b 0 ⟨1 + r.val, by have := r.isLt; omega⟩ c) * w (ix2 1 c) + z (ix4 b 0 ⟨2 + r.val, by have := r.isLt; omega⟩ c) * w (ix2 2 c) := by
  have := r.isLt
  pointwise [convR256]

/-- The convolution over the whole sequence. -/
def conv256 (p : FVec Ideal S16x2304x256 .f32) (w : FVec Ideal S3x256 .f32) : FVec Ideal S16x2304x256 .f32 :=
  concatenate S16x2304x256 1 [⟨S16x2048x256, convL256 (padL256 p) w⟩, ⟨S16x256x256, convR256 (padR256 p) w⟩] concatenates_S16x2048x256_S16x256x256_S16x2304x256_d1

/-- The convolution at a row. -/
theorem conv256_apply (p : FVec Ideal S16x2304x256 .f32) (w : FVec Ideal S3x256 .f32) (b : Fin 16) (r : Fin 2304) (c : Fin 256) :
    conv256 p w (ix3 b r c) = conv3 (fun r => p (ix3 b r c)) (fun j => w (ix2 j c)) r := by
  have := r.isLt
  pointwise [conv256]
  by_cases hr : r.val < 2048
  · have hs : stretch r = 64 := if_pos hr
    rw [dif_pos hr, convL256_apply]
    unfold conv3
    rw [hs]
    refine congr (congrArg _ (congr (congrArg _ ?_) ?_)) ?_
    · by_cases h : r.val % 64 = 0
      · rw [if_pos h, padL256_zero _ _ _ _ _ (Or.inl (by simp only []; omega)), zero_mul]
      · rw [if_neg h, padL256_mid _ _ _ _ _ ⟨r.val - 1, by omega⟩ (by simp only []; omega) (by simp only []; omega) (by simp; omega)]
    · rw [padL256_mid _ _ _ _ _ r (by simp only []; omega) (by simp only []; omega) (by simp; omega)]
    · by_cases h : r.val % 64 = 64 - 1
      · rw [if_pos h, padL256_zero _ _ _ _ _ (Or.inr (by simp only []; omega)), zero_mul]
      · rw [if_neg h, padL256_mid _ _ _ _ _ ⟨(r.val + 1) % 2304, Nat.mod_lt _ (by decide)⟩ (by simp only []; omega) (by simp only []; omega) (by simp; omega)]
  · have hs : stretch r = 256 := if_neg hr
    rw [dif_neg hr, convR256_apply]
    unfold conv3
    rw [hs]
    refine congr (congrArg _ (congr (congrArg _ ?_) ?_)) ?_
    · by_cases h : r.val % 256 = 0
      · rw [if_pos h, padR256_zero _ _ _ _ _ (Or.inl (by simp only []; omega)), zero_mul]
      · rw [if_neg h, padR256_mid _ _ _ _ _ ⟨r.val - 1, by omega⟩ (by simp only []; omega) (by simp only []; omega) (by simp; omega)]
    · rw [padR256_mid _ _ _ _ _ r (by simp only []; omega) (by simp only []; omega) (by simp; omega)]
    · by_cases h : r.val % 256 = 256 - 1
      · rw [if_pos h, padR256_zero _ _ _ _ _ (Or.inr (by simp only []; omega)), zero_mul]
      · rw [if_neg h, padR256_mid _ _ _ _ _ ⟨(r.val + 1) % 2304, Nat.mod_lt _ (by decide)⟩ (by simp only []; omega) (by simp only []; omega) (by simp; omega)]

end Cert.Proof.Reference3

end
-- ==== Proof.InRef.lean ====
/-
  The opening projections of a layer as the reference states them, read at one place.
-/
module

public import proofs.«01_k».proof.Proof.InConv

@[expose] public section

set_option maxRecDepth 16384

noncomputable section

namespace Cert.Proof.Reference3

open Cert.Reference3Ideal Cert.Reference3Ideal.Value Cert.Reference3Ideal.Gen
open Idealize.ShloMosaic Idealize.ShloMosaic.TcCoe

/-- One vector for every row: a sequence's own for its first 2048 rows, one shared vector for the last 256. -/
def rowsV (w : FVec Ideal S24x1x1024 .f32) : FVec Ideal S16x2304x1024 .f32 :=
  concatenate S16x2304x1024 1 [
    ⟨S16x2048x1024, broadcastInDim S16x2048x1024 ![0, 1, 2] bcast_S16x1x1024_S16x2048x1024_0_1_2 (extractStridedSlice S16x1x1024 ![0, 0, 0] w slices_S24x1x1024_S16x1x1024_0_0_0)⟩,
    ⟨S16x256x1024, broadcastInDim S16x256x1024 ![0, 1, 2] bcast_S1x1x1024_S16x256x1024_0_1_2 (broadcastInDim S1x1x1024 ![1, 2] bcast_S1x1024_S1x1x1024_1_2
      (shapeCast S1x1024 (extractStridedSlice S1x1x1024 ![16, 0, 0] w slices_S24x1x1024_S1x1x1024_16_0_0) shapeCasts_S1x1x1024_S1x1024))⟩]
    concatenates_S16x2048x1024_S16x256x1024_S16x2304x1024_d1

/-- The rows, scaled and shifted. -/
def modR (x : FVec Ideal S16x2304x1024 .f32) (s h : FVec Ideal S24x1x1024 .f32) : FVec Ideal S16x2304x1024 .f32 :=
  addf (mulf x (addf (broadcastInDim S16x2304x1024 ![] bcast_S_S16x2304x1024 (constant S_ .f32 0x3F800000#32)) (rowsV s))) (rowsV h)

/-- Every projection. -/
def projR (x : FVec Ideal S16x2304x1024 .f32) (s h : FVec Ideal S24x1x1024 .f32) (w : FVec Ideal S4x1024x3376 .f32) : FVec Ideal S16x2304x3376 .f32 :=
  Host.dotGeneral dot_S16x2304x1024_S1024x3376_S16x2304x3376_2_0_01_1_n_n none (modR x s h)
    (shapeCast S1024x3376 (extractStridedSlice S1x1024x3376 ![0, 0, 0] w slices_S4x1024x3376_S1x1024x3376_0_0_0) shapeCasts_S1x1024x3376_S1024x3376)

/-- The first layer's convolution weights. -/
def w768 (w : FVec Ideal S4x3x768 .f32) : FVec Ideal S3x768 .f32 := shapeCast S3x768 (extractStridedSlice S1x3x768 ![0, 0, 0] w slices_S4x3x768_S1x3x768_0_0_0) shapeCasts_S1x3x768_S3x768
/-- The same on 256 columns. -/
def w256 (w : FVec Ideal S4x3x256 .f32) : FVec Ideal S3x256 .f32 := shapeCast S3x256 (extractStridedSlice S1x3x256 ![0, 0, 0] w slices_S4x3x256_S1x3x256_0_0_0) shapeCasts_S1x3x256_S3x256

/-- The first mixer's convolved inputs. -/
def uR (p : FVec Ideal S16x2304x3376 .f32) (w : FVec Ideal S4x3x768 .f32) (e : FVec Ideal S4x768 .f32) : FVec Ideal S16x2304x768 .f32 :=
  addf (conv768 (extractStridedSlice S16x2304x768 ![0, 0, 0] p slices_S16x2304x3376_S16x2304x768_0_0_0) (w768 w))
    (broadcastInDim S16x2304x768 ![0, 1, 2] bcast_S1x1x768_S16x2304x768_0_1_2 (broadcastInDim S1x1x768 ![2] bcast_S768_S1x1x768_2
      (shapeCast S768 (extractStridedSlice S1x768 ![0, 0] e slices_S4x768_S1x768_0_0) shapeCasts_S1x768_S768)))

/-- The product of the last two of them. -/
def zR (u : FVec Ideal S16x2304x768 .f32) : FVec Ideal S16x2304x256 .f32 :=
  mulf (extractStridedSlice S16x2304x256 ![0, 0, 256] u slices_S16x2304x768_S16x2304x256_0_0_256) (extractStridedSlice S16x2304x256 ![0, 0, 512] u slices_S16x2304x768_S16x2304x256_0_0_512)

/-- That product scaled. -/
def eR (z : FVec Ideal S16x2304x256 .f32) (d : FVec Ideal S4x256 .f32) : FVec Ideal S16x2304x256 .f32 :=
  mulf z (broadcastInDim S16x2304x256 ![0, 1, 2] bcast_S1x1x256_S16x2304x256_0_1_2 (broadcastInDim S1x1x256 ![2] bcast_S256_S1x1x256_2
    (shapeCast S256 (extractStridedSlice S1x256 ![0, 0] d slices_S4x256_S1x256_0_0) shapeCasts_S1x256_S256)))

/-- The second mixer's three inputs. -/
def sR (p : FVec Ideal S16x2304x3376 .f32) : FVec Ideal S16x2304x768 .f32 := extractStridedSlice S16x2304x768 ![0, 0, 768] p slices_S16x2304x3376_S16x2304x768_0_0_768

/-- The second mixer's result. -/
def yR (s : FVec Ideal S16x2304x768 .f32) (w : FVec Ideal S4x3x256 .f32) : FVec Ideal S16x2304x256 .f32 :=
  mulf (extractStridedSlice S16x2304x256 ![0, 0, 0] s slices_S16x2304x768_S16x2304x256_0_0_0) (conv256 (zR s) (w256 w))

/-- The third mixer's inputs. -/
def gR (p : FVec Ideal S16x2304x3376 .f32) : FVec Ideal S16x2304x800 .f32 := extractStridedSlice S16x2304x800 ![0, 0, 1536] p slices_S16x2304x3376_S16x2304x800_0_0_1536

/-- The fourth mixer's inputs. -/
def dR (p : FVec Ideal S16x2304x3376 .f32) : FVec Ideal S16x2304x1040 .f32 := extractStridedSlice S16x2304x1040 ![0, 0, 2336] p slices_S16x2304x3376_S16x2304x1040_0_0_2336

/-- The fourth mixer's convolved value. -/
def cR (p : FVec Ideal S16x2304x3376 .f32) (w : FVec Ideal S4x3x768 .f32) : FVec Ideal S16x2304x256 .f32 :=
  extractStridedSlice S16x2304x256 ![0, 0, 512] (conv768 (extractStridedSlice S16x2304x768 ![0, 0, 0] (dR p) slices_S16x2304x1040_S16x2304x768_0_0_0) (w768 w)) slices_S16x2304x768_S16x2304x256_0_0_512

/-- A number times its logistic, everywhere. -/
def siluR (v : FVec Ideal S16x2304x256 .f32) : FVec Ideal S16x2304x256 .f32 :=
  mulf v (Host.divf (broadcastInDim S16x2304x256 ![] bcast_S_S16x2304x256 (constant S_ .f32 0x3F800000#32))
    (addf (broadcastInDim S16x2304x256 ![] bcast_S_S16x2304x256 (constant S_ .f32 0x3F800000#32)) (Host.exp (Host.negf v))))

/-- One vector for every row, at a place. -/
theorem rows_apply (w : FVec Ideal S24x1x1024 .f32) (b : Fin 16) (r : Fin 2304) (d : Fin 1024) : rowsV w (ix3 b r d) = w (ix3 (gateRow b r) 0 d) := by
  pointwise [rowsV]
  unfold gateRow
  split <;> rfl

/-- A row, scaled and shifted. -/
theorem mod_apply (x : FVec Ideal S16x2304x1024 .f32) (s h : FVec Ideal S24x1x1024 .f32) (b : Fin 16) (r : Fin 2304) (d : Fin 1024) :
    modR x s h (ix3 b r d) = x (ix3 b r d) * (1 + s (ix3 (gateRow b r) 0 d)) + h (ix3 (gateRow b r) 0 d) := by
  rw [← rows_apply s, ← rows_apply h]
  pointwise [modR]

/-- A projection of a row. -/
theorem proj_apply (x : FVec Ideal S16x2304x1024 .f32) (s h : FVec Ideal S24x1x1024 .f32) (w : FVec Ideal S4x1024x3376 .f32) (b : Fin 16) (r : Fin 2304) (k : Fin 3376) :
    projR x s h w (ix3 b r k) = inP (fun b r d => x (ix3 b r d)) (fun b d => s (ix3 b 0 d)) (fun b d => h (ix3 b 0 d)) (fun d k => w (ix3 0 d k)) b r k := by
  unfold inP projRow
  have e : projR x s h w (ix3 b r k) = ∑ d, modR x s h (ix3 b r d) * w (ix3 0 d k) := by
    pointwise [projR]
  rw [e]
  exact Finset.sum_congr rfl fun d _ => by rw [mod_apply]

/-- The weights at a place. -/
theorem w768_apply (w : FVec Ideal S4x3x768 .f32) (j : Fin 3) (k : Fin 768) : w768 w (ix2 j k) = w (ix3 0 j k) := by
  pointwise [w768]
/-- The same on 256 columns. -/
theorem w256_apply (w : FVec Ideal S4x3x256 .f32) (j : Fin 3) (k : Fin 256) : w256 w (ix2 j k) = w (ix3 0 j k) := by
  pointwise [w256]

/-- A convolved input at a place. -/
theorem u_apply (p : FVec Ideal S16x2304x3376 .f32) (w : FVec Ideal S4x3x768 .f32) (e : FVec Ideal S4x768 .f32) (b : Fin 16) (r : Fin 2304) (c : Fin 768) :
    uR p w e (ix3 b r c) = inU (fun r k => p (ix3 b r k)) (fun j k => w (ix3 0 j k)) (fun k => e (ix2 0 k)) r c := by
  have h : uR p w e (ix3 b r c) = conv768 (extractStridedSlice S16x2304x768 ![0, 0, 0] p slices_S16x2304x3376_S16x2304x768_0_0_0) (w768 w) (ix3 b r c) + e (ix2 0 c) := by
    pointwise [uR]
  have f : (fun r : Fin 2304 => extractStridedSlice S16x2304x768 ![0, 0, 0] p slices_S16x2304x3376_S16x2304x768_0_0_0 (ix3 b r c)) = fun r => p (ix3 b r ⟨c.val, by have := c.isLt; omega⟩) := by
    funext r
    pointwise []
  rw [h, conv768_apply, f, funext fun j => w768_apply w j c]
  rfl

/-- The product of two of three thirds, at a place. -/
theorem z_apply (u : FVec Ideal S16x2304x768 .f32) (b : Fin 16) (r : Fin 2304) (c : Fin 256) :
    zR u (ix3 b r c) = u (ix3 b r ⟨256 + c.val, by have := c.isLt; omega⟩) * u (ix3 b r ⟨512 + c.val, by have := c.isLt; omega⟩) := by
  pointwise [zR]

/-- The scaled product at a place. -/
theorem e_apply (z : FVec Ideal S16x2304x256 .f32) (d : FVec Ideal S4x256 .f32) (b : Fin 16) (r : Fin 2304) (c : Fin 256) : eR z d (ix3 b r c) = z (ix3 b r c) * d (ix2 0 c) := by
  pointwise [eR]

/-- The second mixer's inputs at a place. -/
theorem s_apply (p : FVec Ideal S16x2304x3376 .f32) (b : Fin 16) (r : Fin 2304) (c : Fin 768) : sR p (ix3 b r c) = p (ix3 b r ⟨768 + c.val, by have := c.isLt; omega⟩) := by
  pointwise [sR]

/-- The second mixer's result at a place. -/
theorem y_apply (p : FVec Ideal S16x2304x3376 .f32) (w : FVec Ideal S4x3x256 .f32) (b : Fin 16) (r : Fin 2304) (c : Fin 256) :
    yR (sR p) w (ix3 b r c) = inY (fun r k => p (ix3 b r k)) (fun j k => w (ix3 0 j k)) r c := by
  have h : yR (sR p) w (ix3 b r c) = p (ix3 b r ⟨768 + c.val, by have := c.isLt; omega⟩) * conv256 (zR (sR p)) (w256 w) (ix3 b r c) := by
    pointwise [yR, sR]
  have f : (fun r : Fin 2304 => zR (sR p) (ix3 b r c)) = fun r => p (ix3 b r ⟨1024 + c.val, by have := c.isLt; omega⟩) * p (ix3 b r ⟨1280 + c.val, by have := c.isLt; omega⟩) := by
    funext r
    rw [z_apply, s_apply, s_apply]
    refine congr (congrArg _ (congrArg (fun k => p (ix3 b r k)) (Fin.ext ?_))) (congrArg (fun k => p (ix3 b r k)) (Fin.ext ?_))
    · show 768 + (256 + c.val) = 1024 + c.val; omega
    · show 768 + (512 + c.val) = 1280 + c.val; omega
  rw [h, conv256_apply, f, funext fun j => w256_apply w j c]
  rfl

/-- The fourth mixer's convolved value at a place. -/
theorem c_apply (p : FVec Ideal S16x2304x3376 .f32) (w : FVec Ideal S4x3x768 .f32) (b : Fin 16) (r : Fin 2304) (c : Fin 256) :
    cR p w (ix3 b r c) = conv3 (fun r => p (ix3 b r ⟨2848 + c.val, by have := c.isLt; omega⟩)) (fun j => w (ix3 0 j ⟨512 + c.val, by have := c.isLt; omega⟩)) r := by
  have h : cR p w (ix3 b r c) = conv768 (extractStridedSlice S16x2304x768 ![0, 0, 0] (dR p) slices_S16x2304x1040_S16x2304x768_0_0_0) (w768 w) (ix3 b r ⟨512 + c.val, by have := c.isLt; omega⟩) := by
    pointwise [cR]
  have f : (fun r : Fin 2304 => extractStridedSlice S16x2304x768 ![0, 0, 0] (dR p) slices_S16x2304x1040_S16x2304x768_0_0_0 (ix3 b r ⟨512 + c.val, by have := c.isLt; omega⟩))
      = fun r => p (ix3 b r ⟨2848 + c.val, by have := c.isLt; omega⟩) := by
    funext r
    pointwise [dR]
    exact congrArg (fun k => p (ix3 b r k)) (Fin.ext (by simp; omega))
  rw [h, conv768_apply, f, funext fun j => w768_apply w j _]

/-- A number times its logistic, at a place. -/
theorem silu_apply (v : FVec Ideal S16x2304x256 .f32) (b : Fin 16) (r : Fin 2304) (c : Fin 256) : siluR v (ix3 b r c) = inS (v (ix3 b r c)) := by
  unfold inS
  pointwise [siluR]

/-- Result 1 of the reference at a place. -/
theorem end_14 (x : FVec Ideal S16x2304x1024 .f32) (s h : FVec Ideal S24x1x1024 .f32) (w : FVec Ideal S4x1024x3376 .f32) (v : FVec Ideal S4x3x768 .f32) (e : FVec Ideal S4x768 .f32) (b : Fin 16) (r : Fin 2304) (c : Fin 256) :
    (zR (uR (projR x s h w) v e) : FVec Ideal S16x2304x256 .f32) (ix3 b r c) = inZ (fun r k => inP (fun b r d => x (ix3 b r d)) (fun b d => s (ix3 b 0 d)) (fun b d => h (ix3 b 0 d)) (fun d k => w (ix3 0 d k)) b r k) (fun j k => v (ix3 0 j k)) (fun k => e (ix2 0 k)) r c := by
  rw [z_apply, u_apply, u_apply]
  simp only [proj_apply]
  rfl

/-- Result 2 of the reference at a place. -/
theorem end_15 (x : FVec Ideal S16x2304x1024 .f32) (s h : FVec Ideal S24x1x1024 .f32) (w : FVec Ideal S4x1024x3376 .f32) (v : FVec Ideal S4x3x768 .f32) (e : FVec Ideal S4x768 .f32) (d : FVec Ideal S4x256 .f32) (b : Fin 16) (r : Fin 2304) (c : Fin 256) :
    (eR (zR (uR (projR x s h w) v e)) d : FVec Ideal S16x2304x256 .f32) (ix3 b r c) = inZ (fun r k => inP (fun b r d => x (ix3 b r d)) (fun b d => s (ix3 b 0 d)) (fun b d => h (ix3 b 0 d)) (fun d k => w (ix3 0 d k)) b r k) (fun j k => v (ix3 0 j k)) (fun k => e (ix2 0 k)) r c * d (ix2 0 c) := by
  rw [e_apply, z_apply, u_apply, u_apply]
  simp only [proj_apply]
  rfl

/-- Result 3 of the reference at a place. -/
theorem end_16 (x : FVec Ideal S16x2304x1024 .f32) (s h : FVec Ideal S24x1x1024 .f32) (w : FVec Ideal S4x1024x3376 .f32) (v : FVec Ideal S4x3x768 .f32) (e : FVec Ideal S4x768 .f32) (b : Fin 16) (r : Fin 2304) (c : Fin 256) :
    (extractStridedSlice S16x2304x256 ![0, 0, 0] (uR (projR x s h w) v e) slices_S16x2304x768_S16x2304x256_0_0_0 : FVec Ideal S16x2304x256 .f32) (ix3 b r c) = inU (fun r k => inP (fun b r d => x (ix3 b r d)) (fun b d => s (ix3 b 0 d)) (fun b d => h (ix3 b 0 d)) (fun d k => w (ix3 0 d k)) b r k) (fun j k => v (ix3 0 j k)) (fun k => e (ix2 0 k)) r ⟨c.val, by have := c.isLt; omega⟩ := by
  have a : extractStridedSlice S16x2304x256 ![0, 0, 0] (uR (projR x s h w) v e) slices_S16x2304x768_S16x2304x256_0_0_0 (ix3 b r c) = uR (projR x s h w) v e (ix3 b r ⟨c.val, by have := c.isLt; omega⟩) := by
    pointwise []
  rw [a, u_apply]
  simp only [proj_apply]

/-- Result 4 of the reference at a place. -/
theorem end_17 (x : FVec Ideal S16x2304x1024 .f32) (s h : FVec Ideal S24x1x1024 .f32) (w : FVec Ideal S4x1024x3376 .f32) (v : FVec Ideal S4x3x256 .f32) (b : Fin 16) (r : Fin 2304) (c : Fin 256) :
    (yR (sR (projR x s h w)) v : FVec Ideal S16x2304x256 .f32) (ix3 b r c) = inY (fun r k => inP (fun b r d => x (ix3 b r d)) (fun b d => s (ix3 b 0 d)) (fun b d => h (ix3 b 0 d)) (fun d k => w (ix3 0 d k)) b r k) (fun j k => v (ix3 0 j k)) r c := by
  rw [y_apply]
  simp only [proj_apply]

/-- Result 5 of the reference at a place. -/
theorem end_18 (x : FVec Ideal S16x2304x1024 .f32) (s h : FVec Ideal S24x1x1024 .f32) (w : FVec Ideal S4x1024x3376 .f32)  (b : Fin 16) (r : Fin 2304) (c : Fin 256) :
    (extractStridedSlice S16x2304x256 ![0, 0, 0] (gR (projR x s h w)) slices_S16x2304x800_S16x2304x256_0_0_0 : FVec Ideal S16x2304x256 .f32) (ix3 b r c) = (fun r k => inP (fun b r d => x (ix3 b r d)) (fun b d => s (ix3 b 0 d)) (fun b d => h (ix3 b 0 d)) (fun d k => w (ix3 0 d k)) b r k) r ⟨1536 + c.val, by have := c.isLt; omega⟩ := by
  beta_reduce
  rw [← proj_apply]
  pointwise [gR]

/-- Result 6 of the reference at a place. -/
theorem end_19 (x : FVec Ideal S16x2304x1024 .f32) (s h : FVec Ideal S24x1x1024 .f32) (w : FVec Ideal S4x1024x3376 .f32)  (b : Fin 16) (r : Fin 2304) (c : Fin 256) :
    (extractStridedSlice S16x2304x256 ![0, 0, 256] (gR (projR x s h w)) slices_S16x2304x800_S16x2304x256_0_0_256 : FVec Ideal S16x2304x256 .f32) (ix3 b r c) = (fun r k => inP (fun b r d => x (ix3 b r d)) (fun b d => s (ix3 b 0 d)) (fun b d => h (ix3 b 0 d)) (fun d k => w (ix3 0 d k)) b r k) r ⟨1792 + c.val, by have := c.isLt; omega⟩ := by
  beta_reduce
  rw [← proj_apply]
  pointwise [gR]
  exact congrArg (fun k => projR x s h w (ix3 b r k)) (Fin.ext (by simp; omega))

/-- Result 7 of the reference at a place. -/
theorem end_20 (x : FVec Ideal S16x2304x1024 .f32) (s h : FVec Ideal S24x1x1024 .f32) (w : FVec Ideal S4x1024x3376 .f32)  (b : Fin 16) (r : Fin 2304) (c : Fin 256) :
    (extractStridedSlice S16x2304x256 ![0, 0, 512] (gR (projR x s h w)) slices_S16x2304x800_S16x2304x256_0_0_512 : FVec Ideal S16x2304x256 .f32) (ix3 b r c) = (fun r k => inP (fun b r d => x (ix3 b r d)) (fun b d => s (ix3 b 0 d)) (fun b d => h (ix3 b 0 d)) (fun d k => w (ix3 0 d k)) b r k) r ⟨2048 + c.val, by have := c.isLt; omega⟩ := by
  beta_reduce
  rw [← proj_apply]
  pointwise [gR]
  exact congrArg (fun k => projR x s h w (ix3 b r k)) (Fin.ext (by simp; omega))

/-- Result 8 of the reference at a place. -/
theorem end_24 (x : FVec Ideal S16x2304x1024 .f32) (s h : FVec Ideal S24x1x1024 .f32) (w : FVec Ideal S4x1024x3376 .f32) (v : FVec Ideal S4x3x768 .f32) (b : Fin 16) (r : Fin 2304) (c : Fin 256) :
    (siluR (cR (projR x s h w) v) : FVec Ideal S16x2304x256 .f32) (ix3 b r c) = inV (fun r k => inP (fun b r d => x (ix3 b r d)) (fun b d => s (ix3 b 0 d)) (fun b d => h (ix3 b 0 d)) (fun d k => w (ix3 0 d k)) b r k) (fun j k => v (ix3 0 j k)) r c := by
  rw [silu_apply, c_apply]
  simp only [proj_apply]
  rfl

/-- Result 9 of the reference at a place. -/
theorem end_25 (x : FVec Ideal S16x2304x1024 .f32) (s h : FVec Ideal S24x1x1024 .f32) (w : FVec Ideal S4x1024x3376 .f32)  (b : Fin 16) (r : Fin 2304) (c : Fin 256) :
    (extractStridedSlice S16x2304x256 ![0, 0, 768] (dR (projR x s h w)) slices_S16x2304x1040_S16x2304x256_0_0_768 : FVec Ideal S16x2304x256 .f32) (ix3 b r c) = (fun r k => inP (fun b r d => x (ix3 b r d)) (fun b d => s (ix3 b 0 d)) (fun b d => h (ix3 b 0 d)) (fun d k => w (ix3 0 d k)) b r k) r ⟨3104 + c.val, by have := c.isLt; omega⟩ := by
  beta_reduce
  rw [← proj_apply]
  pointwise [dR]
  exact congrArg (fun k => projR x s h w (ix3 b r k)) (Fin.ext (by simp; omega))

end Cert.Proof.Reference3

end
-- ==== Proof.InEnd.lean ====
/-
  The projections' call and its reference: both runs end, and with the same nine arrays.
-/
module

public import proofs.«01_k».proof.Defs
public import proofs.«01_k».proof.Proof.Gen.Kernel3.Frame
public import proofs.«01_k».proof.Proof.InArr
public import proofs.«01_k».proof.Proof.InRef

@[expose] public section

set_option maxRecDepth 16384

namespace Cert.Proof.In

open Idealize.ShloMosaic Idealize.ShloMosaic.TcCoe Idealize.SL.Sem

/-- The kernel's run at the words: it ends, its arguments unchanged, every semaphore at zero. -/
theorem frame_words : Cert.quiescent_Kernel3 (hKernel3 := Cert.Kernel3.Gen.facts) := fun m g _ => Cert.Kernel3.Gen.frame m g

/-- The same at the extended reals. -/
theorem frame_ideal : Cert.quiescent_Kernel3Ideal (hKernel3Ideal := Cert.Kernel3Ideal.Gen.facts) := fun m g _ => Cert.Kernel3Ideal.Gen.frame m g

/-- The reference's run at the extended reals; it declares no semaphore. -/
theorem frame_reference : Cert.quiescent_Reference3Ideal (hReference3Ideal := Cert.Reference3Ideal.Gen.facts) := fun m g _ =>
  (θ_run Cert.Reference3Ideal.defs _ _).mono (fun r h => ⟨fun c => (h c).2.2.2.2.2.2.2.2.2, Idealize.ShloMosaic.sem_eq_zero_of_no_sems (by decide) r.2⟩)
    (Cert.Reference3Ideal.Value.run (F := Ideal) m g)

section
open Cert.Reference3Ideal Cert.Reference3Ideal.Value Cert.Reference3Ideal.Gen
variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ) (c : Dev Cert.Kernel3Ideal.nD)

/-- Result 1 is the same on both sides. -/
theorem agree_14 (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) :
    (truncf .bf16 (res_main_v80 (StableHlo.launchContents m' c)) bitsLt_bf16_f32 : S16x2304x256.Idx → EReal) = ((Cert.Kernel3Ideal.Gen.dats m 0 c).arrAt 14 Cert.Kernel3Ideal.cfg0.N : Cert.Kernel3Ideal.S16x2304x256.Idx → EReal) := by
  funext j
  have hj : j = ix3 (j 0 : Fin 16) (j 1 : Fin 2304) (j 2 : Fin 256) := by
    funext a
    fin_cases a <;> rfl
  have e : (truncf .bf16 (res_main_v80 (StableHlo.launchContents m' c)) bitsLt_bf16_f32 : S16x2304x256.Idx → EReal) = Reference3.zR (Reference3.uR (Reference3.projR (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5))) := rfl
  rw [hj]
  refine Eq.trans ?_ (Kernel3Ideal.result_14 m c (j 0 : Fin 16) (j 1 : Fin 2304) (j 2 : Fin 256)).symm
  rw [e, h0, h1, h2, h3, h4, h5]
  exact Reference3.end_14 _ _ _ _ _ _ _ _ _

/-- Result 2 is the same on both sides. -/
theorem agree_15 (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) :
    (mulf (res_main_v80 (StableHlo.launchContents m' c)) (broadcastInDim S16x2304x256 ![0, 1, 2] bcast_S1x1x256_S16x2304x256_0_1_2 (broadcastInDim S1x1x256 ![2] bcast_S256_S1x1x256_2 (shapeCast _ (extractStridedSlice S1x256 ![0, 0] ((StableHlo.launchContents m' c) (Proc.devRef .tc main_arg6)) slices_S4x256_S1x256_0_0) shapeCasts_S1x256_S256))) : S16x2304x256.Idx → EReal) = ((Cert.Kernel3Ideal.Gen.dats m 0 c).arrAt 15 Cert.Kernel3Ideal.cfg0.N : Cert.Kernel3Ideal.S16x2304x256.Idx → EReal) := by
  funext j
  have hj : j = ix3 (j 0 : Fin 16) (j 1 : Fin 2304) (j 2 : Fin 256) := by
    funext a
    fin_cases a <;> rfl
  have e : (mulf (res_main_v80 (StableHlo.launchContents m' c)) (broadcastInDim S16x2304x256 ![0, 1, 2] bcast_S1x1x256_S16x2304x256_0_1_2 (broadcastInDim S1x1x256 ![2] bcast_S256_S1x1x256_2 (shapeCast _ (extractStridedSlice S1x256 ![0, 0] ((StableHlo.launchContents m' c) (Proc.devRef .tc main_arg6)) slices_S4x256_S1x256_0_0) shapeCasts_S1x256_S256))) : S16x2304x256.Idx → EReal) = Reference3.eR (Reference3.zR (Reference3.uR (Reference3.projR (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)))) (m' ((c.tc : Thread Cert.Reference3Ideal.nD Cert.Reference3Ideal.τ).loc Cert.Reference3Ideal.main_arg6)) := rfl
  rw [hj]
  refine Eq.trans ?_ (Kernel3Ideal.result_15 m c (j 0 : Fin 16) (j 1 : Fin 2304) (j 2 : Fin 256)).symm
  rw [e, h0, h1, h2, h3, h4, h5, h6]
  exact Reference3.end_15 _ _ _ _ _ _ _ _ _ _

/-- Result 3 is the same on both sides. -/
theorem agree_16 (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) :
    (extractStridedSlice S16x2304x256 ![0, 0, 0] (res_main_v77 (StableHlo.launchContents m' c)) slices_S16x2304x768_S16x2304x256_0_0_0 : S16x2304x256.Idx → EReal) = ((Cert.Kernel3Ideal.Gen.dats m 0 c).arrAt 16 Cert.Kernel3Ideal.cfg0.N : Cert.Kernel3Ideal.S16x2304x256.Idx → EReal) := by
  funext j
  have hj : j = ix3 (j 0 : Fin 16) (j 1 : Fin 2304) (j 2 : Fin 256) := by
    funext a
    fin_cases a <;> rfl
  have e : (extractStridedSlice S16x2304x256 ![0, 0, 0] (res_main_v77 (StableHlo.launchContents m' c)) slices_S16x2304x768_S16x2304x256_0_0_0 : S16x2304x256.Idx → EReal) = extractStridedSlice S16x2304x256 ![0, 0, 0] (Reference3.uR (Reference3.projR (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5))) slices_S16x2304x768_S16x2304x256_0_0_0 := rfl
  rw [hj]
  refine Eq.trans ?_ (Kernel3Ideal.result_16 m c (j 0 : Fin 16) (j 1 : Fin 2304) (j 2 : Fin 256)).symm
  rw [e, h0, h1, h2, h3, h4, h5]
  exact Reference3.end_16 _ _ _ _ _ _ _ _ _

/-- Result 4 is the same on both sides. -/
theorem agree_17 (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) (h7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) :
    (mulf (extractStridedSlice S16x2304x256 ![0, 0, 0] (res_main_v81 (StableHlo.launchContents m' c)) slices_S16x2304x768_S16x2304x256_0_0_0) (concatenate S16x2304x256 1 [⟨S16x2048x256, (shapeCast _ (addf (addf (mulf (extractStridedSlice S16x32x64x256 ![0, 0, 0, 0] (res_main_v90 (StableHlo.launchContents m' c)) slices_S16x32x66x256_S16x32x64x256_0_0_0_0) (broadcastInDim S16x32x64x256 ![0, 1, 2, 3] bcast_S1x1x1x256_S16x32x64x256_0_1_2_3 (broadcastInDim S1x1x1x256 ![3] bcast_S256_S1x1x1x256_3 (shapeCast _ (extractStridedSlice S1x256 ![0, 0] (res_main_v87 (StableHlo.launchContents m' c)) slices_S3x256_S1x256_0_0) shapeCasts_S1x256_S256)))) (mulf (extractStridedSlice S16x32x64x256 ![0, 0, 1, 0] (res_main_v90 (StableHlo.launchContents m' c)) slices_S16x32x66x256_S16x32x64x256_0_0_1_0) (broadcastInDim S16x32x64x256 ![0, 1, 2, 3] bcast_S1x1x1x256_S16x32x64x256_0_1_2_3 (broadcastInDim S1x1x1x256 ![3] bcast_S256_S1x1x1x256_3 (shapeCast _ (extractStridedSlice S1x256 ![1, 0] (res_main_v87 (StableHlo.launchContents m' c)) slices_S3x256_S1x256_1_0) shapeCasts_S1x256_S256))))) (mulf (extractStridedSlice S16x32x64x256 ![0, 0, 2, 0] (res_main_v90 (StableHlo.launchContents m' c)) slices_S16x32x66x256_S16x32x64x256_0_0_2_0) (broadcastInDim S16x32x64x256 ![0, 1, 2, 3] bcast_S1x1x1x256_S16x32x64x256_0_1_2_3 (broadcastInDim S1x1x1x256 ![3] bcast_S256_S1x1x1x256_3 (shapeCast _ (extractStridedSlice S1x256 ![2, 0] (res_main_v87 (StableHlo.launchContents m' c)) slices_S3x256_S1x256_2_0) shapeCasts_S1x256_S256))))) shapeCasts_S16x32x64x256_S16x2048x256)⟩, ⟨S16x256x256, (shapeCast _ (addf (addf (mulf (extractStridedSlice S16x1x256x256 ![0, 0, 0, 0] (res_main_v114 (StableHlo.launchContents m' c)) slices_S16x1x258x256_S16x1x256x256_0_0_0_0) (broadcastInDim S16x1x256x256 ![0, 1, 2, 3] bcast_S1x1x1x256_S16x1x256x256_0_1_2_3 (broadcastInDim S1x1x1x256 ![3] bcast_S256_S1x1x1x256_3 (shapeCast _ (extractStridedSlice S1x256 ![0, 0] (res_main_v87 (StableHlo.launchContents m' c)) slices_S3x256_S1x256_0_0) shapeCasts_S1x256_S256)))) (mulf (extractStridedSlice S16x1x256x256 ![0, 0, 1, 0] (res_main_v114 (StableHlo.launchContents m' c)) slices_S16x1x258x256_S16x1x256x256_0_0_1_0) (broadcastInDim S16x1x256x256 ![0, 1, 2, 3] bcast_S1x1x1x256_S16x1x256x256_0_1_2_3 (broadcastInDim S1x1x1x256 ![3] bcast_S256_S1x1x1x256_3 (shapeCast _ (extractStridedSlice S1x256 ![1, 0] (res_main_v87 (StableHlo.launchContents m' c)) slices_S3x256_S1x256_1_0) shapeCasts_S1x256_S256))))) (mulf (extractStridedSlice S16x1x256x256 ![0, 0, 2, 0] (res_main_v114 (StableHlo.launchContents m' c)) slices_S16x1x258x256_S16x1x256x256_0_0_2_0) (broadcastInDim S16x1x256x256 ![0, 1, 2, 3] bcast_S1x1x1x256_S16x1x256x256_0_1_2_3 (broadcastInDim S1x1x1x256 ![3] bcast_S256_S1x1x1x256_3 (shapeCast _ (extractStridedSlice S1x256 ![2, 0] (res_main_v87 (StableHlo.launchContents m' c)) slices_S3x256_S1x256_2_0) shapeCasts_S1x256_S256))))) shapeCasts_S16x1x256x256_S16x256x256)⟩] concatenates_S16x2048x256_S16x256x256_S16x2304x256_d1) : S16x2304x256.Idx → EReal) = ((Cert.Kernel3Ideal.Gen.dats m 0 c).arrAt 17 Cert.Kernel3Ideal.cfg0.N : Cert.Kernel3Ideal.S16x2304x256.Idx → EReal) := by
  funext j
  have hj : j = ix3 (j 0 : Fin 16) (j 1 : Fin 2304) (j 2 : Fin 256) := by
    funext a
    fin_cases a <;> rfl
  have e : (mulf (extractStridedSlice S16x2304x256 ![0, 0, 0] (res_main_v81 (StableHlo.launchContents m' c)) slices_S16x2304x768_S16x2304x256_0_0_0) (concatenate S16x2304x256 1 [⟨S16x2048x256, (shapeCast _ (addf (addf (mulf (extractStridedSlice S16x32x64x256 ![0, 0, 0, 0] (res_main_v90 (StableHlo.launchContents m' c)) slices_S16x32x66x256_S16x32x64x256_0_0_0_0) (broadcastInDim S16x32x64x256 ![0, 1, 2, 3] bcast_S1x1x1x256_S16x32x64x256_0_1_2_3 (broadcastInDim S1x1x1x256 ![3] bcast_S256_S1x1x1x256_3 (shapeCast _ (extractStridedSlice S1x256 ![0, 0] (res_main_v87 (StableHlo.launchContents m' c)) slices_S3x256_S1x256_0_0) shapeCasts_S1x256_S256)))) (mulf (extractStridedSlice S16x32x64x256 ![0, 0, 1, 0] (res_main_v90 (StableHlo.launchContents m' c)) slices_S16x32x66x256_S16x32x64x256_0_0_1_0) (broadcastInDim S16x32x64x256 ![0, 1, 2, 3] bcast_S1x1x1x256_S16x32x64x256_0_1_2_3 (broadcastInDim S1x1x1x256 ![3] bcast_S256_S1x1x1x256_3 (shapeCast _ (extractStridedSlice S1x256 ![1, 0] (res_main_v87 (StableHlo.launchContents m' c)) slices_S3x256_S1x256_1_0) shapeCasts_S1x256_S256))))) (mulf (extractStridedSlice S16x32x64x256 ![0, 0, 2, 0] (res_main_v90 (StableHlo.launchContents m' c)) slices_S16x32x66x256_S16x32x64x256_0_0_2_0) (broadcastInDim S16x32x64x256 ![0, 1, 2, 3] bcast_S1x1x1x256_S16x32x64x256_0_1_2_3 (broadcastInDim S1x1x1x256 ![3] bcast_S256_S1x1x1x256_3 (shapeCast _ (extractStridedSlice S1x256 ![2, 0] (res_main_v87 (StableHlo.launchContents m' c)) slices_S3x256_S1x256_2_0) shapeCasts_S1x256_S256))))) shapeCasts_S16x32x64x256_S16x2048x256)⟩, ⟨S16x256x256, (shapeCast _ (addf (addf (mulf (extractStridedSlice S16x1x256x256 ![0, 0, 0, 0] (res_main_v114 (StableHlo.launchContents m' c)) slices_S16x1x258x256_S16x1x256x256_0_0_0_0) (broadcastInDim S16x1x256x256 ![0, 1, 2, 3] bcast_S1x1x1x256_S16x1x256x256_0_1_2_3 (broadcastInDim S1x1x1x256 ![3] bcast_S256_S1x1x1x256_3 (shapeCast _ (extractStridedSlice S1x256 ![0, 0] (res_main_v87 (StableHlo.launchContents m' c)) slices_S3x256_S1x256_0_0) shapeCasts_S1x256_S256)))) (mulf (extractStridedSlice S16x1x256x256 ![0, 0, 1, 0] (res_main_v114 (StableHlo.launchContents m' c)) slices_S16x1x258x256_S16x1x256x256_0_0_1_0) (broadcastInDim S16x1x256x256 ![0, 1, 2, 3] bcast_S1x1x1x256_S16x1x256x256_0_1_2_3 (broadcastInDim S1x1x1x256 ![3] bcast_S256_S1x1x1x256_3 (shapeCast _ (extractStridedSlice S1x256 ![1, 0] (res_main_v87 (StableHlo.launchContents m' c)) slices_S3x256_S1x256_1_0) shapeCasts_S1x256_S256))))) (mulf (extractStridedSlice S16x1x256x256 ![0, 0, 2, 0] (res_main_v114 (StableHlo.launchContents m' c)) slices_S16x1x258x256_S16x1x256x256_0_0_2_0) (broadcastInDim S16x1x256x256 ![0, 1, 2, 3] bcast_S1x1x1x256_S16x1x256x256_0_1_2_3 (broadcastInDim S1x1x1x256 ![3] bcast_S256_S1x1x1x256_3 (shapeCast _ (extractStridedSlice S1x256 ![2, 0] (res_main_v87 (StableHlo.launchContents m' c)) slices_S3x256_S1x256_2_0) shapeCasts_S1x256_S256))))) shapeCasts_S16x1x256x256_S16x256x256)⟩] concatenates_S16x2048x256_S16x256x256_S16x2304x256_d1) : S16x2304x256.Idx → EReal) = Reference3.yR (Reference3.sR (Reference3.projR (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)))) (m' ((c.tc : Thread Cert.Reference3Ideal.nD Cert.Reference3Ideal.τ).loc Cert.Reference3Ideal.main_arg7)) := rfl
  rw [hj]
  refine Eq.trans ?_ (Kernel3Ideal.result_17 m c (j 0 : Fin 16) (j 1 : Fin 2304) (j 2 : Fin 256)).symm
  rw [e, h0, h1, h2, h3, h7]
  exact Reference3.end_17 _ _ _ _ _ _ _ _

/-- Result 5 is the same on both sides. -/
theorem agree_18 (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    (extractStridedSlice S16x2304x256 ![0, 0, 0] (res_main_v138 (StableHlo.launchContents m' c)) slices_S16x2304x800_S16x2304x256_0_0_0 : S16x2304x256.Idx → EReal) = ((Cert.Kernel3Ideal.Gen.dats m 0 c).arrAt 18 Cert.Kernel3Ideal.cfg0.N : Cert.Kernel3Ideal.S16x2304x256.Idx → EReal) := by
  funext j
  have hj : j = ix3 (j 0 : Fin 16) (j 1 : Fin 2304) (j 2 : Fin 256) := by
    funext a
    fin_cases a <;> rfl
  have e : (extractStridedSlice S16x2304x256 ![0, 0, 0] (res_main_v138 (StableHlo.launchContents m' c)) slices_S16x2304x800_S16x2304x256_0_0_0 : S16x2304x256.Idx → EReal) = extractStridedSlice S16x2304x256 ![0, 0, 0] (Reference3.gR (Reference3.projR (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)))) slices_S16x2304x800_S16x2304x256_0_0_0 := rfl
  rw [hj]
  refine Eq.trans ?_ (Kernel3Ideal.result_18 m c (j 0 : Fin 16) (j 1 : Fin 2304) (j 2 : Fin 256)).symm
  rw [e, h0, h1, h2, h3]
  exact Reference3.end_18 _ _ _ _ _ _ _

/-- Result 6 is the same on both sides. -/
theorem agree_19 (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    (extractStridedSlice S16x2304x256 ![0, 0, 256] (res_main_v138 (StableHlo.launchContents m' c)) slices_S16x2304x800_S16x2304x256_0_0_256 : S16x2304x256.Idx → EReal) = ((Cert.Kernel3Ideal.Gen.dats m 0 c).arrAt 19 Cert.Kernel3Ideal.cfg0.N : Cert.Kernel3Ideal.S16x2304x256.Idx → EReal) := by
  funext j
  have hj : j = ix3 (j 0 : Fin 16) (j 1 : Fin 2304) (j 2 : Fin 256) := by
    funext a
    fin_cases a <;> rfl
  have e : (extractStridedSlice S16x2304x256 ![0, 0, 256] (res_main_v138 (StableHlo.launchContents m' c)) slices_S16x2304x800_S16x2304x256_0_0_256 : S16x2304x256.Idx → EReal) = extractStridedSlice S16x2304x256 ![0, 0, 256] (Reference3.gR (Reference3.projR (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)))) slices_S16x2304x800_S16x2304x256_0_0_256 := rfl
  rw [hj]
  refine Eq.trans ?_ (Kernel3Ideal.result_19 m c (j 0 : Fin 16) (j 1 : Fin 2304) (j 2 : Fin 256)).symm
  rw [e, h0, h1, h2, h3]
  exact Reference3.end_19 _ _ _ _ _ _ _

/-- Result 7 is the same on both sides. -/
theorem agree_20 (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    (extractStridedSlice S16x2304x256 ![0, 0, 512] (res_main_v138 (StableHlo.launchContents m' c)) slices_S16x2304x800_S16x2304x256_0_0_512 : S16x2304x256.Idx → EReal) = ((Cert.Kernel3Ideal.Gen.dats m 0 c).arrAt 20 Cert.Kernel3Ideal.cfg0.N : Cert.Kernel3Ideal.S16x2304x256.Idx → EReal) := by
  funext j
  have hj : j = ix3 (j 0 : Fin 16) (j 1 : Fin 2304) (j 2 : Fin 256) := by
    funext a
    fin_cases a <;> rfl
  have e : (extractStridedSlice S16x2304x256 ![0, 0, 512] (res_main_v138 (StableHlo.launchContents m' c)) slices_S16x2304x800_S16x2304x256_0_0_512 : S16x2304x256.Idx → EReal) = extractStridedSlice S16x2304x256 ![0, 0, 512] (Reference3.gR (Reference3.projR (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)))) slices_S16x2304x800_S16x2304x256_0_0_512 := rfl
  rw [hj]
  refine Eq.trans ?_ (Kernel3Ideal.result_20 m c (j 0 : Fin 16) (j 1 : Fin 2304) (j 2 : Fin 256)).symm
  rw [e, h0, h1, h2, h3]
  exact Reference3.end_20 _ _ _ _ _ _ _

/-- Result 8 is the same on both sides. -/
theorem agree_24 (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) (h10 : m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) :
    (mulf (res_main_v192 (StableHlo.launchContents m' c)) (Host.divf (broadcastInDim S16x2304x256 ![] bcast_S_S16x2304x256 (constant S_ .f32 0x3F800000#32)) (addf (broadcastInDim S16x2304x256 ![] bcast_S_S16x2304x256 (constant S_ .f32 0x3F800000#32)) (Host.exp (Host.negf (res_main_v192 (StableHlo.launchContents m' c)))))) : S16x2304x256.Idx → EReal) = ((Cert.Kernel3Ideal.Gen.dats m 0 c).arrAt 24 Cert.Kernel3Ideal.cfg0.N : Cert.Kernel3Ideal.S16x2304x256.Idx → EReal) := by
  funext j
  have hj : j = ix3 (j 0 : Fin 16) (j 1 : Fin 2304) (j 2 : Fin 256) := by
    funext a
    fin_cases a <;> rfl
  have e : (mulf (res_main_v192 (StableHlo.launchContents m' c)) (Host.divf (broadcastInDim S16x2304x256 ![] bcast_S_S16x2304x256 (constant S_ .f32 0x3F800000#32)) (addf (broadcastInDim S16x2304x256 ![] bcast_S_S16x2304x256 (constant S_ .f32 0x3F800000#32)) (Host.exp (Host.negf (res_main_v192 (StableHlo.launchContents m' c)))))) : S16x2304x256.Idx → EReal) = Reference3.siluR (Reference3.cR (Reference3.projR (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))) (m' ((c.tc : Thread Cert.Reference3Ideal.nD Cert.Reference3Ideal.τ).loc Cert.Reference3Ideal.main_arg10))) := rfl
  rw [hj]
  refine Eq.trans ?_ (Kernel3Ideal.result_24 m c (j 0 : Fin 16) (j 1 : Fin 2304) (j 2 : Fin 256)).symm
  rw [e, h0, h1, h2, h3, h10]
  exact Reference3.end_24 _ _ _ _ _ _ _ _

/-- Result 9 is the same on both sides. -/
theorem agree_25 (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    (extractStridedSlice S16x2304x256 ![0, 0, 768] (res_main_v139 (StableHlo.launchContents m' c)) slices_S16x2304x1040_S16x2304x256_0_0_768 : S16x2304x256.Idx → EReal) = ((Cert.Kernel3Ideal.Gen.dats m 0 c).arrAt 25 Cert.Kernel3Ideal.cfg0.N : Cert.Kernel3Ideal.S16x2304x256.Idx → EReal) := by
  funext j
  have hj : j = ix3 (j 0 : Fin 16) (j 1 : Fin 2304) (j 2 : Fin 256) := by
    funext a
    fin_cases a <;> rfl
  have e : (extractStridedSlice S16x2304x256 ![0, 0, 768] (res_main_v139 (StableHlo.launchContents m' c)) slices_S16x2304x1040_S16x2304x256_0_0_768 : S16x2304x256.Idx → EReal) = extractStridedSlice S16x2304x256 ![0, 0, 768] (Reference3.dR (Reference3.projR (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)))) slices_S16x2304x1040_S16x2304x256_0_0_768 := rfl
  rw [hj]
  refine Eq.trans ?_ (Kernel3Ideal.result_25 m c (j 0 : Fin 16) (j 1 : Fin 2304) (j 2 : Fin 256)).symm
  rw [e, h0, h1, h2, h3]
  exact Reference3.end_25 _ _ _ _ _ _ _

end

set_option maxHeartbeats 1600000 in
/-- The call and the reference end with the same nine results from the same arguments. -/
theorem same_value : Cert.algebraic_Kernel3Ideal_Reference3Ideal (hKernel3Ideal := Cert.Kernel3Ideal.Gen.facts)
    (hReference3Ideal := Cert.Reference3Ideal.Gen.facts) := fun m g m' g' _ ha =>
  ⟨fun c => (Cert.Kernel3Ideal.Gen.dats m 0 c).arrAt 14 Cert.Kernel3Ideal.cfg0.N, fun c => (Cert.Kernel3Ideal.Gen.dats m 0 c).arrAt 15 Cert.Kernel3Ideal.cfg0.N, fun c => (Cert.Kernel3Ideal.Gen.dats m 0 c).arrAt 16 Cert.Kernel3Ideal.cfg0.N, fun c => (Cert.Kernel3Ideal.Gen.dats m 0 c).arrAt 17 Cert.Kernel3Ideal.cfg0.N, fun c => (Cert.Kernel3Ideal.Gen.dats m 0 c).arrAt 18 Cert.Kernel3Ideal.cfg0.N, fun c => (Cert.Kernel3Ideal.Gen.dats m 0 c).arrAt 19 Cert.Kernel3Ideal.cfg0.N, fun c => (Cert.Kernel3Ideal.Gen.dats m 0 c).arrAt 20 Cert.Kernel3Ideal.cfg0.N, fun c => (Cert.Kernel3Ideal.Gen.dats m 0 c).arrAt 24 Cert.Kernel3Ideal.cfg0.N, fun c => (Cert.Kernel3Ideal.Gen.dats m 0 c).arrAt 25 Cert.Kernel3Ideal.cfg0.N,
    (θ_run Cert.Kernel3Ideal.defs _ _).mono (fun r h c => ⟨(h c).1, (h c).2.1, (h c).2.2.1, (h c).2.2.2.1, (h c).2.2.2.2.1, (h c).2.2.2.2.2.1, (h c).2.2.2.2.2.2.1, (h c).2.2.2.2.2.2.2.2.2.2.1, (h c).2.2.2.2.2.2.2.2.2.2.2.1, (h c).2.2.2.2.2.2.2.2.2.2.2.2.2⟩)
      (Cert.Kernel3Ideal.Value.run_blocks (F := Ideal) m g),
    (θ_run Cert.Reference3Ideal.defs _ _).mono (fun r h c => ⟨(h c).1.trans (agree_14 m m' c (ha c).1 (ha c).2.1 (ha c).2.2.1 (ha c).2.2.2.1 (ha c).2.2.2.2.1 (ha c).2.2.2.2.2.1), (h c).2.1.trans (agree_15 m m' c (ha c).1 (ha c).2.1 (ha c).2.2.1 (ha c).2.2.2.1 (ha c).2.2.2.2.1 (ha c).2.2.2.2.2.1 (ha c).2.2.2.2.2.2.1), (h c).2.2.1.trans (agree_16 m m' c (ha c).1 (ha c).2.1 (ha c).2.2.1 (ha c).2.2.2.1 (ha c).2.2.2.2.1 (ha c).2.2.2.2.2.1), (h c).2.2.2.1.trans (agree_17 m m' c (ha c).1 (ha c).2.1 (ha c).2.2.1 (ha c).2.2.2.1 (ha c).2.2.2.2.2.2.2.1), (h c).2.2.2.2.1.trans (agree_18 m m' c (ha c).1 (ha c).2.1 (ha c).2.2.1 (ha c).2.2.2.1), (h c).2.2.2.2.2.1.trans (agree_19 m m' c (ha c).1 (ha c).2.1 (ha c).2.2.1 (ha c).2.2.2.1), (h c).2.2.2.2.2.2.1.trans (agree_20 m m' c (ha c).1 (ha c).2.1 (ha c).2.2.1 (ha c).2.2.2.1), (h c).2.2.2.2.2.2.2.1.trans (agree_24 m m' c (ha c).1 (ha c).2.1 (ha c).2.2.1 (ha c).2.2.2.1 (ha c).2.2.2.2.2.2.2.2.2.2.1), (h c).2.2.2.2.2.2.2.2.1.trans (agree_25 m m' c (ha c).1 (ha c).2.1 (ha c).2.2.1 (ha c).2.2.2.1), (h c).2.2.2.2.2.2.2.2.2⟩)
      (Cert.Reference3Ideal.Value.run (F := Ideal) m' g')⟩

end Cert.Proof.In
-- ==== Proof.lean ====
/- The proof of the claims of this certificate. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KEnd
public import proofs.«01_k».proof.Proof.IEnd
public import proofs.«01_k».proof.Proof.VAcc
public import proofs.«01_k».proof.Proof.VRef
public import proofs.«01_k».proof.Proof.VPre
public import proofs.«01_k».proof.Proof.LnEnd
public import proofs.«01_k».proof.Proof.InEnd

@[expose] public section

set_option maxRecDepth 16384

namespace Cert.Proof

open Idealize.ShloMosaic Idealize.SL.Sem

/-- The kernel's run at the words: it ends, its arguments unchanged, every semaphore at zero. -/
theorem frame_words : Cert.quiescent_Kernel (hKernel := Cert.Kernel.Gen.facts) := fun m g _ =>
  (θ_run Cert.Kernel.defs _ _).mono (fun _ h => ⟨fun c => (h.1 c).2, h.2⟩) (Kernel.run (F := Bits) m g)

/-- The same at the extended reals. -/
theorem frame_ideal : Cert.quiescent_KernelIdeal (hKernelIdeal := Cert.KernelIdeal.Gen.facts) := fun m g _ =>
  (θ_run Cert.KernelIdeal.defs _ _).mono (fun _ h => ⟨fun c => (h.1 c).2, h.2⟩) (KernelIdeal.run (F := Ideal) m g)

/-- The reference's run at the extended reals; it declares no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The precondition gives what the value needs. -/
theorem good (m : (ℓ : Loc Cert.KernelIdeal.nD Cert.KernelIdeal.τ Cert.KernelIdeal.sig) → Buf (Elt Ideal) ℓ)
    (h : Cert.Pre_KernelIdeal_top4 (hPre_top4 := Pre.facts) m) (c : Dev Cert.KernelIdeal.nD) : KernelIdeal.Good m c where
  range b r k := Pre.range_of _ _ _ _ _ _ _ _ _ (fun a => Fin.elim0 a) (congrFun (h c) _) _
  apart b r k k' e := Pre.apart_of _ _ _ _ _ _ _ _ _ (fun a => Fin.elim0 a) (congrFun (h c) _) b r k k' e

/-- Both programs leave, at every place, the weighted sum of the chosen experts' results. -/
theorem values_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hm : KernelIdeal.Good m c)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    (Cert.ReferenceIdeal.Value.res_main_v58 m' c : Cert.ReferenceIdeal.S16x2312x8x128.Idx → EReal)
      = (KernelIdeal.final (F := Ideal) (KernelIdeal.atEntry m) c : Cert.KernelIdeal.S16x2312x8x128.Idx → EReal) := by
  funext j
  have hj : j = ValueIdx.ix4 (j 0 : Fin 16) (j 1 : Fin 2312) (j 2 : Fin 8) (j 3 : Fin 128) := by
    funext a
    fin_cases a <;> rfl
  rw [hj]
  refine Eq.trans ?_ (KernelIdeal.final_at m c hm (j 0 : Fin 16) (j 1 : Fin 2312) (j 2 : Fin 8) (j 3 : Fin 128)).symm
  have R := Reference.result m' c (j 0 : Fin 16) (j 1 : Fin 2312) (j 2 : Fin 8) (j 3 : Fin 128)
  rw [h0, h1, h2, h3, h4, h5, h6, h7, h8] at R
  rw [← ix4_eq_valueIdx]
  exact R hm.apart

/-- The kernel and the reference end with the same result from the same arguments. -/
theorem same_value : Cert.algebraic_KernelIdeal_ReferenceIdeal_pre_top4 (hKernelIdeal := Cert.KernelIdeal.Gen.facts)
    (hReferenceIdeal := Cert.ReferenceIdeal.Gen.facts) (hPre_top4 := Pre.facts) := fun m g m' g' hp ha =>
  ⟨fun c => KernelIdeal.final (F := Ideal) (KernelIdeal.atEntry m) c,
    (θ_run Cert.KernelIdeal.defs _ _).mono (fun _ h => h.1) (KernelIdeal.run (F := Ideal) m g),
    (θ_run Cert.ReferenceIdeal.defs _ _).mono (fun r h c => by
      obtain ⟨h0, h1, h2, h3, h4, h5, h6, h7, h8⟩ := ha c
      exact ⟨(h c).1.trans (values_agree m m' c (good m hp c) h0 h1 h2 h3 h4 h5 h6 h7 h8), (h c).2⟩)
      (Cert.ReferenceIdeal.Value.run (F := Ideal) m' g')⟩

/-- All claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Pre.facts,
  frame_words, frame_ideal, fun m g _ => frame_ideal m g trivial, frame_reference, fun m g _ => frame_reference m g trivial,
  Ln.frame_words, Ln.frame_ideal, Ln.frame_reference, In.frame_words, In.frame_ideal, In.frame_reference,
  trivial, same_value, trivial, Ln.same_value, trivial, In.same_value⟩

end Cert.Proof

end
